-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11)
      ∧ r.2.mem ((c.tc : Thread Cert.MergeKernel.nD Cert.MergeKernel.τ).loc Cert.MergeKernel.main_arg12) = m ((c.tc : Thread Cert.MergeKernel.nD Cert.MergeKernel.τ).loc Cert.MergeKernel.main_arg12)
      ∧ r.2.mem ((c.tc : Thread Cert.MergeKernel.nD Cert.MergeKernel.τ).loc Cert.MergeKernel.main_arg13) = m ((c.tc : Thread Cert.MergeKernel.nD Cert.MergeKernel.τ).loc Cert.MergeKernel.main_arg13)
      ∧ r.2.mem ((c.tc : Thread Cert.MergeKernel.nD Cert.MergeKernel.τ).loc Cert.MergeKernel.main_arg14) = m ((c.tc : Thread Cert.MergeKernel.nD Cert.MergeKernel.τ).loc Cert.MergeKernel.main_arg14)
      ∧ r.2.mem ((c.tc : Thread Cert.MergeKernel.nD Cert.MergeKernel.τ).loc Cert.MergeKernel.main_arg15) = m ((c.tc : Thread Cert.MergeKernel.nD Cert.MergeKernel.τ).loc Cert.MergeKernel.main_arg15)
      ∧ r.2.mem ((c.tc : Thread Cert.MergeKernel.nD Cert.MergeKernel.τ).loc Cert.MergeKernel.main_arg16) = m ((c.tc : Thread Cert.MergeKernel.nD Cert.MergeKernel.τ).loc Cert.MergeKernel.main_arg16)
      ∧ r.2.mem ((c.tc : Thread Cert.MergeKernel.nD Cert.MergeKernel.τ).loc Cert.MergeKernel.main_arg17) = m ((c.tc : Thread Cert.MergeKernel.nD Cert.MergeKernel.τ).loc Cert.MergeKernel.main_arg17)
      ∧ r.2.mem ((c.tc : Thread Cert.MergeKernel.nD Cert.MergeKernel.τ).loc Cert.MergeKernel.main_arg18) = m ((c.tc : Thread Cert.MergeKernel.nD Cert.MergeKernel.τ).loc Cert.MergeKernel.main_arg18)
      ∧ r.2.mem ((c.tc : Thread Cert.MergeKernel.nD Cert.MergeKernel.τ).loc Cert.MergeKernel.main_arg19) = m ((c.tc : Thread Cert.MergeKernel.nD Cert.MergeKernel.τ).loc Cert.MergeKernel.main_arg19))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
      ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13)
      ∧ r.2.mem ((c.tc : Thread Cert.MergeKernelIdeal.nD Cert.MergeKernelIdeal.τ).loc Cert.MergeKernelIdeal.main_arg14) = m ((c.tc : Thread Cert.MergeKernelIdeal.nD Cert.MergeKernelIdeal.τ).loc Cert.MergeKernelIdeal.main_arg14)
      ∧ r.2.mem ((c.tc : Thread Cert.MergeKernelIdeal.nD Cert.MergeKernelIdeal.τ).loc Cert.MergeKernelIdeal.main_arg15) = m ((c.tc : Thread Cert.MergeKernelIdeal.nD Cert.MergeKernelIdeal.τ).loc Cert.MergeKernelIdeal.main_arg15)
      ∧ r.2.mem ((c.tc : Thread Cert.MergeKernelIdeal.nD Cert.MergeKernelIdeal.τ).loc Cert.MergeKernelIdeal.main_arg16) = m ((c.tc : Thread Cert.MergeKernelIdeal.nD Cert.MergeKernelIdeal.τ).loc Cert.MergeKernelIdeal.main_arg16)
      ∧ r.2.mem ((c.tc : Thread Cert.MergeKernelIdeal.nD Cert.MergeKernelIdeal.τ).loc Cert.MergeKernelIdeal.main_arg17) = m ((c.tc : Thread Cert.MergeKernelIdeal.nD Cert.MergeKernelIdeal.τ).loc Cert.MergeKernelIdeal.main_arg17)
      ∧ r.2.mem ((c.tc : Thread Cert.MergeKernelIdeal.nD Cert.MergeKernelIdeal.τ).loc Cert.MergeKernelIdeal.main_arg18) = m ((c.tc : Thread Cert.MergeKernelIdeal.nD Cert.MergeKernelIdeal.τ).loc Cert.MergeKernelIdeal.main_arg18)
      ∧ r.2.mem ((c.tc : Thread Cert.MergeKernelIdeal.nD Cert.MergeKernelIdeal.τ).loc Cert.MergeKernelIdeal.main_arg19) = m ((c.tc : Thread Cert.MergeKernelIdeal.nD Cert.MergeKernelIdeal.τ).loc Cert.MergeKernelIdeal.main_arg19))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18)
      ∧ r.2.mem ((c.tc : Thread Cert.MergeReferenceIdeal.nD Cert.MergeReferenceIdeal.τ).loc Cert.MergeReferenceIdeal.main_arg19) = m ((c.tc : Thread Cert.MergeReferenceIdeal.nD Cert.MergeReferenceIdeal.τ).loc Cert.MergeReferenceIdeal.main_arg19))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)) →
    ∃ (v0 : (c : Dev Cert.ProjKernelIdeal.nD) → Buf (Elt Ideal) ((c.tc : Thread Cert.ProjKernelIdeal.nD Cert.ProjKernelIdeal.τ).loc Cert.ProjKernelIdeal.main_v14)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v14) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v170) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)
      ∧ m' ((c.tc : Thread Cert.MergeReferenceIdeal.nD Cert.MergeReferenceIdeal.τ).loc Cert.MergeReferenceIdeal.main_arg12) = m ((c.tc : Thread Cert.MergeKernelIdeal.nD Cert.MergeKernelIdeal.τ).loc Cert.MergeKernelIdeal.main_arg12)
      ∧ m' ((c.tc : Thread Cert.MergeReferenceIdeal.nD Cert.MergeReferenceIdeal.τ).loc Cert.MergeReferenceIdeal.main_arg13) = m ((c.tc : Thread Cert.MergeKernelIdeal.nD Cert.MergeKernelIdeal.τ).loc Cert.MergeKernelIdeal.main_arg13)
      ∧ m' ((c.tc : Thread Cert.MergeReferenceIdeal.nD Cert.MergeReferenceIdeal.τ).loc Cert.MergeReferenceIdeal.main_arg14) = m ((c.tc : Thread Cert.MergeKernelIdeal.nD Cert.MergeKernelIdeal.τ).loc Cert.MergeKernelIdeal.main_arg14)
      ∧ m' ((c.tc : Thread Cert.MergeReferenceIdeal.nD Cert.MergeReferenceIdeal.τ).loc Cert.MergeReferenceIdeal.main_arg15) = m ((c.tc : Thread Cert.MergeKernelIdeal.nD Cert.MergeKernelIdeal.τ).loc Cert.MergeKernelIdeal.main_arg15)
      ∧ m' ((c.tc : Thread Cert.MergeReferenceIdeal.nD Cert.MergeReferenceIdeal.τ).loc Cert.MergeReferenceIdeal.main_arg16) = m ((c.tc : Thread Cert.MergeKernelIdeal.nD Cert.MergeKernelIdeal.τ).loc Cert.MergeKernelIdeal.main_arg16)
      ∧ m' ((c.tc : Thread Cert.MergeReferenceIdeal.nD Cert.MergeReferenceIdeal.τ).loc Cert.MergeReferenceIdeal.main_arg17) = m ((c.tc : Thread Cert.MergeKernelIdeal.nD Cert.MergeKernelIdeal.τ).loc Cert.MergeKernelIdeal.main_arg17)
      ∧ m' ((c.tc : Thread Cert.MergeReferenceIdeal.nD Cert.MergeReferenceIdeal.τ).loc Cert.MergeReferenceIdeal.main_arg18) = m ((c.tc : Thread Cert.MergeKernelIdeal.nD Cert.MergeKernelIdeal.τ).loc Cert.MergeKernelIdeal.main_arg18)
      ∧ m' ((c.tc : Thread Cert.MergeReferenceIdeal.nD Cert.MergeReferenceIdeal.τ).loc Cert.MergeReferenceIdeal.main_arg19) = m ((c.tc : Thread Cert.MergeKernelIdeal.nD Cert.MergeKernelIdeal.τ).loc Cert.MergeKernelIdeal.main_arg19)) →
    ∃ (v0 : (c : Dev Cert.MergeKernelIdeal.nD) → Buf (Elt Ideal) ((c.tc : Thread Cert.MergeKernelIdeal.nD Cert.MergeKernelIdeal.τ).loc Cert.MergeKernelIdeal.main_v25_0)) (v1 : (c : Dev Cert.MergeKernelIdeal.nD) → Buf (Elt Ideal) ((c.tc : Thread Cert.MergeKernelIdeal.nD Cert.MergeKernelIdeal.τ).loc Cert.MergeKernelIdeal.main_v25_1)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v25_0) = v0 c
          ∧ r.2.mem ((c.tc : Thread Cert.MergeKernelIdeal.nD Cert.MergeKernelIdeal.τ).loc Cert.MergeKernelIdeal.main_v25_1) = v1 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
          ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
          ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13)
          ∧ r.2.mem ((c.tc : Thread Cert.MergeKernelIdeal.nD Cert.MergeKernelIdeal.τ).loc Cert.MergeKernelIdeal.main_arg14) = m ((c.tc : Thread Cert.MergeKernelIdeal.nD Cert.MergeKernelIdeal.τ).loc Cert.MergeKernelIdeal.main_arg14)
          ∧ r.2.mem ((c.tc : Thread Cert.MergeKernelIdeal.nD Cert.MergeKernelIdeal.τ).loc Cert.MergeKernelIdeal.main_arg15) = m ((c.tc : Thread Cert.MergeKernelIdeal.nD Cert.MergeKernelIdeal.τ).loc Cert.MergeKernelIdeal.main_arg15)
          ∧ r.2.mem ((c.tc : Thread Cert.MergeKernelIdeal.nD Cert.MergeKernelIdeal.τ).loc Cert.MergeKernelIdeal.main_arg16) = m ((c.tc : Thread Cert.MergeKernelIdeal.nD Cert.MergeKernelIdeal.τ).loc Cert.MergeKernelIdeal.main_arg16)
          ∧ r.2.mem ((c.tc : Thread Cert.MergeKernelIdeal.nD Cert.MergeKernelIdeal.τ).loc Cert.MergeKernelIdeal.main_arg17) = m ((c.tc : Thread Cert.MergeKernelIdeal.nD Cert.MergeKernelIdeal.τ).loc Cert.MergeKernelIdeal.main_arg17)
          ∧ r.2.mem ((c.tc : Thread Cert.MergeKernelIdeal.nD Cert.MergeKernelIdeal.τ).loc Cert.MergeKernelIdeal.main_arg18) = m ((c.tc : Thread Cert.MergeKernelIdeal.nD Cert.MergeKernelIdeal.τ).loc Cert.MergeKernelIdeal.main_arg18)
          ∧ r.2.mem ((c.tc : Thread Cert.MergeKernelIdeal.nD Cert.MergeKernelIdeal.τ).loc Cert.MergeKernelIdeal.main_arg19) = m ((c.tc : Thread Cert.MergeKernelIdeal.nD Cert.MergeKernelIdeal.τ).loc Cert.MergeKernelIdeal.main_arg19))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v161) = v0 c
          ∧ r.2.mem ((c.tc : Thread Cert.MergeReferenceIdeal.nD Cert.MergeReferenceIdeal.τ).loc Cert.MergeReferenceIdeal.main_v168) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15)
          ∧ r.2.mem ((c.tc : Thread Cert.MergeReferenceIdeal.nD Cert.MergeReferenceIdeal.τ).loc Cert.MergeReferenceIdeal.main_arg16) = m' ((c.tc : Thread Cert.MergeReferenceIdeal.nD Cert.MergeReferenceIdeal.τ).loc Cert.MergeReferenceIdeal.main_arg16)
          ∧ r.2.mem ((c.tc : Thread Cert.MergeReferenceIdeal.nD Cert.MergeReferenceIdeal.τ).loc Cert.MergeReferenceIdeal.main_arg17) = m' ((c.tc : Thread Cert.MergeReferenceIdeal.nD Cert.MergeReferenceIdeal.τ).loc Cert.MergeReferenceIdeal.main_arg17)
          ∧ r.2.mem ((c.tc : Thread Cert.MergeReferenceIdeal.nD Cert.MergeReferenceIdeal.τ).loc Cert.MergeReferenceIdeal.main_arg18) = m' ((c.tc : Thread Cert.MergeReferenceIdeal.nD Cert.MergeReferenceIdeal.τ).loc Cert.MergeReferenceIdeal.main_arg18)
          ∧ r.2.mem ((c.tc : Thread Cert.MergeReferenceIdeal.nD Cert.MergeReferenceIdeal.τ).loc Cert.MergeReferenceIdeal.main_arg19) = m' ((c.tc : Thread Cert.MergeReferenceIdeal.nD Cert.MergeReferenceIdeal.τ).loc Cert.MergeReferenceIdeal.main_arg19))

def Claim : Prop :=
  ∃ (hKernel : Cert.Kernel.Facts) (hKernelIdeal : Cert.KernelIdeal.Facts) (hReferenceIdeal : Cert.ReferenceIdeal.Facts) (hProjKernel : Cert.ProjKernel.Facts) (hProjKernelIdeal : Cert.ProjKernelIdeal.Facts) (hProjReferenceIdeal : Cert.ProjReferenceIdeal.Facts) (hMergeKernel : Cert.MergeKernel.Facts) (hMergeKernelIdeal : Cert.MergeKernelIdeal.Facts) (hMergeReferenceIdeal : Cert.MergeReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjKernel_ProjKernelIdeal
    ∧ algebraic_ProjKernelIdeal_ProjReferenceIdeal (hProjKernelIdeal := hProjKernelIdeal) (hProjReferenceIdeal := hProjReferenceIdeal)
    ∧ preserves_MergeKernel_MergeKernelIdeal
    ∧ algebraic_MergeKernelIdeal_MergeReferenceIdeal (hMergeKernelIdeal := hMergeKernelIdeal) (hMergeReferenceIdeal := hMergeReferenceIdeal)
-- ==== Pre_finite.lean ====
abbrev S16384x512 : Shape := ⟨2, ![16384, 512]⟩
abbrev S256x512 : Shape := ⟨2, ![256, 512]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v33 : IVec S_ 1) (main_v34 : FVec F S64 .f32) (main_cst_10 : FVec F S_ .f32) : IVec S_ 1 :=
  let main_v35 : FVec F S64 .f32 := broadcastInDim S64 ![] bcast_S_S64 main_cst_10
  let main_v36 : IVec S64 1 := cmpf .olt main_v34 main_v35
  let main_c_11 : IVec S_ 1 := constantI S_ 1 1#1
  let main_v37 : IVec S_ 1 := (fun x v => Host.reduce IntOp.andi x v reducesTo_S64_S_d0 h_S_) main_v36 main_c_11
  let main_v38 : IVec S_ 1 := andi main_v33 main_v37
  let main_v39 : FVec F S64 .f32 := Host.absf main_arg7
  let main_cst_12 : FVec F S_ .f32 := constant S_ .f32 0x7F800000#32
  let main_v40 : FVec F S64 .f32 := broadcastInDim S64 ![] bcast_S_S64 main_cst_12
  let main_v41 : IVec S64 1 := cmpf .olt main_v39 main_v40
  let main_c_13 : IVec S_ 1 := constantI S_ 1 1#1
  let main_v42 : IVec S_ 1 := (fun x v => Host.reduce IntOp.andi x v reducesTo_S64_S_d0 h_S_) main_v41 main_c_13
  let main_v43 : IVec S_ 1 := andi main_v38 main_v42
  let main_v44 : FVec F S64 .f32 := Host.absf main_arg8
  let main_cst_14 : FVec F S_ .f32 := constant S_ .f32 0x7F800000#32
  let main_v45 : FVec F S64 .f32 := broadcastInDim S64 ![] bcast_S_S64 main_cst_14
  let main_v46 : IVec S64 1 := cmpf .olt main_v44 main_v45
  let main_c_15 : IVec S_ 1 := constantI S_ 1 1#1
  let main_v47 : IVec S_ 1 := (fun x v => Host.reduce IntOp.andi x v reducesTo_S64_S_d0 h_S_) main_v46 main_c_15
  let main_v48 : IVec S_ 1 := andi main_v43 main_v47
  main_v48

def fn_part1 {F : FTy → Type} [FloatOps F] (main_arg4 : FVec F S256x512 .bf16) (main_arg5 : FVec F S64 .f32) (main_arg6 : FVec F S64 .f32) (main_arg7 : FVec F S64 .f32) (main_arg8 : FVec F S64 .f32) (main_v16 : IVec S_ 1) (main_v17 : FVec F S256x512 .f32) : IVec S_ 1 :=
  let main_v18 : FVec F S256x512 .f32 := Host.absf main_v17
  let main_cst_4 : FVec F S_ .f32 := constant S_ .f32 0x7F800000#32
  let main_v19 : FVec F S256x512 .f32 := broadcastInDim S256x512 ![] bcast_S_S256x512 main_cst_4
  let main_v20 : IVec S256x512 1 := cmpf .olt main_v18 main_v19
  let main_c_5 : IVec S_ 1 := constantI S_ 1 1#1
  let main_v21 : IVec S_ 1 := (fun x v => Host.reduce IntOp.andi x v reducesTo_S256x512_S_d0_1 h_S_) main_v20 main_c_5
  let main_v22 : IVec S_ 1 := andi main_v16 main_v21
  let main_v23 : FVec F S256x512 .f32 := (extf .f32 · bitsLt_bf16_f32) main_arg4
  let main_v24 : FVec F S256x512 .f32 := Host.absf main_v23
  let main_cst_6 : FVec F S_ .f32 := constant S_ .f32 0x7F800000#32
  let main_v25 : FVec F S256x512 .f32 := broadcastInDim S256x512 ![] bcast_S_S256x512 main_cst_6
  let main_v26 : IVec S256x512 1 := cmpf .olt main_v24 main_v25
  let main_c_7 : IVec S_ 1 := constantI S_ 1 1#1
  let main_v27 : IVec S_ 1 := (fun x v => Host.reduce IntOp.andi x v reducesTo_S256x512_S_d0_1 h_S_) main_v26 main_c_7
  let main_v28 : IVec S_ 1 := andi main_v22 main_v27
  let main_v29 : FVec F S64 .f32 := Host.absf main_arg5
  let main_cst_8 : FVec F S_ .f32 := constant S_ .f32 0x7F800000#32
  let main_v30 : FVec F S64 .f32 := broadcastInDim S64 ![] bcast_S_S64 main_cst_8
  let main_v31 : IVec S64 1 := cmpf .olt main_v29 main_v30
  let main_c_9 : IVec S_ 1 := constantI S_ 1 1#1
  let main_v32 : IVec S_ 1 := (fun x v => Host.reduce IntOp.andi x v reducesTo_S64_S_d0 h_S_) main_v31 main_c_9
  let main_v33 : IVec S_ 1 := andi main_v28 main_v32
  let main_v34 : FVec F S64 .f32 := Host.absf main_arg6
  let main_cst_10 : FVec F S_ .f32 := constant S_ .f32 0x7F800000#32
  fn_part2 (F := F) main_arg7 main_arg8 main_v33 main_v34 main_cst_10

def fn {F : FTy → Type} [FloatOps F] (main_arg0 : FVec F S16384x512 .bf16) (main_arg1 : FVec F S16384x512 .bf16) (main_arg2 : FVec F S16384x512 .bf16) (main_arg3 : FVec F S256x512 .bf16) (main_arg4 : FVec F S256x512 .bf16) (main_arg5 : FVec F S64 .f32) (main_arg6 : FVec F S64 .f32) (main_arg7 : FVec F S64 .f32) (main_arg8 : FVec F S64 .f32) (main_arg9 : FVec F S128 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S16384x512 .f32 := (extf .f32 · bitsLt_bf16_f32) main_arg2
  let main_v12 : FVec F S16384x512 .f32 := Host.absf main_v11
  let main_cst_2 : FVec F S_ .f32 := constant S_ .f32 0x7F800000#32
  let main_v13 : FVec F S16384x512 .f32 := broadcastInDim S16384x512 ![] bcast_S_S16384x512 main_cst_2
  let main_v14 : IVec S16384x512 1 := cmpf .olt main_v12 main_v13
  let main_c_3 : IVec S_ 1 := constantI S_ 1 1#1
  let main_v15 : IVec S_ 1 := (fun x v => Host.reduce IntOp.andi x v reducesTo_S16384x512_S_d0_1 h_S_) main_v14 main_c_3
  let main_v16 : IVec S_ 1 := andi main_v10 main_v15
  let main_v17 : FVec F S256x512 .f32 := (extf .f32 · bitsLt_bf16_f32) main_arg3
  fn_part1 (F := F) main_arg4 main_arg5 main_arg6 main_arg7 main_arg8 main_v16 main_v17
-- ==== Kernel.lean ====
abbrev S16384x512 : Shape := ⟨2, ![16384, 512]⟩
abbrev S256x512 : Shape := ⟨2, ![256, 512]⟩
abbrev S64 : Shape := ⟨1, ![64]⟩
abbrev S128 : Shape := ⟨1, ![128]⟩
abbrev S_ : Shape := ⟨0, ![]⟩
abbrev S1 : Shape := ⟨1, ![1]⟩
abbrev S16640x512 : Shape := ⟨2, ![16640, 512]⟩
abbrev S512x16384 : Shape := ⟨2, ![512, 16384]⟩
abbrev S16640x4x128 : Shape := ⟨3, ![16640, 4, 128]⟩
abbrev S4x16640x128 : Shape := ⟨3, ![4, 16640, 128]⟩
abbrev S13x1280x4x128 : Shape := ⟨4, ![13, 1280, 4, 128]⟩
abbrev S4x13x128x1280 : Shape := ⟨4, ![4, 13, 128, 1280]⟩
abbrev S4x13x16x1280 : Shape := ⟨4, ![4, 13, 16, 1280]⟩
abbrev S4x13x144x1280 : Shape := ⟨4, ![4, 13, 144, 1280]⟩
abbrev S128x1 : Shape := ⟨2, ![128, 1]⟩
abbrev S128x256 : Shape := ⟨2, ![128, 256]⟩
abbrev S1x16640x128 : Shape := ⟨3, ![1, 16640, 128]⟩
abbrev S1x13x144x1280 : Shape := ⟨4, ![1, 13, 144, 1280]⟩
abbrev S256x128 : Shape := ⟨2, ![256, 128]⟩
abbrev S128x512 : Shape := ⟨2, ![128, 512]⟩
abbrev S1x512 : Shape := ⟨2, ![1, 512]⟩
abbrev S144x512 : Shape := ⟨2, ![144, 512]⟩
abbrev S1280x512 : Shape := ⟨2, ![1280, 512]⟩
abbrev S2x1280x512 : Shape := ⟨3, ![2, 1280, 512]⟩
abbrev S32x512 : Shape := ⟨2, ![32, 512]⟩
abbrev S2x32x512 : Shape := ⟨3, ![2, 32, 512]⟩
abbrev S1x256x128 : Shape := ⟨3, ![1, 256, 128]⟩
abbrev S8x32x512 : Shape := ⟨3, ![8, 32, 512]⟩
abbrev S512 : Shape := ⟨1, ![512]⟩
abbrev S1x1280x512 : Shape := ⟨3, ![1, 1280, 512]⟩
abbrev S1x1x144x256 : Shape := ⟨4, ![1, 1, 144, 256]⟩
abbrev S144x256 : Shape := ⟨2, ![144, 256]⟩
abbrev S1x32x512 : Shape := ⟨3, ![1, 32, 512]⟩
abbrev S256 : Shape := ⟨1, ![256]⟩
abbrev S1x256 : Shape := ⟨2, ![1, 256]⟩

abbrev nBuf : Space → Nat
  | .hbm => 34
  | .vmem => 19
  | .smem => 1
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S256x512, .bf16⟩
  | .hbm, ⟨4, _⟩ => ⟨S256x512, .bf16⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S16640x512, .bf16⟩
  | .hbm, ⟨23, _⟩ => ⟨S16640x512, .bf16⟩
  | .hbm, ⟨24, _⟩ => ⟨S512x16384, .bf16⟩
  | .hbm, ⟨25, _⟩ => ⟨S16640x4x128, .bf16⟩
  | .hbm, ⟨26, _⟩ => ⟨S4x16640x128, .bf16⟩
  | .hbm, ⟨27, _⟩ => ⟨S13x1280x4x128, .bf16⟩
  | .hbm, ⟨28, _⟩ => ⟨S4x13x128x1280, .bf16⟩
  | .hbm, ⟨29, _⟩ => ⟨S_, .bf16⟩
  | .hbm, ⟨30, _⟩ => ⟨S4x13x16x1280, .bf16⟩
  | .hbm, ⟨31, _⟩ => ⟨S4x13x144x1280, .bf16⟩
  | .hbm, ⟨32, _⟩ => ⟨S128x1, .f32⟩
  | .hbm, ⟨33, _⟩ => ⟨S16384x512, .bf16⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S1x16640x128, .bf16⟩
  | .local _ .vmem, ⟨5, _⟩ => ⟨S1x16640x128, .bf16⟩
  | .local _ .vmem, ⟨6, _⟩ => ⟨S1x13x144x1280, .bf16⟩
  | .local _ .vmem, ⟨7, _⟩ => ⟨S1x13x144x1280, .bf16⟩
  | .local _ .vmem, ⟨8, _⟩ => ⟨S128x1, .f32⟩
  | .local _ .vmem, ⟨9, _⟩ => ⟨S256x128, .bf16⟩
  | .local _ .vmem, ⟨10, _⟩ => ⟨S256x128, .bf16⟩
  | .local _ .vmem, ⟨11, _⟩ => ⟨S128x512, .bf16⟩
  | .local _ .vmem, ⟨12, _⟩ => ⟨S128x512, .bf16⟩
  | .local _ .vmem, ⟨13, _⟩ => ⟨S1x512, .f32⟩
  | .local _ .vmem, ⟨14, _⟩ => ⟨S144x512, .f32⟩
  | .local _ .vmem, ⟨15, _⟩ => ⟨S1280x512, .f32⟩
  | .local _ .vmem, ⟨16, _⟩ => ⟨S2x1280x512, .f32⟩
  | .local _ .vmem, ⟨17, _⟩ => ⟨S32x512, .f32⟩
  | .local _ .vmem, ⟨18, _⟩ => ⟨S2x32x512, .f32⟩
  | .local _ .smem, ⟨0, _⟩ => ⟨S1, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_362 : BitVec 32 := 0#32
  c0_i32_362
def k0_mult2 : BitVec 32 :=
  let c256_i32_371 : BitVec 32 := 256#32
  c256_i32_371
def k0_mult3 : BitVec 32 :=
  let c512_i32_380 : BitVec 32 := 512#32
  c512_i32_380
def k0_mult4 : BitVec 32 :=
  let c768_i32_389 : BitVec 32 := 768#32
  c768_i32_389
def k0_mult5 : BitVec 32 :=
  let c1024_i32_398 : BitVec 32 := 1024#32
  c1024_i32_398
def k0_mult6 : BitVec 32 :=
  let c1280_i32 : BitVec 32 := 1280#32
  c1280_i32
def k0_mult7 : BitVec 32 :=
  let c1536_i32 : BitVec 32 := 1536#32
  c1536_i32
def k0_mult8 : BitVec 32 :=
  let c1792_i32 : BitVec 32 := 1792#32
  c1792_i32
def k0_mult9 : BitVec 32 :=
  let c2048_i32 : BitVec 32 := 2048#32
  c2048_i32
def k0_mult10 : BitVec 32 :=
  let c2304_i32 : BitVec 32 := 2304#32
  c2304_i32
@[reducible] def k0_t1_loop : Scf.Loop 32 :=
  let c0_i32_111 : BitVec 32 := 0#32
  let c5_i32 : BitVec 32 := 5#32
  let v163 : BitVec 32 := Scalar.addi c0_i32_111 c5_i32
  let c1_i32_112 : BitVec 32 := 1#32
  ⟨c0_i32_111, v163, c1_i32_112⟩
def k0_mult11 (k0_t1 : Fin k0_t1_loop.trips) : BitVec 32 :=
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c1_i32_354 : BitVec 32 := 1#32
  let v477 : BitVec 32 := Scalar.addi v476 c1_i32_354
  let c1280_i32_366 : BitVec 32 := 1280#32
  let v493 : BitVec 32 := Scalar.muli v477 c1280_i32_366
  let c0_i32_367 : BitVec 32 := 0#32
  let v494 : BitVec 32 := Scalar.addi v493 c0_i32_367
  v494
def k0_off1 (k0_t1 : Fin k0_t1_loop.trips) (c1_i32_354 : BitVec 32) (c0_i32_367 : BitVec 32) : Fin 3 → Nat :=
  let c0_368 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let v477 : BitVec 32 := Scalar.addi v476 c1_i32_354
  let c1280_i32_366 : BitVec 32 := 1280#32
  let v493 : BitVec 32 := Scalar.muli v477 c1280_i32_366
  let v494 : BitVec 32 := Scalar.addi v493 c0_i32_367
  let v495 : BitVec 32 := v494
  let v496 : Index := Scalar.indexCast v495
  let c0_369 : Index := 0#32
  ![0, v496.toNat, 0]
def k0_off2 (k0_t1 : Fin k0_t1_loop.trips) : Fin 4 → Nat :=
  let c0_379 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let v508 : Index := Scalar.indexCast v476
  let c0_380 : Index := 0#32
  let c0_381 : Index := 0#32
  ![0, v508.toNat, 0, 0]
def k0_mult12 (k0_t1 : Fin k0_t1_loop.trips) : BitVec 32 :=
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c1_i32_354 : BitVec 32 := 1#32
  let v477 : BitVec 32 := Scalar.addi v476 c1_i32_354
  let c1280_i32_388 : BitVec 32 := 1280#32
  let v519 : BitVec 32 := Scalar.muli v477 c1280_i32_388
  let c256_i32_389 : BitVec 32 := 256#32
  let v520 : BitVec 32 := Scalar.addi v519 c256_i32_389
  v520
def k0_off3 (k0_t1 : Fin k0_t1_loop.trips) : Fin 4 → Nat :=
  let c0_401 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let v535 : Index := Scalar.indexCast v476
  let c0_402 : Index := 0#32
  let c256_403 : Index := 256#32
  ![0, v535.toNat, 0, 256]
def k0_mult13 (k0_t1 : Fin k0_t1_loop.trips) : BitVec 32 :=
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c1_i32_354 : BitVec 32 := 1#32
  let v477 : BitVec 32 := Scalar.addi v476 c1_i32_354
  let c1280_i32_410 : BitVec 32 := 1280#32
  let v547 : BitVec 32 := Scalar.muli v477 c1280_i32_410
  let c512_i32_411 : BitVec 32 := 512#32
  let v548 : BitVec 32 := Scalar.addi v547 c512_i32_411
  v548
def k0_off4 (k0_t1 : Fin k0_t1_loop.trips) : Fin 4 → Nat :=
  let c0_423 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let v563 : Index := Scalar.indexCast v476
  let c0_424 : Index := 0#32
  let c512_425 : Index := 512#32
  ![0, v563.toNat, 0, 512]
def k0_mult14 (k0_t1 : Fin k0_t1_loop.trips) : BitVec 32 :=
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c1_i32_354 : BitVec 32 := 1#32
  let v477 : BitVec 32 := Scalar.addi v476 c1_i32_354
  let c1280_i32_432 : BitVec 32 := 1280#32
  let v575 : BitVec 32 := Scalar.muli v477 c1280_i32_432
  let c768_i32_433 : BitVec 32 := 768#32
  let v576 : BitVec 32 := Scalar.addi v575 c768_i32_433
  v576
def k0_off5 (k0_t1 : Fin k0_t1_loop.trips) : Fin 4 → Nat :=
  let c0_445 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let v591 : Index := Scalar.indexCast v476
  let c0_446 : Index := 0#32
  let c768_447 : Index := 768#32
  ![0, v591.toNat, 0, 768]
def k0_mult15 (k0_t1 : Fin k0_t1_loop.trips) : BitVec 32 :=
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c1_i32_354 : BitVec 32 := 1#32
  let v477 : BitVec 32 := Scalar.addi v476 c1_i32_354
  let c1280_i32_454 : BitVec 32 := 1280#32
  let v603 : BitVec 32 := Scalar.muli v477 c1280_i32_454
  let c1024_i32_455 : BitVec 32 := 1024#32
  let v604 : BitVec 32 := Scalar.addi v603 c1024_i32_455
  v604
def k0_off6 (k0_t1 : Fin k0_t1_loop.trips) : Fin 4 → Nat :=
  let c0_467 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let v619 : Index := Scalar.indexCast v476
  let c0_468 : Index := 0#32
  let c1024_469 : Index := 1024#32
  ![0, v619.toNat, 0, 1024]
def k0_mult16 (k0_t1 : Fin k0_t1_loop.trips) : BitVec 32 :=
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c2_i32_481 : BitVec 32 := 2#32
  let v638 : BitVec 32 := Scalar.addi v476 c2_i32_481
  let c1280_i32_493 : BitVec 32 := 1280#32
  let v654 : BitVec 32 := Scalar.muli v638 c1280_i32_493
  let c0_i32_494 : BitVec 32 := 0#32
  let v655 : BitVec 32 := Scalar.addi v654 c0_i32_494
  v655
def k0_off7 (k0_t1 : Fin k0_t1_loop.trips) : Fin 4 → Nat :=
  let c0_506 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c1_i32_480 : BitVec 32 := 1#32
  let v637 : BitVec 32 := Scalar.addi v476 c1_i32_480
  let v669 : Index := Scalar.indexCast v637
  let c0_507 : Index := 0#32
  let c0_508 : Index := 0#32
  ![0, v669.toNat, 0, 0]
def k0_mult17 (k0_t1 : Fin k0_t1_loop.trips) : BitVec 32 :=
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c2_i32_481 : BitVec 32 := 2#32
  let v638 : BitVec 32 := Scalar.addi v476 c2_i32_481
  let c1280_i32_515 : BitVec 32 := 1280#32
  let v680 : BitVec 32 := Scalar.muli v638 c1280_i32_515
  let c256_i32_516 : BitVec 32 := 256#32
  let v681 : BitVec 32 := Scalar.addi v680 c256_i32_516
  v681
def k0_off8 (k0_t1 : Fin k0_t1_loop.trips) : Fin 4 → Nat :=
  let c0_528 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c1_i32_480 : BitVec 32 := 1#32
  let v637 : BitVec 32 := Scalar.addi v476 c1_i32_480
  let v696 : Index := Scalar.indexCast v637
  let c0_529 : Index := 0#32
  let c256_530 : Index := 256#32
  ![0, v696.toNat, 0, 256]
def k0_mult18 (k0_t1 : Fin k0_t1_loop.trips) : BitVec 32 :=
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c2_i32_481 : BitVec 32 := 2#32
  let v638 : BitVec 32 := Scalar.addi v476 c2_i32_481
  let c1280_i32_537 : BitVec 32 := 1280#32
  let v708 : BitVec 32 := Scalar.muli v638 c1280_i32_537
  let c512_i32_538 : BitVec 32 := 512#32
  let v709 : BitVec 32 := Scalar.addi v708 c512_i32_538
  v709
def k0_off9 (k0_t1 : Fin k0_t1_loop.trips) : Fin 4 → Nat :=
  let c0_550 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c1_i32_480 : BitVec 32 := 1#32
  let v637 : BitVec 32 := Scalar.addi v476 c1_i32_480
  let v724 : Index := Scalar.indexCast v637
  let c0_551 : Index := 0#32
  let c512_552 : Index := 512#32
  ![0, v724.toNat, 0, 512]
def k0_mult19 (k0_t1 : Fin k0_t1_loop.trips) : BitVec 32 :=
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c2_i32_481 : BitVec 32 := 2#32
  let v638 : BitVec 32 := Scalar.addi v476 c2_i32_481
  let c1280_i32_559 : BitVec 32 := 1280#32
  let v736 : BitVec 32 := Scalar.muli v638 c1280_i32_559
  let c768_i32_560 : BitVec 32 := 768#32
  let v737 : BitVec 32 := Scalar.addi v736 c768_i32_560
  v737
def k0_off10 (k0_t1 : Fin k0_t1_loop.trips) : Fin 4 → Nat :=
  let c0_572 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c1_i32_480 : BitVec 32 := 1#32
  let v637 : BitVec 32 := Scalar.addi v476 c1_i32_480
  let v752 : Index := Scalar.indexCast v637
  let c0_573 : Index := 0#32
  let c768_574 : Index := 768#32
  ![0, v752.toNat, 0, 768]
def k0_mult20 (k0_t1 : Fin k0_t1_loop.trips) : BitVec 32 :=
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c2_i32_481 : BitVec 32 := 2#32
  let v638 : BitVec 32 := Scalar.addi v476 c2_i32_481
  let c1280_i32_581 : BitVec 32 := 1280#32
  let v764 : BitVec 32 := Scalar.muli v638 c1280_i32_581
  let c1024_i32_582 : BitVec 32 := 1024#32
  let v765 : BitVec 32 := Scalar.addi v764 c1024_i32_582
  v765
def k0_off11 (k0_t1 : Fin k0_t1_loop.trips) : Fin 4 → Nat :=
  let c0_594 : Index := 0#32
  let c1_i32_353 : BitVec 32 := 1#32
  let c2_i32 : BitVec 32 := 2#32
  let c0_i32_111 : BitVec 32 := 0#32
  let c1_i32_112 : BitVec 32 := 1#32
  let arg17 : BitVec 32 := Scf.iv c0_i32_111 c1_i32_112 k0_t1
  let v475 : BitVec 32 := Scalar.muli c2_i32 arg17
  let v476 : BitVec 32 := Scalar.addi c1_i32_353 v475
  let c1_i32_480 : BitVec 32 := 1#32
  let v637 : BitVec 32 := Scalar.addi v476 c1_i32_480
  let v780 : Index := Scalar.indexCast v637
  let c0_595 : Index := 0#32
  let c1024_596 : Index := 1024#32
  ![0, v780.toNat, 0, 1024]
def k0_mult21 : BitVec 32 :=
  let c15360_i32 : BitVec 32 := 15360#32
  c15360_i32
def k0_mult22 : BitVec 32 :=
  let c15616_i32 : BitVec 32 := 15616#32
  c15616_i32
def k0_mult23 : BitVec 32 :=
  let c15872_i32 : BitVec 32 := 15872#32
  c15872_i32
def k0_mult24 : BitVec 32 :=
  let c16128_i32 : BitVec 32 := 16128#32
  c16128_i32
def k0_mult25 : BitVec 32 :=
  let c16384_i32 : BitVec 32 := 16384#32
  c16384_i32
def k0_mult26 : BitVec 32 :=
  let c0_i32_244 : BitVec 32 := 0#32
  c0_i32_244
def k0_mult27 : BitVec 32 :=
  let c256_i32 : BitVec 32 := 256#32
  c256_i32
def k0_mult28 : BitVec 32 :=
  let c512_i32 : BitVec 32 := 512#32
  c512_i32
def k0_mult29 : BitVec 32 :=
  let c768_i32 : BitVec 32 := 768#32
  c768_i32
def k0_mult30 : BitVec 32 :=
  let c1024_i32 : BitVec 32 := 1024#32
  c1024_i32
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  ![arg0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x13x144x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S16384x512 : Shape := ⟨2, ![16384, 512]⟩
abbrev S256x512 : Shape := ⟨2, ![256, 512]⟩
abbrev S64 : Shape := ⟨1, ![64]⟩
abbrev S128 : Shape := ⟨1, ![128]⟩
abbrev S_ : Shape := ⟨0, ![]⟩
abbrev S16640x512 : Shape := ⟨2, ![16640, 512]⟩
abbrev S16384x4x2x64 : Shape := ⟨4, ![16384, 4, 2, 64]⟩
abbrev S16640x4x2x64 : Shape := ⟨4, ![16640, 4, 2, 64]⟩
abbrev S16640x4x128 : Shape := ⟨3, ![16640, 4, 128]⟩
abbrev S4x2x16384x16640 : Shape := ⟨4, ![4, 2, 16384, 16640]⟩
abbrev S4x2x16384 : Shape := ⟨3, ![4, 2, 16384]⟩
abbrev S4x2x16384x1 : Shape := ⟨4, ![4, 2, 16384, 1]⟩
abbrev S4x1x16384x16640 : Shape := ⟨4, ![4, 1, 16384, 16640]⟩
abbrev S4x16384x16640 : Shape := ⟨3, ![4, 16384, 16640]⟩
abbrev S4x128x16384 : Shape := ⟨3, ![4, 128, 16384]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 77
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S256x512, .bf16⟩
  | .hbm, ⟨4, _⟩ => ⟨S256x512, .bf16⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16640x512, .bf16⟩
  | .hbm, ⟨22, _⟩ => ⟨S16640x512, .f32⟩
  | .hbm, ⟨23, _⟩ => ⟨S16640x512, .bf16⟩
  | .hbm, ⟨24, _⟩ => ⟨S16640x512, .f32⟩
  | .hbm, ⟨25, _⟩ => ⟨S16384x512, .f32⟩
  | .hbm, ⟨26, _⟩ => ⟨S16384x4x2x64, .f32⟩
  | .hbm, ⟨27, _⟩ => ⟨S16640x4x2x64, .f32⟩
  | .hbm, ⟨28, _⟩ => ⟨S16640x4x128, .f32⟩
  | .hbm, ⟨29, _⟩ => ⟨S4x2x16384x16640, .f32⟩
  | .hbm, ⟨30, _⟩ => ⟨S_, .f32⟩
  | .hbm, ⟨31, _⟩ => ⟨S4x2x16384x16640, .f32⟩
  | .hbm, ⟨32, _⟩ => ⟨S4x2x16384x16640, .f32⟩
  | .hbm, ⟨33, _⟩ => ⟨S_, .f32⟩
  | .hbm, ⟨34, _⟩ => ⟨S4x2x16384, .f32⟩
  | .hbm, ⟨35, _⟩ => ⟨S_, .f32⟩
  | .hbm, ⟨36, _⟩ => ⟨S4x2x16384, .f32⟩
  | .hbm, ⟨37, _⟩ => ⟨S4x2x16384, .f32⟩
  | .hbm, ⟨38, _⟩ => ⟨S4x2x16384x1, .f32⟩
  | .hbm, ⟨39, _⟩ => ⟨S4x2x16384x16640, .f32⟩
  | .hbm, ⟨40, _⟩ => ⟨S4x2x16384x16640, .f32⟩
  | .hbm, ⟨41, _⟩ => ⟨S4x2x16384x16640, .f32⟩
  | .hbm, ⟨42, _⟩ => ⟨S_, .f32⟩
  | .hbm, ⟨43, _⟩ => ⟨S4x2x16384, .f32⟩
  | .hbm, ⟨44, _⟩ => ⟨S4x2x16384x1, .f32⟩
  | .hbm, ⟨45, _⟩ => ⟨S4x2x16384x16640, .f32⟩
  | .hbm, ⟨46, _⟩ => ⟨S4x2x16384x16640, .f32⟩
  | .hbm, ⟨47, _⟩ => ⟨S4x1x16384x16640, .f32⟩
  | .hbm, ⟨48, _⟩ => ⟨S4x16384x16640, .f32⟩
  | .hbm, ⟨49, _⟩ => ⟨S4x1x16384x16640, .f32⟩
  | .hbm, ⟨50, _⟩ => ⟨S4x16384x16640, .f32⟩
  | .hbm, ⟨51, _⟩ => ⟨S4x16384x16640, .f32⟩
  | .hbm, ⟨52, _⟩ => ⟨S4x16384x16640, .f32⟩
  | .hbm, ⟨53, _⟩ => ⟨S4x16384x16640, .f32⟩
  | .hbm, ⟨54, _⟩ => ⟨S4x128x16384, .f32⟩
  | .hbm, ⟨55, _⟩ => ⟨S16384x4x128, .f32⟩
  | .hbm, ⟨56, _⟩ => ⟨S16384x4x128, .f32⟩
  | .hbm, ⟨57, _⟩ => ⟨S_, .f32⟩
  | .hbm, ⟨58, _⟩ => ⟨S16384x4, .f32⟩
  | .hbm, ⟨59, _⟩ => ⟨S16384x4x1, .f32⟩
  | .hbm, ⟨60, _⟩ => ⟨S_, .f32⟩
  | .hbm, ⟨61, _⟩ => ⟨S16384x4x1, .f32⟩
  | .hbm, ⟨62, _⟩ => ⟨S16384x4x1, .f32⟩
  | .hbm, ⟨63, _⟩ => ⟨S_, .f32⟩
  | .hbm, ⟨64, _⟩ => ⟨S16384x4x1, .f32⟩
  | .hbm, ⟨65, _⟩ => ⟨S16384x4x1, .f32⟩
  | .hbm, ⟨66, _⟩ => ⟨S16384x4x1, .f32⟩
  | .hbm, ⟨67, _⟩ => ⟨S16384x4x128, .f32⟩
  | .hbm, ⟨68, _⟩ => ⟨S16384x4x128, .f32⟩
  | .hbm, ⟨69, _⟩ => ⟨S1x1x128, .f32⟩
  | .hbm, ⟨70, _⟩ => ⟨S16384x4x128, .f32⟩
  | .hbm, ⟨71, _⟩ => ⟨S16384x4x128, .f32⟩
  | .hbm, ⟨72, _⟩ => ⟨S_, .f32⟩
  | .hbm, ⟨73, _⟩ => ⟨S16384x4x128, .f32⟩
  | .hbm, ⟨74, _⟩ => ⟨S16384x4x128, .f32⟩
  | .hbm, ⟨75, _⟩ => ⟨S16384x512, .f32⟩
  | .hbm, ⟨76, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== ProjKernel.lean ====
abbrev S16384x2048 : Shape := ⟨2, ![16384, 2048]⟩
abbrev S1x2048 : Shape := ⟨2, ![1, 2048]⟩
abbrev S2x2048x13056 : Shape := ⟨3, ![2, 2048, 13056]⟩
abbrev S16384x16 : Shape := ⟨2, ![16384, 16]⟩
abbrev S16384x64 : Shape := ⟨2, ![16384, 64]⟩
abbrev S16384x128 : Shape := ⟨2, ![16384, 128]⟩
abbrev S16384x13056 : Shape := ⟨2, ![16384, 13056]⟩
abbrev S2048x2048 : Shape := ⟨2, ![2048, 2048]⟩
abbrev S1x2048x256 : Shape := ⟨3, ![1, 2048, 256]⟩
abbrev S2048x128 : Shape := ⟨2, ![2048, 128]⟩
abbrev S2048x256 : Shape := ⟨2, ![2048, 256]⟩

abbrev nBuf : Space → Nat
  | .hbm => 21
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2x2048x13056, .f32⟩
  | .hbm, ⟨4, _⟩ => ⟨S16384x16, .f32⟩
  | .hbm, ⟨5, _⟩ => ⟨S16384x16, .f32⟩
  | .hbm, ⟨6, _⟩ => ⟨S16384x16, .f32⟩
  | .hbm, ⟨7, _⟩ => ⟨S16384x16, .f32⟩
  | .hbm, ⟨8, _⟩ => ⟨S16384x16, .f32⟩
  | .hbm, ⟨9, _⟩ => ⟨S16384x16, .f32⟩
  | .hbm, ⟨10, _⟩ => ⟨S16384x64, .f32⟩
  | .hbm, ⟨11, _⟩ => ⟨S16384x16, .f32⟩
  | .hbm, ⟨12, _⟩ => ⟨S16384x16, .f32⟩
  | .hbm, ⟨13, _⟩ => ⟨S16384x16, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S16384x64, .f32⟩
  | .hbm, ⟨18, _⟩ => ⟨S16384x128, .f32⟩
  | .hbm, ⟨19, _⟩ => ⟨S16384x128, .f32⟩
  | .hbm, ⟨20, _⟩ => ⟨S16384x13056, .bf16⟩
  | .local _ .vmem, ⟨0, _⟩ => ⟨S2048x2048, .f32⟩
  | .local _ .vmem, ⟨1, _⟩ => ⟨S1x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x256, .bf16⟩
  | .local _ .vmem, ⟨10, _⟩ => ⟨S2048x256, .bf16⟩
  | .local _ .vmem, ⟨11, _⟩ => ⟨S2048x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 51], ![false, false]⟩

def k0_cond2 (i : grid0.Coords) : BitVec 1 :=
  let arg1 : BitVec 32 := BitVec.ofNat 32 (i 1).val
  let c10_i32 : BitVec 32 := 10#32
  let v8 : BitVec 1 := Scalar.cmpi .eq arg1 c10_i32
  let c11_i32 : BitVec 32 := 11#32
  let v9 : BitVec 1 := Scalar.cmpi .eq arg1 c11_i32
  let v14 : BitVec 1 := Scalar.ori v8 v9
  let c12_i32 : BitVec 32 := 12#32
  let v10 : BitVec 1 := Scalar.cmpi .eq arg1 c12_i32
  let v15 : BitVec 1 := Scalar.ori v14 v10
  let c13_i32 : BitVec 32 := 13#32
  let v11 : BitVec 1 := Scalar.cmpi .eq arg1 c13_i32
  let v16 : BitVec 1 := Scalar.ori v15 v11
  let c16_i32 : BitVec 32 := 16#32
  let v12 : BitVec 1 := Scalar.cmpi .eq arg1 c16_i32
  let v17 : BitVec 1 := Scalar.ori v16 v12
  let c17_i32 : BitVec 32 := 17#32
  let v13 : BitVec 1 := Scalar.cmpi .eq arg1 c17_i32
  let v18 : BitVec 1 := Scalar.ori v17 v13
  let v20 : BitVec 32 := Scalar.extui v18
  let c0_i32_5 : BitVec 32 := 0#32
  let v21 : BitVec 1 := Scalar.cmpi .ne v20 c0_i32_5
  v21

def k0_cond3 (i : grid0.Coords) : BitVec 1 :=
  let arg1 : BitVec 32 := BitVec.ofNat 32 (i 1).val
  let c18_i32 : BitVec 32 := 18#32
  let v19 : BitVec 1 := Scalar.cmpi .eq arg1 c18_i32
  let v22 : BitVec 32 := Scalar.extui v19
  let c0_i32_6 : BitVec 32 := 0#32
  let v23 : BitVec 1 := Scalar.cmpi .ne v22 c0_i32_6
  v23

def k0_cond4 (i : grid0.Coords) : BitVec 1 :=
  let arg1 : BitVec 32 := BitVec.ofNat 32 (i 1).val
  let c10_i32 : BitVec 32 := 10#32
  let v8 : BitVec 1 := Scalar.cmpi .eq arg1 c10_i32
  let c11_i32 : BitVec 32 := 11#32
  let v9 : BitVec 1 := Scalar.cmpi .eq arg1 c11_i32
  let v14 : BitVec 1 := Scalar.ori v8 v9
  let c12_i32 : BitVec 32 := 12#32
  let v10 : BitVec 1 := Scalar.cmpi .eq arg1 c12_i32
  let v15 : BitVec 1 := Scalar.ori v14 v10
  let c13_i32 : BitVec 32 := 13#32
  let v11 : BitVec 1 := Scalar.cmpi .eq arg1 c13_i32
  let v16 : BitVec 1 := Scalar.ori v15 v11
  let c16_i32 : BitVec 32 := 16#32
  let v12 : BitVec 1 := Scalar.cmpi .eq arg1 c16_i32
  let v17 : BitVec 1 := Scalar.ori v16 v12
  let c17_i32 : BitVec 32 := 17#32
  let v13 : BitVec 1 := Scalar.cmpi .eq arg1 c17_i32
  let v18 : BitVec 1 := Scalar.ori v17 v13
  let c18_i32 : BitVec 32 := 18#32
  let v19 : BitVec 1 := Scalar.cmpi .eq arg1 c18_i32
  let v24 : BitVec 1 := Scalar.ori v18 v19
  let v_true : BitVec 1 := 1#1
  let v25 : BitVec 1 := Scalar.xori v24 v_true
  let v26 : BitVec 32 := Scalar.extui v25
  let c0_i32_7 : BitVec 32 := 0#32
  let v27 : BitVec 1 := Scalar.cmpi .ne v26 c0_i32_7
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 1 := Scalar.cmpi .slt arg1 c19_i32
  let c32_i32 : BitVec 32 := 32#32
  let v1 : BitVec 32 := Scalar.addi arg1 c32_i32
  let c19_i32_0 : BitVec 32 := 19#32
  let v2 : BitVec 32 := Scalar.subi arg1 c19_i32_0
  let v3 : BitVec 32 := Scalar.select v0 v1 v2
  let c0_i32 : BitVec 32 := 0#32
  ![arg0.toNat, v3.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjReferenceIdeal.lean ====
abbrev S16384x2048 : Shape := ⟨2, ![16384, 2048]⟩
abbrev S1x2048 : Shape := ⟨2, ![1, 2048]⟩
abbrev S2x2048x13056 : Shape := ⟨3, ![2, 2048, 13056]⟩
abbrev S16384x16 : Shape := ⟨2, ![16384, 16]⟩
abbrev S_ : Shape := ⟨0, ![]⟩
abbrev S1x2048x13056 : Shape := ⟨3, ![1, 2048, 13056]⟩
abbrev S2048x13056 : Shape := ⟨2, ![2048, 13056]⟩
abbrev S16384x13056 : Shape := ⟨2, ![16384, 13056]⟩
abbrev S16384x512 : Shape := ⟨2, ![16384, 512]⟩
abbrev S16384x128 : Shape := ⟨2, ![16384, 128]⟩
abbrev S16384x8192 : Shape := ⟨2, ![16384, 8192]⟩
abbrev S16384x4x2x64 : Shape := ⟨4, ![16384, 4, 2, 64]⟩
abbrev S16384x4x2x32 : Shape := ⟨4, ![16384, 4, 2, 32]⟩
abbrev S16384x1x1x16 : Shape := ⟨4, ![16384, 1, 1, 16]⟩
abbrev S16384x4x2x16 : Shape := ⟨4, ![16384, 4, 2, 16]⟩
abbrev S16384x8x64 : Shape := ⟨3, ![16384, 8, 64]⟩
abbrev S16384x8x32 : Shape := ⟨3, ![16384, 8, 32]⟩
abbrev S16384x1x16 : Shape := ⟨3, ![16384, 1, 16]⟩
abbrev S16384x8x16 : Shape := ⟨3, ![16384, 8, 16]⟩
abbrev S16384x2x64 : Shape := ⟨3, ![16384, 2, 64]⟩
abbrev S16384x2x32 : Shape := ⟨3, ![16384, 2, 32]⟩
abbrev S16384x2x16 : Shape := ⟨3, ![16384, 2, 16]⟩

abbrev nBuf : Space → Nat
  | .hbm => 178
  | .vmem => 0
  | .smem => 0
  | _ => 0

abbrev hbmTy0_0 (i : Nat) : BufTy := match i % 128 with
  | 0 => ⟨S16384x2048, .f32⟩
  | 1 => ⟨S1x2048, .f32⟩
  | 2 => ⟨S1x2048, .f32⟩
  | 3 => ⟨S2x2048x13056, .f32⟩
  | 4 => ⟨S16384x16, .f32⟩
  | 5 => ⟨S16384x16, .f32⟩
  | 6 => ⟨S_, .f32⟩
  | 7 => ⟨S1x2048, .f32⟩
  | 8 => ⟨S1x2048, .f32⟩
  | 9 => ⟨S16384x2048, .f32⟩
  | 10 => ⟨S16384x2048, .f32⟩
  | 11 => ⟨S16384x2048, .f32⟩
  | 12 => ⟨S16384x2048, .f32⟩
  | 13 => ⟨S1x2048x13056, .f32⟩
  | 14 => ⟨S2048x13056, .f32⟩
  | 15 => ⟨S16384x13056, .f32⟩
  | 16 => ⟨S16384x512, .f32⟩
  | 17 => ⟨S16384x512, .f32⟩
  | 18 => ⟨S16384x512, .f32⟩
  | 19 => ⟨S16384x512, .f32⟩
  | 20 => ⟨S16384x512, .f32⟩
  | 21 => ⟨S16384x512, .f32⟩
  | 22 => ⟨S16384x512, .f32⟩
  | 23 => ⟨S16384x512, .f32⟩
  | 24 => ⟨S16384x512, .f32⟩
  | 25 => ⟨S16384x128, .f32⟩
  | 26 => ⟨S16384x128, .f32⟩
  | 27 => ⟨S16384x8192, .f32⟩
  | 28 => ⟨S16384x4x2x64, .f32⟩
  | 29 => ⟨S16384x4x2x32, .f32⟩
  | 30 => ⟨S16384x4x2x32, .f32⟩
  | 31 => ⟨S16384x1x1x16, .f32⟩
  | 32 => ⟨S16384x4x2x16, .f32⟩
  | 33 => ⟨S16384x4x2x16, .f32⟩
  | 34 => ⟨S16384x1x1x16, .f32⟩
  | 35 => ⟨S16384x1x1x16, .f32⟩
  | 36 => ⟨S16384x4x2x16, .f32⟩
  | 37 => ⟨S16384x4x2x16, .f32⟩
  | 38 => ⟨S16384x4x2x16, .f32⟩
  | 39 => ⟨S16384x4x2x16, .f32⟩
  | 40 => ⟨S16384x4x2x16, .f32⟩
  | 41 => ⟨S16384x4x2x16, .f32⟩
  | 42 => ⟨S16384x4x2x16, .f32⟩
  | 43 => ⟨S16384x4x2x16, .f32⟩
  | 44 => ⟨S16384x4x2x16, .f32⟩
  | 45 => ⟨S16384x4x2x16, .f32⟩
  | 46 => ⟨S16384x4x2x32, .f32⟩
  | 47 => ⟨S16384x1x1x16, .f32⟩
  | 48 => ⟨S16384x4x2x16, .f32⟩
  | 49 => ⟨S16384x4x2x16, .f32⟩
  | 50 => ⟨S16384x1x1x16, .f32⟩
  | 51 => ⟨S16384x1x1x16, .f32⟩
  | 52 => ⟨S16384x4x2x16, .f32⟩
  | 53 => ⟨S16384x4x2x16, .f32⟩
  | 54 => ⟨S16384x4x2x16, .f32⟩
  | 55 => ⟨S16384x4x2x16, .f32⟩
  | 56 => ⟨S16384x4x2x16, .f32⟩
  | 57 => ⟨S16384x4x2x16, .f32⟩
  | 58 => ⟨S16384x4x2x16, .f32⟩
  | 59 => ⟨S16384x4x2x16, .f32⟩
  | 60 => ⟨S16384x4x2x16, .f32⟩
  | 61 => ⟨S16384x4x2x16, .f32⟩
  | 62 => ⟨S16384x4x2x32, .f32⟩
  | 63 => ⟨S16384x4x2x64, .f32⟩
  | 64 => ⟨S16384x4x2x64, .f32⟩
  | 65 => ⟨S16384x4x2x32, .f32⟩
  | 66 => ⟨S16384x4x2x32, .f32⟩
  | 67 => ⟨S16384x1x1x16, .f32⟩
  | 68 => ⟨S16384x4x2x16, .f32⟩
  | 69 => ⟨S16384x4x2x16, .f32⟩
  | 70 => ⟨S16384x1x1x16, .f32⟩
  | 71 => ⟨S16384x1x1x16, .f32⟩
  | 72 => ⟨S16384x4x2x16, .f32⟩
  | 73 => ⟨S16384x4x2x16, .f32⟩
  | 74 => ⟨S16384x4x2x16, .f32⟩
  | 75 => ⟨S16384x4x2x16, .f32⟩
  | 76 => ⟨S16384x4x2x16, .f32⟩
  | 77 => ⟨S16384x4x2x16, .f32⟩
  | 78 => ⟨S16384x4x2x16, .f32⟩
  | 79 => ⟨S16384x4x2x16, .f32⟩
  | 80 => ⟨S16384x4x2x16, .f32⟩
  | 81 => ⟨S16384x4x2x16, .f32⟩
  | 82 => ⟨S16384x4x2x32, .f32⟩
  | 83 => ⟨S16384x1x1x16, .f32⟩
  | 84 => ⟨S16384x4x2x16, .f32⟩
  | 85 => ⟨S16384x4x2x16, .f32⟩
  | 86 => ⟨S16384x1x1x16, .f32⟩
  | 87 => ⟨S16384x1x1x16, .f32⟩
  | 88 => ⟨S16384x4x2x16, .f32⟩
  | 89 => ⟨S16384x4x2x16, .f32⟩
  | 90 => ⟨S16384x4x2x16, .f32⟩
  | 91 => ⟨S16384x4x2x16, .f32⟩
  | 92 => ⟨S16384x4x2x16, .f32⟩
  | 93 => ⟨S16384x4x2x16, .f32⟩
  | 94 => ⟨S16384x4x2x16, .f32⟩
  | 95 => ⟨S16384x4x2x16, .f32⟩
  | 96 => ⟨S16384x4x2x16, .f32⟩
  | 97 => ⟨S16384x4x2x16, .f32⟩
  | 98 => ⟨S16384x4x2x32, .f32⟩
  | 99 => ⟨S16384x4x2x64, .f32⟩
  | 100 => ⟨S16384x8x64, .f32⟩
  | 101 => ⟨S16384x8x32, .f32⟩
  | 102 => ⟨S16384x8x32, .f32⟩
  | 103 => ⟨S16384x1x16, .f32⟩
  | 104 => ⟨S16384x8x16, .f32⟩
  | 105 => ⟨S16384x8x16, .f32⟩
  | 106 => ⟨S16384x1x16, .f32⟩
  | 107 => ⟨S16384x1x16, .f32⟩
  | 108 => ⟨S16384x8x16, .f32⟩
  | 109 => ⟨S16384x8x16, .f32⟩
  | 110 => ⟨S16384x8x16, .f32⟩
  | 111 => ⟨S16384x8x16, .f32⟩
  | 112 => ⟨S16384x8x16, .f32⟩
  | 113 => ⟨S16384x8x16, .f32⟩
  | 114 => ⟨S16384x8x16, .f32⟩
  | 115 => ⟨S16384x8x16, .f32⟩
  | 116 => ⟨S16384x8x16, .f32⟩
  | 117 => ⟨S16384x8x16, .f32⟩
  | 118 => ⟨S16384x8x32, .f32⟩
  | 119 => ⟨S16384x1x16, .f32⟩
  | 120 => ⟨S16384x8x16, .f32⟩
  | 121 => ⟨S16384x8x16, .f32⟩
  | 122 => ⟨S16384x1x16, .f32⟩
  | 123 => ⟨S16384x1x16, .f32⟩
  | 124 => ⟨S16384x8x16, .f32⟩
  | 125 => ⟨S16384x8x16, .f32⟩
  | 126 => ⟨S16384x8x16, .f32⟩
  | 127 => ⟨S16384x8x16, .f32⟩
  | _ => ⟨S16384x2048, .f32⟩

abbrev hbmTy0_1 (i : Nat) : BufTy := match i % 128 with
  | 0 => ⟨S16384x8x16, .f32⟩
  | 1 => ⟨S16384x8x16, .f32⟩
  | 2 => ⟨S16384x8x16, .f32⟩
  | 3 => ⟨S16384x8x16, .f32⟩
  | 4 => ⟨S16384x8x16, .f32⟩
  | 5 => ⟨S16384x8x16, .f32⟩
  | 6 => ⟨S16384x8x32, .f32⟩
  | 7 => ⟨S16384x8x64, .f32⟩
  | 8 => ⟨S16384x2x64, .f32⟩
  | 9 => ⟨S16384x2x32, .f32⟩
  | 10 => ⟨S16384x2x32, .f32⟩
  | 11 => ⟨S16384x1x16, .f32⟩
  | 12 => ⟨S16384x2x16, .f32⟩
  | 13 => ⟨S16384x2x16, .f32⟩
  | 14 => ⟨S16384x1x16, .f32⟩
  | 15 => ⟨S16384x1x16, .f32⟩
  | 16 => ⟨S16384x2x16, .f32⟩
  | 17 => ⟨S16384x2x16, .f32⟩
  | 18 => ⟨S16384x2x16, .f32⟩
  | 19 => ⟨S16384x2x16, .f32⟩
  | 20 => ⟨S16384x2x16, .f32⟩
  | 21 => ⟨S16384x2x16, .f32⟩
  | 22 => ⟨S16384x2x16, .f32⟩
  | 23 => ⟨S16384x2x16, .f32⟩
  | 24 => ⟨S16384x2x16, .f32⟩
  | 25 => ⟨S16384x2x16, .f32⟩
  | 26 => ⟨S16384x2x32, .f32⟩
  | 27 => ⟨S16384x1x16, .f32⟩
  | 28 => ⟨S16384x2x16, .f32⟩
  | 29 => ⟨S16384x2x16, .f32⟩
  | 30 => ⟨S16384x1x16, .f32⟩
  | 31 => ⟨S16384x1x16, .f32⟩
  | 32 => ⟨S16384x2x16, .f32⟩
  | 33 => ⟨S16384x2x16, .f32⟩
  | 34 => ⟨S16384x2x16, .f32⟩
  | 35 => ⟨S16384x2x16, .f32⟩
  | 36 => ⟨S16384x2x16, .f32⟩
  | 37 => ⟨S16384x2x16, .f32⟩
  | 38 => ⟨S16384x2x16, .f32⟩
  | 39 => ⟨S16384x2x16, .f32⟩
  | 40 => ⟨S16384x2x16, .f32⟩
  | 41 => ⟨S16384x2x16, .f32⟩
  | 42 => ⟨S16384x2x32, .f32⟩
  | 43 => ⟨S16384x2x64, .f32⟩
  | 44 => ⟨S16384x512, .f32⟩
  | 45 => ⟨S16384x512, .f32⟩
  | 46 => ⟨S16384x512, .f32⟩
  | 47 => ⟨S16384x128, .f32⟩
  | 48 => ⟨S16384x13056, .f32⟩
  | 49 => ⟨S16384x13056, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩

abbrev nD : Nat := 1
abbrev τ : Topo := Topo.v7x

variable {F : FTy → Type} [FloatOps F]
-- ==== MergeKernel.lean ====
abbrev S16384x13056 : Shape := ⟨2, ![16384, 13056]⟩
abbrev S16384x512 : Shape := ⟨2, ![16384, 512]⟩
abbrev S16384x2048 : Shape := ⟨2, ![16384, 2048]⟩
abbrev S1x2048 : Shape := ⟨2, ![1, 2048]⟩
abbrev S4x2048 : Shape := ⟨2, ![4, 2048]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S4x512x2048 : Shape := ⟨3, ![4, 512, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S1x512 : Shape := ⟨2, ![1, 512]⟩
abbrev S128x4 : Shape := ⟨2, ![128, 4]⟩
abbrev S128x4x128 : Shape := ⟨3, ![128, 4, 128]⟩
abbrev S128x512 : Shape := ⟨2, ![128, 512]⟩
abbrev S_ : Shape := ⟨0, ![]⟩
abbrev S2048x128 : Shape := ⟨2, ![2048, 128]⟩
abbrev S1x32 : Shape := ⟨2, ![1, 32]⟩
abbrev S1x128 : Shape := ⟨2, ![1, 128]⟩
abbrev S8x2048 : Shape := ⟨2, ![8, 2048]⟩
abbrev S1 : Shape := ⟨1, ![1]⟩
abbrev S262144x128 : Shape := ⟨2, ![262144, 128]⟩
abbrev S16384x128 : Shape := ⟨2, ![16384, 128]⟩
abbrev S256x8192 : Shape := ⟨2, ![256, 8192]⟩
abbrev S256x512 : Shape := ⟨2, ![256, 512]⟩
abbrev S8x512 : Shape := ⟨2, ![8, 512]⟩
abbrev S256x2048 : Shape := ⟨2, ![256, 2048]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1x512x2048 : Shape := ⟨3, ![1, 512, 2048]⟩
abbrev S512x2048 : Shape := ⟨2, ![512, 2048]⟩

abbrev nBuf : Space → Nat
  | .hbm => 57
  | .vmem => 48
  | .smem => 0
  | _ => 0

abbrev bufTy : (tb : Table) → Fin (tcTables nBuf tb) → BufTy
  | .hbm, ⟨0, _⟩ => ⟨S16384x13056, .bf16⟩
  | .hbm, ⟨1, _⟩ => ⟨S16384x512, .bf16⟩
  | .hbm, ⟨2, _⟩ => ⟨S16384x512, .bf16⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4x2048, .f32⟩
  | .hbm, ⟨8, _⟩ => ⟨S512, .f32⟩
  | .hbm, ⟨9, _⟩ => ⟨S512, .f32⟩
  | .hbm, ⟨10, _⟩ => ⟨S4x128x128, .f32⟩
  | .hbm, ⟨11, _⟩ => ⟨S4x128, .f32⟩
  | .hbm, ⟨12, _⟩ => ⟨S3x512, .f32⟩
  | .hbm, ⟨13, _⟩ => ⟨S512, .f32⟩
  | .hbm, ⟨14, _⟩ => ⟨S4x512x2048, .f32⟩
  | .hbm, ⟨15, _⟩ => ⟨S2048x2048, .f32⟩
  | .hbm, ⟨16, _⟩ => ⟨S2048, .f32⟩
  | .hbm, ⟨17, _⟩ => ⟨S2048, .f32⟩
  | .hbm, ⟨18, _⟩ => ⟨S2048x32, .f32⟩
  | .hbm, ⟨19, _⟩ => ⟨S32, .f32⟩
  | .hbm, ⟨20, _⟩ => ⟨S1x512, .f32⟩
  | .hbm, ⟨21, _⟩ => ⟨S1x512, .f32⟩
  | .hbm, ⟨22, _⟩ => ⟨S4x128x128, .bf16⟩
  | .hbm, ⟨23, _⟩ => ⟨S128x4, .f32⟩
  | .hbm, ⟨24, _⟩ => ⟨S128x4x128, .f32⟩
  | .hbm, ⟨25, _⟩ => ⟨S128x512, .f32⟩
  | .hbm, ⟨26, _⟩ => ⟨S1x512, .f32⟩
  | .hbm, ⟨27, _⟩ => ⟨S4x512x2048, .bf16⟩
  | .hbm, ⟨28, _⟩ => ⟨S2048x2048, .bf16⟩
  | .hbm, ⟨29, _⟩ => ⟨S1x2048, .f32⟩
  | .hbm, ⟨30, _⟩ => ⟨S1x2048, .f32⟩
  | .hbm, ⟨31, _⟩ => ⟨S_, .i32⟩
  | .hbm, ⟨32, _⟩ => ⟨S_, .f32⟩
  | .hbm, ⟨33, _⟩ => ⟨S2048x128, .f32⟩
  | .hbm, ⟨34, _⟩ => ⟨S2048x128, .bf16⟩
  | .hbm, ⟨35, _⟩ => ⟨S1x32, .f32⟩
  | .hbm, ⟨36, _⟩ => ⟨S_, .f32⟩
  | .hbm, ⟨37, _⟩ => ⟨S_, .f32⟩
  | .hbm, ⟨38, _⟩ => ⟨S1x128, .f32⟩
  | .hbm, ⟨39, _⟩ => ⟨S_, .f32⟩
  | .hbm, ⟨40, _⟩ => ⟨S8x2048, .f32⟩
  | .hbm, ⟨41, _⟩ => ⟨S2048, .f32⟩
  | .hbm, ⟨42, _⟩ => ⟨S_, .i32⟩
  | .hbm, ⟨43, _⟩ => ⟨S1, .i32⟩
  | .hbm, ⟨44, _⟩ => ⟨S8x2048, .f32⟩
  | .hbm, ⟨45, _⟩ => ⟨S2048, .f32⟩
  | .hbm, ⟨46, _⟩ => ⟨S_, .i32⟩
  | .hbm, ⟨47, _⟩ => ⟨S1, .i32⟩
  | .hbm, ⟨48, _⟩ => ⟨S8x2048, .f32⟩
  | .hbm, ⟨49, _⟩ => ⟨S2048, .f32⟩
  | .hbm, ⟨50, _⟩ => ⟨S_, .i32⟩
  | .hbm, ⟨51, _⟩ => ⟨S1, .i32⟩
  | .hbm, ⟨52, _⟩ => ⟨S8x2048, .f32⟩
  | .hbm, ⟨53, _⟩ => ⟨S16384x2048, .f32⟩
  | .hbm, ⟨54, _⟩ => ⟨S262144x128, .f32⟩
  | .hbm, ⟨55, _⟩ => ⟨S16384x128, .i32⟩
  | .hbm, ⟨56, _⟩ => ⟨S16384x128, .f32⟩
  | .local _ .vmem, ⟨0, _⟩ => ⟨S256x8192, .bf16⟩
  | .local _ .vmem, ⟨1, _⟩ => ⟨S256x8192, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S8x512, .bf16⟩
  | .local _ .vmem, ⟨13, _⟩ => ⟨S8x512, .bf16⟩
  | .local _ .vmem, ⟨14, _⟩ => ⟨S8x512, .bf16⟩
  | .local _ .vmem, ⟨15, _⟩ => ⟨S8x512, .bf16⟩
  | .local _ .vmem, ⟨16, _⟩ => ⟨S8x512, .bf16⟩
  | .local _ .vmem, ⟨17, _⟩ => ⟨S8x512, .bf16⟩
  | .local _ .vmem, ⟨18, _⟩ => ⟨S8x512, .bf16⟩
  | .local _ .vmem, ⟨19, _⟩ => ⟨S8x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x2048, .f32⟩
  | .local _ .vmem, ⟨25, _⟩ => ⟨S256x2048, .f32⟩
  | .local _ .vmem, ⟨26, _⟩ => ⟨S8x2048, .f32⟩
  | .local _ .vmem, ⟨27, _⟩ => ⟨S4x2048, .f32⟩
  | .local _ .vmem, ⟨28, _⟩ => ⟨S1x512, .f32⟩
  | .local _ .vmem, ⟨29, _⟩ => ⟨S1x512, .f32⟩
  | .local _ .vmem, ⟨30, _⟩ => ⟨S4x128x128, .bf16⟩
  | .local _ .vmem, ⟨31, _⟩ => ⟨S128x512, .f32⟩
  | .local _ .vmem, ⟨32, _⟩ => ⟨S3x512, .f32⟩
  | .local _ .vmem, ⟨33, _⟩ => ⟨S1x512, .f32⟩
  | .local _ .vmem, ⟨34, _⟩ => ⟨S4x512x2048, .bf16⟩
  | .local _ .vmem, ⟨35, _⟩ => ⟨S2048x2048, .bf16⟩
  | .local _ .vmem, ⟨36, _⟩ => ⟨S1x2048, .f32⟩
  | .local _ .vmem, ⟨37, _⟩ => ⟨S1x2048, .f32⟩
  | .local _ .vmem, ⟨38, _⟩ => ⟨S2048x128, .bf16⟩
  | .local _ .vmem, ⟨39, _⟩ => ⟨S1x128, .f32⟩
  | .local _ .vmem, ⟨40, _⟩ => ⟨S256x2048, .f32⟩
  | .local _ .vmem, ⟨41, _⟩ => ⟨S256x2048, .f32⟩
  | .local _ .vmem, ⟨42, _⟩ => ⟨S4096x128, .f32⟩
  | .local _ .vmem, ⟨43, _⟩ => ⟨S4096x128, .f32⟩
  | .local _ .vmem, ⟨44, _⟩ => ⟨S256x128, .i32⟩
  | .local _ .vmem, ⟨45, _⟩ => ⟨S256x128, .i32⟩
  | .local _ .vmem, ⟨46, _⟩ => ⟨S256x128, .f32⟩
  | .local _ .vmem, ⟨47, _⟩ => ⟨S256x128, .f32⟩
  | _, _ => ⟨S16384x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_call0_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_call1_v0 : Ref sig .tc := ⟨.hbm, 37, rfl⟩
abbrev main_v14 : Ref sig .tc := ⟨.hbm, 38, rfl⟩
abbrev main_cst_0 : Ref sig .tc := ⟨.hbm, 39, rfl⟩
abbrev main_v15 : Ref sig .tc := ⟨.hbm, 40, rfl⟩
abbrev main_v16 : Ref sig .tc := ⟨.hbm, 41, rfl⟩
abbrev main_c_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_v23 : Ref sig .tc := ⟨.hbm, 51, rfl⟩
abbrev main_v24 : Ref sig .tc := ⟨.hbm, 52, rfl⟩
abbrev main_v25_0 : Ref sig .tc := ⟨.hbm, 53, rfl⟩
abbrev main_v25_1 : Ref sig .tc := ⟨.hbm, 54, rfl⟩
abbrev main_v25_2 : Ref sig .tc := ⟨.hbm, 55, rfl⟩
abbrev main_v25_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_stg25_0 : Ref sig .tc := ⟨.vmem, 38, rfl⟩
abbrev cc0_stg26_0 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_stg29_0 : Ref sig .tc := ⟨.vmem, 44, rfl⟩
abbrev cc0_stg29_1 : Ref sig .tc := ⟨.vmem, 45, rfl⟩
abbrev cc0_stg30_0 : Ref sig .tc := ⟨.vmem, 46, rfl⟩
abbrev cc0_stg30_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem24_0 : DmaSem sig := 37
abbrev cc0_sem25_0 : DmaSem sig := 38
abbrev cc0_sem26_0 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45
abbrev cc0_sem30_0 : DmaSem sig := 46
abbrev cc0_sem30_1 : DmaSem sig := 47

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_4 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_5 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c18_i32 : BitVec 32 := 18#32
  let c0_i32_0 : BitVec 32 := 0#32
  ![v2.toNat, c18_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c18_i32 : BitVec 32 := 18#32
  let c0_i32 : BitVec 32 := 0#32
  ![v2.toNat, c18_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c20_i32 : BitVec 32 := 20#32
  let c0_i32 : BitVec 32 := 0#32
  ![v2.toNat, c20_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x512x2048 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2048x2048 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S2048x128 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S256x2048 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S4096x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x128 .i32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]
-- ==== MergeReferenceIdeal.lean ====
abbrev S16384x13056 : Shape := ⟨2, ![16384, 13056]⟩
abbrev S16384x512 : Shape := ⟨2, ![16384, 512]⟩
abbrev S16384x2048 : Shape := ⟨2, ![16384, 2048]⟩
abbrev S1x2048 : Shape := ⟨2, ![1, 2048]⟩
abbrev S4x2048 : Shape := ⟨2, ![4, 2048]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S4x512x2048 : Shape := ⟨3, ![4, 512, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S16384x8192 : Shape := ⟨2, ![16384, 8192]⟩
abbrev S16384x2560 : Shape := ⟨2, ![16384, 2560]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S128x128x4x128 : Shape := ⟨4, ![128, 128, 4, 128]⟩
abbrev S4x128x128x128 : Shape := ⟨4, ![4, 128, 128, 128]⟩
abbrev S128x4 : Shape := ⟨2, ![128, 4]⟩
abbrev S1x128x4x1 : Shape := ⟨4, ![1, 128, 4, 1]⟩
abbrev S16386x512 : Shape := ⟨2, ![16386, 512]⟩
abbrev S16384x4x2048 : Shape := ⟨3, ![16384, 4, 2048]⟩
abbrev S1x4x2048 : Shape := ⟨3, ![1, 4, 2048]⟩
abbrev S16384x1x2048 : Shape := ⟨3, ![16384, 1, 2048]⟩
abbrev S1x512x2048 : Shape := ⟨3, ![1, 512, 2048]⟩
abbrev S512x2048 : Shape := ⟨2, ![512, 2048]⟩
abbrev S262144x128 : Shape := ⟨2, ![262144, 128]⟩

abbrev nBuf : Space → Nat
  | .hbm => 213
  | .vmem => 0
  | .smem => 0
  | _ => 0

abbrev hbmTy0_0 (i : Nat) : BufTy := match i % 128 with
  | 0 => ⟨S16384x13056, .bf16⟩
  | 1 => ⟨S16384x512, .bf16⟩
  | 2 => ⟨S16384x512, .bf16⟩
  | 3 => ⟨S16384x2048, .f32⟩
  | 4 => ⟨S1x2048, .f32⟩
  | 5 => ⟨S1x2048, .f32⟩
  | 6 => ⟨S1x2048, .f32⟩
  | 7 => ⟨S4x2048, .f32⟩
  | 8 => ⟨S512, .f32⟩
  | 9 => ⟨S512, .f32⟩
  | 10 => ⟨S4x128x128, .f32⟩
  | 11 => ⟨S4x128, .f32⟩
  | 12 => ⟨S3x512, .f32⟩
  | 13 => ⟨S512, .f32⟩
  | 14 => ⟨S4x512x2048, .f32⟩
  | 15 => ⟨S2048x2048, .f32⟩
  | 16 => ⟨S2048, .f32⟩
  | 17 => ⟨S2048, .f32⟩
  | 18 => ⟨S2048x32, .f32⟩
  | 19 => ⟨S32, .f32⟩
  | 20 => ⟨S16384x13056, .f32⟩
  | 21 => ⟨S16384x8192, .f32⟩
  | 22 => ⟨S16384x2560, .f32⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S16384x512, .f32⟩
  | 30 => ⟨S_, .f32⟩
  | 31 => ⟨S16384x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S16384x512, .f32⟩
  | 38 => ⟨S_, .f32⟩
  | 39 => ⟨S16384x512, .f32⟩
  | 40 => ⟨S16384x512, .f32⟩
  | 41 => ⟨S_, .f32⟩
  | 42 => ⟨S16384x512, .f32⟩
  | 43 => ⟨S16384x512, .f32⟩
  | 44 => ⟨S16384x512, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S_, .f32⟩
  | 52 => ⟨S16384x512, .f32⟩
  | 53 => ⟨S16384x512, .f32⟩
  | 54 => ⟨S16384x512, .f32⟩
  | 55 => ⟨S_, .f32⟩
  | 56 => ⟨S16384x512, .f32⟩
  | 57 => ⟨S16384x512, .f32⟩
  | 58 => ⟨S_, .f32⟩
  | 59 => ⟨S16384x512, .f32⟩
  | 60 => ⟨S16384x512, .f32⟩
  | 61 => ⟨S16384x512, .f32⟩
  | 62 => ⟨S_, .f32⟩
  | 63 => ⟨S16384, .f32⟩
  | 64 => ⟨S16384x1, .f32⟩
  | 65 => ⟨S_, .f32⟩
  | 66 => ⟨S16384x1, .f32⟩
  | 67 => ⟨S16384x1, .f32⟩
  | 68 => ⟨S16384x512, .f32⟩
  | 69 => ⟨S16384x512, .f32⟩
  | 70 => ⟨S16384x512, .f32⟩
  | 71 => ⟨S_, .f32⟩
  | 72 => ⟨S16384, .f32⟩
  | 73 => ⟨S16384x1, .f32⟩
  | 74 => ⟨S_, .f32⟩
  | 75 => ⟨S16384x1, .f32⟩
  | 76 => ⟨S16384x1, .f32⟩
  | 77 => ⟨S16384x512, .f32⟩
  | 78 => ⟨S16384x512, .f32⟩
  | 79 => ⟨S_, .f32⟩
  | 80 => ⟨S16384x1, .f32⟩
  | 81 => ⟨S16384x1, .f32⟩
  | 82 => ⟨S16384x1, .f32⟩
  | 83 => ⟨S16384x512, .f32⟩
  | 84 => ⟨S16384x512, .f32⟩
  | 85 => ⟨S1x512, .f32⟩
  | 86 => ⟨S16384x512, .f32⟩
  | 87 => ⟨S16384x512, .f32⟩
  | 88 => ⟨S1x512, .f32⟩
  | 89 => ⟨S16384x512, .f32⟩
  | 90 => ⟨S16384x512, .f32⟩
  | 91 => ⟨S128x128x4x128, .f32⟩
  | 92 => ⟨S4x128x128x128, .f32⟩
  | 93 => ⟨S128x128x4x128, .f32⟩
  | 94 => ⟨S128x4, .f32⟩
  | 95 => ⟨S1x128x4x1, .f32⟩
  | 96 => ⟨S128x128x4x128, .f32⟩
  | 97 => ⟨S128x128x4x128, .f32⟩
  | 98 => ⟨S16384x512, .f32⟩
  | 99 => ⟨S16384x512, .f32⟩
  | 100 => ⟨S16384x512, .f32⟩
  | 101 => ⟨S_, .i32⟩
  | 102 => ⟨S_, .f32⟩
  | 103 => ⟨S16386x512, .f32⟩
  | 104 => ⟨S1x512, .f32⟩
  | 105 => ⟨S512, .f32⟩
  | 106 => ⟨S16384x512, .f32⟩
  | 107 => ⟨S1x512, .f32⟩
  | 108 => ⟨S16384x512, .f32⟩
  | 109 => ⟨S16384x512, .f32⟩
  | 110 => ⟨S1x512, .f32⟩
  | 111 => ⟨S512, .f32⟩
  | 112 => ⟨S16384x512, .f32⟩
  | 113 => ⟨S1x512, .f32⟩
  | 114 => ⟨S16384x512, .f32⟩
  | 115 => ⟨S16384x512, .f32⟩
  | 116 => ⟨S16384x512, .f32⟩
  | 117 => ⟨S1x512, .f32⟩
  | 118 => ⟨S512, .f32⟩
  | 119 => ⟨S16384x512, .f32⟩
  | 120 => ⟨S1x512, .f32⟩
  | 121 => ⟨S16384x512, .f32⟩
  | 122 => ⟨S16384x512, .f32⟩
  | 123 => ⟨S16384x512, .f32⟩
  | 124 => ⟨S1x512, .f32⟩
  | 125 => ⟨S16384x512, .f32⟩
  | 126 => ⟨S16384x512, .f32⟩
  | 127 => ⟨S16384x512, .f32⟩
  | _ => ⟨S16384x13056, .bf16⟩

abbrev hbmTy0_1 (i : Nat) : BufTy := match i % 128 with
  | 0 => ⟨S16384x512, .f32⟩
  | 1 => ⟨S16384x512, .f32⟩
  | 2 => ⟨S16384x4x2048, .f32⟩
  | 3 => ⟨S1x4x2048, .f32⟩
  | 4 => ⟨S16384x4x2048, .f32⟩
  | 5 => ⟨S16384x4x2048, .f32⟩
  | 6 => ⟨S16384x4x2048, .f32⟩
  | 7 => ⟨S16384x4x2048, .f32⟩
  | 8 => ⟨S_, .f32⟩
  | 9 => ⟨S16384x4x2048, .f32⟩
  | 10 => ⟨S16384x4x2048, .f32⟩
  | 11 => ⟨S_, .f32⟩
  | 12 => ⟨S16384x4x2048, .f32⟩
  | 13 => ⟨S16384x4x2048, .f32⟩
  | 14 => ⟨S16384x1x2048, .f32⟩
  | 15 => ⟨S16384x2048, .f32⟩
  | 16 => ⟨S1x512x2048, .f32⟩
  | 17 => ⟨S512x2048, .f32⟩
  | 18 => ⟨S16384x2048, .f32⟩
  | 19 => ⟨S16384x2048, .f32⟩
  | 20 => ⟨S16384x1x2048, .f32⟩
  | 21 => ⟨S16384x2048, .f32⟩
  | 22 => ⟨S1x512x2048, .f32⟩
  | 23 => ⟨S512x2048, .f32⟩
  | 24 => ⟨S16384x2048, .f32⟩
  | 25 => ⟨S16384x2048, .f32⟩
  | 26 => ⟨S16384x2048, .f32⟩
  | 27 => ⟨S16384x1x2048, .f32⟩
  | 28 => ⟨S16384x2048, .f32⟩
  | 29 => ⟨S1x512x2048, .f32⟩
  | 30 => ⟨S512x2048, .f32⟩
  | 31 => ⟨S16384x2048, .f32⟩
  | 32 => ⟨S16384x2048, .f32⟩
  | 33 => ⟨S16384x2048, .f32⟩
  | 34 => ⟨S16384x1x2048, .f32⟩
  | 35 => ⟨S16384x2048, .f32⟩
  | 36 => ⟨S1x512x2048, .f32⟩
  | 37 => ⟨S512x2048, .f32⟩
  | 38 => ⟨S16384x2048, .f32⟩
  | 39 => ⟨S16384x2048, .f32⟩
  | 40 => ⟨S16384x2048, .f32⟩
  | 41 => ⟨S16384x2048, .f32⟩
  | 42 => ⟨S_, .f32⟩
  | 43 => ⟨S16384x2048, .f32⟩
  | 44 => ⟨S16384x2048, .f32⟩
  | 45 => ⟨S16384x2048, .f32⟩
  | 46 => ⟨S16384x2048, .f32⟩
  | 47 => ⟨S16384x2048, .f32⟩
  | 48 => ⟨S_, .f32⟩
  | 49 => ⟨S16384, .f32⟩
  | 50 => ⟨S16384x1, .f32⟩
  | 51 => ⟨S_, .f32⟩
  | 52 => ⟨S16384x1, .f32⟩
  | 53 => ⟨S16384x1, .f32⟩
  | 54 => ⟨S16384x2048, .f32⟩
  | 55 => ⟨S16384x2048, .f32⟩
  | 56 => ⟨S16384x2048, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S16384x2048, .f32⟩
  | 64 => ⟨S16384x2048, .f32⟩
  | 65 => ⟨S_, .f32⟩
  | 66 => ⟨S16384x1, .f32⟩
  | 67 => ⟨S16384x1, .f32⟩
  | 68 => ⟨S16384x1, .f32⟩
  | 69 => ⟨S16384x2048, .f32⟩
  | 70 => ⟨S16384x2048, .f32⟩
  | 71 => ⟨S1x2048, .f32⟩
  | 72 => ⟨S16384x2048, .f32⟩
  | 73 => ⟨S16384x2048, .f32⟩
  | 74 => ⟨S1x2048, .f32⟩
  | 75 => ⟨S16384x2048, .f32⟩
  | 76 => ⟨S16384x2048, .f32⟩
  | 77 => ⟨S_, .f32⟩
  | 78 => ⟨S1x2048, .f32⟩
  | 79 => ⟨S1x2048, .f32⟩
  | 80 => ⟨S16384x2048, .f32⟩
  | 81 => ⟨S16384x2048, .f32⟩
  | 82 => ⟨S16384x2048, .f32⟩
  | 83 => ⟨S16384x2048, .f32⟩
  | 84 => ⟨S262144x128, .f32⟩
  | _ => ⟨S16384x13056, .bf16⟩

abbrev hbmTy (i : Nat) : BufTy := match i / 128 with
  | 0 => hbmTy0_0 i
  | 1 => hbmTy0_1 i
  | _ => ⟨S16384x13056, .bf16⟩

abbrev bufTy : (tb : Table) → Fin (tcTables nBuf tb) → BufTy
  | .hbm, ⟨i, _⟩ => hbmTy i
  | _, _ => ⟨S16384x13056, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_cst_8 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c : Ref sig .tc := ⟨.hbm, 101, rfl⟩
abbrev main_call0_v0 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_12 : Ref sig .tc := ⟨.hbm, 136, rfl⟩
abbrev main_v101 : Ref sig .tc := ⟨.hbm, 137, rfl⟩
abbrev main_v102 : Ref sig .tc := ⟨.hbm, 138, rfl⟩
abbrev main_cst_13 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_14 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_15 : Ref sig .tc := ⟨.hbm, 176, rfl⟩
abbrev main_v138 : Ref sig .tc := ⟨.hbm, 177, rfl⟩
abbrev main_v139 : Ref sig .tc := ⟨.hbm, 178, rfl⟩
abbrev main_cst_16 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_17 : Ref sig .tc := ⟨.hbm, 185, rfl⟩
abbrev main_v145 : Ref sig .tc := ⟨.hbm, 186, rfl⟩
abbrev main_v146 : Ref sig .tc := ⟨.hbm, 187, rfl⟩
abbrev main_cst_18 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_19 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_20 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩

abbrev nD : Nat := 1
abbrev τ : Topo := Topo.v7x

variable {F : FTy → Type} [FloatOps F]
-- ==== Proof.KernelIdeal.Run.lean ====
module

public import proofs.«01_k».proof.Proof.Gen.KernelIdeal.Frame
public import proofs.«01_k».proof.Proof.Gen.KernelIdeal.Loops

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The buffers the body works on, each at the contents given: the operands' blocks, the result's block and the scratch. -/
abbrev Held (c : Dev nD) (arg2 : Memref sig .tc .smem S1 .f32) (arg3 : Memref sig .tc .vmem S128x256 .bf16) (arg4 : Memref sig .tc .vmem S128x256 .bf16) (arg5 : Memref sig .tc .vmem S1x16640x128 .bf16) (arg6 : Memref sig .tc .vmem S1x13x144x1280 .bf16) (arg7 : Memref sig .tc .vmem S128x1 .f32) (arg8 : Memref sig .tc .vmem S256x128 .bf16) (arg9 : Memref sig .tc .vmem S128x512 .bf16) (arg10 : Memref sig .tc .vmem S128x512 .bf16) (arg11 : Memref sig .tc .vmem S1x512 .f32) (arg12 : Memref sig .tc .vmem S144x512 .f32) (arg13 : Memref sig .tc .vmem S1280x512 .f32) (arg14 : Memref sig .tc .vmem S2x1280x512 .f32) (arg15 : Memref sig .tc .vmem S32x512 .f32) (arg16 : Memref sig .tc .vmem S2x32x512 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

set_option maxHeartbeats 4000000 in
/-- The kernel body at a point which opens a head: from the operands' contents `X2 … X7`, any contents `f8` of the result's block
    and `f9 … f16` of the scratch buffers, it ends with the operands as they were and every other buffer with
    a list of stores written over what it held. The run finds the lists. -/
@[irreducible] def runFirst (c : Dev nD) (i : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole) (hc : k0_cond1 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    Σ' (_G8 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg8.view.ty), Σ' (_G9 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg9.view.ty), Σ' (_G10 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg10.view.ty), Σ' (_G11 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg11.view.ty), Σ' (_G12 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg12.view.ty), Σ' (_G13 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg13.view.ty), Σ' (_G14 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg14.view.ty), Σ' (_G15 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg15.view.ty), { _G16 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg16.view.ty //
      ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
        Held (F := F) c arg2 arg3 arg4 arg5 arg6 arg7 arg8 arg9 arg10 arg11 arg12 arg13 arg14 arg15 arg16 X2 X3 X4 X5 X6 X7 f8 f9 f10 f11 f12 f13 f14 f15 f16
        ⊢ wp frame (wpE (defs₀ (F := F)) Variants.none (c : Thread nD τ) none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => Held (F := F) c arg2 arg3 arg4 arg5 arg6 arg7 arg8 arg9 arg10 arg11 arg12 arg13 arg14 arg15 arg16 X2 X3 X4 X5 X6 X7 (_G8 f8 f9 f10 f11 f12 f13 f14 f15 f16) (_G9 f8 f9 f10 f11 f12 f13 f14 f15 f16) (_G10 f8 f9 f10 f11 f12 f13 f14 f15 f16) (_G11 f8 f9 f10 f11 f12 f13 f14 f15 f16) (_G12 f8 f9 f10 f11 f12 f13 f14 f15 f16) (_G13 f8 f9 f10 f11 f12 f13 f14 f15 f16) (_G14 f8 f9 f10 f11 f12 f13 f14 f15 f16) (_G15 f8 f9 f10 f11 f12 f13 f14 f15 f16) (_G16 f8 f9 f10 f11 f12 f13 f14 f15 f16)) } := by
  refine ⟨?_, ?_, ?_, ?_, ?_, ?_, ?_, ?_, ?_, fun E f8 f9 f10 f11 f12 f13 f14 f15 f16 => ?run⟩
  case run =>
    simp only [cc0_diff_attn_eq_skeleton]; unfold cc0_diff_attn_skel
    simp only [k0_part27_eq_skeleton]; unfold k0_part27_skel
    simp only [k0_part18_eq_skeleton]
    iintro ⟨H2, H3, H4, H5, H6, H7, H8, H9, H10, H11, H12, H13, H14, H15, H16⟩
    set_option sl_exec.squeezeSlice true in
    sl_exec (disch := first | sl_exact hc)
    sl_step
    sl_close

set_option maxHeartbeats 4000000 in
/-- The kernel body at any other point: from the operands' contents `X2 … X7`, any contents `f8` of the result's block
    and `f9 … f16` of the scratch buffers, it ends with the operands as they were and every other buffer with
    a list of stores written over what it held. The run finds the lists. -/
@[irreducible] def runLater (c : Dev nD) (i : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole) (hc : ¬ k0_cond1 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    Σ' (_G8 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg8.view.ty), Σ' (_G9 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg9.view.ty), Σ' (_G10 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg10.view.ty), Σ' (_G11 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg11.view.ty), Σ' (_G12 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg12.view.ty), Σ' (_G13 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg13.view.ty), Σ' (_G14 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg14.view.ty), Σ' (_G15 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg15.view.ty), { _G16 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg16.view.ty //
      ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
        Held (F := F) c arg2 arg3 arg4 arg5 arg6 arg7 arg8 arg9 arg10 arg11 arg12 arg13 arg14 arg15 arg16 X2 X3 X4 X5 X6 X7 f8 f9 f10 f11 f12 f13 f14 f15 f16
        ⊢ wp frame (wpE (defs₀ (F := F)) Variants.none (c : Thread nD τ) none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => Held (F := F) c arg2 arg3 arg4 arg5 arg6 arg7 arg8 arg9 arg10 arg11 arg12 arg13 arg14 arg15 arg16 X2 X3 X4 X5 X6 X7 (_G8 f8 f9 f10 f11 f12 f13 f14 f15 f16) (_G9 f8 f9 f10 f11 f12 f13 f14 f15 f16) (_G10 f8 f9 f10 f11 f12 f13 f14 f15 f16) (_G11 f8 f9 f10 f11 f12 f13 f14 f15 f16) (_G12 f8 f9 f10 f11 f12 f13 f14 f15 f16) (_G13 f8 f9 f10 f11 f12 f13 f14 f15 f16) (_G14 f8 f9 f10 f11 f12 f13 f14 f15 f16) (_G15 f8 f9 f10 f11 f12 f13 f14 f15 f16) (_G16 f8 f9 f10 f11 f12 f13 f14 f15 f16)) } := by
  refine ⟨?_, ?_, ?_, ?_, ?_, ?_, ?_, ?_, ?_, fun E f8 f9 f10 f11 f12 f13 f14 f15 f16 => ?run⟩
  case run =>
    simp only [cc0_diff_attn_eq_skeleton]; unfold cc0_diff_attn_skel
    simp only [k0_part27_eq_skeleton]; unfold k0_part27_skel
    simp only [k0_part18_eq_skeleton]
    iintro ⟨H2, H3, H4, H5, H6, H7, H8, H9, H10, H11, H12, H13, H14, H15, H16⟩
    set_option sl_exec.squeezeSlice true in
    sl_exec (disch := first | sl_exact hc)
    sl_step
    sl_close

end Cert.KernelIdeal.Run

end
-- ==== Proof.KernelIdeal.Keep.lean ====
module

public import proofs.«01_k».proof.Proof.KernelIdeal.Run
public import Idealize.ShloMosaic.Lib.Claim

@[expose] public section

set_option maxRecDepth 16384

noncomputable section

namespace Cert.KernelIdeal.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1600000 in
/-- The kernel body, at any point and on any staging buffers: it keeps its operands, and hands the result's block and the
    scratch back at some contents. -/
theorem keeps (c : Dev nD) (i : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole) (x2 : Vec F S1 .f32) (x3 : Vec F S128x256 .bf16) (x4 : Vec F S128x256 .bf16) (x5 : Vec F S1x16640x128 .bf16) (x6 : Vec F S1x13x144x1280 .bf16) (x7 : Vec F S128x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ) -∗ K ⟨⟩))
      ⊢ wp frame (wpE (defs₀ (F := F)) Variants.none (c : Thread nD τ) none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  by_cases hc : k0_cond1 i = 1#1
  · iapply wp_wand $$ [H2 H3 H4 H5 H6 H7 H8 H9 H10 H11 H12 H13 H14 H15 H16]
    · iapply ((Run.runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc (harg2.unread x2) (harg3.unread x3) (harg4.unread x4) (harg5.unread x5) (harg6.unread x6) (harg7.unread x7)).2.2.2.2.2.2.2.2.2 E f8 f9 f10 f11 f12 f13 f14 f15 f16)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %u ⟨H2, H3, H4, H5, H6, H7, H8, H9, H10, H11, H12, H13, H14, H15, H16⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl
  · iapply wp_wand $$ [H2 H3 H4 H5 H6 H7 H8 H9 H10 H11 H12 H13 H14 H15 H16]
    · iapply ((Run.runLater c i arg2 harg2 arg3 harg3 arg4 harg4 arg5 harg5 arg6 harg6 arg7 harg7 arg8 harg8 arg9 harg9 arg10 harg10 arg11 harg11 arg12 harg12 arg13 harg13 arg14 harg14 arg15 harg15 arg16 harg16 hc (harg2.unread x2) (harg3.unread x3) (harg4.unread x4) (harg5.unread x5) (harg6.unread x6) (harg7.unread x7)).2.2.2.2.2.2.2.2.2 E f8 f9 f10 f11 f12 f13 f14 f15 f16)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %u ⟨H2, H3, H4, H5, H6, H7, H8, H9, H10, H11, H12, H13, H14, H15, H16⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

/-! ## The pipeline -/

/-- The scratch operands: whole buffers of the kernel's own. -/
abbrev scM0 : Memref sig .tc .vmem S128x512 .bf16 := Memref.whole cc0_scratch0
abbrev scM1 : Memref sig .tc .vmem S128x512 .bf16 := Memref.whole cc0_scratch1
abbrev scM2 : Memref sig .tc .vmem S1x512 .f32 := Memref.whole cc0_scratch2
abbrev scM3 : Memref sig .tc .vmem S144x512 .f32 := Memref.whole cc0_scratch3
abbrev scM4 : Memref sig .tc .vmem S1280x512 .f32 := Memref.whole cc0_scratch4
abbrev scM5 : Memref sig .tc .vmem S2x1280x512 .f32 := Memref.whole cc0_scratch5
abbrev scM6 : Memref sig .tc .vmem S32x512 .f32 := Memref.whole cc0_scratch6
abbrev scM7 : Memref sig .tc .vmem S2x32x512 .f32 := Memref.whole cc0_scratch7

/-- What the pipeline keeps between points: every scratch buffer at some contents, and the generator's register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM0, scM1, scM2, scM3, scM4, scM5, scM6, scM7, owns_whole]; try rfl

variable (m : (ℓ : Loc nD τ sig) → Buf (Elt F) ℓ) (ρ : Dev nD → PrngReg)

/-- The result's window, whose contents the frame does not name. -/
def forgets0 : Fin 7 → Bool := fun w => w.val == 6

/-- The pipeline's proof data: the arrays as the region finds them, every operand's block kept, the result's block at
    contents which nothing names. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

set_option maxHeartbeats 800000 in
/-- The body at any point: `keeps` on the point's staging buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩⟩
  iapply (keeps c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body on the point's staging buffers. -/
theorem defs₀_row (t : Fin cfg0.N) :
    defs₀ (F := F) .tc cfg0.body (cfg0.bodyArgs t (cfg0.slots t)) = bodyAt0 t := by
  unfold defs₀; rw [Defs.onTc_tc]

/-- The pipeline's obligation on its body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the whole program: every operand's array as the region found it, and every counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- THE FRAME: every argument array ends as it began, and every counter of the machine is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h' => ⟨fun c => have h := h'.1; ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩, h'.2⟩) (run_main m ρ)

end Cert.KernelIdeal.Keep

end
-- ==== Proof.Safety.lean ====
/- The frames of the three programs and the named constant of the idealized one: every run ends, leaves the arguments as
   they were and every semaphore at zero. -/
module

public import proofs.«01_k».proof.Defs
public import proofs.«01_k».proof.Proof.Kernel.Keep
public import proofs.«01_k».proof.Proof.KernelIdeal.Keep
public import proofs.«01_k».proof.Proof.Gen.ReferenceIdeal.Run
public import Idealize.ShloMosaic.Lib.Quiescent

@[expose] public section

noncomputable section

namespace Cert.Proof

open Idealize.ShloMosaic Idealize.SL.Sem

theorem frame_p : Cert.quiescent_Kernel := fun m ρ _ => Cert.Kernel.Keep.frame m ρ
theorem frame_pi : Cert.quiescent_KernelIdeal := fun m ρ _ => Cert.KernelIdeal.Keep.frame m ρ
theorem frame_pi_finite [Cert.Pre_finite.Facts] : Cert.quiescent_KernelIdeal_pre_finite := fun m ρ _ => Cert.KernelIdeal.Keep.frame m ρ

/-- The reference has no kernel: its frame is the rest of its own run. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_finite [Cert.Pre_finite.Facts] : Cert.quiescent_ReferenceIdeal_pre_finite := fun m ρ _ => frame_ri m ρ trivial

/-- The scores' scale, printed as the float nearest to `log₂ e / 8`, is named `1 / (8 ln 2)`. -/
theorem preserves : Cert.preserves_Kernel_KernelIdeal :=
  IdealRules.named_const.statement Cert.KernelIdeal.κ "scale_log2e" .f32 0x3E38AA3B#32
    (((8 * (Real.log 2))⁻¹ : ℝ) : EReal) rfl

end Cert.Proof

end
-- ==== Proof.Value.Consts.lean ====
/- The programs' float constants as extended reals. -/
module

public import Idealize.ShloMosaic.Lib.Pointwise

@[expose] public section

namespace Cert.Consts

open Idealize.ShloMosaic

theorem neg_inf : Ideal.ofBits .f32 0xFF800000#32 = ⊥ := by
  simp [Ideal.ofBits, Ideal.ieee]
theorem inf : Ideal.ofBits .f32 0x7F800000#32 = ⊤ := by
  simp [Ideal.ofBits, Ideal.ieee]
theorem one_bf16 : Ideal.ofBits .bf16 0x3F80#16 = ((1 : ℝ) : EReal) := by
  simp [Ideal.ofBits, Ideal.ieee, -EReal.coe_mul]; try norm_num
theorem eighth : Ideal.ofBits .f32 0x3E000000#32 = ((1 / 8 : ℝ) : EReal) := by
  simp [Ideal.ofBits, Ideal.ieee, -EReal.coe_mul]; try norm_num
theorem n128 : Ideal.ofBits .f32 0x43000000#32 = ((128 : ℝ) : EReal) := by
  simp [Ideal.ofBits, Ideal.ieee, -EReal.coe_mul]; try norm_num

end Cert.Consts
-- ==== Proof.Value.Step.lean ====
/- One step of the online softmax as functions of vectors, and what it does over the reals. -/
module

public import proofs.«01_k».proof.Proof.Gen.KernelIdeal.Skeleton
public import proofs.«01_k».proof.Proof.Value.Consts
public import Idealize.ShloMosaic.Lib.Pointwise

@[expose] public section

set_option maxRecDepth 16384

noncomputable section

namespace Cert.KernelIdeal.Step

open Idealize.ShloMosaic Idealize.ShloMosaic.TcCoe
open Cert.KernelIdeal.Gen
open Finset (range)

section Ops
variable {F : FTy → Type} [FloatOps F]

/-- A block of 256 keys against all the queries. -/
def score (k : Vec F S1x256x128 .bf16) (q : Vec F S128x512 .bf16) : FVec F S256x512 .f32 :=
  matmul dot_S256x128_S128x512_S256x512_1_0_0_1_n_n none (shapeCast S256x128 k shapeCasts_S1x256x128_S256x128) q
    (constant S256x512 .f32 0x00000000#32)
/-- A block's column maxima, folded to 32 rows. -/
def colMax (s : FVec F S256x512 .f32) : FVec F S32x512 .f32 :=
  multiReduction .maximumf [0] S32x512 (shapeCast S8x32x512 s shapeCasts_S256x512_S8x32x512) 0xFF800000#32
    reduces_S8x32x512_S32x512 (.inl rfl) rfl
/-- The running maximum after a chunk. -/
def newMax (m : FVec F S1x512 .f32) (mx : FVec F S32x512 .f32) : FVec F S1x512 .f32 :=
  maximumf m (shapeCast S1x512 (multiReduction .maximumf [0] S512 mx 0xFF800000#32 reduces_S32x512_S512 (.inl rfl) rfl)
    shapeCasts_S512_S1x512)
/-- The weights of a block. -/
def weight (s : FVec F S256x512 .f32) (m : FVec F S1x512 .f32) : FVec F S256x512 .bf16 :=
  truncf .bf16 (exp2 (subf s (broadcastTo S256x512 m broadcasts_S1x512_S256x512))) bitsLt_bf16_f32
/-- The values of a block under the weights. -/
def weigh (v : Vec F S1x1x144x256 .bf16) (p : FVec F S256x512 .bf16) : FVec F S144x512 .f32 :=
  matmul dot_S144x256_S256x512_S144x512_1_0_0_1_n_n none (shapeCast S144x256 v shapeCasts_S1x1x144x256_S144x256) p
    (constant S144x512 .f32 0x00000000#32)
/-- The accumulator after a chunk. -/
def newAcc (acc : FVec F S144x512 .f32) (m m' : FVec F S1x512 .f32) (pv : FVec F S144x512 .f32) : FVec F S144x512 .f32 :=
  addf (mulf acc (broadcastTo S144x512 (exp2 (subf m m')) broadcasts_S1x512_S144x512)) pv
/-- Five blocks' maxima. -/
def max5 (s0 s1 s2 s3 s4 : FVec F S256x512 .f32) : FVec F S32x512 .f32 :=
  maximumf (maximumf (maximumf (maximumf (colMax s0) (colMax s1)) (colMax s2)) (colMax s3)) (colMax s4)
/-- A chunk's five blocks of values under the weights of its scores. -/
def weigh5 (m : FVec F S1x512 .f32) (s0 s1 s2 s3 s4 : FVec F S256x512 .f32) (v0 v1 v2 v3 v4 : Vec F S1x1x144x256 .bf16) :
    FVec F S144x512 .f32 :=
  addf (addf (addf (addf (weigh v0 (weight s0 m)) (weigh v1 (weight s1 m))) (weigh v2 (weight s2 m)))
    (weigh v3 (weight s3 m))) (weigh v4 (weight s4 m))
/-- The accumulator after a chunk, from the chunk's scores and values. -/
def stepAcc (m : FVec F S1x512 .f32) (mx : FVec F S32x512 .f32) (acc : FVec F S144x512 .f32)
    (s0 s1 s2 s3 s4 : FVec F S256x512 .f32) (v0 v1 v2 v3 v4 : Vec F S1x1x144x256 .bf16) : FVec F S144x512 .f32 :=
  newAcc acc m (newMax m mx) (weigh5 (newMax m mx) s0 s1 s2 s3 s4 v0 v1 v2 v3 v4)

end Ops

theorem score_apply (k : Vec Ideal S1x256x128 .bf16) (q : Vec Ideal S128x512 .bf16) (r : Fin 256) (c : Fin 512) :
    score (F := Ideal) k q (ix2 r c) = ∑ d : Fin 128, (k (ix3 0 r d) * q (ix2 d c) : EReal) := by
  pointwise [score]

theorem weigh_apply (v : Vec Ideal S1x1x144x256 .bf16) (p : FVec Ideal S256x512 .bf16) (e : Fin 144) (c : Fin 512) :
    weigh (F := Ideal) v p (ix2 e c) = ∑ r : Fin 256, (v (ix4 0 0 e r) * p (ix2 r c) : EReal) := by
  pointwise [weigh]

theorem weight_apply (s : FVec Ideal S256x512 .f32) (m : FVec Ideal S1x512 .f32) (r : Fin 256) (c : Fin 512) :
    weight (F := Ideal) s m (ix2 r c) = Ideal.exp2 (s (ix2 r c) - m (ix2 0 c)) := by
  pointwise [weight]
  rfl

theorem newAcc_apply (acc : FVec Ideal S144x512 .f32) (m m' : FVec Ideal S1x512 .f32) (pv : FVec Ideal S144x512 .f32)
    (e : Fin 144) (c : Fin 512) :
    newAcc (F := Ideal) acc m m' pv (ix2 e c)
      = acc (ix2 e c) * Ideal.exp2 (m (ix2 0 c) - m' (ix2 0 c)) + pv (ix2 e c) := by
  pointwise [newAcc]
  rfl

theorem weigh5_apply (m : FVec Ideal S1x512 .f32) (s0 s1 s2 s3 s4 : FVec Ideal S256x512 .f32)
    (v0 v1 v2 v3 v4 : Vec Ideal S1x1x144x256 .bf16) (e : Fin 144) (c : Fin 512) :
    weigh5 (F := Ideal) m s0 s1 s2 s3 s4 v0 v1 v2 v3 v4 (ix2 e c)
      = ((((weigh (F := Ideal) v0 (weight s0 m) (ix2 e c) + weigh (F := Ideal) v1 (weight s1 m) (ix2 e c) : EReal)
        + weigh (F := Ideal) v2 (weight s2 m) (ix2 e c) : EReal) + weigh (F := Ideal) v3 (weight s3 m) (ix2 e c) : EReal)
        + weigh (F := Ideal) v4 (weight s4 m) (ix2 e c) : EReal) := rfl

theorem colMax_apply (s : FVec Ideal S256x512 .f32) (a : Fin 32) (c : Fin 512) :
    colMax (F := Ideal) s (ix2 a c)
      = Finset.univ.fold max (⊥ : EReal) fun b : Fin 8 => s (ix2 ⟨b.val * 32 + a.val, by omega⟩ c) := by
  pointwise [colMax]
  rw [Consts.neg_inf]

theorem newMax_apply (m : FVec Ideal S1x512 .f32) (mx : FVec Ideal S32x512 .f32) (c : Fin 512) :
    newMax (F := Ideal) m mx (ix2 0 c)
      = max (m (ix2 0 c)) (Finset.univ.fold max (⊥ : EReal) fun a : Fin 32 => mx (ix2 a c)) := by
  pointwise [newMax]
  rw [Consts.neg_inf]

/-! ## Over the reals -/

theorem coe_sum {ι : Type} (t : Finset ι) (f : ι → ℝ) : (∑ i ∈ t, ((f i : ℝ) : EReal)) = ((∑ i ∈ t, f i : ℝ) : EReal) := by
  classical
  induction t using Finset.induction_on with
  | empty => simp
  | insert a t h ih => rw [Finset.sum_insert h, Finset.sum_insert h, ih, EReal.coe_add]

/-- The maximum of finitely many reals, one at least, is a real. -/
theorem fold_max_real {n : ℕ} (hn : 0 < n) (f : Fin n → EReal) (hf : ∀ i, ∃ x : ℝ, f i = (x : EReal)) :
    ∃ x : ℝ, Finset.univ.fold max (⊥ : EReal) f = (x : EReal) := by
  have hle : ∀ i, f i ≤ Finset.univ.fold max (⊥ : EReal) f := fun i =>
    Finset.le_fold_max _ |>.mpr (.inr ⟨i, Finset.mem_univ i, le_rfl⟩)
  have hlt : Finset.univ.fold max (⊥ : EReal) f < ⊤ := by
    refine Finset.fold_max_lt _ |>.mpr ⟨bot_lt_top, fun i _ => ?_⟩
    obtain ⟨x, hx⟩ := hf i; rw [hx]; exact EReal.coe_lt_top x
  obtain ⟨x, hx⟩ := hf ⟨0, hn⟩
  refine ⟨_, (EReal.coe_toReal hlt.ne fun h => ?_).symm⟩
  have := hle ⟨0, hn⟩
  rw [h, hx] at this
  exact absurd (le_bot_iff.mp this) (EReal.coe_ne_bot x)

/-- Every element is a real. -/
def Real' {s : Shape} (v : s.Idx → EReal) : Prop := ∀ i, ∃ x : ℝ, v i = (x : EReal)

theorem real_max {x y : EReal} (hx : ∃ r : ℝ, x = (r : EReal)) (hy : ∃ r : ℝ, y = (r : EReal)) :
    ∃ r : ℝ, max x y = (r : EReal) := by
  rcases max_choice x y with h | h <;> rw [h] <;> assumption

theorem colMax_real (s : FVec Ideal S256x512 .f32) (h : ∀ r c, ∃ x : ℝ, s (ix2 r c) = (x : EReal)) (a : Fin 32) (c : Fin 512) :
    ∃ x : ℝ, colMax (F := Ideal) s (ix2 a c) = (x : EReal) := by
  rw [colMax_apply]
  exact fold_max_real (by omega) _ fun _ => h _ _

theorem max5_real (s0 s1 s2 s3 s4 : FVec Ideal S256x512 .f32) (h0 : ∀ r c, ∃ x : ℝ, s0 (ix2 r c) = (x : EReal))
    (h1 : ∀ r c, ∃ x : ℝ, s1 (ix2 r c) = (x : EReal)) (h2 : ∀ r c, ∃ x : ℝ, s2 (ix2 r c) = (x : EReal))
    (h3 : ∀ r c, ∃ x : ℝ, s3 (ix2 r c) = (x : EReal)) (h4 : ∀ r c, ∃ x : ℝ, s4 (ix2 r c) = (x : EReal)) (a : Fin 32) (c : Fin 512) :
    ∃ x : ℝ, max5 (F := Ideal) s0 s1 s2 s3 s4 (ix2 a c) = (x : EReal) :=
  real_max (real_max (real_max (real_max (colMax_real s0 h0 a c) (colMax_real s1 h1 a c)) (colMax_real s2 h2 a c))
    (colMax_real s3 h3 a c)) (colMax_real s4 h4 a c)

/-- What the running maximum and the accumulator hold after `n` chunks: for SOME real in the maximum's place (whatever it
    is, the quotients taken at the end do not depend on it), the values of the keys seen so far under their weights. -/
def AccGood (S : ℕ → Fin 512 → ℝ) (W : Fin 144 → ℕ → ℝ) (n : ℕ) (m : S1x512.Idx → EReal) (acc : S144x512.Idx → EReal) : Prop :=
  (n = 0 ∧ (∀ c, m (ix2 0 c) = ⊥) ∧ ∀ e c, acc (ix2 e c) = 0)
  ∨ ∃ μ : Fin 512 → ℝ, (∀ c, m (ix2 0 c) = ((μ c : ℝ) : EReal))
      ∧ ∀ e c, acc (ix2 e c) = ((∑ k ∈ range (1280 * n), W e k * Real.rpow 2 (S k c - μ c) : ℝ) : EReal)

theorem weigh_real (S : ℕ → Fin 512 → ℝ) (W : Fin 144 → ℕ → ℝ) (b : ℕ) (m : FVec Ideal S1x512 .f32) (μ : Fin 512 → ℝ)
    (hm : ∀ c, m (ix2 0 c) = ((μ c : ℝ) : EReal)) (s : FVec Ideal S256x512 .f32) (v : Vec Ideal S1x1x144x256 .bf16)
    (hs : ∀ r c, s (ix2 r c) = ((S (b + r.val) c : ℝ) : EReal)) (hv : ∀ e r, v (ix4 0 0 e r) = ((W e (b + r.val) : ℝ) : EReal))
    (e : Fin 144) (c : Fin 512) :
    weigh (F := Ideal) v (weight s m) (ix2 e c)
      = ((∑ k ∈ range 256, W e (b + k) * Real.rpow 2 (S (b + k) c - μ c) : ℝ) : EReal) := by
  rw [weigh_apply, Finset.sum_range, ← coe_sum]
  refine Finset.sum_congr rfl fun r _ => ?_
  rw [weight_apply, hs, hm, hv, ← EReal.coe_sub, Ideal.exp2_coe, ← EReal.coe_mul]

theorem sum_five (f : ℕ → ℝ) (n : ℕ) : ∑ k ∈ range (1280 * (n + 1)), f k
    = (∑ k ∈ range (1280 * n), f k) + (((((∑ k ∈ range 256, f (1280 * n + k)) + ∑ k ∈ range 256, f (1280 * n + 256 + k))
      + ∑ k ∈ range 256, f (1280 * n + 512 + k)) + ∑ k ∈ range 256, f (1280 * n + 768 + k))
      + ∑ k ∈ range 256, f (1280 * n + 1024 + k)) := by
  have e : 1280 * (n + 1) = 1280 * n + 256 + 256 + 256 + 256 + 256 := by ring
  rw [e, Finset.sum_range_add, Finset.sum_range_add, Finset.sum_range_add, Finset.sum_range_add, Finset.sum_range_add]
  simp only [add_assoc, Nat.reduceAdd]

/-- THE STEP: a chunk's scores and values taken in. -/
theorem step (S : ℕ → Fin 512 → ℝ) (W : Fin 144 → ℕ → ℝ) (n : ℕ) (m : FVec Ideal S1x512 .f32) (mx : FVec Ideal S32x512 .f32)
    (acc : FVec Ideal S144x512 .f32) (s0 s1 s2 s3 s4 : FVec Ideal S256x512 .f32) (v0 v1 v2 v3 v4 : Vec Ideal S1x1x144x256 .bf16)
    (h : AccGood S W n m acc) (hmx : ∀ a c, ∃ x : ℝ, mx (ix2 a c) = (x : EReal))
    (hs0 : ∀ r c, s0 (ix2 r c) = ((S (1280 * n + r.val) c : ℝ) : EReal))
    (hs1 : ∀ r c, s1 (ix2 r c) = ((S (1280 * n + 256 + r.val) c : ℝ) : EReal))
    (hs2 : ∀ r c, s2 (ix2 r c) = ((S (1280 * n + 512 + r.val) c : ℝ) : EReal))
    (hs3 : ∀ r c, s3 (ix2 r c) = ((S (1280 * n + 768 + r.val) c : ℝ) : EReal))
    (hs4 : ∀ r c, s4 (ix2 r c) = ((S (1280 * n + 1024 + r.val) c : ℝ) : EReal))
    (hv0 : ∀ e r, v0 (ix4 0 0 e r) = ((W e (1280 * n + r.val) : ℝ) : EReal))
    (hv1 : ∀ e r, v1 (ix4 0 0 e r) = ((W e (1280 * n + 256 + r.val) : ℝ) : EReal))
    (hv2 : ∀ e r, v2 (ix4 0 0 e r) = ((W e (1280 * n + 512 + r.val) : ℝ) : EReal))
    (hv3 : ∀ e r, v3 (ix4 0 0 e r) = ((W e (1280 * n + 768 + r.val) : ℝ) : EReal))
    (hv4 : ∀ e r, v4 (ix4 0 0 e r) = ((W e (1280 * n + 1024 + r.val) : ℝ) : EReal)) :
    AccGood S W (n + 1) (newMax (F := Ideal) m mx) (stepAcc (F := Ideal) m mx acc s0 s1 s2 s3 s4 v0 v1 v2 v3 v4) := by
  have hM : ∀ c, ∃ x : ℝ, newMax (F := Ideal) m mx (ix2 0 c) = (x : EReal) := by
    intro c
    rw [newMax_apply]
    have hf := fold_max_real (n := 32) (by omega) (fun a : Fin 32 => mx (ix2 a c)) fun a => hmx a c
    rcases h with ⟨_, hb, _⟩ | ⟨μ, hμ, _⟩
    · rw [hb, max_eq_right bot_le]; exact hf
    · exact real_max ⟨_, hμ c⟩ hf
  choose μ' hμ' using hM
  refine .inr ⟨μ', hμ', fun e c => ?_⟩
  let g : ℕ → ℝ := fun b => ∑ k ∈ range 256, W e (b + k) * Real.rpow 2 (S (b + k) c - μ' c)
  have hpv : weigh5 (F := Ideal) (newMax (F := Ideal) m mx) s0 s1 s2 s3 s4 v0 v1 v2 v3 v4 (ix2 e c)
      = ((g (1280 * n) + g (1280 * n + 256) + g (1280 * n + 512) + g (1280 * n + 768) + g (1280 * n + 1024) : ℝ) : EReal) := by
    rw [weigh5_apply, weigh_real S W (1280 * n) _ μ' hμ' s0 v0 hs0 hv0, weigh_real S W (1280 * n + 256) _ μ' hμ' s1 v1 hs1 hv1,
      weigh_real S W (1280 * n + 512) _ μ' hμ' s2 v2 hs2 hv2, weigh_real S W (1280 * n + 768) _ μ' hμ' s3 v3 hs3 hv3,
      weigh_real S W (1280 * n + 1024) _ μ' hμ' s4 v4 hs4 hv4, ← EReal.coe_add, ← EReal.coe_add, ← EReal.coe_add, ← EReal.coe_add]
  rw [stepAcc, newAcc_apply, hpv, sum_five, hμ']
  show _ = (((∑ k ∈ range (1280 * n), W e k * Real.rpow 2 (S k c - μ' c))
    + (g (1280 * n) + g (1280 * n + 256) + g (1280 * n + 512) + g (1280 * n + 768) + g (1280 * n + 1024)) : ℝ) : EReal)
  rcases h with ⟨hn, hb, ha⟩ | ⟨μ, hμ, ha⟩
  · rw [ha, zero_mul, zero_add]; subst hn; simp
  · rw [hμ, ha, ← EReal.coe_sub, Ideal.exp2_coe, ← EReal.coe_mul, ← EReal.coe_add, Finset.sum_mul]
    congr 2
    refine Finset.sum_congr rfl fun k _ => ?_
    rw [mul_assoc]; congr 1
    show (2 : ℝ) ^ (S k c - μ c) * (2 : ℝ) ^ (μ c - μ' c) = (2 : ℝ) ^ (S k c - μ' c)
    rw [← Real.rpow_add (by norm_num)]; congr 1; ring

end Cert.KernelIdeal.Step
-- ==== Proof.Value.Mem.lean ====
/- Loads and stores of the score buffers, read at an index. -/
module

public import proofs.«01_k».proof.Proof.Value.Step
public import Idealize.ShloMosaic.Lib.WritesUnit
public import Idealize.ShloMosaic.Lib.Exec.Geometry

@[expose] public section

set_option maxRecDepth 16384

noncomputable section

namespace Cert.KernelIdeal.Mem

open Idealize.ShloMosaic Idealize.ShloMosaic.TcCoe

variable {Val : EltTy → Type} {κ : Kind} {sp : Space}

/-! ## The two-slot score buffer -/

/-- A block of 256 rows of one slot, as stored. -/
abbrev stRect (σ o : ℕ) (h : ∀ a, (![σ, 0, 0] : Fin 3 → ℕ) a + S1x1280x512.size a ≤ S2x1280x512.size a)
    (h' : ∀ a, (![o, 0] : Fin 2 → ℕ) a + S256x512.size a ≤ S1280x512.size a)
    (h0 : (![1, 1280, 512] : Fin 3 → ℕ) 0 = 1) (hs : ∀ i : Fin 2, (![1, 1280, 512] : Fin 3 → ℕ) i.succ = S1280x512.size i)
    (hst : ∀ a, (Rect.unit (s := S2x1280x512) ![σ, 0, 0] S1x1280x512.size h).stride a = 1) : Rect S2x1280x512 :=
  (Rect.unit (s := S2x1280x512) ![σ, 0, 0] S1x1280x512.size h).within
    ((Rect.unit (s := S1280x512) ![o, 0] S256x512.size h').consLift ![1, 1280, 512] h0 hs) hst

/-- A block of 256 rows of one slot, as loaded. -/
abbrev ldRect (σ o : ℕ) (h : ∀ a, (![σ, 0, 0] : Fin 3 → ℕ) a + S1x1280x512.size a ≤ S2x1280x512.size a)
    (h' : ∀ a, (![o, 0] : Fin 2 → ℕ) a + S256x512.size a ≤ S1280x512.size a)
    (h0 : (![1, 1280, 512] : Fin 3 → ℕ) 0 = 1) (hs : ∀ i : Fin 2, (![1, 1280, 512] : Fin 3 → ℕ) i.succ = S1280x512.size i)
    (hst : ∀ a, (Rect.unit (s := S2x1280x512) ![σ, 0, 0] S1x1280x512.size h).stride a = 1) : LoadRect S2x1280x512 :=
  (Rect.unit (s := S2x1280x512) ![σ, 0, 0] S1x1280x512.size h).withinL
    ((Rect.unit (s := S1280x512) ![o, 0] S256x512.size h').toLoadRect.consLift ![1, 1280, 512] h0 hs) hst

theorem load_apply (v : View sig κ sp S2x1280x512 .f32) (f : v.ty.Contents Val) {σ o : ℕ}
    {h h' h0 hs hst} (hR : S256x512.numel = (ldRect σ o h h' h0 hs hst).shape.numel)
    (a : Fin 2) (R : Fin 1280) (r : Fin 256) (c : Fin 512) (ha : a.val = σ) (hr : R.val = o + r.val) :
    LoadRect.valAlong (lr := (Rect.unit (s := S1280x512) ![o, 0] S256x512.size h').toLoadRect) hR
        (v.readAt Val (ldRect σ o h h' h0 hs hst) f) (ix2 r c)
      = v.read Val f (ix3 a R c) := by
  show v.read Val f ((ldRect σ o h h' h0 hs hst).idx (Shape.reshapeEquiv hR (ix2 r c))) = _
  have hx : Shape.reshapeEquiv hR (ix2 r c) = Fin.cons ⟨0, Nat.one_pos⟩ (ix2 r c) :=
    Shape.reshapeEquiv_cons_one (d := S256x512.size) _ _
  rw [hx]
  congr 1
  funext i
  apply Fin.ext
  fin_cases i
  · show σ + 0 + 1 * 0 = a.val
    omega
  · show 0 + o + 1 * r.val = R.val
    omega
  · show 0 + 0 + 1 * c.val = c.val
    omega

theorem store_hit (v : View sig κ sp S2x1280x512 .f32) (f : v.ty.Contents Val) {σ o : ℕ}
    {h h' h0 hs hst} (hR : (stRect σ o h h' h0 hs hst).shape.numel = (Rect.unit (s := S1280x512) ![o, 0] S256x512.size h').shape.numel)
    (w : S256x512.Idx → Val .f32) (L : List (View.Piece Val S2x1280x512 .f32))
    (a : Fin 2) (R : Fin 1280) (r : Fin 256) (c : Fin 512) (ha : a.val = σ) (hr : R.val = o + r.val) :
    v.read Val (v.writes Val f (⟨stRect σ o h h' h0 hs hst,
        Rect.payAlong (r := Rect.unit (s := S1280x512) ![o, 0] S256x512.size h') hR w⟩ :: L)) (ix3 a R c)
      = w (ix2 r c) := by
  have e : (stRect σ o h h' h0 hs hst).emb (ix3 (n0 := 1) (n1 := 256) (n2 := 512) 0 r c) = ix3 a R c := by
    funext i
    apply Fin.ext
    fin_cases i
    · show σ + 0 + 1 * 0 = a.val
      omega
    · show 0 + o + 1 * r.val = R.val
      omega
    · show 0 + 0 + 1 * c.val = c.val
      omega
  rw [← e]
  refine (View.read_writes_cons_emb v f (stRect σ o h h' h0 hs hst) _ L (ix3 (n0 := 1) (n1 := 256) (n2 := 512) 0 r c)).trans ?_
  refine Rect.payAlong_consLift _ ![1, 1280, 512] h0 hs w hR (ix3 (n0 := 1) (n1 := 256) (n2 := 512) 0 r c) (ix2 r c) ?_
  intro i
  fin_cases i <;> rfl

theorem store_miss (v : View sig κ sp S2x1280x512 .f32) (f : v.ty.Contents Val) {σ o : ℕ}
    {h h' h0 hs hst} (w : (stRect σ o h h' h0 hs hst).shape.Idx → Val .f32) (L : List (View.Piece Val S2x1280x512 .f32))
    (a : Fin 2) (R : Fin 1280) (c : Fin 512) (hm : a.val ≠ σ ∨ R.val < o ∨ o + 256 ≤ R.val) :
    v.read Val (v.writes Val f (⟨stRect σ o h h' h0 hs hst, w⟩ :: L)) (ix3 a R c)
      = v.read Val (v.writes Val f L) (ix3 a R c) := by
  rw [View.writes_cons]
  refine View.read_slice_write_of_not_mem _ _ _ _ ?_
  intro hmem
  obtain ⟨x, -, hx⟩ := Finset.mem_map.mp hmem
  have hx' : (stRect σ o h h' h0 hs hst).emb x = ix3 a R c := hx
  have e0 : σ + 0 + 1 * (x 0).val = a.val := congrArg (fun y : S2x1280x512.Idx => (y 0).val) hx'
  have e1 : 0 + o + 1 * (x 1).val = R.val := congrArg (fun y : S2x1280x512.Idx => (y 1).val) hx'
  have l0 : (x 0).val < 1 := (x 0).isLt
  have l1 : (x 1).val < 256 := (x 1).isLt
  omega

/-- A slot of five stored blocks. -/
theorem five_hit (v : View sig κ sp S2x1280x512 .f32) (f : v.ty.Contents Val) {σ : ℕ}
    {h0 h1 h2 h3 h4 g0 g1 g2 g3 g4 a0 a1 a2 a3 a4 s0 s1 s2 s3 s4 t0 t1 t2 t3 t4}
    (R0 : (stRect σ 0 h0 g0 a0 s0 t0).shape.numel = (Rect.unit (s := S1280x512) ![0, 0] S256x512.size g0).shape.numel)
    (R1 : (stRect σ 256 h1 g1 a1 s1 t1).shape.numel = (Rect.unit (s := S1280x512) ![256, 0] S256x512.size g1).shape.numel)
    (R2 : (stRect σ 512 h2 g2 a2 s2 t2).shape.numel = (Rect.unit (s := S1280x512) ![512, 0] S256x512.size g2).shape.numel)
    (R3 : (stRect σ 768 h3 g3 a3 s3 t3).shape.numel = (Rect.unit (s := S1280x512) ![768, 0] S256x512.size g3).shape.numel)
    (R4 : (stRect σ 1024 h4 g4 a4 s4 t4).shape.numel = (Rect.unit (s := S1280x512) ![1024, 0] S256x512.size g4).shape.numel)
    (w0 w1 w2 w3 w4 : S256x512.Idx → Val .f32) (L : List (View.Piece Val S2x1280x512 .f32))
    (P : ℕ → Fin 512 → Val .f32)
    (p0 : ∀ (r : Fin 256) c, w0 (ix2 r c) = P r.val c) (p1 : ∀ (r : Fin 256) c, w1 (ix2 r c) = P (256 + r.val) c)
    (p2 : ∀ (r : Fin 256) c, w2 (ix2 r c) = P (512 + r.val) c) (p3 : ∀ (r : Fin 256) c, w3 (ix2 r c) = P (768 + r.val) c)
    (p4 : ∀ (r : Fin 256) c, w4 (ix2 r c) = P (1024 + r.val) c)
    (a : Fin 2) (ha : a.val = σ) (R : Fin 1280) (c : Fin 512) :
    v.read Val (v.writes Val f (
      ⟨stRect σ 1024 h4 g4 a4 s4 t4, Rect.payAlong (r := Rect.unit (s := S1280x512) ![1024, 0] S256x512.size g4) R4 w4⟩ ::
      ⟨stRect σ 768 h3 g3 a3 s3 t3, Rect.payAlong (r := Rect.unit (s := S1280x512) ![768, 0] S256x512.size g3) R3 w3⟩ ::
      ⟨stRect σ 512 h2 g2 a2 s2 t2, Rect.payAlong (r := Rect.unit (s := S1280x512) ![512, 0] S256x512.size g2) R2 w2⟩ ::
      ⟨stRect σ 256 h1 g1 a1 s1 t1, Rect.payAlong (r := Rect.unit (s := S1280x512) ![256, 0] S256x512.size g1) R1 w1⟩ ::
      ⟨stRect σ 0 h0 g0 a0 s0 t0, Rect.payAlong (r := Rect.unit (s := S1280x512) ![0, 0] S256x512.size g0) R0 w0⟩ :: L))
      (ix3 a R c) = P R.val c := by
  have hR := R.isLt
  by_cases b4 : 1024 ≤ R.val
  · rw [store_hit v f R4 w4 _ a R ⟨R.val - 1024, by omega⟩ c ha (by show _ = _ + (_ - _); omega), p4]
    congr 1; show 1024 + (R.val - 1024) = R.val; omega
  rw [store_miss v f _ _ a R c (by omega)]
  by_cases b3 : 768 ≤ R.val
  · rw [store_hit v f R3 w3 _ a R ⟨R.val - 768, by omega⟩ c ha (by show _ = _ + (_ - _); omega), p3]
    congr 1; show 768 + (R.val - 768) = R.val; omega
  rw [store_miss v f _ _ a R c (by omega)]
  by_cases b2 : 512 ≤ R.val
  · rw [store_hit v f R2 w2 _ a R ⟨R.val - 512, by omega⟩ c ha (by show _ = _ + (_ - _); omega), p2]
    congr 1; show 512 + (R.val - 512) = R.val; omega
  rw [store_miss v f _ _ a R c (by omega)]
  by_cases b1 : 256 ≤ R.val
  · rw [store_hit v f R1 w1 _ a R ⟨R.val - 256, by omega⟩ c ha (by show _ = _ + (_ - _); omega), p1]
    congr 1; show 256 + (R.val - 256) = R.val; omega
  rw [store_miss v f _ _ a R c (by omega)]
  rw [store_hit v f R0 w0 _ a R ⟨R.val, by omega⟩ c ha (by show R.val = 0 + R.val; omega), p0]

/-- The other slot is as before. -/
theorem five_miss (v : View sig κ sp S2x1280x512 .f32) (f : v.ty.Contents Val) {σ : ℕ}
    {h0 h1 h2 h3 h4 g0 g1 g2 g3 g4 a0 a1 a2 a3 a4 s0 s1 s2 s3 s4 t0 t1 t2 t3 t4}
    (w0 : (stRect σ 0 h0 g0 a0 s0 t0).shape.Idx → Val .f32) (w1 : (stRect σ 256 h1 g1 a1 s1 t1).shape.Idx → Val .f32)
    (w2 : (stRect σ 512 h2 g2 a2 s2 t2).shape.Idx → Val .f32) (w3 : (stRect σ 768 h3 g3 a3 s3 t3).shape.Idx → Val .f32)
    (w4 : (stRect σ 1024 h4 g4 a4 s4 t4).shape.Idx → Val .f32) (L : List (View.Piece Val S2x1280x512 .f32))
    (a : Fin 2) (ha : a.val ≠ σ) (R : Fin 1280) (c : Fin 512) :
    v.read Val (v.writes Val f (⟨stRect σ 1024 h4 g4 a4 s4 t4, w4⟩ :: ⟨stRect σ 768 h3 g3 a3 s3 t3, w3⟩ ::
      ⟨stRect σ 512 h2 g2 a2 s2 t2, w2⟩ :: ⟨stRect σ 256 h1 g1 a1 s1 t1, w1⟩ :: ⟨stRect σ 0 h0 g0 a0 s0 t0, w0⟩ :: L))
      (ix3 a R c) = v.read Val (v.writes Val f L) (ix3 a R c) := by
  rw [store_miss v f _ _ a R c (.inl ha), store_miss v f _ _ a R c (.inl ha), store_miss v f _ _ a R c (.inl ha),
    store_miss v f _ _ a R c (.inl ha), store_miss v f _ _ a R c (.inl ha)]

/-! ## Boxes with unit strides -/

theorem unit_apply {s : Shape} {e : EltTy} (v : View sig κ sp s e) (f : v.ty.Contents Val) {off size : Fin s.rank → ℕ}
    {h : ∀ a, off a + size a ≤ s.size a} (x : (Rect.unit off size h).shape.Idx) (y : s.Idx)
    (hy : ∀ a, (y a).val = off a + (x a).val) :
    v.readAt Val (Rect.unit off size h).toLoadRect f x = v.read Val f y := by
  show v.read Val f ((Rect.unit off size h).toLoadRect.idx x) = _
  congr 1
  funext a
  apply Fin.ext
  show off a + 1 * (x a).val = _
  rw [hy a]; omega

/-- A whole buffer's load. -/
theorem whole2_apply {n m : ℕ} {e : EltTy} (v : View sig κ sp (⟨2, ![n, m]⟩ : Shape) e) (f : v.ty.Contents Val)
    {h : ∀ a, (![0, 0] : Fin 2 → ℕ) a + (![n, m] : Fin 2 → ℕ) a ≤ (![n, m] : Fin 2 → ℕ) a} :
    v.readAt Val (Rect.unit (s := (⟨2, ![n, m]⟩ : Shape)) ![0, 0] ![n, m] h).toLoadRect f = v.read Val f := by
  funext x
  refine unit_apply v f x x fun a => ?_
  fin_cases a <;> exact (Nat.zero_add _).symm

/-- A whole buffer's newest store. -/
theorem whole2_writes {n m : ℕ} {e : EltTy} (v : View sig κ sp (⟨2, ![n, m]⟩ : Shape) e) (f : v.ty.Contents Val)
    {h : ∀ a, (![0, 0] : Fin 2 → ℕ) a + (![n, m] : Fin 2 → ℕ) a ≤ (![n, m] : Fin 2 → ℕ) a}
    (w : (⟨2, ![n, m]⟩ : Shape).Idx → Val e) (L : List (View.Piece Val (⟨2, ![n, m]⟩ : Shape) e)) :
    v.read Val (v.writes Val f (⟨Rect.unit (s := (⟨2, ![n, m]⟩ : Shape)) ![0, 0] ![n, m] h, w⟩ :: L)) = w := by
  funext x
  refine View.read_writes_cons_unit_of_mem v f h w L x x rfl fun a => ?_
  fin_cases a <;> exact (Nat.zero_add _).symm

/-- One slot of the two-slot buffer of column maxima. -/
theorem mx_load (v : View sig κ sp S2x32x512 .f32) (f : v.ty.Contents Val) {σ : ℕ}
    {h : ∀ a, (![σ, 0, 0] : Fin 3 → ℕ) a + S1x32x512.size a ≤ S2x32x512.size a} (s : Fin 2) (hs : s.val = σ) (a : Fin 32) (c : Fin 512) :
    v.readAt Val (Rect.unit (s := S2x32x512) ![σ, 0, 0] S1x32x512.size h).toLoadRect f (ix3 0 a c) = v.read Val f (ix3 s a c) := by
  refine unit_apply v f _ _ fun i => ?_
  fin_cases i
  · show s.val = σ + 0; omega
  · show a.val = 0 + a.val; omega
  · show c.val = 0 + c.val; omega

theorem mx_hit (v : View sig κ sp S2x32x512 .f32) (f : v.ty.Contents Val) {σ : ℕ}
    {h : ∀ a, (![σ, 0, 0] : Fin 3 → ℕ) a + S1x32x512.size a ≤ S2x32x512.size a}
    (w : S1x32x512.Idx → Val .f32) (L : List (View.Piece Val S2x32x512 .f32)) (s : Fin 2) (hs : s.val = σ) (a : Fin 32) (c : Fin 512) :
    v.read Val (v.writes Val f (⟨Rect.unit (s := S2x32x512) ![σ, 0, 0] S1x32x512.size h, w⟩ :: L)) (ix3 s a c) = w (ix3 0 a c) := by
  refine View.read_writes_cons_unit_of_mem v f h w L _ (ix3 0 a c) rfl fun i => ?_
  fin_cases i
  · show s.val = σ + 0; omega
  · show a.val = 0 + a.val; omega
  · show c.val = 0 + c.val; omega

theorem mx_miss (v : View sig κ sp S2x32x512 .f32) (f : v.ty.Contents Val) {σ : ℕ}
    {h : ∀ a, (![σ, 0, 0] : Fin 3 → ℕ) a + S1x32x512.size a ≤ S2x32x512.size a}
    (w : S1x32x512.Idx → Val .f32) (L : List (View.Piece Val S2x32x512 .f32)) (s : Fin 2) (hs : s.val ≠ σ) (a : Fin 32) (c : Fin 512) :
    v.read Val (v.writes Val f (⟨Rect.unit (s := S2x32x512) ![σ, 0, 0] S1x32x512.size h, w⟩ :: L)) (ix3 s a c)
      = v.read Val (v.writes Val f L) (ix3 s a c) := by
  refine View.read_writes_cons_unit_of_not_mem v f h w L _ rfl (0 : Fin 3) ?_
  show s.val < σ ∨ σ + 1 ≤ s.val
  omega

/-- A block of keys. -/
theorem key_load {e : EltTy} (v : View sig κ sp S1x16640x128 e) (f : v.ty.Contents Val) {off : Fin 3 → ℕ} {o : ℕ} (ho : off = ![0, o, 0])
    {h : ∀ a, off a + S1x256x128.size a ≤ S1x16640x128.size a} (r : Fin 256) (d : Fin 128) (R : Fin 16640) (hR : R.val = o + r.val) :
    v.readAt Val (Rect.unit (s := S1x16640x128) off S1x256x128.size h).toLoadRect f (ix3 0 r d) = v.read Val f (ix3 0 R d) := by
  subst ho
  refine unit_apply v f _ _ fun i => ?_
  fin_cases i
  · rfl
  · show R.val = o + r.val; omega
  · show d.val = 0 + d.val; omega

/-- A block of values. -/
theorem val_load {e : EltTy} (v : View sig κ sp S1x13x144x1280 e) (f : v.ty.Contents Val) {off : Fin 4 → ℕ} {n o : ℕ} (ho : off = ![0, n, 0, o])
    {h : ∀ a, off a + S1x1x144x256.size a ≤ S1x13x144x1280.size a} (x : Fin 144) (r : Fin 256) (N : Fin 13) (R : Fin 1280)
    (hN : N.val = n) (hR : R.val = o + r.val) :
    v.readAt Val (Rect.unit (s := S1x13x144x1280) off S1x1x144x256.size h).toLoadRect f (ix4 0 0 x r) = v.read Val f (ix4 0 N x R) := by
  subst ho
  refine unit_apply v f _ _ fun i => ?_
  fin_cases i
  · rfl
  · show N.val = n + 0; omega
  · show x.val = 0 + x.val; omega
  · show R.val = o + r.val; omega

/-- A block of 256 rows of the carried scores. -/
theorem row_load (v : View sig κ sp S1280x512 .f32) (f : v.ty.Contents Val) {o : ℕ}
    {h : ∀ a, (![o, 0] : Fin 2 → ℕ) a + S256x512.size a ≤ S1280x512.size a} (r : Fin 256) (c : Fin 512) (R : Fin 1280) (hR : R.val = o + r.val) :
    v.readAt Val (Rect.unit (s := S1280x512) ![o, 0] S256x512.size h).toLoadRect f (ix2 r c) = v.read Val f (ix2 R c) := by
  refine unit_apply v f _ _ fun i => ?_
  fin_cases i
  · show R.val = o + r.val; omega
  · show c.val = 0 + c.val; omega

/-- The carried scores, of five stored blocks. -/
theorem rows_five (v : View sig κ sp S1280x512 .f32) (f : v.ty.Contents Val)
    {g0 : ∀ a, (![0, 0] : Fin 2 → ℕ) a + S256x512.size a ≤ S1280x512.size a} {g1 : ∀ a, (![256, 0] : Fin 2 → ℕ) a + S256x512.size a ≤ S1280x512.size a}
    {g2 : ∀ a, (![512, 0] : Fin 2 → ℕ) a + S256x512.size a ≤ S1280x512.size a} {g3 : ∀ a, (![768, 0] : Fin 2 → ℕ) a + S256x512.size a ≤ S1280x512.size a}
    {g4 : ∀ a, (![1024, 0] : Fin 2 → ℕ) a + S256x512.size a ≤ S1280x512.size a}
    (w0 w1 w2 w3 w4 : S256x512.Idx → Val .f32) (L : List (View.Piece Val S1280x512 .f32))
    (P : ℕ → Fin 512 → Val .f32)
    (p0 : ∀ (r : Fin 256) c, w0 (ix2 r c) = P r.val c) (p1 : ∀ (r : Fin 256) c, w1 (ix2 r c) = P (256 + r.val) c)
    (p2 : ∀ (r : Fin 256) c, w2 (ix2 r c) = P (512 + r.val) c) (p3 : ∀ (r : Fin 256) c, w3 (ix2 r c) = P (768 + r.val) c)
    (p4 : ∀ (r : Fin 256) c, w4 (ix2 r c) = P (1024 + r.val) c) (R : Fin 1280) (c : Fin 512) :
    v.read Val (v.writes Val f (
      ⟨Rect.unit (s := S1280x512) ![1024, 0] S256x512.size g4, w4⟩ :: ⟨Rect.unit (s := S1280x512) ![768, 0] S256x512.size g3, w3⟩ ::
      ⟨Rect.unit (s := S1280x512) ![512, 0] S256x512.size g2, w2⟩ :: ⟨Rect.unit (s := S1280x512) ![256, 0] S256x512.size g1, w1⟩ ::
      ⟨Rect.unit (s := S1280x512) ![0, 0] S256x512.size g0, w0⟩ :: L)) (ix2 R c) = P R.val c := by
  have hR := R.isLt
  have hit : ∀ {o : ℕ} {g : ∀ a, (![o, 0] : Fin 2 → ℕ) a + S256x512.size a ≤ S1280x512.size a} (w : S256x512.Idx → Val .f32) L (r : Fin 256),
      R.val = o + r.val → v.read Val (v.writes Val f (⟨Rect.unit (s := S1280x512) ![o, 0] S256x512.size g, w⟩ :: L)) (ix2 R c) = w (ix2 r c) :=
    fun {o g} w L r h => View.read_writes_cons_unit_of_mem v f g w L (ix2 R c) (ix2 r c) rfl fun i => by
      fin_cases i
      · exact h
      · exact (Nat.zero_add _).symm
  have miss : ∀ {o : ℕ} {g : ∀ a, (![o, 0] : Fin 2 → ℕ) a + S256x512.size a ≤ S1280x512.size a} (w : S256x512.Idx → Val .f32) L,
      R.val < o → v.read Val (v.writes Val f (⟨Rect.unit (s := S1280x512) ![o, 0] S256x512.size g, w⟩ :: L)) (ix2 R c)
        = v.read Val (v.writes Val f L) (ix2 R c) :=
    fun {o g} w L h => View.read_writes_cons_unit_of_not_mem v f g w L (ix2 R c) rfl (0 : Fin 2) (.inl h)
  by_cases b4 : 1024 ≤ R.val
  · rw [hit w4 _ ⟨R.val - 1024, by omega⟩ (by show _ = _ + (_ - _); omega), p4]
    congr 1; show 1024 + (R.val - 1024) = R.val; omega
  rw [miss _ _ (by omega)]
  by_cases b3 : 768 ≤ R.val
  · rw [hit w3 _ ⟨R.val - 768, by omega⟩ (by show _ = _ + (_ - _); omega), p3]
    congr 1; show 768 + (R.val - 768) = R.val; omega
  rw [miss _ _ (by omega)]
  by_cases b2 : 512 ≤ R.val
  · rw [hit w2 _ ⟨R.val - 512, by omega⟩ (by show _ = _ + (_ - _); omega), p2]
    congr 1; show 512 + (R.val - 512) = R.val; omega
  rw [miss _ _ (by omega)]
  by_cases b1 : 256 ≤ R.val
  · rw [hit w1 _ ⟨R.val - 256, by omega⟩ (by show _ = _ + (_ - _); omega), p1]
    congr 1; show 256 + (R.val - 256) = R.val; omega
  rw [miss _ _ (by omega)]
  rw [hit w0 _ ⟨R.val, by omega⟩ (by show R.val = 0 + R.val; omega), p0]

end Cert.KernelIdeal.Mem
-- ==== Proof.Value.Trip.lean ====
/- The loop over chunk pairs: what its buffers hold after each trip. -/
module

public import proofs.«01_k».proof.Proof.Value.Mem
public import proofs.«01_k».proof.Proof.Gen.KernelIdeal.Loops
public import Idealize.ShloMosaic.Lib.Pipeline.Value

@[expose] public section

set_option maxRecDepth 16384

noncomputable section

namespace Cert.KernelIdeal.Trip

open Idealize.ShloMosaic Idealize.ShloMosaic.TcCoe
open Cert.KernelIdeal.Gen Cert.KernelIdeal.Step Cert.KernelIdeal.Mem
open Finset (range)

/-- The scores of key `R` against query column `c`. -/
def sc (kk : ℕ → Fin 128 → ℝ) (q : Fin 128 → Fin 512 → ℝ) (R : ℕ) (c : Fin 512) : ℝ := ∑ d, kk R d * q d c

/-- The keys and the values as real tables. -/
structure Env (arg5 : Memref sig .tc .vmem S1x16640x128 .bf16) (arg6 : Memref sig .tc .vmem S1x13x144x1280 .bf16)
    (X5 : BufTy.Contents (Elt Ideal) arg5.view.ty) (X6 : BufTy.Contents (Elt Ideal) arg6.view.ty)
    (kk : ℕ → Fin 128 → ℝ) (W : Fin 144 → ℕ → ℝ) : Prop where
  key : ∀ (R : Fin 16640) d, arg5.view.read (Elt Ideal) X5 (ix3 0 R d) = ((kk R.val d : ℝ) : EReal)
  val : ∀ (n : Fin 13) e (R : Fin 1280), arg6.view.read (Elt Ideal) X6 (ix4 0 n e R) = ((W e (1280 * n.val + R.val) : ℝ) : EReal)

/-- The queries as a real table. -/
def Qry (arg9 : Memref sig .tc .vmem S128x512 .bf16) (X9 : BufTy.Contents (Elt Ideal) arg9.view.ty) (q : Fin 128 → Fin 512 → ℝ) : Prop :=
  ∀ d c, arg9.view.read (Elt Ideal) X9 (ix2 d c) = ((q d c : ℝ) : EReal)

/-- The buffers before chunk `n`, whose scores are in slot `σ`. -/
structure Good (S : ℕ → Fin 512 → ℝ) (W : Fin 144 → ℕ → ℝ) (n : ℕ) (σ : Fin 2) (m : S1x512.Idx → EReal) (acc : S144x512.Idx → EReal)
    (s : S2x1280x512.Idx → EReal) (mx : S2x32x512.Idx → EReal) : Prop where
  acc : AccGood S W n m acc
  slot : ∀ (R : Fin 1280) c, s (ix3 σ R c) = ((S (1280 * n + R.val) c : ℝ) : EReal)
  mx : ∀ a c, ∃ x : ℝ, mx (ix3 σ a c) = (x : EReal)

theorem score_real {arg9 : Memref sig .tc .vmem S128x512 .bf16} {X9 : BufTy.Contents (Elt Ideal) arg9.view.ty} {q : Fin 128 → Fin 512 → ℝ}
    (hq : Qry arg9 X9 q) {kk : ℕ → Fin 128 → ℝ} {o : ℕ} {k : Vec Ideal S1x256x128 .bf16}
    (hk : ∀ (r : Fin 256) d, k (ix3 0 r d) = ((kk (o + r.val) d : ℝ) : EReal))
    {h : ∀ a, (![0, 0] : Fin 2 → ℕ) a + S128x512.size a ≤ S128x512.size a} (r : Fin 256) (c : Fin 512) :
    score (F := Ideal) k (View.readAt (Elt Ideal) arg9.view (Rect.unit (s := S128x512) ![0, 0] S128x512.size h).toLoadRect X9) (ix2 r c)
      = ((sc kk q (o + r.val) c : ℝ) : EReal) := by
  rw [score_apply, sc, ← coe_sum]
  refine Finset.sum_congr rfl fun d _ => ?_
  have e : View.readAt (Elt Ideal) arg9.view (Rect.unit (s := S128x512) ![0, 0] S128x512.size h).toLoadRect X9 = arg9.view.read (Elt Ideal) X9 :=
    whole2_apply arg9.view X9
  rw [e, hk, hq d c, EReal.coe_mul]

theorem key_real {arg5 : Memref sig .tc .vmem S1x16640x128 .bf16} {arg6 : Memref sig .tc .vmem S1x13x144x1280 .bf16}
    {X5 : BufTy.Contents (Elt Ideal) arg5.view.ty} {X6 : BufTy.Contents (Elt Ideal) arg6.view.ty}
    {kk : ℕ → Fin 128 → ℝ} {W : Fin 144 → ℕ → ℝ} (E : Env arg5 arg6 X5 X6 kk W) {off : Fin 3 → ℕ} {o : ℕ} (ho : off = ![0, o, 0])
    {h : ∀ a, off a + S1x256x128.size a ≤ S1x16640x128.size a} (hb : o + 256 ≤ 16640) (r : Fin 256) (d : Fin 128) :
    View.readAt (Elt Ideal) arg5.view (Rect.unit (s := S1x16640x128) off S1x256x128.size h).toLoadRect X5 (ix3 0 r d)
      = ((kk (o + r.val) d : ℝ) : EReal) := by
  rw [key_load arg5.view X5 ho r d ⟨o + r.val, by omega⟩ rfl, E.key]

theorem val_real {arg5 : Memref sig .tc .vmem S1x16640x128 .bf16} {arg6 : Memref sig .tc .vmem S1x13x144x1280 .bf16}
    {X5 : BufTy.Contents (Elt Ideal) arg5.view.ty} {X6 : BufTy.Contents (Elt Ideal) arg6.view.ty}
    {kk : ℕ → Fin 128 → ℝ} {W : Fin 144 → ℕ → ℝ} (E : Env arg5 arg6 X5 X6 kk W) {off : Fin 4 → ℕ} {n o : ℕ} (ho : off = ![0, n, 0, o])
    {h : ∀ a, off a + S1x1x144x256.size a ≤ S1x13x144x1280.size a} (hn : n < 13) (hb : o + 256 ≤ 1280) (x : Fin 144) (r : Fin 256)
    {t : ℕ} (ht : t = 1280 * n + o + r.val) :
    View.readAt (Elt Ideal) arg6.view (Rect.unit (s := S1x13x144x1280) off S1x1x144x256.size h).toLoadRect X6 (ix4 0 0 x r)
      = ((W x t : ℝ) : EReal) := by
  subst ht
  rw [val_load arg6.view X6 ho x r ⟨n, hn⟩ ⟨o + r.val, by omega⟩ rfl rfl, E.val]
  show ((W x (1280 * n + (o + r.val)) : ℝ) : EReal) = _
  rw [Nat.add_assoc]

/-- A loaded block of one slot, its unit axis dropped. -/
abbrev al {LR : LoadRect S2x1280x512} (hR : S256x512.numel = LR.shape.numel) (x : LR.shape.Idx → Elt Ideal .f32) : FVec Ideal S256x512 .f32 :=
  fun y => x (Shape.reshapeEquiv hR y)

/-- A block of values. -/
abbrev vblk (arg6 : Memref sig .tc .vmem S1x13x144x1280 .bf16) (X6 : BufTy.Contents (Elt Ideal) arg6.view.ty) (off : Fin 4 → ℕ)
    (h : ∀ a, off a + S1x1x144x256.size a ≤ S1x13x144x1280.size a) : Vec Ideal S1x1x144x256 .bf16 :=
  View.readAt (Elt Ideal) arg6.view (Rect.unit (s := S1x13x144x1280) off S1x1x144x256.size h).toLoadRect X6

/-- A block of keys. -/
abbrev kblk (arg5 : Memref sig .tc .vmem S1x16640x128 .bf16) (X5 : BufTy.Contents (Elt Ideal) arg5.view.ty) (off : Fin 3 → ℕ)
    (h : ∀ a, off a + S1x256x128.size a ≤ S1x16640x128.size a) : Vec Ideal S1x256x128 .bf16 :=
  View.readAt (Elt Ideal) arg5.view (Rect.unit (s := S1x16640x128) off S1x256x128.size h).toLoadRect X5

section
variable (arg5 : Memref sig .tc .vmem S1x16640x128 .bf16) (arg6 : Memref sig .tc .vmem S1x13x144x1280 .bf16)
  (arg9 : Memref sig .tc .vmem S128x512 .bf16) (arg11 : Memref sig .tc .vmem S1x512 .f32) (arg12 : Memref sig .tc .vmem S144x512 .f32)
  (arg14 : Memref sig .tc .vmem S2x1280x512 .f32) (arg16 : Memref sig .tc .vmem S2x32x512 .f32)
  (X5 : BufTy.Contents (Elt Ideal) arg5.view.ty) (X6 : BufTy.Contents (Elt Ideal) arg6.view.ty) (X9 : BufTy.Contents (Elt Ideal) arg9.view.ty)
  (kk : ℕ → Fin 128 → ℝ) (q : Fin 128 → Fin 512 → ℝ) (W : Fin 144 → ℕ → ℝ)
  (k : Fin k0_t1_loop.trips) (f11 : BufTy.Contents (Elt Ideal) arg11.view.ty) (f12 : BufTy.Contents (Elt Ideal) arg12.view.ty)
  (f14 : BufTy.Contents (Elt Ideal) arg14.view.ty) (f16 : BufTy.Contents (Elt Ideal) arg16.view.ty)

/-! ## The trip's first chunk -/

theorem first_max : trip_k0_t1.sl.v633 (F := Ideal) arg11 arg16 f11 f16
    = newMax (F := Ideal) (View.readAt (Elt Ideal) arg11.view (Rect.unit ![0, 0] S1x512.size inb_S1x512_S1x512_0_0).toLoadRect f11)
        (trip_k0_t1.sl.v480 (F := Ideal) arg16 f16) :=
  shapeCast_self _ _

theorem first_acc : trip_k0_t1.sl.v630 (F := Ideal) arg6 arg11 arg12 arg14 arg16 X6 k f11 f12 f14 f16
    = stepAcc (F := Ideal) (View.readAt (Elt Ideal) arg11.view (Rect.unit ![0, 0] S1x512.size inb_S1x512_S1x512_0_0).toLoadRect f11)
        (trip_k0_t1.sl.v480 (F := Ideal) arg16 f16)
        (View.readAt (Elt Ideal) arg12.view (Rect.unit ![0, 0] S144x512.size inb_S144x512_S144x512_0_0).toLoadRect f12)
        (al (by rfl) (trip_k0_t1.sl.v488 (F := Ideal) arg14 f14))
        (al (by rfl) (trip_k0_t1.sl.v514 (F := Ideal) arg14 f14))
        (al (by rfl) (trip_k0_t1.sl.v542 (F := Ideal) arg14 f14))
        (al (by rfl) (trip_k0_t1.sl.v570 (F := Ideal) arg14 f14))
        (al (by rfl) (trip_k0_t1.sl.v598 (F := Ideal) arg14 f14))
        (vblk arg6 X6 (k0_off2 k) (k0_off2_inb k)) (vblk arg6 X6 (k0_off3 k) (k0_off3_inb k))
        (vblk arg6 X6 (k0_off4 k) (k0_off4_inb k)) (vblk arg6 X6 (k0_off5 k) (k0_off5_inb k))
        (vblk arg6 X6 (k0_off6 k) (k0_off6_inb k)) :=
  shapeCast_self _ _

/-- The scores the trip's first chunk leaves for its second. -/
theorem first_scores (E : Env arg5 arg6 X5 X6 kk W) (hq : Qry arg9 X9 q) :
    (∀ (r : Fin 256) c, trip_k0_t1.sl.v505 (F := Ideal) arg5 arg9 X5 X9 k (ix2 r c) = ((sc kk q (1280 * (2 * k.val + 2) + r.val) c : ℝ) : EReal))
    ∧ (∀ (r : Fin 256) c, trip_k0_t1.sl.v531 (F := Ideal) arg5 arg9 X5 X9 k (ix2 r c) = ((sc kk q (1280 * (2 * k.val + 2) + (256 + r.val)) c : ℝ) : EReal))
    ∧ (∀ (r : Fin 256) c, trip_k0_t1.sl.v559 (F := Ideal) arg5 arg9 X5 X9 k (ix2 r c) = ((sc kk q (1280 * (2 * k.val + 2) + (512 + r.val)) c : ℝ) : EReal))
    ∧ (∀ (r : Fin 256) c, trip_k0_t1.sl.v587 (F := Ideal) arg5 arg9 X5 X9 k (ix2 r c) = ((sc kk q (1280 * (2 * k.val + 2) + (768 + r.val)) c : ℝ) : EReal))
    ∧ (∀ (r : Fin 256) c, trip_k0_t1.sl.v615 (F := Ideal) arg5 arg9 X5 X9 k (ix2 r c) = ((sc kk q (1280 * (2 * k.val + 2) + (1024 + r.val)) c : ℝ) : EReal)) := by
  have hk : k.val < 5 := Nat.lt_of_lt_of_le k.isLt k0_t1_abs.2.1
  have ho : ∀ j : Fin 5, k0_off1 k 1#32 (BitVec.ofNat 32 (256 * j.val)) = ![0, 2560 * k.val + 256 * j.val + 2560, 0] := fun j => by
    rw [show (2560 * k.val + 256 * j.val + 2560) = 2560 * k.val + 1280 * (0 : Fin 2).val + 256 * j.val + 2560 by simp]
    exact k0_off1_eq k 0 j
  have g : ∀ (j : Fin 5) (w : FVec Ideal S256x512 .f32) h,
      w = shapeCast S256x512 (score (F := Ideal) (kblk arg5 X5 (k0_off1 k 1#32 (BitVec.ofNat 32 (256 * j.val))) h)
        (View.readAt (Elt Ideal) arg9.view (Rect.unit ![0, 0] S128x512.size inb_S128x512_S128x512_0_0).toLoadRect X9)) (by rfl) →
      ∀ (r : Fin 256) c, w (ix2 r c) = ((sc kk q (1280 * (2 * k.val + 2) + (256 * j.val + r.val)) c : ℝ) : EReal) := by
    intro j w h hw r c
    rw [hw, shapeCast_self, score_real hq (key_real E (ho j) (by omega))]
    congr 2
    omega
  refine ⟨fun r c => ?_, g 1 _ (k0_off1_inb k 0 1) rfl, g 2 _ (k0_off1_inb k 0 2) rfl, g 3 _ (k0_off1_inb k 0 3) rfl, g 4 _ (k0_off1_inb k 0 4) rfl⟩
  have := g 0 _ (k0_off1_inb k 0 0) rfl r c
  rwa [show 256 * (0 : Fin 5).val + r.val = r.val by simp] at this

/-- The slot the trip's first chunk fills. -/
theorem first_slot (E : Env arg5 arg6 X5 X6 kk W) (hq : Qry arg9 X9 q) (b : BufTy.Contents (Elt Ideal) arg14.view.ty) (R : Fin 1280) (c : Fin 512) :
    arg14.view.read (Elt Ideal) (arg14.view.writes (Elt Ideal) b (trip_k0_t1.sl.HW_arg14_5 (F := Ideal) arg5 arg9 X5 X9 k)) (ix3 0 R c)
      = ((sc kk q (1280 * (2 * k.val + 2) + R.val) c : ℝ) : EReal) := by
  obtain ⟨e0, e1, e2, e3, e4⟩ := first_scores arg5 arg6 arg9 X5 X6 X9 kk q W k E hq
  exact five_hit (Val := Elt Ideal) arg14.view b _ _ _ _ _ _ _ _ _ _ []
    (fun R c => ((sc kk q (1280 * (2 * k.val + 2) + R) c : ℝ) : EReal)) e0 e1 e2 e3 e4 0 rfl R c

theorem first_colMax (E : Env arg5 arg6 X5 X6 kk W) (hq : Qry arg9 X9 q) (a : Fin 32) (c : Fin 512) :
    ∃ x : ℝ, trip_k0_t1.sl.v618 (F := Ideal) arg5 arg9 X5 X9 k (ix2 a c) = (x : EReal) := by
  obtain ⟨e0, e1, e2, e3, e4⟩ := first_scores arg5 arg6 arg9 X5 X6 X9 kk q W k E hq
  have s0 : trip_k0_t1.sl.v505 (F := Ideal) arg5 arg9 X5 X9 k = trip_k0_t1.sl.v500 (F := Ideal) arg5 arg9 X5 X9 k := shapeCast_self _ _
  have s1 : trip_k0_t1.sl.v531 (F := Ideal) arg5 arg9 X5 X9 k = trip_k0_t1.sl.v526 (F := Ideal) arg5 arg9 X5 X9 k := shapeCast_self _ _
  have s2 : trip_k0_t1.sl.v559 (F := Ideal) arg5 arg9 X5 X9 k = trip_k0_t1.sl.v554 (F := Ideal) arg5 arg9 X5 X9 k := shapeCast_self _ _
  have s3 : trip_k0_t1.sl.v587 (F := Ideal) arg5 arg9 X5 X9 k = trip_k0_t1.sl.v582 (F := Ideal) arg5 arg9 X5 X9 k := shapeCast_self _ _
  have s4 : trip_k0_t1.sl.v615 (F := Ideal) arg5 arg9 X5 X9 k = trip_k0_t1.sl.v610 (F := Ideal) arg5 arg9 X5 X9 k := shapeCast_self _ _
  rw [s0] at e0; rw [s1] at e1; rw [s2] at e2; rw [s3] at e3; rw [s4] at e4
  exact max5_real _ _ _ _ _ (fun r c => ⟨_, e0 r c⟩) (fun r c => ⟨_, e1 r c⟩) (fun r c => ⟨_, e2 r c⟩) (fun r c => ⟨_, e3 r c⟩)
    (fun r c => ⟨_, e4 r c⟩) a c

/-- The trip's first chunk. -/
theorem first_good (E : Env arg5 arg6 X5 X6 kk W)
    (h : Good (sc kk q) W (2 * k.val + 1) 1 (arg11.view.read (Elt Ideal) f11) (arg12.view.read (Elt Ideal) f12)
      (arg14.view.read (Elt Ideal) f14) (arg16.view.read (Elt Ideal) f16)) :
    AccGood (sc kk q) W (2 * k.val + 2) (trip_k0_t1.sl.v633 (F := Ideal) arg11 arg16 f11 f16)
      (trip_k0_t1.sl.v630 (F := Ideal) arg6 arg11 arg12 arg14 arg16 X6 k f11 f12 f14 f16) := by
  have hk : k.val < 5 := Nat.lt_of_lt_of_le k.isLt k0_t1_abs.2.1
  have w11 : View.readAt (Elt Ideal) arg11.view (Rect.unit ![0, 0] S1x512.size inb_S1x512_S1x512_0_0).toLoadRect f11
      = arg11.view.read (Elt Ideal) f11 := whole2_apply arg11.view f11
  have w12 : View.readAt (Elt Ideal) arg12.view (Rect.unit ![0, 0] S144x512.size inb_S144x512_S144x512_0_0).toLoadRect f12
      = arg12.view.read (Elt Ideal) f12 := whole2_apply arg12.view f12
  rw [first_max, first_acc, w11, w12]
  refine step (sc kk q) W (2 * k.val + 1) _ _ _ _ _ _ _ _ _ _ _ _ _ h.acc ?_ ?_ ?_ ?_ ?_ ?_ ?_ ?_ ?_ ?_ ?_
  · intro a c
    obtain ⟨x, hx⟩ := h.mx a c
    refine ⟨x, Eq.trans ?_ hx⟩
    refine Eq.trans ?_ (mx_load arg16.view f16 (h := inb_S2x32x512_S1x32x512_1_0_0) 1 rfl a c)
    pointwise [trip_k0_t1.sl.v480]
  · intro r c
    refine Eq.trans (load_apply arg14.view f14 _ 1 ⟨0 + r.val, by omega⟩ r c rfl rfl) ?_
    rw [h.slot]
    congr 2
    show 1280 * (2 * k.val + 1) + (0 + r.val) = _
    omega
  · intro r c
    refine Eq.trans (load_apply arg14.view f14 _ 1 ⟨256 + r.val, by omega⟩ r c rfl rfl) ?_
    rw [h.slot]
    congr 2
    show 1280 * (2 * k.val + 1) + (256 + r.val) = _
    omega
  · intro r c
    refine Eq.trans (load_apply arg14.view f14 _ 1 ⟨512 + r.val, by omega⟩ r c rfl rfl) ?_
    rw [h.slot]
    congr 2
    show 1280 * (2 * k.val + 1) + (512 + r.val) = _
    omega
  · intro r c
    refine Eq.trans (load_apply arg14.view f14 _ 1 ⟨768 + r.val, by omega⟩ r c rfl rfl) ?_
    rw [h.slot]
    congr 2
    show 1280 * (2 * k.val + 1) + (768 + r.val) = _
    omega
  · intro r c
    refine Eq.trans (load_apply arg14.view f14 _ 1 ⟨1024 + r.val, by omega⟩ r c rfl rfl) ?_
    rw [h.slot]
    congr 2
    show 1280 * (2 * k.val + 1) + (1024 + r.val) = _
    omega
  · exact fun e r => val_real E (k0_off2_eq k) (by omega) (by omega) e r (by omega)
  · exact fun e r => val_real E (k0_off3_eq k) (by omega) (by omega) e r rfl
  · exact fun e r => val_real E (k0_off4_eq k) (by omega) (by omega) e r rfl
  · exact fun e r => val_real E (k0_off5_eq k) (by omega) (by omega) e r rfl
  · exact fun e r => val_real E (k0_off6_eq k) (by omega) (by omega) e r rfl

/-! ## The trip's second chunk -/

theorem mid_max : trip_k0_t1.sl.v639 (F := Ideal) arg11 arg16 f11 f16 = trip_k0_t1.sl.v633 (F := Ideal) arg11 arg16 f11 f16 :=
  (whole2_apply arg11.view _).trans (whole2_writes arg11.view _ _ [])

theorem mid_acc : trip_k0_t1.sl.v785 (F := Ideal) arg6 arg11 arg12 arg14 arg16 X6 k f11 f12 f14 f16
    = trip_k0_t1.sl.v630 (F := Ideal) arg6 arg11 arg12 arg14 arg16 X6 k f11 f12 f14 f16 :=
  (whole2_apply arg12.view _).trans (whole2_writes arg12.view _ _ [])

theorem second_max : trip_k0_t1.sl.v794 (F := Ideal) arg5 arg9 arg11 arg16 X5 X9 k f11 f16
    = newMax (F := Ideal) (trip_k0_t1.sl.v639 (F := Ideal) arg11 arg16 f11 f16) (trip_k0_t1.sl.v641 (F := Ideal) arg5 arg9 arg16 X5 X9 k) :=
  shapeCast_self _ _

theorem second_acc : trip_k0_t1.sl.v791 (F := Ideal) arg5 arg6 arg9 arg11 arg12 arg14 arg16 X5 X6 X9 k f11 f12 f14 f16
    = stepAcc (F := Ideal) (trip_k0_t1.sl.v639 (F := Ideal) arg11 arg16 f11 f16)
        (trip_k0_t1.sl.v641 (F := Ideal) arg5 arg9 arg16 X5 X9 k)
        (trip_k0_t1.sl.v785 (F := Ideal) arg6 arg11 arg12 arg14 arg16 X6 k f11 f12 f14 f16)
        (al (by rfl) (trip_k0_t1.sl.v649 (F := Ideal) arg5 arg9 arg14 X5 X9 k))
        (al (by rfl) (trip_k0_t1.sl.v675 (F := Ideal) arg5 arg9 arg14 X5 X9 k))
        (al (by rfl) (trip_k0_t1.sl.v703 (F := Ideal) arg5 arg9 arg14 X5 X9 k))
        (al (by rfl) (trip_k0_t1.sl.v731 (F := Ideal) arg5 arg9 arg14 X5 X9 k))
        (al (by rfl) (trip_k0_t1.sl.v759 (F := Ideal) arg5 arg9 arg14 X5 X9 k))
        (vblk arg6 X6 (k0_off7 k) (k0_off7_inb k)) (vblk arg6 X6 (k0_off8 k) (k0_off8_inb k))
        (vblk arg6 X6 (k0_off9 k) (k0_off9_inb k)) (vblk arg6 X6 (k0_off10 k) (k0_off10_inb k))
        (vblk arg6 X6 (k0_off11 k) (k0_off11_inb k)) :=
  shapeCast_self _ _

/-- The scores the trip's second chunk leaves for the next trip. -/
theorem second_scores (E : Env arg5 arg6 X5 X6 kk W) (hq : Qry arg9 X9 q) :
    (∀ (r : Fin 256) c, trip_k0_t1.sl.v666 (F := Ideal) arg5 arg9 X5 X9 k (ix2 r c) = ((sc kk q (1280 * (2 * k.val + 3) + r.val) c : ℝ) : EReal))
    ∧ (∀ (r : Fin 256) c, trip_k0_t1.sl.v692 (F := Ideal) arg5 arg9 X5 X9 k (ix2 r c) = ((sc kk q (1280 * (2 * k.val + 3) + (256 + r.val)) c : ℝ) : EReal))
    ∧ (∀ (r : Fin 256) c, trip_k0_t1.sl.v720 (F := Ideal) arg5 arg9 X5 X9 k (ix2 r c) = ((sc kk q (1280 * (2 * k.val + 3) + (512 + r.val)) c : ℝ) : EReal))
    ∧ (∀ (r : Fin 256) c, trip_k0_t1.sl.v748 (F := Ideal) arg5 arg9 X5 X9 k (ix2 r c) = ((sc kk q (1280 * (2 * k.val + 3) + (768 + r.val)) c : ℝ) : EReal))
    ∧ (∀ (r : Fin 256) c, trip_k0_t1.sl.v776 (F := Ideal) arg5 arg9 X5 X9 k (ix2 r c) = ((sc kk q (1280 * (2 * k.val + 3) + (1024 + r.val)) c : ℝ) : EReal)) := by
  have hk : k.val < 5 := Nat.lt_of_lt_of_le k.isLt k0_t1_abs.2.1
  have ho : ∀ j : Fin 5, k0_off1 k 2#32 (BitVec.ofNat 32 (256 * j.val)) = ![0, 2560 * k.val + 256 * j.val + 3840, 0] := fun j => by
    rw [show (2560 * k.val + 256 * j.val + 3840) = 2560 * k.val + 1280 * (1 : Fin 2).val + 256 * j.val + 2560 by simp; omega]
    exact k0_off1_eq k 1 j
  have g : ∀ (j : Fin 5) (w : FVec Ideal S256x512 .f32) h,
      w = shapeCast S256x512 (score (F := Ideal) (kblk arg5 X5 (k0_off1 k 2#32 (BitVec.ofNat 32 (256 * j.val))) h)
        (View.readAt (Elt Ideal) arg9.view (Rect.unit ![0, 0] S128x512.size inb_S128x512_S128x512_0_0).toLoadRect X9)) (by rfl) →
      ∀ (r : Fin 256) c, w (ix2 r c) = ((sc kk q (1280 * (2 * k.val + 3) + (256 * j.val + r.val)) c : ℝ) : EReal) := by
    intro j w h hw r c
    rw [hw, shapeCast_self, score_real hq (key_real E (ho j) (by omega))]
    congr 2
    omega
  refine ⟨fun r c => ?_, g 1 _ (k0_off1_inb k 1 1) rfl, g 2 _ (k0_off1_inb k 1 2) rfl, g 3 _ (k0_off1_inb k 1 3) rfl, g 4 _ (k0_off1_inb k 1 4) rfl⟩
  have := g 0 _ (k0_off1_inb k 1 0) rfl r c
  rwa [show 256 * (0 : Fin 5).val + r.val = r.val by simp] at this

theorem second_colMax (E : Env arg5 arg6 X5 X6 kk W) (hq : Qry arg9 X9 q) (a : Fin 32) (c : Fin 512) :
    ∃ x : ℝ, trip_k0_t1.sl.v779 (F := Ideal) arg5 arg9 X5 X9 k (ix2 a c) = (x : EReal) := by
  obtain ⟨e0, e1, e2, e3, e4⟩ := second_scores arg5 arg6 arg9 X5 X6 X9 kk q W k E hq
  have s0 : trip_k0_t1.sl.v666 (F := Ideal) arg5 arg9 X5 X9 k = trip_k0_t1.sl.v661 (F := Ideal) arg5 arg9 X5 X9 k := shapeCast_self _ _
  have s1 : trip_k0_t1.sl.v692 (F := Ideal) arg5 arg9 X5 X9 k = trip_k0_t1.sl.v687 (F := Ideal) arg5 arg9 X5 X9 k := shapeCast_self _ _
  have s2 : trip_k0_t1.sl.v720 (F := Ideal) arg5 arg9 X5 X9 k = trip_k0_t1.sl.v715 (F := Ideal) arg5 arg9 X5 X9 k := shapeCast_self _ _
  have s3 : trip_k0_t1.sl.v748 (F := Ideal) arg5 arg9 X5 X9 k = trip_k0_t1.sl.v743 (F := Ideal) arg5 arg9 X5 X9 k := shapeCast_self _ _
  have s4 : trip_k0_t1.sl.v776 (F := Ideal) arg5 arg9 X5 X9 k = trip_k0_t1.sl.v771 (F := Ideal) arg5 arg9 X5 X9 k := shapeCast_self _ _
  rw [s0] at e0; rw [s1] at e1; rw [s2] at e2; rw [s3] at e3; rw [s4] at e4
  exact max5_real _ _ _ _ _ (fun r c => ⟨_, e0 r c⟩) (fun r c => ⟨_, e1 r c⟩) (fun r c => ⟨_, e2 r c⟩) (fun r c => ⟨_, e3 r c⟩)
    (fun r c => ⟨_, e4 r c⟩) a c

/-- The trip's second chunk. -/
theorem second_good (E : Env arg5 arg6 X5 X6 kk W) (hq : Qry arg9 X9 q)
    (h : Good (sc kk q) W (2 * k.val + 1) 1 (arg11.view.read (Elt Ideal) f11) (arg12.view.read (Elt Ideal) f12)
      (arg14.view.read (Elt Ideal) f14) (arg16.view.read (Elt Ideal) f16)) :
    AccGood (sc kk q) W (2 * k.val + 3) (trip_k0_t1.sl.v794 (F := Ideal) arg5 arg9 arg11 arg16 X5 X9 k f11 f16)
      (trip_k0_t1.sl.v791 (F := Ideal) arg5 arg6 arg9 arg11 arg12 arg14 arg16 X5 X6 X9 k f11 f12 f14 f16) := by
  have hk : k.val < 5 := Nat.lt_of_lt_of_le k.isLt k0_t1_abs.2.1
  have hs := first_slot arg5 arg6 arg9 arg14 X5 X6 X9 kk q W k E hq
  rw [second_max, second_acc, mid_max, mid_acc]
  refine step (sc kk q) W (2 * k.val + 2) _ _ _ _ _ _ _ _ _ _ _ _ _ (first_good arg5 arg6 arg11 arg12 arg14 arg16 X5 X6 kk q W k f11 f12 f14 f16 E h)
    ?_ ?_ ?_ ?_ ?_ ?_ ?_ ?_ ?_ ?_ ?_
  · intro a c
    obtain ⟨x, hx⟩ := first_colMax arg5 arg6 arg9 X5 X6 X9 kk q W k E hq a c
    refine ⟨x, Eq.trans ?_ hx⟩
    have e1 : trip_k0_t1.sl.v641 (F := Ideal) arg5 arg9 arg16 X5 X9 k (ix2 a c) = trip_k0_t1.sl.v640 (F := Ideal) arg5 arg9 arg16 X5 X9 k (ix3 0 a c) := by
      pointwise [trip_k0_t1.sl.v641]
    have e2 : trip_k0_t1.sl.v640 (F := Ideal) arg5 arg9 arg16 X5 X9 k (ix3 0 a c) = trip_k0_t1.sl.v636 (F := Ideal) arg5 arg9 X5 X9 k (ix3 0 a c) :=
      (mx_load arg16.view _ 0 rfl a c).trans (mx_hit arg16.view _ _ [] 0 rfl a c)
    have e3 : trip_k0_t1.sl.v636 (F := Ideal) arg5 arg9 X5 X9 k (ix3 0 a c) = trip_k0_t1.sl.v618 (F := Ideal) arg5 arg9 X5 X9 k (ix2 a c) := by
      pointwise [trip_k0_t1.sl.v636]
    exact e1.trans (e2.trans e3)
  · intro r c
    refine Eq.trans (load_apply arg14.view (arg14.view.writes (Elt Ideal) arg14.view.junk (trip_k0_t1.sl.HW_arg14_5 (F := Ideal) arg5 arg9 X5 X9 k)) _ 0 ⟨0 + r.val, by omega⟩ r c rfl rfl) ?_
    refine (hs _ ⟨0 + r.val, by omega⟩ c).trans ?_
    congr 2
    show 1280 * (2 * k.val + 2) + (0 + r.val) = _
    omega
  · intro r c
    refine Eq.trans (load_apply arg14.view (arg14.view.writes (Elt Ideal) arg14.view.junk (trip_k0_t1.sl.HW_arg14_6 (F := Ideal) arg5 arg9 X5 X9 k)) _ 0 ⟨256 + r.val, by omega⟩ r c rfl rfl) ?_
    refine ((store_miss arg14.view _ _ _ 0 ⟨256 + r.val, by omega⟩ c (.inl (by decide))).trans (hs _ ⟨256 + r.val, by omega⟩ c)).trans ?_
    congr 2
    show 1280 * (2 * k.val + 2) + (256 + r.val) = _
    omega
  · intro r c
    refine Eq.trans (load_apply arg14.view (arg14.view.writes (Elt Ideal) arg14.view.junk (trip_k0_t1.sl.HW_arg14_7 (F := Ideal) arg5 arg9 X5 X9 k)) _ 0 ⟨512 + r.val, by omega⟩ r c rfl rfl) ?_
    refine ((store_miss arg14.view _ _ _ 0 ⟨512 + r.val, by omega⟩ c (.inl (by decide))).trans ((store_miss arg14.view _ _ _ 0 ⟨512 + r.val, by omega⟩ c (.inl (by decide))).trans (hs _ ⟨512 + r.val, by omega⟩ c))).trans ?_
    congr 2
    show 1280 * (2 * k.val + 2) + (512 + r.val) = _
    omega
  · intro r c
    refine Eq.trans (load_apply arg14.view (arg14.view.writes (Elt Ideal) arg14.view.junk (trip_k0_t1.sl.HW_arg14_8 (F := Ideal) arg5 arg9 X5 X9 k)) _ 0 ⟨768 + r.val, by omega⟩ r c rfl rfl) ?_
    refine ((store_miss arg14.view _ _ _ 0 ⟨768 + r.val, by omega⟩ c (.inl (by decide))).trans ((store_miss arg14.view _ _ _ 0 ⟨768 + r.val, by omega⟩ c (.inl (by decide))).trans ((store_miss arg14.view _ _ _ 0 ⟨768 + r.val, by omega⟩ c (.inl (by decide))).trans (hs _ ⟨768 + r.val, by omega⟩ c)))).trans ?_
    congr 2
    show 1280 * (2 * k.val + 2) + (768 + r.val) = _
    omega
  · intro r c
    refine Eq.trans (load_apply arg14.view (arg14.view.writes (Elt Ideal) arg14.view.junk (trip_k0_t1.sl.HW_arg14_9 (F := Ideal) arg5 arg9 X5 X9 k)) _ 0 ⟨1024 + r.val, by omega⟩ r c rfl rfl) ?_
    refine ((store_miss arg14.view _ _ _ 0 ⟨1024 + r.val, by omega⟩ c (.inl (by decide))).trans ((store_miss arg14.view _ _ _ 0 ⟨1024 + r.val, by omega⟩ c (.inl (by decide))).trans ((store_miss arg14.view _ _ _ 0 ⟨1024 + r.val, by omega⟩ c (.inl (by decide))).trans ((store_miss arg14.view _ _ _ 0 ⟨1024 + r.val, by omega⟩ c (.inl (by decide))).trans (hs _ ⟨1024 + r.val, by omega⟩ c))))).trans ?_
    congr 2
    show 1280 * (2 * k.val + 2) + (1024 + r.val) = _
    omega
  · exact fun e r => val_real E (k0_off7_eq k) (by omega) (by omega) e r (by omega)
  · exact fun e r => val_real E (k0_off8_eq k) (by omega) (by omega) e r rfl
  · exact fun e r => val_real E (k0_off9_eq k) (by omega) (by omega) e r rfl
  · exact fun e r => val_real E (k0_off10_eq k) (by omega) (by omega) e r rfl
  · exact fun e r => val_real E (k0_off11_eq k) (by omega) (by omega) e r rfl

end

/-- One trip: two chunks. -/
theorem trip_good (c : Dev nD) (i : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole)
    (v145 : FVec Ideal S32x512 .f32) (v160 : Vec Ideal S1x32x512 .f32)
    (X5 : BufTy.Contents (Elt Ideal) arg5.view.ty) (X6 : BufTy.Contents (Elt Ideal) arg6.view.ty) (X9 : BufTy.Contents (Elt Ideal) arg9.view.ty)
    (kk : ℕ → Fin 128 → ℝ) (q : Fin 128 → Fin 512 → ℝ) (W : Fin 144 → ℕ → ℝ)
    (k : Fin k0_t1_loop.trips) (f11 : BufTy.Contents (Elt Ideal) arg11.view.ty) (f12 : BufTy.Contents (Elt Ideal) arg12.view.ty)
    (f14 : BufTy.Contents (Elt Ideal) arg14.view.ty) (f16 : BufTy.Contents (Elt Ideal) arg16.view.ty)
    (E : Env arg5 arg6 X5 X6 kk W) (hq : Qry arg9 X9 q)
    (h : Good (sc kk q) W (2 * k.val + 1) 1 (arg11.view.read (Elt Ideal) f11) (arg12.view.read (Elt Ideal) f12)
      (arg14.view.read (Elt Ideal) f14) (arg16.view.read (Elt Ideal) f16))
    (L : List (View.Piece (Elt Ideal) S1x512 .f32) × List (View.Piece (Elt Ideal) S144x512 .f32) × List (View.Piece (Elt Ideal) S2x1280x512 .f32) × List (View.Piece (Elt Ideal) S2x32x512 .f32))
    (b14 : BufTy.Contents (Elt Ideal) arg14.view.ty) (b16 : BufTy.Contents (Elt Ideal) arg16.view.ty)
    (hL : L = tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 k f11 f12 f14 f16) :
    Good (sc kk q) W (2 * k.val + 3) 1 (arg11.view.read (Elt Ideal) (arg11.view.writes (Elt Ideal) f11 L.1))
      (arg12.view.read (Elt Ideal) (arg12.view.writes (Elt Ideal) f12 L.2.1))
      (arg14.view.read (Elt Ideal) (arg14.view.writes (Elt Ideal) b14 L.2.2.1))
      (arg16.view.read (Elt Ideal) (arg16.view.writes (Elt Ideal) b16 L.2.2.2)) := by
  unfold tripL_k0_t1 trip_k0_t1 at hL
  dsimp only at hL
  subst hL
  refine ⟨?_, ?_, ?_⟩
  · have e11 := whole2_writes arg11.view f11 (h := inb_S1x512_S1x512_0_0) (trip_k0_t1.sl.v794 (F := Ideal) arg5 arg9 arg11 arg16 X5 X9 k f11 f16)
      (trip_k0_t1.sl.HW_arg11_1 (F := Ideal) arg11 arg16 f11 f16)
    have e12 := whole2_writes arg12.view f12 (h := inb_S144x512_S144x512_0_0) (trip_k0_t1.sl.v791 (F := Ideal) arg5 arg6 arg9 arg11 arg12 arg14 arg16 X5 X6 X9 k f11 f12 f14 f16)
      (trip_k0_t1.sl.HW_arg12_1 (F := Ideal) arg6 arg11 arg12 arg14 arg16 X6 k f11 f12 f14 f16)
    have := second_good arg5 arg6 arg9 arg11 arg12 arg14 arg16 X5 X6 X9 kk q W k f11 f12 f14 f16 E hq h
    rw [← e11, ← e12] at this
    exact this
  · obtain ⟨e0, e1, e2, e3, e4⟩ := second_scores arg5 arg6 arg9 X5 X6 X9 kk q W k E hq
    exact five_hit (Val := Elt Ideal) arg14.view b14 _ _ _ _ _ _ _ _ _ _ _
      (fun R c => ((sc kk q (1280 * (2 * k.val + 3) + R) c : ℝ) : EReal)) e0 e1 e2 e3 e4 1 rfl
  · intro a c
    obtain ⟨x, hx⟩ := second_colMax arg5 arg6 arg9 X5 X6 X9 kk q W k E hq a c
    refine ⟨x, Eq.trans ?_ hx⟩
    refine (mx_hit arg16.view _ _ _ 1 rfl a c).trans ?_
    pointwise [k0_pay96]

/-- The trips so far, over any contents of the two-slot buffers. -/
theorem loop_good (c : Dev nD) (i : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole)
    (v145 : FVec Ideal S32x512 .f32) (v160 : Vec Ideal S1x32x512 .f32)
    (X5 : BufTy.Contents (Elt Ideal) arg5.view.ty) (X6 : BufTy.Contents (Elt Ideal) arg6.view.ty) (X9 : BufTy.Contents (Elt Ideal) arg9.view.ty)
    (kk : ℕ → Fin 128 → ℝ) (q : Fin 128 → Fin 512 → ℝ) (W : Fin 144 → ℕ → ℝ)
    (g11 : BufTy.Contents (Elt Ideal) arg11.view.ty) (g12 : BufTy.Contents (Elt Ideal) arg12.view.ty)
    (g14 : BufTy.Contents (Elt Ideal) arg14.view.ty) (g16 : BufTy.Contents (Elt Ideal) arg16.view.ty)
    (E : Env arg5 arg6 X5 X6 kk W) (hq : Qry arg9 X9 q)
    (h : Good (sc kk q) W 1 1 (arg11.view.read (Elt Ideal) g11) (arg12.view.read (Elt Ideal) g12)
      (arg14.view.read (Elt Ideal) g14) (arg16.view.read (Elt Ideal) g16)) :
    ∀ k : ℕ, k < k0_t1_loop.trips → ∀ (b14 : BufTy.Contents (Elt Ideal) arg14.view.ty) (b16 : BufTy.Contents (Elt Ideal) arg16.view.ty),
      Good (sc kk q) W (2 * k + 3) 1
        (arg11.view.read (Elt Ideal) (arg11.view.writes (Elt Ideal) g11 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 g11 g12 g14 g16 (k + 1)).1))
        (arg12.view.read (Elt Ideal) (arg12.view.writes (Elt Ideal) g12 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 g11 g12 g14 g16 (k + 1)).2.1))
        (arg14.view.read (Elt Ideal) (arg14.view.writes (Elt Ideal) b14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 g11 g12 g14 g16 (k + 1)).2.2.1))
        (arg16.view.read (Elt Ideal) (arg16.view.writes (Elt Ideal) b16 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 g11 g12 g14 g16 (k + 1)).2.2.2)) := by
  intro k
  induction k with
  | zero =>
    intro hk b14 b16
    have t := trip_good c i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 kk q W ⟨0, hk⟩ g11 g12 g14 g16 E hq h _ b14 b16 rfl
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 g11 g12 g14 g16 ⟨0, hk⟩
    have z : pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 g11 g12 g14 g16 0 = ([], [], [], []) := by rw [pb_k0_t1.eq_1]
    dsimp only at e
    rw [z] at e
    rw [e]
    dsimp only
    simp only [List.append_nil, View.writes_nil]
    exact t
  | succ k ih =>
    intro hk b14 b16
    have h' := ih (Nat.lt_of_succ_lt hk)
    have t := trip_good c i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 kk q W ⟨k + 1, hk⟩ _ _ _ _ E hq (h' g14 g16) _
      (arg14.view.writes (Elt Ideal) b14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 g11 g12 g14 g16 (k + 1)).2.2.1) (arg16.view.writes (Elt Ideal) b16 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 g11 g12 g14 g16 (k + 1)).2.2.2) rfl
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v145 v160 X5 X6 X9 g11 g12 g14 g16 ⟨k + 1, hk⟩
    rw [e]
    dsimp only
    rw [View.writes_append, View.writes_append, View.writes_append, View.writes_append]
    exact t

theorem trips_eq : Scf.trips k0_t1_loop.lb k0_t1_loop.ub k0_t1_loop.st = 4 + 1 := by decide +kernel

end Cert.KernelIdeal.Trip
-- ==== Proof.Value.Later.lean ====
/- One grid point after a query tile's first: thirteen chunks, the output block, and the next tile's scores. -/
module

public import proofs.«01_k».proof.Proof.Value.Trip
public import proofs.«01_k».proof.Proof.KernelIdeal.Run

@[expose] public section

set_option maxRecDepth 16384
set_option maxHeartbeats 1000000

noncomputable section

namespace Cert.KernelIdeal.Later

open Idealize.ShloMosaic Idealize.ShloMosaic.TcCoe
open Cert.KernelIdeal.Gen Cert.KernelIdeal.Step Cert.KernelIdeal.Mem Cert.KernelIdeal.Trip Cert.KernelIdeal.Run
open Finset (range)

section

variable (dv : Dev nD) (i : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole)
  (X4 : BufTy.Contents (Elt Ideal) arg4.view.ty)
  (X5 : BufTy.Contents (Elt Ideal) arg5.view.ty) (X6 : BufTy.Contents (Elt Ideal) arg6.view.ty)
  (f9 : BufTy.Contents (Elt Ideal) arg9.view.ty) (f13 : BufTy.Contents (Elt Ideal) arg13.view.ty)
  (f14 : BufTy.Contents (Elt Ideal) arg14.view.ty) (f15 : BufTy.Contents (Elt Ideal) arg15.view.ty)
  (f16 : BufTy.Contents (Elt Ideal) arg16.view.ty)
  (kk : ℕ → Fin 128 → ℝ) (q : Fin 128 → Fin 512 → ℝ) (W : Fin 144 → ℕ → ℝ)

/-! ## The tile's first chunk -/

theorem zero_max (c : Fin 512) : (runLater.sl.v30 (F := Ideal) arg11) (ix2 0 c) = (⊥ : EReal) := by
  have e : (runLater.sl.v30 (F := Ideal) arg11) = k0_pay67 (F := Ideal) := (whole2_apply arg11.view _).trans (whole2_writes arg11.view _ _ [])
  rw [e]
  pointwise [k0_pay67]
  exact Consts.neg_inf

theorem zero_acc (e : Fin 144) (c : Fin 512) : (runLater.sl.v150 (F := Ideal) arg12) (ix2 e c) = (0 : EReal) := by
  have h : (runLater.sl.v150 (F := Ideal) arg12) = k0_pay68 (F := Ideal) := (whole2_apply arg12.view _).trans (whole2_writes arg12.view _ _ [])
  rw [h]
  pointwise [k0_pay68]

theorem open_max : (runLater.sl.v159 (F := Ideal) arg11 arg15 f15) = newMax (F := Ideal) (runLater.sl.v30 (F := Ideal) arg11) (runLater.sl.r (F := Ideal) arg15 f15) :=
  shapeCast_self _ _

theorem open_acc : (runLater.sl.v156 (F := Ideal) arg6 arg11 arg12 arg13 arg15 X6 f13 f15)
    = stepAcc (F := Ideal) (runLater.sl.v30 (F := Ideal) arg11) (runLater.sl.r (F := Ideal) arg15 f15) (runLater.sl.v150 (F := Ideal) arg12)
        (View.readAt (Elt Ideal) arg13.view (Rect.unit (s := S1280x512) ![0, 0] S256x512.size inb_S1280x512_S256x512_0_0).toLoadRect f13) (View.readAt (Elt Ideal) arg13.view (Rect.unit (s := S1280x512) ![256, 0] S256x512.size inb_S1280x512_S256x512_256_0).toLoadRect f13) (View.readAt (Elt Ideal) arg13.view (Rect.unit (s := S1280x512) ![512, 0] S256x512.size inb_S1280x512_S256x512_512_0).toLoadRect f13) (View.readAt (Elt Ideal) arg13.view (Rect.unit (s := S1280x512) ![768, 0] S256x512.size inb_S1280x512_S256x512_768_0).toLoadRect f13) (View.readAt (Elt Ideal) arg13.view (Rect.unit (s := S1280x512) ![1024, 0] S256x512.size inb_S1280x512_S256x512_1024_0).toLoadRect f13)
        (vblk arg6 X6 ![0, 0, 0, 0] inb_S1x13x144x1280_S1x1x144x256_0_0_0_0) (vblk arg6 X6 ![0, 0, 0, 256] inb_S1x13x144x1280_S1x1x144x256_0_0_0_256) (vblk arg6 X6 ![0, 0, 0, 512] inb_S1x13x144x1280_S1x1x144x256_0_0_0_512) (vblk arg6 X6 ![0, 0, 0, 768] inb_S1x13x144x1280_S1x1x144x256_0_0_0_768) (vblk arg6 X6 ![0, 0, 0, 1024] inb_S1x13x144x1280_S1x1x144x256_0_0_0_1024) :=
  shapeCast_self _ _

theorem open_good (E : Env arg5 arg6 X5 X6 kk W)
    (hs : ∀ (R : Fin 1280) c, arg13.view.read (Elt Ideal) f13 (ix2 R c) = ((sc kk q R.val c : ℝ) : EReal))
    (hmx : ∀ a c, ∃ x : ℝ, arg15.view.read (Elt Ideal) f15 (ix2 a c) = (x : EReal)) :
    AccGood (sc kk q) W 1 (runLater.sl.v159 (F := Ideal) arg11 arg15 f15) (runLater.sl.v156 (F := Ideal) arg6 arg11 arg12 arg13 arg15 X6 f13 f15) := by
  rw [open_max, open_acc]
  refine step (sc kk q) W 0 _ _ _ _ _ _ _ _ _ _ _ _ _ (.inl ⟨rfl, fun c => zero_max arg11 c, fun e c => zero_acc arg12 e c⟩) ?_ ?_ ?_ ?_ ?_ ?_ ?_ ?_ ?_ ?_ ?_
  · intro a c
    obtain ⟨x, hx⟩ := hmx a c
    refine ⟨x, Eq.trans ?_ hx⟩
    exact congrFun (whole2_apply arg15.view f15) (ix2 a c)
  · intro r c
    refine (row_load arg13.view f13 r c ⟨0 + r.val, by omega⟩ rfl).trans ((hs ⟨0 + r.val, by omega⟩ c).trans ?_)
    congr 2
  · intro r c
    refine (row_load arg13.view f13 r c ⟨256 + r.val, by omega⟩ rfl).trans ((hs ⟨256 + r.val, by omega⟩ c).trans ?_)
    congr 2
  · intro r c
    refine (row_load arg13.view f13 r c ⟨512 + r.val, by omega⟩ rfl).trans ((hs ⟨512 + r.val, by omega⟩ c).trans ?_)
    congr 2
  · intro r c
    refine (row_load arg13.view f13 r c ⟨768 + r.val, by omega⟩ rfl).trans ((hs ⟨768 + r.val, by omega⟩ c).trans ?_)
    congr 2
  · intro r c
    refine (row_load arg13.view f13 r c ⟨1024 + r.val, by omega⟩ rfl).trans ((hs ⟨1024 + r.val, by omega⟩ c).trans ?_)
    congr 2
  · exact fun e r => val_real E (off := ![0, 0, 0, 0]) (n := 0) (o := 0) rfl (by omega) (by omega) e r (by omega)
  · exact fun e r => val_real E (off := ![0, 0, 0, 256]) (n := 0) (o := 256) rfl (by omega) (by omega) e r (by omega)
  · exact fun e r => val_real E (off := ![0, 0, 0, 512]) (n := 0) (o := 512) rfl (by omega) (by omega) e r (by omega)
  · exact fun e r => val_real E (off := ![0, 0, 0, 768]) (n := 0) (o := 768) rfl (by omega) (by omega) e r (by omega)
  · exact fun e r => val_real E (off := ![0, 0, 0, 1024]) (n := 0) (o := 1024) rfl (by omega) (by omega) e r (by omega)

/-- The next chunk's scores. -/
theorem one_scores (E : Env arg5 arg6 X5 X6 kk W) (hq : Qry arg9 f9 q) :
    (∀ (r : Fin 256) c, (runLater.sl.v52 (F := Ideal) arg5 arg9 X5 f9) (ix2 r c) = ((sc kk q (1280 + r.val) c : ℝ) : EReal))
    ∧ (∀ (r : Fin 256) c, (runLater.sl.v73 (F := Ideal) arg5 arg9 X5 f9) (ix2 r c) = ((sc kk q (1280 + (256 + r.val)) c : ℝ) : EReal))
    ∧ (∀ (r : Fin 256) c, (runLater.sl.v96 (F := Ideal) arg5 arg9 X5 f9) (ix2 r c) = ((sc kk q (1280 + (512 + r.val)) c : ℝ) : EReal))
    ∧ (∀ (r : Fin 256) c, (runLater.sl.v119 (F := Ideal) arg5 arg9 X5 f9) (ix2 r c) = ((sc kk q (1280 + (768 + r.val)) c : ℝ) : EReal))
    ∧ (∀ (r : Fin 256) c, (runLater.sl.v142 (F := Ideal) arg5 arg9 X5 f9) (ix2 r c) = ((sc kk q (1280 + (1024 + r.val)) c : ℝ) : EReal)) := by
  have g : ∀ (o : ℕ) (w : FVec Ideal S256x512 .f32) (h : ∀ a, (![0, 1280 + o, 0] : Fin 3 → ℕ) a + S1x256x128.size a ≤ S1x16640x128.size a),
      1280 + o + 256 ≤ 16640 →
      w = shapeCast S256x512 (score (F := Ideal) (kblk arg5 X5 ![0, 1280 + o, 0] h) (View.readAt (Elt Ideal) arg9.view (Rect.unit ![0, 0] S128x512.size inb_S128x512_S128x512_0_0).toLoadRect f9)) (by rfl) →
      ∀ (r : Fin 256) c, w (ix2 r c) = ((sc kk q (1280 + (o + r.val)) c : ℝ) : EReal) := by
    intro o w h hb hw r c
    rw [hw, shapeCast_self, score_real hq (key_real E (off := ![0, 1280 + o, 0]) (o := 1280 + o) rfl hb)]
    congr 2
    omega
  exact ⟨fun r c => (g 0 _ inb_S1x16640x128_S1x256x128_0_1280_0 (by omega) rfl r c).trans (by congr 2; omega),
    g 256 _ inb_S1x16640x128_S1x256x128_0_1536_0 (by omega) rfl,
    g 512 _ inb_S1x16640x128_S1x256x128_0_1792_0 (by omega) rfl,
    g 768 _ inb_S1x16640x128_S1x256x128_0_2048_0 (by omega) rfl,
    g 1024 _ inb_S1x16640x128_S1x256x128_0_2304_0 (by omega) rfl⟩

theorem one_colMax (E : Env arg5 arg6 X5 X6 kk W) (hq : Qry arg9 f9 q) (a : Fin 32) (c : Fin 512) :
    ∃ x : ℝ, (runLater.sl.v145 (F := Ideal) arg5 arg9 X5 f9) (ix2 a c) = (x : EReal) := by
  obtain ⟨e0, e1, e2, e3, e4⟩ := one_scores arg5 arg6 arg9 X5 X6 f9 kk q W E hq
  have s0 : (runLater.sl.v52 (F := Ideal) arg5 arg9 X5 f9) = (runLater.sl.v47 (F := Ideal) arg5 arg9 X5 f9) := shapeCast_self _ _
  have s1 : (runLater.sl.v73 (F := Ideal) arg5 arg9 X5 f9) = (runLater.sl.v68 (F := Ideal) arg5 arg9 X5 f9) := shapeCast_self _ _
  have s2 : (runLater.sl.v96 (F := Ideal) arg5 arg9 X5 f9) = (runLater.sl.v91 (F := Ideal) arg5 arg9 X5 f9) := shapeCast_self _ _
  have s3 : (runLater.sl.v119 (F := Ideal) arg5 arg9 X5 f9) = (runLater.sl.v114 (F := Ideal) arg5 arg9 X5 f9) := shapeCast_self _ _
  have s4 : (runLater.sl.v142 (F := Ideal) arg5 arg9 X5 f9) = (runLater.sl.v137 (F := Ideal) arg5 arg9 X5 f9) := shapeCast_self _ _
  rw [s0] at e0; rw [s1] at e1; rw [s2] at e2; rw [s3] at e3; rw [s4] at e4
  exact max5_real _ _ _ _ _ (fun r c => ⟨_, e0 r c⟩) (fun r c => ⟨_, e1 r c⟩) (fun r c => ⟨_, e2 r c⟩) (fun r c => ⟨_, e3 r c⟩)
    (fun r c => ⟨_, e4 r c⟩) a c

/-- The stores of the first chunk to the score buffer's second slot. -/
abbrev five : List (View.Piece (Elt Ideal) S2x1280x512 .f32) :=
  [⟨(stRect 1 1024 inb_S2x1280x512_S1x1280x512_1_0_0 inb_S1280x512_S256x512_1024_0 (by rfl) (by decide) (by decide)), Rect.payAlong (r := Rect.unit (s := S1280x512) ![1024, 0] S256x512.size inb_S1280x512_S256x512_1024_0) (by rfl) (runLater.sl.v142 (F := Ideal) arg5 arg9 X5 f9)⟩,
    ⟨(stRect 1 768 inb_S2x1280x512_S1x1280x512_1_0_0 inb_S1280x512_S256x512_768_0 (by rfl) (by decide) (by decide)), Rect.payAlong (r := Rect.unit (s := S1280x512) ![768, 0] S256x512.size inb_S1280x512_S256x512_768_0) (by rfl) (runLater.sl.v119 (F := Ideal) arg5 arg9 X5 f9)⟩,
    ⟨(stRect 1 512 inb_S2x1280x512_S1x1280x512_1_0_0 inb_S1280x512_S256x512_512_0 (by rfl) (by decide) (by decide)), Rect.payAlong (r := Rect.unit (s := S1280x512) ![512, 0] S256x512.size inb_S1280x512_S256x512_512_0) (by rfl) (runLater.sl.v96 (F := Ideal) arg5 arg9 X5 f9)⟩,
    ⟨(stRect 1 256 inb_S2x1280x512_S1x1280x512_1_0_0 inb_S1280x512_S256x512_256_0 (by rfl) (by decide) (by decide)), Rect.payAlong (r := Rect.unit (s := S1280x512) ![256, 0] S256x512.size inb_S1280x512_S256x512_256_0) (by rfl) (runLater.sl.v73 (F := Ideal) arg5 arg9 X5 f9)⟩,
    ⟨(stRect 1 0 inb_S2x1280x512_S1x1280x512_1_0_0 inb_S1280x512_S256x512_0_0 (by rfl) (by decide) (by decide)), Rect.payAlong (r := Rect.unit (s := S1280x512) ![0, 0] S256x512.size inb_S1280x512_S256x512_0_0) (by rfl) (runLater.sl.v52 (F := Ideal) arg5 arg9 X5 f9)⟩]

/-- Its store of the column maxima. -/
abbrev piece : List (View.Piece (Elt Ideal) S2x32x512 .f32) :=
  [⟨Rect.unit (s := S2x32x512) ![1, 0, 0] S1x32x512.size inb_S2x32x512_S1x32x512_1_0_0, k0_pay95 (F := Ideal) (runLater.sl.v145 (F := Ideal) arg5 arg9 X5 f9)⟩]

/-- All the stores of the loop. -/
abbrev loopL := pb_k0_t1 (F := Ideal) Variants.none dv none i arg2 harg2 arg3 harg3 arg4 harg4 arg5 harg5 arg6 harg6 arg7 harg7 arg8 harg8 arg9 harg9 arg10 harg10 arg11 harg11 arg12 harg12 arg13 harg13 arg14 harg14 arg15 harg15 arg16 harg16 (runLater.sl.v145 (F := Ideal) arg5 arg9 X5 f9) (runLater.sl.r_1 (F := Ideal) arg16 f16) X5 X6 f9 (arg11.view.writes (Elt Ideal) arg11.view.junk (runLater.sl.H11_2 (F := Ideal) arg11 arg15 f15)) (arg12.view.writes (Elt Ideal) arg12.view.junk (runLater.sl.H12_2 (F := Ideal) arg6 arg11 arg12 arg13 arg15 X6 f13 f15)) (arg14.view.writes (Elt Ideal) f14 (five arg5 arg9 X5 f9)) (arg16.view.writes (Elt Ideal) f16 (piece arg5 arg9 X5 f9)) (Scf.trips k0_t1_loop.lb k0_t1_loop.ub k0_t1_loop.st)

/-- The buffers at the loop's start, whatever the two-slot buffers held. -/
theorem start_good (E : Env arg5 arg6 X5 X6 kk W) (hq : Qry arg9 f9 q)
    (hs : ∀ (R : Fin 1280) c, arg13.view.read (Elt Ideal) f13 (ix2 R c) = ((sc kk q R.val c : ℝ) : EReal))
    (hmx : ∀ a c, ∃ x : ℝ, arg15.view.read (Elt Ideal) f15 (ix2 a c) = (x : EReal)) (b14 : BufTy.Contents (Elt Ideal) arg14.view.ty) (b16 : BufTy.Contents (Elt Ideal) arg16.view.ty) :
    Good (sc kk q) W 1 1 (arg11.view.read (Elt Ideal) (arg11.view.writes (Elt Ideal) arg11.view.junk (runLater.sl.H11_2 (F := Ideal) arg11 arg15 f15))) (arg12.view.read (Elt Ideal) (arg12.view.writes (Elt Ideal) arg12.view.junk (runLater.sl.H12_2 (F := Ideal) arg6 arg11 arg12 arg13 arg15 X6 f13 f15)))
      (arg14.view.read (Elt Ideal) (arg14.view.writes (Elt Ideal) b14 (five arg5 arg9 X5 f9))) (arg16.view.read (Elt Ideal) (arg16.view.writes (Elt Ideal) b16 (piece arg5 arg9 X5 f9))) := by
  refine ⟨?_, ?_, ?_⟩
  · have e11 := whole2_writes arg11.view arg11.view.junk (h := inb_S1x512_S1x512_0_0) (runLater.sl.v159 (F := Ideal) arg11 arg15 f15) (runLater.sl.H11_1 (F := Ideal))
    have e12 := whole2_writes arg12.view arg12.view.junk (h := inb_S144x512_S144x512_0_0) (runLater.sl.v156 (F := Ideal) arg6 arg11 arg12 arg13 arg15 X6 f13 f15) (runLater.sl.H12_1 (F := Ideal))
    have := open_good arg5 arg6 arg11 arg12 arg13 arg15 X5 X6 f13 f15 kk q W E hs hmx
    rw [← e11, ← e12] at this
    exact this
  · obtain ⟨e0, e1, e2, e3, e4⟩ := one_scores arg5 arg6 arg9 X5 X6 f9 kk q W E hq
    exact five_hit (Val := Elt Ideal) arg14.view b14 _ _ _ _ _ _ _ _ _ _ []
      (fun R c => ((sc kk q (1280 + R) c : ℝ) : EReal)) e0 e1 e2 e3 e4 1 rfl
  · intro a c
    obtain ⟨x, hx⟩ := one_colMax arg5 arg6 arg9 X5 X6 f9 kk q W E hq a c
    refine ⟨x, Eq.trans ?_ hx⟩
    refine (mx_hit arg16.view _ _ [] 1 rfl a c).trans ?_
    pointwise [k0_pay95]

/-- The buffers after the loop. -/
theorem loop_end (E : Env arg5 arg6 X5 X6 kk W) (hq : Qry arg9 f9 q)
    (hs : ∀ (R : Fin 1280) c, arg13.view.read (Elt Ideal) f13 (ix2 R c) = ((sc kk q R.val c : ℝ) : EReal))
    (hmx : ∀ a c, ∃ x : ℝ, arg15.view.read (Elt Ideal) f15 (ix2 a c) = (x : EReal)) :
    Good (sc kk q) W 11 1 (arg11.view.read (Elt Ideal) (arg11.view.writes (Elt Ideal) arg11.view.junk ((loopL dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16).1 ++ (runLater.sl.H11_2 (F := Ideal) arg11 arg15 f15))))
      (arg12.view.read (Elt Ideal) (arg12.view.writes (Elt Ideal) arg12.view.junk ((loopL dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16).2.1 ++ (runLater.sl.H12_2 (F := Ideal) arg6 arg11 arg12 arg13 arg15 X6 f13 f15))))
      (arg14.view.read (Elt Ideal) (arg14.view.writes (Elt Ideal) arg14.view.junk ((loopL dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16).2.2.1 ++ (five arg5 arg9 X5 f9))))
      (arg16.view.read (Elt Ideal) (arg16.view.writes (Elt Ideal) arg16.view.junk ((loopL dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16).2.2.2 ++ (piece arg5 arg9 X5 f9)))) := by
  have h := loop_good dv i arg2 harg2 arg3 harg3 arg4 harg4 arg5 harg5 arg6 harg6 arg7 harg7 arg8 harg8 arg9 harg9 arg10 harg10 arg11 harg11 arg12 harg12 arg13 harg13 arg14 harg14 arg15 harg15 arg16 harg16 (runLater.sl.v145 (F := Ideal) arg5 arg9 X5 f9) (runLater.sl.r_1 (F := Ideal) arg16 f16) X5 X6 f9 kk q W (arg11.view.writes (Elt Ideal) arg11.view.junk (runLater.sl.H11_2 (F := Ideal) arg11 arg15 f15)) (arg12.view.writes (Elt Ideal) arg12.view.junk (runLater.sl.H12_2 (F := Ideal) arg6 arg11 arg12 arg13 arg15 X6 f13 f15)) (arg14.view.writes (Elt Ideal) f14 (five arg5 arg9 X5 f9)) (arg16.view.writes (Elt Ideal) f16 (piece arg5 arg9 X5 f9)) E hq
    (start_good arg5 arg6 arg9 arg11 arg12 arg13 arg14 arg15 arg16 X5 X6 f9 f13 f15 kk q W E hq hs hmx f14 f16) 4 (by decide +kernel)
    (arg14.view.writes (Elt Ideal) arg14.view.junk (five arg5 arg9 X5 f9)) (arg16.view.writes (Elt Ideal) arg16.view.junk (piece arg5 arg9 X5 f9))
  rw [← trips_eq] at h
  rw [View.writes_append, View.writes_append, View.writes_append, View.writes_append]
  exact h

/-! ## The last but one chunk -/

theorem ante_max : (runLater.sl.v304 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) = newMax (F := Ideal) (runLater.sl.v164 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (shapeCast S32x512 (runLater.sl.v165 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) shapeCasts_S1x32x512_S32x512) :=
  shapeCast_self _ _

theorem ante_acc : (runLater.sl.v301 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)
    = stepAcc (F := Ideal) (runLater.sl.v164 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (shapeCast S32x512 (runLater.sl.v165 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) shapeCasts_S1x32x512_S32x512) (runLater.sl.v295 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)
        (al (by rfl) (runLater.sl.v174 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) (al (by rfl) (runLater.sl.v197 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) (al (by rfl) (runLater.sl.v222 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) (al (by rfl) (runLater.sl.v247 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) (al (by rfl) (runLater.sl.v272 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16))
        (vblk arg6 X6 ![0, 11, 0, 0] inb_S1x13x144x1280_S1x1x144x256_0_11_0_0) (vblk arg6 X6 ![0, 11, 0, 256] inb_S1x13x144x1280_S1x1x144x256_0_11_0_256) (vblk arg6 X6 ![0, 11, 0, 512] inb_S1x13x144x1280_S1x1x144x256_0_11_0_512) (vblk arg6 X6 ![0, 11, 0, 768] inb_S1x13x144x1280_S1x1x144x256_0_11_0_768) (vblk arg6 X6 ![0, 11, 0, 1024] inb_S1x13x144x1280_S1x1x144x256_0_11_0_1024) :=
  shapeCast_self _ _

/-- The last chunk's scores. -/
theorem last_scores (E : Env arg5 arg6 X5 X6 kk W) (hq : Qry arg9 f9 q) :
    (∀ (r : Fin 256) c, (k0_pay101 (F := Ideal) (kblk arg5 X5 ![0, 15360, 0] inb_S1x16640x128_S1x256x128_0_15360_0) (View.readAt (Elt Ideal) arg9.view (Rect.unit ![0, 0] S128x512.size inb_S128x512_S128x512_0_0).toLoadRect f9)) (ix2 r c) = ((sc kk q (15360 + r.val) c : ℝ) : EReal))
    ∧ (∀ (r : Fin 256) c, (runLater.sl.v212 (F := Ideal) arg5 arg9 X5 f9) (ix2 r c) = ((sc kk q (15360 + (256 + r.val)) c : ℝ) : EReal))
    ∧ (∀ (r : Fin 256) c, (runLater.sl.v237 (F := Ideal) arg5 arg9 X5 f9) (ix2 r c) = ((sc kk q (15360 + (512 + r.val)) c : ℝ) : EReal))
    ∧ (∀ (r : Fin 256) c, (runLater.sl.v262 (F := Ideal) arg5 arg9 X5 f9) (ix2 r c) = ((sc kk q (15360 + (768 + r.val)) c : ℝ) : EReal))
    ∧ (∀ (r : Fin 256) c, (runLater.sl.v287 (F := Ideal) arg5 arg9 X5 f9) (ix2 r c) = ((sc kk q (15360 + (1024 + r.val)) c : ℝ) : EReal)) := by
  have g : ∀ (o : ℕ) (w : FVec Ideal S256x512 .f32) (h : ∀ a, (![0, 15360 + o, 0] : Fin 3 → ℕ) a + S1x256x128.size a ≤ S1x16640x128.size a),
      15360 + o + 256 ≤ 16640 →
      w = shapeCast S256x512 (score (F := Ideal) (kblk arg5 X5 ![0, 15360 + o, 0] h) (View.readAt (Elt Ideal) arg9.view (Rect.unit ![0, 0] S128x512.size inb_S128x512_S128x512_0_0).toLoadRect f9)) (by rfl) →
      ∀ (r : Fin 256) c, w (ix2 r c) = ((sc kk q (15360 + (o + r.val)) c : ℝ) : EReal) := by
    intro o w h hb hw r c
    rw [hw, shapeCast_self, score_real hq (key_real E (off := ![0, 15360 + o, 0]) (o := 15360 + o) rfl hb)]
    congr 2
    omega
  exact ⟨fun r c => (g 0 _ inb_S1x16640x128_S1x256x128_0_15360_0 (by omega) rfl r c).trans (by congr 2; omega),
    g 256 _ inb_S1x16640x128_S1x256x128_0_15616_0 (by omega) rfl,
    g 512 _ inb_S1x16640x128_S1x256x128_0_15872_0 (by omega) rfl,
    g 768 _ inb_S1x16640x128_S1x256x128_0_16128_0 (by omega) rfl,
    g 1024 _ inb_S1x16640x128_S1x256x128_0_16384_0 (by omega) rfl⟩

theorem last_colMax (E : Env arg5 arg6 X5 X6 kk W) (hq : Qry arg9 f9 q) (a : Fin 32) (c : Fin 512) :
    ∃ x : ℝ, (runLater.sl.v290 (F := Ideal) arg5 arg9 X5 f9) (ix2 a c) = (x : EReal) := by
  obtain ⟨e0, e1, e2, e3, e4⟩ := last_scores arg5 arg6 arg9 X5 X6 f9 kk q W E hq
  have s0 : (k0_pay101 (F := Ideal) (kblk arg5 X5 ![0, 15360, 0] inb_S1x16640x128_S1x256x128_0_15360_0) (View.readAt (Elt Ideal) arg9.view (Rect.unit ![0, 0] S128x512.size inb_S128x512_S128x512_0_0).toLoadRect f9)) = (k0_pay100 (F := Ideal) (kblk arg5 X5 ![0, 15360, 0] inb_S1x16640x128_S1x256x128_0_15360_0) (View.readAt (Elt Ideal) arg9.view (Rect.unit ![0, 0] S128x512.size inb_S128x512_S128x512_0_0).toLoadRect f9)) := shapeCast_self _ _
  have s1 : (runLater.sl.v212 (F := Ideal) arg5 arg9 X5 f9) = (runLater.sl.v207 (F := Ideal) arg5 arg9 X5 f9) := shapeCast_self _ _
  have s2 : (runLater.sl.v237 (F := Ideal) arg5 arg9 X5 f9) = (runLater.sl.v232 (F := Ideal) arg5 arg9 X5 f9) := shapeCast_self _ _
  have s3 : (runLater.sl.v262 (F := Ideal) arg5 arg9 X5 f9) = (runLater.sl.v257 (F := Ideal) arg5 arg9 X5 f9) := shapeCast_self _ _
  have s4 : (runLater.sl.v287 (F := Ideal) arg5 arg9 X5 f9) = (runLater.sl.v282 (F := Ideal) arg5 arg9 X5 f9) := shapeCast_self _ _
  rw [s0] at e0; rw [s1] at e1; rw [s2] at e2; rw [s3] at e3; rw [s4] at e4
  exact max5_real _ _ _ _ _ (fun r c => ⟨_, e0 r c⟩) (fun r c => ⟨_, e1 r c⟩) (fun r c => ⟨_, e2 r c⟩) (fun r c => ⟨_, e3 r c⟩)
    (fun r c => ⟨_, e4 r c⟩) a c

/-- The last but one chunk. -/
theorem ante_good (E : Env arg5 arg6 X5 X6 kk W) (hq : Qry arg9 f9 q)
    (hs : ∀ (R : Fin 1280) c, arg13.view.read (Elt Ideal) f13 (ix2 R c) = ((sc kk q R.val c : ℝ) : EReal))
    (hmx : ∀ a c, ∃ x : ℝ, arg15.view.read (Elt Ideal) f15 (ix2 a c) = (x : EReal)) :
    AccGood (sc kk q) W 12 (runLater.sl.v304 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (runLater.sl.v301 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) := by
  have h := loop_end dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16 kk q W E hq hs hmx
  have w11 : (runLater.sl.v164 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) = arg11.view.read (Elt Ideal) (arg11.view.writes (Elt Ideal) arg11.view.junk ((loopL dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16).1 ++ (runLater.sl.H11_2 (F := Ideal) arg11 arg15 f15))) := whole2_apply arg11.view _
  have w12 : (runLater.sl.v295 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) = arg12.view.read (Elt Ideal) (arg12.view.writes (Elt Ideal) arg12.view.junk ((loopL dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16).2.1 ++ (runLater.sl.H12_2 (F := Ideal) arg6 arg11 arg12 arg13 arg15 X6 f13 f15))) := whole2_apply arg12.view _
  have hL : ∀ (R : Fin 1280) c, arg14.view.read (Elt Ideal) (arg14.view.writes (Elt Ideal) arg14.view.junk ((loopL dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16).2.2.1 ++ (five arg5 arg9 X5 f9))) (ix3 1 R c)
      = ((sc kk q (1280 * 11 + R.val) c : ℝ) : EReal) := h.slot
  rw [ante_max, ante_acc, w11, w12]
  refine step (sc kk q) W 11 _ _ _ _ _ _ _ _ _ _ _ _ _ h.acc ?_ ?_ ?_ ?_ ?_ ?_ ?_ ?_ ?_ ?_ ?_
  · intro a c
    obtain ⟨x, hx⟩ := h.mx a c
    refine ⟨x, Eq.trans ?_ hx⟩
    refine Eq.trans ?_ (mx_load arg16.view (arg16.view.writes (Elt Ideal) arg16.view.junk ((loopL dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16).2.2.2 ++ (piece arg5 arg9 X5 f9))) (h := inb_S2x32x512_S1x32x512_1_0_0) 1 rfl a c)
    have e : shapeCast S32x512 (runLater.sl.v165 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) shapeCasts_S1x32x512_S32x512 (ix2 a c) = (runLater.sl.v165 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (ix3 0 a c) := by pointwise []
    exact e
  · intro r c
    refine Eq.trans (load_apply arg14.view (arg14.view.writes (Elt Ideal) arg14.view.junk ((loopL dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16).2.2.1 ++ (five arg5 arg9 X5 f9))) _ 1 ⟨0 + r.val, by omega⟩ r c rfl rfl) ?_
    refine Eq.trans (hL ⟨0 + r.val, by omega⟩ c) ?_
    congr 2
    show 1280 * 11 + (0 + r.val) = _
    omega
  · intro r c
    refine Eq.trans (load_apply arg14.view (arg14.view.writes (Elt Ideal) arg14.view.junk (runLater.sl.H14_1 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) _ 1 ⟨256 + r.val, by omega⟩ r c rfl rfl) ?_
    refine Eq.trans ((store_miss arg14.view _ _ _ 1 ⟨256 + r.val, by omega⟩ c (.inl (by decide))).trans (hL ⟨256 + r.val, by omega⟩ c)) ?_
    congr 2
    show 1280 * 11 + (256 + r.val) = _
    omega
  · intro r c
    refine Eq.trans (load_apply arg14.view (arg14.view.writes (Elt Ideal) arg14.view.junk (runLater.sl.H14_2 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) _ 1 ⟨512 + r.val, by omega⟩ r c rfl rfl) ?_
    refine Eq.trans ((store_miss arg14.view _ _ _ 1 ⟨512 + r.val, by omega⟩ c (.inl (by decide))).trans ((store_miss arg14.view _ _ _ 1 ⟨512 + r.val, by omega⟩ c (.inl (by decide))).trans (hL ⟨512 + r.val, by omega⟩ c))) ?_
    congr 2
    show 1280 * 11 + (512 + r.val) = _
    omega
  · intro r c
    refine Eq.trans (load_apply arg14.view (arg14.view.writes (Elt Ideal) arg14.view.junk (runLater.sl.H14_3 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) _ 1 ⟨768 + r.val, by omega⟩ r c rfl rfl) ?_
    refine Eq.trans ((store_miss arg14.view _ _ _ 1 ⟨768 + r.val, by omega⟩ c (.inl (by decide))).trans ((store_miss arg14.view _ _ _ 1 ⟨768 + r.val, by omega⟩ c (.inl (by decide))).trans ((store_miss arg14.view _ _ _ 1 ⟨768 + r.val, by omega⟩ c (.inl (by decide))).trans (hL ⟨768 + r.val, by omega⟩ c)))) ?_
    congr 2
    show 1280 * 11 + (768 + r.val) = _
    omega
  · intro r c
    refine Eq.trans (load_apply arg14.view (arg14.view.writes (Elt Ideal) arg14.view.junk (runLater.sl.H14_4 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) _ 1 ⟨1024 + r.val, by omega⟩ r c rfl rfl) ?_
    refine Eq.trans ((store_miss arg14.view _ _ _ 1 ⟨1024 + r.val, by omega⟩ c (.inl (by decide))).trans ((store_miss arg14.view _ _ _ 1 ⟨1024 + r.val, by omega⟩ c (.inl (by decide))).trans ((store_miss arg14.view _ _ _ 1 ⟨1024 + r.val, by omega⟩ c (.inl (by decide))).trans ((store_miss arg14.view _ _ _ 1 ⟨1024 + r.val, by omega⟩ c (.inl (by decide))).trans (hL ⟨1024 + r.val, by omega⟩ c))))) ?_
    congr 2
    show 1280 * 11 + (1024 + r.val) = _
    omega
  · exact fun e r => val_real E (off := ![0, 11, 0, 0]) (n := 11) (o := 0) rfl (by omega) (by omega) e r (by omega)
  · exact fun e r => val_real E (off := ![0, 11, 0, 256]) (n := 11) (o := 256) rfl (by omega) (by omega) e r (by omega)
  · exact fun e r => val_real E (off := ![0, 11, 0, 512]) (n := 11) (o := 512) rfl (by omega) (by omega) e r (by omega)
  · exact fun e r => val_real E (off := ![0, 11, 0, 768]) (n := 11) (o := 768) rfl (by omega) (by omega) e r (by omega)
  · exact fun e r => val_real E (off := ![0, 11, 0, 1024]) (n := 11) (o := 1024) rfl (by omega) (by omega) e r (by omega)

/-! ## The last chunk -/

theorem last_max : (runLater.sl.v438 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) = newMax (F := Ideal) (runLater.sl.v308 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (runLater.sl.v310 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) :=
  shapeCast_self _ _

theorem last_acc : (runLater.sl.v435 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)
    = stepAcc (F := Ideal) (runLater.sl.v308 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (runLater.sl.v310 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (runLater.sl.v429 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)
        (al (by rfl) (runLater.sl.v318 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) (al (by rfl) (runLater.sl.v339 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) (al (by rfl) (runLater.sl.v362 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) (al (by rfl) (runLater.sl.v385 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) (al (by rfl) (runLater.sl.v408 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16))
        (vblk arg6 X6 ![0, 12, 0, 0] inb_S1x13x144x1280_S1x1x144x256_0_12_0_0) (vblk arg6 X6 ![0, 12, 0, 256] inb_S1x13x144x1280_S1x1x144x256_0_12_0_256) (vblk arg6 X6 ![0, 12, 0, 512] inb_S1x13x144x1280_S1x1x144x256_0_12_0_512) (vblk arg6 X6 ![0, 12, 0, 768] inb_S1x13x144x1280_S1x1x144x256_0_12_0_768) (vblk arg6 X6 ![0, 12, 0, 1024] inb_S1x13x144x1280_S1x1x144x256_0_12_0_1024) :=
  shapeCast_self _ _

/-- The last chunk: all keys are taken in. -/
theorem last_good (E : Env arg5 arg6 X5 X6 kk W) (hq : Qry arg9 f9 q)
    (hs : ∀ (R : Fin 1280) c, arg13.view.read (Elt Ideal) f13 (ix2 R c) = ((sc kk q R.val c : ℝ) : EReal))
    (hmx : ∀ a c, ∃ x : ℝ, arg15.view.read (Elt Ideal) f15 (ix2 a c) = (x : EReal)) :
    AccGood (sc kk q) W 13 (runLater.sl.v438 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (runLater.sl.v435 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) := by
  have h := ante_good dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16 kk q W E hq hs hmx
  have w11 : (runLater.sl.v308 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) = (runLater.sl.v304 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) := (whole2_apply arg11.view _).trans (whole2_writes arg11.view _ _ _)
  have w12 : (runLater.sl.v429 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) = (runLater.sl.v301 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) := (whole2_apply arg12.view _).trans (whole2_writes arg12.view _ _ _)
  obtain ⟨e0, e1, e2, e3, e4⟩ := last_scores arg5 arg6 arg9 X5 X6 f9 kk q W E hq
  have hL : ∀ (R : Fin 1280) c, arg14.view.read (Elt Ideal) (arg14.view.writes (Elt Ideal) arg14.view.junk (runLater.sl.H14_5 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) (ix3 0 R c)
      = ((sc kk q (15360 + R.val) c : ℝ) : EReal) :=
    five_hit (Val := Elt Ideal) arg14.view _ _ _ _ _ _ _ _ _ _ _ _
      (fun R c => ((sc kk q (15360 + R) c : ℝ) : EReal)) e0 e1 e2 e3 e4 0 rfl
  rw [last_max, last_acc, w11, w12]
  refine step (sc kk q) W 12 _ _ _ _ _ _ _ _ _ _ _ _ _ h ?_ ?_ ?_ ?_ ?_ ?_ ?_ ?_ ?_ ?_ ?_
  · intro a c
    obtain ⟨x, hx⟩ := last_colMax arg5 arg6 arg9 X5 X6 f9 kk q W E hq a c
    refine ⟨x, Eq.trans ?_ hx⟩
    have e1 : (runLater.sl.v310 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (ix2 a c) = (runLater.sl.v309 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (ix3 0 a c) := by pointwise [runLater.sl.v310]
    have e2 : (runLater.sl.v309 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (ix3 0 a c) = (runLater.sl.v307 (F := Ideal) arg5 arg9 X5 f9) (ix3 0 a c) :=
      (mx_load arg16.view _ 0 rfl a c).trans (mx_hit arg16.view _ _ _ 0 rfl a c)
    have e3 : (runLater.sl.v307 (F := Ideal) arg5 arg9 X5 f9) (ix3 0 a c) = (runLater.sl.v290 (F := Ideal) arg5 arg9 X5 f9) (ix2 a c) := by pointwise [runLater.sl.v307]
    exact e1.trans (e2.trans e3)
  · intro r c
    refine Eq.trans (load_apply arg14.view (arg14.view.writes (Elt Ideal) arg14.view.junk (runLater.sl.H14_5 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) _ 0 ⟨0 + r.val, by omega⟩ r c rfl rfl) ?_
    refine (hL ⟨0 + r.val, by omega⟩ c).trans ?_
    congr 2
    show 15360 + (0 + r.val) = _
    omega
  · intro r c
    refine Eq.trans (load_apply arg14.view (arg14.view.writes (Elt Ideal) arg14.view.junk (runLater.sl.H14_5 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) _ 0 ⟨256 + r.val, by omega⟩ r c rfl rfl) ?_
    refine (hL ⟨256 + r.val, by omega⟩ c).trans ?_
    congr 2
    show 15360 + (256 + r.val) = _
    omega
  · intro r c
    refine Eq.trans (load_apply arg14.view (arg14.view.writes (Elt Ideal) arg14.view.junk (runLater.sl.H14_5 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) _ 0 ⟨512 + r.val, by omega⟩ r c rfl rfl) ?_
    refine (hL ⟨512 + r.val, by omega⟩ c).trans ?_
    congr 2
    show 15360 + (512 + r.val) = _
    omega
  · intro r c
    refine Eq.trans (load_apply arg14.view (arg14.view.writes (Elt Ideal) arg14.view.junk (runLater.sl.H14_5 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) _ 0 ⟨768 + r.val, by omega⟩ r c rfl rfl) ?_
    refine (hL ⟨768 + r.val, by omega⟩ c).trans ?_
    congr 2
    show 15360 + (768 + r.val) = _
    omega
  · intro r c
    refine Eq.trans (load_apply arg14.view (arg14.view.writes (Elt Ideal) arg14.view.junk (runLater.sl.H14_5 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16)) _ 0 ⟨1024 + r.val, by omega⟩ r c rfl rfl) ?_
    refine (hL ⟨1024 + r.val, by omega⟩ c).trans ?_
    congr 2
    show 15360 + (1024 + r.val) = _
    omega
  · exact fun e r => val_real E (off := ![0, 12, 0, 0]) (n := 12) (o := 0) rfl (by omega) (by omega) e r (by omega)
  · exact fun e r => val_real E (off := ![0, 12, 0, 256]) (n := 12) (o := 256) rfl (by omega) (by omega) e r (by omega)
  · exact fun e r => val_real E (off := ![0, 12, 0, 512]) (n := 12) (o := 512) rfl (by omega) (by omega) e r (by omega)
  · exact fun e r => val_real E (off := ![0, 12, 0, 768]) (n := 12) (o := 768) rfl (by omega) (by omega) e r (by omega)
  · exact fun e r => val_real E (off := ![0, 12, 0, 1024]) (n := 12) (o := 1024) rfl (by omega) (by omega) e r (by omega)

/-! ## The next tile's scores -/

theorem block_eq : (runLater.sl.v327 (F := Ideal) arg4 arg10 X4) = k0_pay66 (F := Ideal) (View.readAt (Elt Ideal) arg4.view (Rect.unit ![0, 0] S128x256.size inb_S128x256_S128x256_0_0).toLoadRect X4) :=
  (whole2_apply arg10.view _).trans (whole2_writes arg10.view _ _ [])

theorem score_table {q : Fin 128 → Fin 512 → ℝ} {kk : ℕ → Fin 128 → ℝ} {o : ℕ} {k : Vec Ideal S1x256x128 .bf16} {v : Vec Ideal S128x512 .bf16}
    (hq : ∀ d c, v (ix2 d c) = ((q d c : ℝ) : EReal))
    (hk : ∀ (r : Fin 256) d, k (ix3 0 r d) = ((kk (o + r.val) d : ℝ) : EReal)) (r : Fin 256) (c : Fin 512) :
    score (F := Ideal) k v (ix2 r c) = ((sc kk q (o + r.val) c : ℝ) : EReal) := by
  rw [score_apply, sc, ← coe_sum]
  refine Finset.sum_congr rfl fun d _ => ?_
  rw [hk, hq d c, EReal.coe_mul]

/-- The first chunk's scores for the next tile. -/
theorem next_scores (E : Env arg5 arg6 X5 X6 kk W) (hn : ∀ d c, (runLater.sl.v327 (F := Ideal) arg4 arg10 X4) (ix2 d c) = ((q d c : ℝ) : EReal)) :
    (∀ (r : Fin 256) c, (runLater.sl.v331 (F := Ideal) arg4 arg5 arg10 X4 X5) (ix2 r c) = ((sc kk q (r.val) c : ℝ) : EReal))
    ∧ (∀ (r : Fin 256) c, (runLater.sl.v352 (F := Ideal) arg4 arg5 arg10 X4 X5) (ix2 r c) = ((sc kk q (256 + r.val) c : ℝ) : EReal))
    ∧ (∀ (r : Fin 256) c, (runLater.sl.v375 (F := Ideal) arg4 arg5 arg10 X4 X5) (ix2 r c) = ((sc kk q (512 + r.val) c : ℝ) : EReal))
    ∧ (∀ (r : Fin 256) c, (runLater.sl.v398 (F := Ideal) arg4 arg5 arg10 X4 X5) (ix2 r c) = ((sc kk q (768 + r.val) c : ℝ) : EReal))
    ∧ (∀ (r : Fin 256) c, (runLater.sl.v421 (F := Ideal) arg4 arg5 arg10 X4 X5) (ix2 r c) = ((sc kk q (1024 + r.val) c : ℝ) : EReal)) := by
  have g : ∀ (o : ℕ) (w : FVec Ideal S256x512 .f32) (h : ∀ a, (![0, 0 + o, 0] : Fin 3 → ℕ) a + S1x256x128.size a ≤ S1x16640x128.size a),
      0 + o + 256 ≤ 16640 →
      w = shapeCast S256x512 (score (F := Ideal) (kblk arg5 X5 ![0, 0 + o, 0] h) (runLater.sl.v327 (F := Ideal) arg4 arg10 X4)) (by rfl) →
      ∀ (r : Fin 256) c, w (ix2 r c) = ((sc kk q (0 + (o + r.val)) c : ℝ) : EReal) := by
    intro o w h hb hw r c
    rw [hw, shapeCast_self, score_table hn (key_real E (off := ![0, 0 + o, 0]) (o := 0 + o) rfl hb)]
    congr 2
    omega
  exact ⟨fun r c => (g 0 _ inb_S1x16640x128_S1x256x128_0_0_0 (by omega) rfl r c).trans (by congr 2; omega),
    fun r c => (g 256 _ inb_S1x16640x128_S1x256x128_0_256_0 (by omega) rfl r c).trans (by congr 2; omega),
    fun r c => (g 512 _ inb_S1x16640x128_S1x256x128_0_512_0 (by omega) rfl r c).trans (by congr 2; omega),
    fun r c => (g 768 _ inb_S1x16640x128_S1x256x128_0_768_0 (by omega) rfl r c).trans (by congr 2; omega),
    fun r c => (g 1024 _ inb_S1x16640x128_S1x256x128_0_1024_0 (by omega) rfl r c).trans (by congr 2; omega)⟩

theorem next_colMax (E : Env arg5 arg6 X5 X6 kk W) (hn : ∀ d c, (runLater.sl.v327 (F := Ideal) arg4 arg10 X4) (ix2 d c) = ((q d c : ℝ) : EReal)) (a : Fin 32) (c : Fin 512) :
    ∃ x : ℝ, (runLater.sl.v424 (F := Ideal) arg4 arg5 arg10 X4 X5) (ix2 a c) = (x : EReal) := by
  obtain ⟨e0, e1, e2, e3, e4⟩ := next_scores arg4 arg5 arg6 arg10 X4 X5 X6 kk q W E hn
  have s0 : (runLater.sl.v331 (F := Ideal) arg4 arg5 arg10 X4 X5) = (runLater.sl.v328 (F := Ideal) arg4 arg5 arg10 X4 X5) := shapeCast_self _ _
  have s1 : (runLater.sl.v352 (F := Ideal) arg4 arg5 arg10 X4 X5) = (runLater.sl.v349 (F := Ideal) arg4 arg5 arg10 X4 X5) := shapeCast_self _ _
  have s2 : (runLater.sl.v375 (F := Ideal) arg4 arg5 arg10 X4 X5) = (runLater.sl.v372 (F := Ideal) arg4 arg5 arg10 X4 X5) := shapeCast_self _ _
  have s3 : (runLater.sl.v398 (F := Ideal) arg4 arg5 arg10 X4 X5) = (runLater.sl.v395 (F := Ideal) arg4 arg5 arg10 X4 X5) := shapeCast_self _ _
  have s4 : (runLater.sl.v421 (F := Ideal) arg4 arg5 arg10 X4 X5) = (runLater.sl.v418 (F := Ideal) arg4 arg5 arg10 X4 X5) := shapeCast_self _ _
  rw [s0] at e0; rw [s1] at e1; rw [s2] at e2; rw [s3] at e3; rw [s4] at e4
  exact max5_real _ _ _ _ _ (fun r c => ⟨_, e0 r c⟩) (fun r c => ⟨_, e1 r c⟩) (fun r c => ⟨_, e2 r c⟩) (fun r c => ⟨_, e3 r c⟩)
    (fun r c => ⟨_, e4 r c⟩) a c

end

end Cert.KernelIdeal.Later
-- ==== Proof.Value.First.lean ====
/- The grid's first point of a head: it first prepares the head's first tile, then does what every other point does. -/
module

public import proofs.«01_k».proof.Proof.Value.Later

@[expose] public section

set_option maxRecDepth 16384

noncomputable section

namespace Cert.KernelIdeal.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open Cert.KernelIdeal.Run (Held)

/-- What only the first point of a head does: the first tile's block of queries, its scores against the first chunk of keys, and
    their maxima. -/
def opening (i : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole) :
    Prog (TpuEff nD τ sig (Elt F) Λ₀ .tc) PUnit := do
  let ⟨v504, v508, v509⟩ : Σ' (v504 : FVec F S32x512 .f32) (v508 : FVec F S256x128 .bf16), Vec F S128x512 .bf16 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16
  let v540 : FVec F S32x512 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 v504 v508 v509
  let v543 : Vec F S1x256x128 .bf16 ← Prog.lift (.load arg5 (Rect.unit (s := S1x16640x128) ![0, 1024, 0] S1x256x128.size inb_S1x16640x128_S1x256x128_0_1024_0).toLoadRect (View.loadsAt_vmem h_S1x256x128))
  let v545 : Vec F S128x512 .bf16 ← Prog.lift (.load arg9 (Rect.unit (s := S128x512) ![0, 0] S128x512.size inb_S128x512_S128x512_0_0).toLoadRect (View.loadsAt_vmem h_S128x512))
  let v547 : Vec F S256x512 .f32 ← Prog.lift (.load arg13 (Rect.unit (s := S1280x512) ![1024, 0] S256x512.size inb_S1280x512_S256x512_1024_0).toLoadRect (View.loadsAt_vmem h_S256x512))
  Prog.lift (.store arg13 (Rect.unit (s := S1280x512) ![1024, 0] S256x512.size inb_S1280x512_S256x512_1024_0) (k0_pay64 v543 v545) Finset.univ (View.stores_vmem_bits_univ h_S256x512 rfl) (.inl rfl))
  let v553 : Vec F S32x512 .f32 ← Prog.lift (.load arg15 (Rect.unit (s := S32x512) ![0, 0] S32x512.size inb_S32x512_S32x512_0_0).toLoadRect (View.loadsAt_vmem h_S32x512))
  Prog.lift (.store arg15 (Rect.unit (s := S32x512) ![0, 0] S32x512.size inb_S32x512_S32x512_0_0) (k0_pay65 v540 v543 v545) Finset.univ (View.stores_vmem_bits_univ h_S32x512 rfl) (.inl rfl))
  pure ⟨⟩

set_option maxHeartbeats 4000000 in
/-- A head's first point is the opening followed by the body of any other point. -/
theorem body_eq (i i' : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole) (hc : k0_cond1 i = 1#1) (hc' : ¬ k0_cond1 i' = 1#1) :
    cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = (opening i arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => cc0_diff_attn i' arg2 harg2 arg3 harg3 arg4 harg4 arg5 harg5 arg6 harg6 arg7 harg7 arg8 harg8 arg9 harg9 arg10 harg10 arg11 harg11 arg12 harg12 arg13 harg13 arg14 harg14 arg15 harg15 arg16 harg16) := by
  simp only [cc0_diff_attn_eq_skeleton]; unfold cc0_diff_attn_skel
  simp only [k0_part27_eq_skeleton]; unfold k0_part27_skel
  simp only [k0_part13_eq_skeleton]; unfold k0_part13_skel
  rw [dif_pos hc, dif_neg hc']
  simp only [opening, bind_assoc, pure_bind]
  rfl

set_option maxHeartbeats 4000000 in
/-- The opening's run, as `runLater` is the run of the rest. -/
@[irreducible] def runOpening (c : Dev nD) (i : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    Σ' (_G8 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg8.view.ty), Σ' (_G9 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg9.view.ty), Σ' (_G10 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg10.view.ty), Σ' (_G11 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg11.view.ty), Σ' (_G12 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg12.view.ty), Σ' (_G13 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg13.view.ty), Σ' (_G14 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg14.view.ty), Σ' (_G15 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg15.view.ty), { _G16 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg16.view.ty //
      ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
        Held (F := F) c arg2 arg3 arg4 arg5 arg6 arg7 arg8 arg9 arg10 arg11 arg12 arg13 arg14 arg15 arg16 X2 X3 X4 X5 X6 X7 f8 f9 f10 f11 f12 f13 f14 f15 f16
        ⊢ wp frame (wpE (defs₀ (F := F)) Variants.none (c : Thread nD τ) none) E (opening i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => Held (F := F) c arg2 arg3 arg4 arg5 arg6 arg7 arg8 arg9 arg10 arg11 arg12 arg13 arg14 arg15 arg16 X2 X3 X4 X5 X6 X7 (_G8 f8 f9 f10 f11 f12 f13 f14 f15 f16) (_G9 f8 f9 f10 f11 f12 f13 f14 f15 f16) (_G10 f8 f9 f10 f11 f12 f13 f14 f15 f16) (_G11 f8 f9 f10 f11 f12 f13 f14 f15 f16) (_G12 f8 f9 f10 f11 f12 f13 f14 f15 f16) (_G13 f8 f9 f10 f11 f12 f13 f14 f15 f16) (_G14 f8 f9 f10 f11 f12 f13 f14 f15 f16) (_G15 f8 f9 f10 f11 f12 f13 f14 f15 f16) (_G16 f8 f9 f10 f11 f12 f13 f14 f15 f16)) } := by
  refine ⟨?_, ?_, ?_, ?_, ?_, ?_, ?_, ?_, ?_, fun E f8 f9 f10 f11 f12 f13 f14 f15 f16 => ?run⟩
  case run =>
    unfold opening
    iintro ⟨H2, H3, H4, H5, H6, H7, H8, H9, H10, H11, H12, H13, H14, H15, H16⟩
    set_option sl_exec.squeezeSlice true in
    sl_exec
    sl_step
    sl_close

end Cert.KernelIdeal.First

end
-- ==== Proof.Value.Out.lean ====
/- What a tile's block of queries is, and what its block of the result is, as tables of reals. -/
module

public import proofs.«01_k».proof.Proof.Value.First

@[expose] public section

set_option maxRecDepth 16384
set_option maxHeartbeats 1000000

noncomputable section

namespace Cert.KernelIdeal.Out

open Idealize.ShloMosaic Idealize.ShloMosaic.TcCoe
open Cert.KernelIdeal.Gen Cert.KernelIdeal.Step Cert.KernelIdeal.Mem Cert.KernelIdeal.Trip Cert.KernelIdeal.Run
open Finset (range)

/-! ## The block of queries -/

/-- The scale of the scores, for weights which are powers of two. -/
def scale : ℝ := (8 * Real.log 2)⁻¹

/-- A tile's 256 queries, laid out as 512 columns: the first 256 hold the queries' first halves over zeros, the other 256 zeros
    over the second halves. -/
def diag (qt : Fin 128 → Fin 256 → ℝ) (d : Fin 128) (c : Fin 512) : ℝ :=
  if h : c.val < 256 then (if d.val < 64 then qt d ⟨c.val, h⟩ * scale else 0)
  else (if d.val < 64 then 0 else qt d ⟨c.val - 256, by omega⟩ * scale)

theorem scale_word : (Named.named (F := Ideal) (φ := .f32) κ "scale_log2e" 0x3E38AA3B#32 : EReal) = ((scale : ℝ) : EReal) := rfl

theorem below (d : Fin 128) : IntOp.cmpi .slt (BitVec.ofNat 32 d.val) 64#32 = if d.val < 64 then 1#1 else 0#1 := by
  revert d; decide +kernel

theorem above (d : Fin 128) : IntOp.cmpi .sge (BitVec.ofNat 32 d.val) 64#32 = if d.val < 64 then 0#1 else 1#1 := by
  revert d; decide +kernel

theorem block_diag (x : Vec Ideal S128x256 .bf16) (qt : Fin 128 → Fin 256 → ℝ) (h : ∀ d j, x (ix2 d j) = ((qt d j : ℝ) : EReal))
    (d : Fin 128) (c : Fin 512) : k0_pay66 (F := Ideal) x (ix2 d c) = ((diag qt d c : ℝ) : EReal) := by
  pointwise [k0_pay66]
  rw [below, above, scale_word, diag]
  by_cases hd : d.val < 64 <;> by_cases hc : c.val < 256 <;> simp [Scalar.select, hd, hc, h]

/-! ## The block of the result -/

/-- A column's average of the values under the weights of its scores. -/
def quot (S : ℕ → Fin 512 → ℝ) (W : Fin 144 → ℕ → ℝ) (e : Fin 144) (c : Fin 512) : ℝ :=
  (∑ k ∈ range 16640, W e k * Real.rpow 2 (S k c)) / ∑ k ∈ range 16640, Real.rpow 2 (S k c)

/-- The difference of the two averages of a query. -/
def dif (S : ℕ → Fin 512 → ℝ) (W : Fin 144 → ℕ → ℝ) (lam : ℝ) (r : Fin 256) (e : Fin 128) : ℝ :=
  quot S W ⟨e.val, by omega⟩ ⟨r.val, by omega⟩ - lam * quot S W ⟨e.val, by omega⟩ ⟨256 + r.val, by omega⟩

/-- A row divided by its root mean square, times the gains and the last constant. -/
def norm (o : Fin 128 → ℝ) (g : Fin 128 → EReal) (e : Fin 128) : EReal :=
  ((o e : ℝ) : EReal) * Ideal.rsqrt (Ideal.div ((∑ e', o e' * o e' : ℝ) : EReal) (Ideal.ofBits .f32 0x43000000#32) + Ideal.ofBits .f32 0x3727C5AC#32)
    * g e * Ideal.ofBits .f32 0x3F4CCCCD#32

theorem div_real {x y : ℝ} (hy : y ≠ 0) : Ideal.div (x : EReal) (y : EReal) = ((x / y : ℝ) : EReal) := by
  rw [Ideal.div_coe hy, ← EReal.coe_mul, mul_one_div]

theorem quot_eq {S : ℕ → Fin 512 → ℝ} {W : Fin 144 → ℕ → ℝ} {m : S1x512.Idx → EReal} {acc : S144x512.Idx → EReal}
    (h : AccGood S W 13 m acc) (hW : ∀ k, k < 16640 → W 128 k = 1) (e : Fin 144) (c : Fin 512) :
    Ideal.div (acc (ix2 e c)) (acc (ix2 128 c)) = ((quot S W e c : ℝ) : EReal) := by
  rcases h with ⟨h, -⟩ | ⟨μ, -, h⟩
  · omega
  have f : ∀ e', (∑ k ∈ range (1280 * 13), W e' k * Real.rpow 2 (S k c - μ c))
      = (∑ k ∈ range 16640, W e' k * Real.rpow 2 (S k c)) * (Real.rpow 2 (μ c))⁻¹ := by
    intro e'
    rw [Finset.sum_mul]
    refine Finset.sum_congr rfl fun k _ => ?_
    have : Real.rpow 2 (S k c - μ c) = Real.rpow 2 (S k c) / Real.rpow 2 (μ c) := Real.rpow_sub two_pos _ _
    rw [this, div_eq_mul_inv, mul_assoc]
  have hμ : (Real.rpow 2 (μ c))⁻¹ ≠ 0 := inv_ne_zero (Real.rpow_pos_of_pos two_pos _).ne'
  have g : (∑ k ∈ range 16640, W 128 k * Real.rpow 2 (S k c)) = ∑ k ∈ range 16640, Real.rpow 2 (S k c) :=
    Finset.sum_congr rfl fun k hk => by rw [hW k (Finset.mem_range.mp hk), one_mul]
  have hp : (∑ k ∈ range 16640, Real.rpow 2 (S k c)) ≠ 0 :=
    (Finset.sum_pos (fun k _ => Real.rpow_pos_of_pos two_pos _) ⟨0, by simp⟩).ne'
  rw [h, h, f e, f 128, g, div_real (mul_ne_zero hp hμ), mul_div_mul_right _ _ hμ, quot]

theorem norm_block {S : ℕ → Fin 512 → ℝ} {W : Fin 144 → ℕ → ℝ} {lam : ℝ} (a : Vec Ideal S128x512 .f32) (b : Vec Ideal S1x512 .f32)
    (l : EReal) (g : Vec Ideal S128x1 .f32)
    (h : ∀ (e : Fin 128) c, Ideal.div (a (ix2 e c)) (b (ix2 0 c)) = ((quot S W ⟨e.val, by omega⟩ c : ℝ) : EReal)) (hl : l = ((lam : ℝ) : EReal))
    (r : Fin 256) (e : Fin 128) :
    k0_pay148 (F := Ideal) a b l g (ix2 r e) = norm (dif S W lam r) (fun e => g (ix2 e 0)) e := by
  have d : ∀ e : Fin 128, Ideal.div (a (ix2 e ⟨r.val, by omega⟩)) (b (ix2 0 ⟨r.val, by omega⟩)) - l * Ideal.div (a (ix2 e ⟨256 + r.val, by omega⟩)) (b (ix2 0 ⟨256 + r.val, by omega⟩))
      = ((dif S W lam r e : ℝ) : EReal) := by
    intro e
    rw [h, h, hl, ← EReal.coe_mul, ← EReal.coe_sub, dif]
  pointwise [k0_pay148]
  simp only [d, ← EReal.coe_mul, coe_sum]
  rfl

end Cert.KernelIdeal.Out
-- ==== Proof.Value.Point.lean ====
/- One grid point in terms of tables of reals: the result's block, and what is carried to the next point. -/
module

public import proofs.«01_k».proof.Proof.Value.Out

@[expose] public section

set_option maxRecDepth 16384
set_option maxHeartbeats 1000000

noncomputable section

namespace Cert.KernelIdeal.Point

open Idealize.ShloMosaic Idealize.ShloMosaic.TcCoe
open Cert.KernelIdeal.Gen Cert.KernelIdeal.Step Cert.KernelIdeal.Mem Cert.KernelIdeal.Trip Cert.KernelIdeal.Run
open Cert.KernelIdeal.Later Cert.KernelIdeal.Out
open Finset (range)

/-- What one point leaves for the next: a tile's block of queries, its scores against the first chunk of keys, and real numbers for
    their maxima. -/
structure Carry (kk : ℕ → Fin 128 → ℝ) (q : Fin 128 → Fin 512 → ℝ) (d9 : S128x512.Idx → EReal) (d13 : S1280x512.Idx → EReal)
    (d15 : S32x512.Idx → EReal) : Prop where
  block : ∀ d c, d9 (ix2 d c) = ((q d c : ℝ) : EReal)
  scores : ∀ (R : Fin 1280) c, d13 (ix2 R c) = ((sc kk q R.val c : ℝ) : EReal)
  maxima : ∀ a c, ∃ x : ℝ, d15 (ix2 a c) = (x : EReal)

section

variable (dv : Dev nD) (i : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole)
  (X2 : BufTy.Contents (Elt Ideal) arg2.view.ty) (X3 : BufTy.Contents (Elt Ideal) arg3.view.ty)
  (X4 : BufTy.Contents (Elt Ideal) arg4.view.ty)
  (X5 : BufTy.Contents (Elt Ideal) arg5.view.ty) (X6 : BufTy.Contents (Elt Ideal) arg6.view.ty)
  (X7 : BufTy.Contents (Elt Ideal) arg7.view.ty)
  (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty)
  (kk : ℕ → Fin 128 → ℝ) (q : Fin 128 → Fin 512 → ℝ) (qt : Fin 128 → Fin 256 → ℝ) (W : Fin 144 → ℕ → ℝ)

/-- The result's block. -/
theorem later_block (hc : ¬ k0_cond1 i = 1#1) (lam : ℝ) (E : Env arg5 arg6 X5 X6 kk W) (hW : ∀ k, k < 16640 → W 128 k = 1)
    (hl : ∀ x, arg2.view.read (Elt Ideal) X2 x = ((lam : ℝ) : EReal))
    (C : Carry kk q (arg9.view.read (Elt Ideal) f9) (arg13.view.read (Elt Ideal) f13) (arg15.view.read (Elt Ideal) f15))
    (r : Fin 256) (e : Fin 128) :
    arg8.view.read (Elt Ideal) ((Run.runLater (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 X5 X6 X7).1 f8 f9 f10 f11 f12 f13 f14 f15 f16) (ix2 r e)
      = norm (dif (sc kk q) W lam r) (fun e => arg7.view.read (Elt Ideal) X7 (ix2 e 0)) e := by
  have A := last_good dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16 kk q W E C.block C.scores C.maxima
  have a : ∀ (e : Fin 128) c, (runLater.sl.v446 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (ix2 e c) = (runLater.sl.v435 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (ix2 ⟨e.val, by omega⟩ c) := fun e c =>
    (unit_apply arg12.view _ (ix2 e c) (ix2 ⟨e.val, by omega⟩ c) (by intro a; fin_cases a <;> exact (Nat.zero_add _).symm)).trans
      (congrFun (whole2_writes arg12.view _ _ _) _)
  have b : ∀ c, (runLater.sl.v447 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (ix2 0 c) = (runLater.sl.v435 (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 f9 f13 f14 f15 f16) (ix2 128 c) := fun c =>
    (unit_apply arg12.view _ (ix2 0 c) (ix2 128 c) (by intro a; fin_cases a <;> first | rfl | exact (Nat.zero_add _).symm)).trans
      (congrFun (whole2_writes arg12.view _ _ _) _)
  have l : (runLater.sl.r_6 (F := Ideal) arg2 X2) = ((lam : ℝ) : EReal) :=
    (unit_apply arg2.view X2 _ (ix1 0) (by intro a; fin_cases a; rfl)).trans (hl _)
  unfold Run.runLater
  refine (congrFun (whole2_writes arg8.view _ _ []) _).trans ?_
  refine (norm_block (S := sc kk q) (W := W) (lam := lam) _ _ _ _ (fun e c => ?_) l r e).trans ?_
  · rw [a, b]
    exact quot_eq A hW _ _
  · have g : View.readAt (Elt Ideal) arg7.view (Rect.unit ![0, 0] S128x1.size inb_S128x1_S128x1_0_0).toLoadRect X7 = arg7.view.read (Elt Ideal) X7 :=
      whole2_apply arg7.view X7
    rw [g]

/-- What is carried to the next point. -/
theorem later_carry (hc : ¬ k0_cond1 i = 1#1) (E : Env arg5 arg6 X5 X6 kk W)
    (hq : ∀ d j, arg4.view.read (Elt Ideal) X4 (ix2 d j) = ((qt d j : ℝ) : EReal)) :
    Carry kk (diag qt) (arg9.view.read (Elt Ideal) ((Run.runLater (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 X5 X6 X7).2.1 f8 f9 f10 f11 f12 f13 f14 f15 f16)) (arg13.view.read (Elt Ideal) ((Run.runLater (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 X5 X6 X7).2.2.2.2.2.1 f8 f9 f10 f11 f12 f13 f14 f15 f16))
      (arg15.view.read (Elt Ideal) ((Run.runLater (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 X5 X6 X7).2.2.2.2.2.2.2.1 f8 f9 f10 f11 f12 f13 f14 f15 f16)) := by
  have hn : ∀ d c, (runLater.sl.v327 (F := Ideal) arg4 arg10 X4) (ix2 d c) = ((diag qt d c : ℝ) : EReal) := by
    intro d c
    rw [block_eq]
    refine block_diag _ qt (fun d j => ?_) d c
    exact (congrFun (whole2_apply arg4.view X4) _).trans (hq d j)
  obtain ⟨e0, e1, e2, e3, e4⟩ := next_scores arg4 arg5 arg6 arg10 X4 X5 X6 kk (diag qt) W E hn
  have hm := next_colMax arg4 arg5 arg6 arg10 X4 X5 X6 kk (diag qt) W E hn
  unfold Run.runLater
  dsimp only
  constructor
  · intro d c
    refine (congrFun (whole2_writes arg9.view _ _ []) _).trans ?_
    exact (congrFun (shapeCast_self _ _) _).trans (hn d c)
  · intro R c
    exact rows_five (Val := Elt Ideal) arg13.view _ _ _ _ _ _ [] (fun R c => ((sc kk (diag qt) R c : ℝ) : EReal)) e0 e1 e2 e3 e4 R c
  · intro a c
    obtain ⟨x, hx⟩ := hm a c
    exact ⟨x, ((congrFun (whole2_writes arg15.view _ _ []) _).trans (congrFun (shapeCast_self _ _) _)).trans hx⟩

/-- What the opening of a head prepares. -/
theorem opening_carry (E : Env arg5 arg6 X5 X6 kk W)
    (hq : ∀ d j, arg3.view.read (Elt Ideal) X3 (ix2 d j) = ((qt d j : ℝ) : EReal)) :
    Carry kk (diag qt) (arg9.view.read (Elt Ideal) ((First.runOpening (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7).2.1 f8 f9 f10 f11 f12 f13 f14 f15 f16)) (arg13.view.read (Elt Ideal) ((First.runOpening (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7).2.2.2.2.2.1 f8 f9 f10 f11 f12 f13 f14 f15 f16))
      (arg15.view.read (Elt Ideal) ((First.runOpening (F := Ideal) dv i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7).2.2.2.2.2.2.2.1 f8 f9 f10 f11 f12 f13 f14 f15 f16)) := by
  have hb : ∀ d c, k0_pay1 (F := Ideal) (View.readAt (Elt Ideal) arg3.view (Rect.unit ![0, 0] S128x256.size inb_S128x256_S128x256_0_0).toLoadRect X3) (ix2 d c)
      = ((diag qt d c : ℝ) : EReal) := fun d c =>
    block_diag _ qt (fun d j => (congrFun (whole2_apply arg3.view X3) _).trans (hq d j)) d c
  have v : (First.runOpening.sl.v498 (F := Ideal) arg3 arg9 X3) = k0_pay1 (F := Ideal) (View.readAt (Elt Ideal) arg3.view (Rect.unit ![0, 0] S128x256.size inb_S128x256_S128x256_0_0).toLoadRect X3) :=
    (whole2_apply arg9.view _).trans (whole2_writes arg9.view _ _ [])
  have hn : ∀ d c, (First.runOpening.sl.v498 (F := Ideal) arg3 arg9 X3) (ix2 d c) = ((diag qt d c : ℝ) : EReal) := fun d c => by rw [v]; exact hb d c
  have g : ∀ (o : ℕ) (h : ∀ a, (![0, o, 0] : Fin 3 → ℕ) a + S1x256x128.size a ≤ S1x16640x128.size a), o + 256 ≤ 16640 →
      ∀ (r : Fin 256) c, score (F := Ideal) (kblk arg5 X5 ![0, o, 0] h) (First.runOpening.sl.v498 (F := Ideal) arg3 arg9 X3) (ix2 r c) = ((sc kk (diag qt) (o + r.val) c : ℝ) : EReal) :=
    fun o h hb r c => score_table hn (key_real E (off := ![0, o, 0]) (o := o) rfl hb) r c
  have s0 := g 0 inb_S1x16640x128_S1x256x128_0_0_0 (by omega)
  have s1 := g 256 inb_S1x16640x128_S1x256x128_0_256_0 (by omega)
  have s2 := g 512 inb_S1x16640x128_S1x256x128_0_512_0 (by omega)
  have s3 := g 768 inb_S1x16640x128_S1x256x128_0_768_0 (by omega)
  have s4 := g 1024 inb_S1x16640x128_S1x256x128_0_1024_0 (by omega)
  simp only [Nat.zero_add] at s0
  unfold First.runOpening
  dsimp only
  constructor
  · intro d c
    exact (congrFun (whole2_writes arg9.view _ _ []) _).trans (hb d c)
  · intro R c
    exact rows_five (Val := Elt Ideal) arg13.view _ _ _ _ _ _ [] (fun R c => ((sc kk (diag qt) R c : ℝ) : EReal))
      (fun r c => (congrFun (shapeCast_self _ _) _).trans (s0 r c)) (fun r c => (congrFun (shapeCast_self _ _) _).trans (s1 r c))
      (fun r c => (congrFun (shapeCast_self _ _) _).trans (s2 r c)) (fun r c => (congrFun (shapeCast_self _ _) _).trans (s3 r c))
      (fun r c => (congrFun (shapeCast_self _ _) _).trans (s4 r c)) R c
  · intro a c
    obtain ⟨x, hx⟩ := max5_real _ _ _ _ _ (fun r c => ⟨_, s0 r c⟩) (fun r c => ⟨_, s1 r c⟩) (fun r c => ⟨_, s2 r c⟩) (fun r c => ⟨_, s3 r c⟩)
      (fun r c => ⟨_, s4 r c⟩) a c
    exact ⟨x, ((congrFun (whole2_writes arg15.view _ _ []) _).trans (congrFun (shapeCast_self _ _) _)).trans hx⟩

end

end Cert.KernelIdeal.Point
-- ==== Proof.Value.Wp.lean ====
/- The kernel body at one grid point, from what the point is given to what it leaves, in terms of tables of reals. -/
module

public import proofs.«01_k».proof.Proof.Value.Point
public import Idealize.ShloMosaic.Lib.Claim

@[expose] public section

set_option maxRecDepth 16384

noncomputable section

namespace Cert.KernelIdeal.Wp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.KernelIdeal.Step Cert.KernelIdeal.Mem Cert.KernelIdeal.Trip
open Cert.KernelIdeal.Later Cert.KernelIdeal.Out Cert.KernelIdeal.Point

local notation "𝕄" => MT nD τ sig Unit (Elt Ideal) ℕ (UR sig nD τ) ℕ

/-- The result's block of a tile. -/
def block (S : ℕ → Fin 512 → ℝ) (W : Fin 144 → ℕ → ℝ) (lam : ℝ) (g : Fin 128 → EReal) : S256x128.Idx → EReal :=
  fun x => norm (dif S W lam (x 0)) g (x 1)

theorem block_read {S : ℕ → Fin 512 → ℝ} {W : Fin 144 → ℕ → ℝ} {lam : ℝ} {g : Fin 128 → EReal} {y : S256x128.Idx → EReal}
    (h : ∀ r e, y (ix2 r e) = norm (dif S W lam r) g e) : y = block S W lam g := by
  funext x
  idx_vars x
  exact h _ _

set_option maxHeartbeats 4000000 in
/-- One point. Its operands are tables of reals; at a head's first point it makes its own tile's scores, and at any other
    finds them; it leaves the tile's block of the result, and the next tile's scores. -/
theorem point (c : Dev nD) (i : grid0.Coords) (arg2 : Memref sig .tc .smem S1 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S1x16640x128 .bf16) (harg5 : arg5.IsWhole) (arg6 : Memref sig .tc .vmem S1x13x144x1280 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S144x512 .f32) (harg12 : arg12.IsWhole) (arg13 : Memref sig .tc .vmem S1280x512 .f32) (harg13 : arg13.IsWhole) (arg14 : Memref sig .tc .vmem S2x1280x512 .f32) (harg14 : arg14.IsWhole) (arg15 : Memref sig .tc .vmem S32x512 .f32) (harg15 : arg15.IsWhole) (arg16 : Memref sig .tc .vmem S2x32x512 .f32) (harg16 : arg16.IsWhole)
    (x2 : Vec Ideal S1 .f32) (x3 : Vec Ideal S128x256 .bf16) (x4 : Vec Ideal S128x256 .bf16) (x5 : Vec Ideal S1x16640x128 .bf16)
    (x6 : Vec Ideal S1x13x144x1280 .bf16) (x7 : Vec Ideal S128x1 .f32)
    (kk : ℕ → Fin 128 → ℝ) (qt qn : Fin 128 → Fin 256 → ℝ) (W : Fin 144 → ℕ → ℝ) (lam : ℝ)
    (i' : grid0.Coords) (hi' : ¬ k0_cond1 i' = 1#1)
    (h2 : ∀ x, x2 x = ((lam : ℝ) : EReal)) (h3 : ∀ d j, x3 (ix2 d j) = ((qt d j : ℝ) : EReal))
    (h4 : ∀ d j, x4 (ix2 d j) = ((qn d j : ℝ) : EReal))
    (h5 : ∀ (R : Fin 16640) d, x5 (ix3 0 R d) = ((kk R.val d : ℝ) : EReal))
    (h6 : ∀ (n : Fin 13) e (R : Fin 1280), x6 (ix4 0 n e R) = ((W e (1280 * n.val + R.val) : ℝ) : EReal))
    (hW : ∀ k, k < 16640 → W 128 k = 1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ (∃ d, owns (c : Thread nD τ) arg16 fullShare d)
        ∗ (∃ d9, ∃ d13, ∃ d15, ⌜¬ k0_cond1 i = 1#1 → Carry kk (diag qt) d9 d13 d15⌝ ∗ owns (c : Thread nD τ) arg9 fullShare d9 ∗ owns (c : Thread nD τ) arg13 fullShare d13 ∗ owns (c : Thread nD τ) arg15 fullShare d15)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (block (sc kk (diag qt)) W lam fun e => x7 (ix2 e 0)) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ (∃ d, owns (c : Thread nD τ) arg16 fullShare d)
        ∗ (∃ d9, ∃ d13, ∃ d15, ⌜Carry kk (diag qn) d9 d13 d15⌝ ∗ owns (c : Thread nD τ) arg9 fullShare d9 ∗ owns (c : Thread nD τ) arg13 fullShare d13 ∗ owns (c : Thread nD τ) arg15 fullShare d15)) -∗ K ⟨⟩))
      ⊢ wp frame (wpE (defs₀ (F := Ideal)) Variants.none (c : Thread nD τ) none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d10, %f10, -, H10⟩, ⟨%d11, %f11, -, H11⟩, ⟨%d12, %f12, -, H12⟩, ⟨%d14, %f14, -, H14⟩, ⟨%d16, %f16, -, H16⟩, ⟨%d9, %d13, %d15, %hC, ⟨%f9, %hf9, H9⟩, ⟨%f13, %hf13, H13⟩, ⟨%f15, %hf15, H15⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  subst hf9 hf13 hf15
  have Ev : Env arg5 arg6 (harg5.unread x5) (harg6.unread x6) kk W :=
    ⟨fun R d => (congrFun (harg5.read_unread _) _).trans (h5 R d), fun n e R => (congrFun (harg6.read_unread _) _).trans (h6 n e R)⟩
  by_cases hc : k0_cond1 i = 1#1
  · have C := opening_carry c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) f8 f9 f10 f11 f12 f13 f14 f15 f16 kk qt W Ev
      (fun d j => (congrFun (harg3.read_unread _) _).trans (h3 d j))
    rw [First.body_eq i i' arg2 harg2 arg3 harg3 arg4 harg4 arg5 harg5 arg6 harg6 arg7 harg7 arg8 harg8 arg9 harg9 arg10 harg10 arg11 harg11 arg12 harg12 arg13 harg13 arg14 harg14 arg15 harg15 arg16 harg16 hc hi', wp_bind]
    iapply wp_wand $$ [H2 H3 H4 H5 H6 H7 H8 H9 H10 H11 H12 H13 H14 H15 H16]
    · iapply ((First.runOpening (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7)).2.2.2.2.2.2.2.2.2 E f8 f9 f10 f11 f12 f13 f14 f15 f16)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %v ⟨H2, H3, H4, H5, H6, H7, H8, H9, H10, H11, H12, H13, H14, H15, H16⟩
    iapply wp_wand $$ [H2 H3 H4 H5 H6 H7 H8 H9 H10 H11 H12 H13 H14 H15 H16]
    · iapply ((Run.runLater (F := Ideal) c i' arg2 harg2 arg3 harg3 arg4 harg4 arg5 harg5 arg6 harg6 arg7 harg7 arg8 harg8 arg9 harg9 arg10 harg10 arg11 harg11 arg12 harg12 arg13 harg13 arg14 harg14 arg15 harg15 arg16 harg16 hi' (harg2.unread x2) (harg3.unread x3) (harg4.unread x4) (harg5.unread x5) (harg6.unread x6) (harg7.unread x7)).2.2.2.2.2.2.2.2.2 E _ _ _ _ _ _ _ _ _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %u ⟨H2, H3, H4, H5, H6, H7, H8, H9, H10, H11, H12, H13, H14, H15, H16⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      exact block_read (fun r e => (later_block c i' arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) _ _ _ _ _ _ _ _ _ kk (diag qt) W hi' lam Ev hW (fun x => (congrFun (harg2.read_unread _) x).trans (h2 x)) C r e).trans (by rw [harg7.read_unread]))
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H14]
    · iexists _, _; isplitr; swap; · iexact H14
      ipureintro; rfl
    isplitl [H16]
    · iexists _, _; isplitr; swap; · iexact H16
      ipureintro; rfl
    iexists _, _, _
    isplitr; swap
    · isplitl [H9]
      · iexists _; isplitr; swap; · iexact H9
        ipureintro; rfl
      isplitl [H13]
      · iexists _; isplitr; swap; · iexact H13
        ipureintro; rfl
      iexists _; isplitr; swap; · iexact H15
      ipureintro; rfl
    ipureintro
    exact later_carry c i' arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) _ _ _ _ _ _ _ _ _ kk qn W hi' Ev (fun d j => (congrFun (harg4.read_unread _) _).trans (h4 d j))
  · have C := hC hc
    iapply wp_wand $$ [H2 H3 H4 H5 H6 H7 H8 H9 H10 H11 H12 H13 H14 H15 H16]
    · iapply ((Run.runLater (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc (harg2.unread x2) (harg3.unread x3) (harg4.unread x4) (harg5.unread x5) (harg6.unread x6) (harg7.unread x7)).2.2.2.2.2.2.2.2.2 E f8 f9 f10 f11 f12 f13 f14 f15 f16)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %u ⟨H2, H3, H4, H5, H6, H7, H8, H9, H10, H11, H12, H13, H14, H15, H16⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      exact block_read (fun r e => (later_block c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) _ _ _ _ _ _ _ _ _ kk (diag qt) W hc lam Ev hW (fun x => (congrFun (harg2.read_unread _) x).trans (h2 x)) C r e).trans (by rw [harg7.read_unread]))
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H14]
    · iexists _, _; isplitr; swap; · iexact H14
      ipureintro; rfl
    isplitl [H16]
    · iexists _, _; isplitr; swap; · iexact H16
      ipureintro; rfl
    iexists _, _, _
    isplitr; swap
    · isplitl [H9]
      · iexists _; isplitr; swap; · iexact H9
        ipureintro; rfl
      isplitl [H13]
      · iexists _; isplitr; swap; · iexact H13
        ipureintro; rfl
      iexists _; isplitr; swap; · iexact H15
      ipureintro; rfl
    ipureintro
    exact later_carry c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) _ _ _ _ _ _ _ _ _ kk qn W hc Ev (fun d j => (congrFun (harg4.read_unread _) _).trans (h4 d j))

end Cert.KernelIdeal.Wp
-- ==== Proof.Value.Track.lean ====
/- The whole pipeline of the kernel, its windows' blocks being tables of reals: what the result's array holds at the end. -/
module

public import proofs.«01_k».proof.Proof.Value.Wp
public import proofs.«01_k».proof.Proof.KernelIdeal.Keep

@[expose] public section

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.KernelIdeal.Step Cert.KernelIdeal.Mem Cert.KernelIdeal.Trip
open Cert.KernelIdeal.Later Cert.KernelIdeal.Out Cert.KernelIdeal.Point Cert.KernelIdeal.Wp
open Cert.KernelIdeal.Keep (scM0 scM1 scM2 scM3 scM4 scM5 scM6 scM7 PhiA_eq defs₀_row)

local notation "𝕄" => MT nD τ sig Unit (Elt Ideal) ℕ (UR sig nD τ) ℕ

/-- A device's arguments as tables of reals: queries, keys and values by row and channel, the factor of the second average, and
    the gains. -/
structure Tab where
  q : ℕ → ℕ → ℝ
  k : ℕ → ℕ → ℝ
  v : ℕ → ℕ → ℝ
  lam : ℝ
  g : Fin 128 → EReal

namespace Tab

variable (T : Tab)

/-- A head's keys, -/
def kk (h : ℕ) (R : ℕ) (d : Fin 128) : ℝ := T.k R (128 * h + d.val)

/-- the queries of one of its tiles, -/
def qt (h i : ℕ) (d : Fin 128) (j : Fin 256) : ℝ := T.q (256 * i + j.val) (128 * h + d.val)

/-- and its values, with ones in the rows after them. -/
def W (h : ℕ) (e : Fin 144) (R : ℕ) : ℝ := if e.val < 128 then T.v R (128 * h + e.val) else 1

theorem W_one (h : ℕ) (R : ℕ) : T.W h 128 R = 1 := if_neg (by decide)

/-- The result's block of a tile. -/
def out (h i : ℕ) : S256x128.Idx → EReal := block (sc (T.kk h) (diag (T.qt h i))) (T.W h) T.lam T.g

end Tab

variable (T : Dev nD → Tab) (m : (ℓ : Loc nD τ sig) → Buf (Elt Ideal) ℓ) (ρ : Dev nD → PrngReg)

/-- The windows' blocks are the tables' parts. -/
structure Blocks (c : Dev nD) : Prop where
  lam : ∀ (t : Fin cfg0.N) x, iblk m c 0 t x = (((T c).lam : ℝ) : EReal)
  cur : ∀ (t : Fin cfg0.N) d j, iblk m c 1 t (ix2 d j) = (((T c).qt (t.val / 64) (t.val % 64) d j : ℝ) : EReal)
  nxt : ∀ (t : Fin cfg0.N) d j, iblk m c 2 t (ix2 d j) = (((T c).qt (t.val / 64) (min (t.val % 64 + 1) 63) d j : ℝ) : EReal)
  key : ∀ (t : Fin cfg0.N) (R : Fin 16640) d, iblk m c 3 t (ix3 0 R d) = (((T c).kk (t.val / 64) R.val d : ℝ) : EReal)
  val : ∀ (t : Fin cfg0.N) (n : Fin 13) e (R : Fin 1280), iblk m c 4 t (ix4 0 n e R) = (((T c).W (t.val / 64) e (1280 * n.val + R.val) : ℝ) : EReal)
  gain : ∀ (t : Fin cfg0.N) e, iblk m c 5 t (ix2 e 0) = (T c).g e

/-- What the pipeline keeps before point `n`: within a head, the tile's block of queries and its first scores. -/
def Inv (c : Dev nD) (n : ℕ) : sProp 𝕄 :=
  iprop((∃ d9, ∃ d13, ∃ d15, ⌜n % 64 ≠ 0 → Carry ((T c).kk (n / 64)) (diag ((T c).qt (n / 64) (n % 64))) d9 d13 d15⌝
      ∗ owns (c : Thread nD τ) scM0 fullShare d9 ∗ owns (c : Thread nD τ) scM4 fullShare d13 ∗ owns (c : Thread nD τ) scM6 fullShare d15)
    ∗ (∃ d, owns (c : Thread nD τ) scM1 fullShare d) ∗ (∃ d, owns (c : Thread nD τ) scM2 fullShare d) ∗ (∃ d, owns (c : Thread nD τ) scM3 fullShare d) ∗ (∃ d, owns (c : Thread nD τ) scM5 fullShare d) ∗ (∃ d, owns (c : Thread nD τ) scM7 fullShare d) ∗ (∃ r, prngReg c r))

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (T c).out (t.val / 64) (t.val % 64)
  Φ t := Inv T c t.val
  q w := Pipeline.shareOf spec0 w
  owed _ := 0

theorem A_eq (c : Dev nD) (w : Fin cfg0.W) : (dats T m 0 c).A w = V m c (Pipeline.arrRef spec0 w) := by
  dsimp only [dats]

theorem after_0 (c : Dev nD) (t : Fin cfg0.N) : (dats T m 0 c).after 0 t = iblk m c 0 t := by dsimp only [dats]
theorem after_1 (c : Dev nD) (t : Fin cfg0.N) : (dats T m 0 c).after 1 t = iblk m c 1 t := by dsimp only [dats]
theorem after_2 (c : Dev nD) (t : Fin cfg0.N) : (dats T m 0 c).after 2 t = iblk m c 2 t := by dsimp only [dats]
theorem after_3 (c : Dev nD) (t : Fin cfg0.N) : (dats T m 0 c).after 3 t = iblk m c 3 t := by dsimp only [dats]
theorem after_4 (c : Dev nD) (t : Fin cfg0.N) : (dats T m 0 c).after 4 t = iblk m c 4 t := by dsimp only [dats]
theorem after_5 (c : Dev nD) (t : Fin cfg0.N) : (dats T m 0 c).after 5 t = iblk m c 5 t := by dsimp only [dats]
theorem after_6 (c : Dev nD) (t : Fin cfg0.N) : (dats T m 0 c).after 6 t = (T c).out (t.val / 64) (t.val % 64) := by dsimp only [dats]
theorem before_0 (c : Dev nD) (t : Fin cfg0.N) (d) : (dats T m 0 c).before 0 t d = iblk m c 0 t :=
  before0_0_of m (dats T m 0 c) (A_eq T m c 0) (after_0 T m c) t d
theorem before_1 (c : Dev nD) (t : Fin cfg0.N) (d) : (dats T m 0 c).before 1 t d = iblk m c 1 t :=
  before0_1_of m (dats T m 0 c) (A_eq T m c 1) (after_1 T m c) t d
theorem before_2 (c : Dev nD) (t : Fin cfg0.N) (d) : (dats T m 0 c).before 2 t d = iblk m c 2 t :=
  before0_2_of m (dats T m 0 c) (A_eq T m c 2) (after_2 T m c) t d
theorem before_3 (c : Dev nD) (t : Fin cfg0.N) (d) : (dats T m 0 c).before 3 t d = iblk m c 3 t :=
  before0_3_of m (dats T m 0 c) (A_eq T m c 3) (after_3 T m c) t d
theorem before_4 (c : Dev nD) (t : Fin cfg0.N) (d) : (dats T m 0 c).before 4 t d = iblk m c 4 t :=
  before0_4_of m (dats T m 0 c) (A_eq T m c 4) (after_4 T m c) t d
theorem before_5 (c : Dev nD) (t : Fin cfg0.N) (d) : (dats T m 0 c).before 5 t d = iblk m c 5 t :=
  before0_5_of m (dats T m 0 c) (A_eq T m c 5) (after_5 T m c) t d

theorem Phi_cast (c : Dev nD) (t : Fin cfg0.N) : (dats T m 0 c).Φ t.castSucc = Inv T c t.val := by
  dsimp only [dats]; rfl

theorem Phi_succ (c : Dev nD) (t : Fin cfg0.N) : (dats T m 0 c).Φ t.succ = Inv T c (t.val + 1) := by
  dsimp only [dats]; rfl

theorem opens_iff : ∀ t : Fin grid0.N, k0_cond1 (grid0.coords t) = 1#1 ↔ t.val % 64 = 0 := by decide +kernel

/-- A point which doesn't open a head. -/
def other : grid0.Coords := grid0.coords ⟨1, by decide⟩

theorem other_not : ¬ k0_cond1 other = 1#1 := fun h => absurd ((opens_iff _).mp h) (by decide)

/-- What the body is called with at point `t`, the windows one by one, -/
def bodyPre (c : Dev nD) (t : Fin cfg0.N) : sProp 𝕄 :=
  iprop((dats T m 0 c).Φ t.castSucc ∗ (dats T m 0 c).owesAt () t.castSucc
    ∗ (∃ d, owns (c : Thread nD τ) (st0_0 t) fullShare ((dats T m 0 c).before 0 t d))
    ∗ (∃ d, owns (c : Thread nD τ) (st0_1 t) fullShare ((dats T m 0 c).before 1 t d))
    ∗ (∃ d, owns (c : Thread nD τ) (st0_2 t) fullShare ((dats T m 0 c).before 2 t d))
    ∗ (∃ d, owns (c : Thread nD τ) (st0_3 t) fullShare ((dats T m 0 c).before 3 t d))
    ∗ (∃ d, owns (c : Thread nD τ) (st0_4 t) fullShare ((dats T m 0 c).before 4 t d))
    ∗ (∃ d, owns (c : Thread nD τ) (st0_5 t) fullShare ((dats T m 0 c).before 5 t d))
    ∗ (∃ d, owns (c : Thread nD τ) (st0_6 t) fullShare ((dats T m 0 c).before 6 t d)))

/-- and what it returns. -/
def bodyPost (c : Dev nD) (t : Fin cfg0.N) : sProp 𝕄 :=
  iprop((dats T m 0 c).Φ t.succ ∗ (dats T m 0 c).owesAt () t.succ
    ∗ owns (c : Thread nD τ) (st0_0 t) fullShare ((dats T m 0 c).after 0 t)
    ∗ owns (c : Thread nD τ) (st0_1 t) fullShare ((dats T m 0 c).after 1 t)
    ∗ owns (c : Thread nD τ) (st0_2 t) fullShare ((dats T m 0 c).after 2 t)
    ∗ owns (c : Thread nD τ) (st0_3 t) fullShare ((dats T m 0 c).after 3 t)
    ∗ owns (c : Thread nD τ) (st0_4 t) fullShare ((dats T m 0 c).after 4 t)
    ∗ owns (c : Thread nD τ) (st0_5 t) fullShare ((dats T m 0 c).after 5 t)
    ∗ owns (c : Thread nD τ) (st0_6 t) fullShare ((dats T m 0 c).after 6 t))

set_option maxHeartbeats 1600000 in
/-- The body at any point: `point` on the point's staging buffers. -/
theorem sound_body (c : Dev nD) (B : Blocks T m c) (t : Fin cfg0.N) :
    bodyPre T m c t ⊢ wp frame (wpE (defs₀ (F := Ideal)) Variants.none c none) Set.univ (bodyAt0 t) (fun _ => bodyPost T m c t) := by
  unfold bodyPre bodyPost bodyAt0
  simp only [before_0, before_1, before_2, before_3, before_4, before_5]
  rw [show (dats T m 0 c).owesAt () t.succ = (dats T m 0 c).owesAt () t.castSucc from rfl,
    after_0, after_1, after_2, after_3, after_4, after_5, after_6, Phi_cast, Phi_succ]
  unfold Inv
  have hg : (fun e => iblk m c 5 t (ix2 e 0)) = (T c).g := funext fun e => B.gain t e
  iintro ⟨⟨⟨%d9, %d13, %d15, %hC, HS0, HS4, HS6⟩, HS1, HS2, HS3, HS5, HS7, Hg⟩, Ho, ⟨%d0, H0⟩, ⟨%d1, H1⟩, ⟨%d2, H2⟩, ⟨%d3, H3⟩, ⟨%d4, H4⟩, ⟨%d5, H5⟩, ⟨%d6, H6⟩⟩
  iapply (point c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t)
    ((T c).kk (t.val / 64)) ((T c).qt (t.val / 64) (t.val % 64)) ((T c).qt (t.val / 64) (min (t.val % 64 + 1) 63)) ((T c).W (t.val / 64)) (T c).lam
    other other_not (B.lam t) (B.cur t) (B.nxt t) (B.key t) (B.val t) (fun _ _ => (T c).W_one _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS1]; · iexact HS1
  isplitl [HS2]; · iexact HS2
  isplitl [HS3]; · iexact HS3
  isplitl [HS5]; · iexact HS5
  isplitl [HS7]; · iexact HS7
  isplitl [HS0 HS4 HS6]
  · iexists d9, d13, d15
    isplitr
    · ipureintro; exact fun h => hC fun h' => h ((opens_iff t).mpr h')
    isplitl [HS0]; · iexact HS0
    isplitl [HS4]; · iexact HS4
    iexact HS6
  iintro ⟨H0, H1, H2, H3, H4, H5, H6, HS1, HS2, HS3, HS5, HS7, ⟨%e9, %e13, %e15, %hD, HS0, HS4, HS6⟩⟩
  isplitl [HS0 HS1 HS2 HS3 HS4 HS5 HS6 HS7 Hg]
  · isplitl [HS0 HS4 HS6]
    · iexists e9, e13, e15
      isplitr
      · ipureintro
        intro hn
        have hd : (t.val + 1) / 64 = t.val / 64 := by omega
        have hm : (t.val + 1) % 64 = min (t.val % 64 + 1) 63 := by omega
        rw [hd, hm]; exact hD
      isplitl [HS0]; · iexact HS0
      isplitl [HS4]; · iexact HS4
      iexact HS6
    isplitl [HS1]; · iexact HS1
    isplitl [HS2]; · iexact HS2
    isplitl [HS3]; · iexact HS3
    isplitl [HS5]; · iexact HS5
    isplitl [HS7]; · iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [hg]
  iexact H6

/-- The pipeline's obligation on its body, at every point. -/
theorem body_obligation (c : Dev nD) (B : Blocks T m c) : BodyObligation (dats T m 0 c) (defs₀ (F := Ideal)) Variants.none () Set.univ := fun t => by
  rw [bigSep_W0, bigSep_W0, defs₀_row]
  exact triple_restated (sound_body T m c B t) rfl .rfl fun _ => .rfl

/-- The pipeline starts with any scratch, -/
theorem Inv_start (c : Dev nD) : (Pipeline.ΦA spec0 c : sProp 𝕄) ⊢ Inv T c 0 := by
  rw [PhiA_eq]; unfold Inv
  iintro ⟨⟨⟨%d9, HS0⟩, HS1, HS2, HS3, ⟨%d13, HS4⟩, HS5, ⟨%d15, HS6⟩, HS7⟩, Hg⟩
  isplitl [HS0 HS4 HS6]
  · iexists d9, d13, d15
    isplitr
    · ipureintro; exact fun h => absurd (Nat.zero_mod 64) h
    isplitl [HS0]; · iexact HS0
    isplitl [HS4]; · iexact HS4
    iexact HS6
  isplitl [HS1]; · iexact HS1
  isplitl [HS2]; · iexact HS2
  isplitl [HS3]; · iexact HS3
  isplitl [HS5]; · iexact HS5
  isplitl [HS7]; · iexact HS7
  iexact Hg

/-- and ends with some. -/
theorem Inv_end (c : Dev nD) (n : ℕ) : Inv T c n ⊢ (Pipeline.ΦA spec0 c : sProp 𝕄) := by
  rw [PhiA_eq]; unfold Inv
  iintro ⟨⟨%d9, %d13, %d15, -, HS0, HS4, HS6⟩, HS1, HS2, HS3, HS5, HS7, Hg⟩
  isplitl [HS0 HS1 HS2 HS3 HS4 HS5 HS6 HS7]
  · isplitl [HS0]; · iexists _; iexact HS0
    isplitl [HS1]; · iexact HS1
    isplitl [HS2]; · iexact HS2
    isplitl [HS3]; · iexact HS3
    isplitl [HS4]; · iexists _; iexact HS4
    isplitl [HS5]; · iexact HS5
    isplitl [HS6]; · iexists _; iexact HS6
    iexact HS7
  iexact Hg

set_option backward.isDefEq.respectTransparency.types false in
/-- The run of the whole program. -/
theorem run_main (B : ∀ c, Blocks T m c) :
    θ_run defs (onTc (τ := τ) (main (F := Ideal))) (s₀ m ρ) (fun r => Pipeline.FramePost cfgs (dats T m) 0 (V m) r ∧ r.2.sem = fun _ => 0) :=
  Pipeline.θ_run_frame_track_shared (Q' := _) cfgs (dats T m) (0 : Fin 1) launch₀0 defs₀ Variants.none m ρ main
    (hbody := fun c => (body_obligation T m c (B c)).loose) (hq := fun _ _ _ => rfl)
    (howed := fun _ _ => rfl) (V := V m) (hmain := hmain m Variants.none) (hA := A_eq T m)
    (hin := fun c => Inv_start T c) (hout := fun c => Inv_end T c _)

end Cert.KernelIdeal.Track
-- ==== Proof.Value.Args.lean ====
/- The arguments as tables of reals, and the result as one function of the tables. -/
module

public import proofs.«01_k».proof.Proof.Value.Track

@[expose] public section

noncomputable section

namespace Cert.KernelIdeal.Args

open Idealize.ShloMosaic
open Cert.KernelIdeal.Track

/-- Rows of a long array of 512 channels. -/
abbrev Long := (⟨2, ![16384, 512]⟩ : Shape).Idx → EReal
/-- Rows of the context. -/
abbrev Short := (⟨2, ![256, 512]⟩ : Shape).Idx → EReal
/-- A vector of 64 numbers. -/
abbrev Vec := (⟨1, ![64]⟩ : Shape).Idx → EReal

/-- A long array's entry, by row and channel. -/
def row (x : Long) (r ch : ℕ) : ℝ := if h : r < 16384 ∧ ch < 512 then (x (ix2 ⟨r, h.1⟩ ⟨ch, h.2⟩)).toReal else 0

/-- The entry of a long array followed by the context. -/
def rows (x : Long) (y : Short) (r ch : ℕ) : ℝ :=
  if r < 16384 then row x r ch
  else if h : r - 16384 < 256 ∧ ch < 512 then (y (ix2 ⟨r - 16384, h.1⟩ ⟨ch, h.2⟩)).toReal else 0

/-- Two vectors' product. -/
def dot (a b : Vec) : ℝ := ∑ x : Fin 64, (a (ix1 x)).toReal * (b (ix1 x)).toReal

/-- The value of the constant added to the difference of the exponentials. -/
def lamInit : ℝ := (Ideal.ofBits .f32 0x3E4CCCCD#32).toReal

/-- The tables of the arguments. -/
def tab (q k v : Long) (kc vc : Short) (a b a' b' : Vec) (g : (⟨1, ![128]⟩ : Shape).Idx → EReal) : Tab where
  q := row q
  k := rows k kc
  v := rows v vc
  lam := Real.exp (dot a b) - Real.exp (dot a' b') + lamInit
  g e := g (ix1 e)

/-- The result, at a row and a channel. -/
def result (T : Tab) : Long := fun i =>
  T.out ((i 1).val / 128) ((i 0).val / 256)
    (ix2 ⟨(i 0).val % 256, Nat.mod_lt _ (by decide)⟩ ⟨(i 1).val % 128, Nat.mod_lt _ (by decide)⟩)

/-- Every entry is a real number. -/
def IsReal {α : Type} (x : α → EReal) : Prop := ∀ i, ((x i).toReal : EReal) = x i

variable {q k v : Long} {kc vc : Short} {a b : Vec}

theorem row_read (hx : IsReal q) (r : Fin 16384) (ch : Fin 512) : q (ix2 r ch) = ((row q r.val ch.val : ℝ) : EReal) := by
  rw [row, dif_pos ⟨r.isLt, ch.isLt⟩]; exact (hx _).symm

theorem rows_read (hx : IsReal k) (hy : IsReal kc) (r ch : ℕ) (hr : r < 16640) (hch : ch < 512) :
    (if h : r < 16384 then k (ix2 ⟨r, h⟩ ⟨ch, hch⟩) else kc (ix2 ⟨r - 16384, by omega⟩ ⟨ch, hch⟩)) = ((rows k kc r ch : ℝ) : EReal) := by
  unfold rows
  split
  · next h => rw [row, dif_pos ⟨h, hch⟩]; exact (hx _).symm
  · next h => rw [dif_pos ⟨by omega, hch⟩]; exact (hy _).symm

theorem dot_read (ha : IsReal a) (hb : IsReal b) : ∑ x : Fin 64, a (ix1 x) * b (ix1 x) = ((dot a b : ℝ) : EReal) := by
  unfold dot
  rw [← Step.coe_sum]
  refine Finset.sum_congr rfl fun x _ => ?_
  rw [EReal.coe_mul, ha, hb]

theorem lamInit_read : Ideal.ofBits .f32 0x3E4CCCCD#32 = ((lamInit : ℝ) : EReal) := by
  have h : ∃ r : ℝ, Ideal.ofBits .f32 0x3E4CCCCD#32 = (r : EReal) := by
    simp only [Ideal.ofBits, Ideal.ieee]; split_ifs <;> first | exact ⟨_, rfl⟩ | simp_all
  obtain ⟨r, h⟩ := h
  rw [lamInit, h, EReal.toReal_coe]

theorem lam_read {a' b' : Vec} (ha : IsReal a) (hb : IsReal b) (ha' : IsReal a') (hb' : IsReal b') :
    Ideal.exp (∑ x : Fin 64, a (ix1 x) * b (ix1 x)) - Ideal.exp (∑ x : Fin 64, a' (ix1 x) * b' (ix1 x)) + Ideal.ofBits .f32 0x3E4CCCCD#32
      = ((Real.exp (dot a b) - Real.exp (dot a' b') + lamInit : ℝ) : EReal) := by
  rw [dot_read ha hb, dot_read ha' hb', Ideal.exp_coe, Ideal.exp_coe, lamInit_read]
  push_cast; rfl

end Cert.KernelIdeal.Args
-- ==== Proof.Value.Entry.lean ====
/- The pipeline's windows at the program's arguments, and the result's array. -/
module

public import proofs.«01_k».proof.Proof.Value.Args
public import proofs.«01_k».proof.Proof.Value.Consts
public import Idealize.ShloMosaic.Lib.Pipeline.ValueKit
public import Idealize.ShloMosaic.Lib.Claim

@[expose] public section

set_option maxRecDepth 16384

noncomputable section

namespace Cert.KernelIdeal.Entry

open Idealize.ShloMosaic Idealize.ShloMosaic.TcCoe Idealize.SL.Sem Idealize.ShloMosaic.Pipeline
open Cert.KernelIdeal Cert.KernelIdeal.Gen Cert.KernelIdeal.Track Cert.KernelIdeal.Args

variable (m : (ℓ : Loc nD τ sig) → Buf (Elt Ideal) ℓ) (ρ : Dev nD → PrngReg)

/-- The tables of a device's arguments. -/
def tabs (c : Dev nD) : Tab :=
  tab (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) (m (c, Proc.tc.devRef main_arg6))
    (m (c, Proc.tc.devRef main_arg7)) (m (c, Proc.tc.devRef main_arg8)) (m (c, Proc.tc.devRef main_arg9))

/-- A device's arguments but the gains are real. -/
structure Reals (c : Dev nD) : Prop where
  q : IsReal (m (c, Proc.tc.devRef main_arg0) : Long)
  k : IsReal (m (c, Proc.tc.devRef main_arg1) : Long)
  v : IsReal (m (c, Proc.tc.devRef main_arg2) : Long)
  kc : IsReal (m (c, Proc.tc.devRef main_arg3) : Short)
  vc : IsReal (m (c, Proc.tc.devRef main_arg4) : Short)
  a : IsReal (m (c, Proc.tc.devRef main_arg5) : Vec)
  b : IsReal (m (c, Proc.tc.devRef main_arg6) : Vec)
  a' : IsReal (m (c, Proc.tc.devRef main_arg7) : Vec)
  b' : IsReal (m (c, Proc.tc.devRef main_arg8) : Vec)

theorem index_all : ∀ t : Fin cfg0.N,
    win0_0.index t = ![0] ∧ win0_1.index t = ![t.val / 64, t.val % 64] ∧ win0_2.index t = ![t.val / 64, min (t.val % 64 + 1) 63]
    ∧ win0_3.index t = ![t.val / 64, 0, 0] ∧ win0_4.index t = ![t.val / 64, 0, 0, 0] ∧ win0_5.index t = ![0, 0]
    ∧ win0_6.index t = ![t.val % 64, t.val / 64] := by decide +kernel

theorem lt_points (t : Fin cfg0.N) : t.val < 256 := t.isLt

/-- The keys as the pipeline finds them, -/
theorem keys_read (c : Dev nD) (B : Reals m c) (i : S4x16640x128.Idx) :
    (V m c main_v13 : S4x16640x128.Idx → EReal) i = ((rows (m (c, Proc.tc.devRef main_arg1)) (m (c, Proc.tc.devRef main_arg3)) (i 1).val (128 * (i 0).val + (i 2).val) : ℝ) : EReal) := by
  have h0 : (i 0).val < 4 := (i 0).isLt
  have h1 : (i 1).val < 16640 := (i 1).isLt
  have h2 : (i 2).val < 128 := (i 2).isLt
  rw [← rows_read B.k B.kc (i 1).val (128 * (i 0).val + (i 2).val) h1 (by omega)]
  entry_read
  pointwise
  simp only [Nat.mul_comm 128]

/-- the values, with ones after them, -/
theorem vals_read (c : Dev nD) (B : Reals m c) (h : Fin 4) (n : Fin 13) (e : Fin 144) (R : Fin 1280) :
    (V m c main_v17 : S4x13x144x1280.Idx → EReal) (ix4 h n e R) = (((tabs m c).W h.val e (1280 * n.val + R.val) : ℝ) : EReal) := by
  have h0 := h.isLt
  have h1 := n.isLt
  have h2 := R.isLt
  unfold Tab.W
  split
  · next he =>
    show _ = ((rows (m (c, Proc.tc.devRef main_arg2)) (m (c, Proc.tc.devRef main_arg4)) (1280 * n.val + R.val) (128 * h.val + e.val) : ℝ) : EReal)
    rw [← rows_read B.v B.vc _ _ (by omega) (by omega)]
    entry_read
    refine (concatenate_pair_apply_left (s₁ := S4x13x128x1280) (s₂ := S4x13x16x1280) (t := S4x13x144x1280) 2 _ _ _ _ rfl (ix4 h n ⟨e.val, he⟩ R) (by intro b; fin_cases b <;> rfl)).trans ?_
    pointwise
    after_results_simp
    simp only [Nat.mul_comm 128, Nat.mul_comm 1280]
  · next he =>
    have he' := e.isLt
    rw [← Consts.one_bf16]
    entry_read
    refine (concatenate_pair_apply_right (s₁ := S4x13x128x1280) (s₂ := S4x13x16x1280) (t := S4x13x144x1280) 2 _ _ _ _ rfl rfl (ix4 h n ⟨e.val - 128, by omega⟩ R) (by intro b; fin_cases b <;> simp) (by simp; omega)).trans ?_
    pointwise

/-- and the queries. -/
theorem queries_read (c : Dev nD) (B : Reals m c) (i : S512x16384.Idx) :
    (V m c main_v11 : S512x16384.Idx → EReal) i = ((row (m (c, Proc.tc.devRef main_arg0)) (i 1).val (i 0).val : ℝ) : EReal) := by
  refine Eq.trans ?_ (row_read B.q (i 1) (i 0))
  entry_read
  pointwise

theorem blocks (B : ∀ c, Reals m c) (c : Dev nD) : Blocks (tabs m) m c where
  lam t x := by
    obtain ⟨h0, h1, h2, h3, h4, h5, h6⟩ := index_all t
    refine Eq.trans ?_ (lam_read (B c).a (B c).b (B c).a' (B c).b')
    blk_simp [iblk, h0]
    entry_read
    pointwise
  cur t d j := by
    obtain ⟨h0, h1, h2, h3, h4, h5, h6⟩ := index_all t
    have ht := lt_points t
    refine (queries_read m c (B c) (((cfg0.win 1).blk t).view.emb (ix2 d j))).trans ?_
    blk_simp [h1]
    show _ = ((row _ _ _ : ℝ) : EReal)
    simp only [Nat.mul_comm 128, Nat.mul_comm 256]
  nxt t d j := by
    obtain ⟨h0, h1, h2, h3, h4, h5, h6⟩ := index_all t
    have ht := lt_points t
    refine (queries_read m c (B c) (((cfg0.win 2).blk t).view.emb (ix2 d j))).trans ?_
    blk_simp [h2]
    show _ = ((row _ _ _ : ℝ) : EReal)
    simp only [Nat.mul_comm 128, Nat.mul_comm 256]
  key t R d := by
    obtain ⟨h0, h1, h2, h3, h4, h5, h6⟩ := index_all t
    have ht := lt_points t
    refine (keys_read m c (B c) (((cfg0.win 3).blk t).view.emb (ix3 0 R d))).trans ?_
    blk_simp [h3]
    show _ = ((rows _ _ _ _ : ℝ) : EReal)
    simp only [Fin.val_zero, Nat.add_zero]
  val t n e R := by
    obtain ⟨h0, h1, h2, h3, h4, h5, h6⟩ := index_all t
    have ht := lt_points t
    refine Eq.trans ?_ (vals_read m c (B c) ⟨t.val / 64, by omega⟩ n e R)
    refine congrArg (V m c main_v17 : S4x13x144x1280.Idx → EReal) (?_ : ((cfg0.win 4).blk t).view.emb (ix4 0 n e R) = _)
    funext a
    fin_cases a <;> refine Fin.ext ?_ <;> blk_simp [h4] <;> rfl
  gain t e := by
    obtain ⟨h0, h1, h2, h3, h4, h5, h6⟩ := index_all t
    show _ = m (c, Proc.tc.devRef main_arg9) (ix1 e)
    have e0 : (((cfg0.win 5).blk t).view.emb (ix2 e 0)) 0 = e := Fin.ext (by blk_simp [h5])
    unfold iblk
    show (V m c main_v18 : S128x1.Idx → EReal) (((cfg0.win 5).blk t).view.emb (ix2 e 0)) = _
    entry_read
    pointwise
    exact congrArg (fun i => m (c, Proc.tc.devRef main_arg9) (ix1 i)) e0

/-- The result's array at the end. -/
theorem out_array (c : Dev nD) : (dats (tabs m) m 0 c).arrAt 6 (cfgs (0 : Fin 1)).N = result (tabs m c) := by
  refine (dats (tabs m) m 0 c).arrAt_eq_of_covers 6 _ (by decide +kernel) fun t hf y => ?_
  obtain ⟨h0, h1, h2, h3, h4, h5, h6⟩ := index_all t
  have ht := lt_points t
  have e0 : ((((cfg0.win 6).blk t).view.emb y) 0).val = t.val % 64 * 256 + (y 0).val := by blk_simp [h6]
  have e1 : ((((cfg0.win 6).blk t).view.emb y) 1).val = t.val / 64 * 128 + (y 1).val := by blk_simp [h6]
  have y0 : (y 0).val < 256 := (y 0).isLt
  have y1 : (y 1).val < 128 := (y 1).isLt
  blk_simp [h6]
  rw [after_6]
  unfold result
  refine .symm ((congrArg₂ (fun h i => (tabs m c).out h i _) (?_ : _ = t.val / 64) (?_ : _ = t.val % 64)).trans (congrArg ((tabs m c).out (t.val / 64) (t.val % 64)) ?_))
  · exact (congrArg (· / 128) e1).trans (by omega)
  · exact (congrArg (· / 256) e0).trans (by omega)
  · funext a
    fin_cases a
    · exact Fin.ext ((congrArg (· % 256) e0).trans (show _ = (y 0).val by omega))
    · exact Fin.ext ((congrArg (· % 128) e1).trans (show _ = (y 1).val by omega))

end Cert.KernelIdeal.Entry
-- ==== Proof.Value.Finite.lean ====
/- The precondition read: the nine arrays it checks hold real numbers. -/
module

public import proofs.«01_k».proof.Defs
public import proofs.«01_k».proof.Proof.Value.Entry
public import Idealize.ShloMosaic.Lib.ReduceAll
public import Idealize.ShloMosaic.Lib.KernelVsHost

@[expose] public section

noncomputable section

namespace Cert.Finite

open Idealize.ShloMosaic
open Cert.KernelIdeal.Args (IsReal)

/-- The side conditions the precondition states. -/
theorem facts : Cert.Pre_finite.Facts :=
  ⟨by decide, by decide, by decide, by decide, by decide, by decide, by decide, by decide⟩

/-- A magnitude below infinity is a real number's. -/
theorem real_of_lt (x : EReal) (h : Ideal.cmp .olt (max x (-x)) (Ideal.ofBits .f32 0x7F800000#32) = 1#1) : (x.toReal : EReal) = x := by
  rw [Consts.inf] at h
  refine EReal.coe_toReal ?_ ?_
  · rintro rfl; simp [Ideal.cmp] at h
  · rintro rfl; simp [Ideal.cmp] at h

/-- An array whose magnitudes all lie below infinity is real. -/
theorem real_of_all {s : Shape} {axes : List (Fin s.rank)} {u : Shape} (x : FVec Ideal s .f32) (y : FVec Ideal s .f32)
    (hy : ∀ i, y i = Ideal.ofBits .f32 0x7F800000#32) (init : u.Idx → BitVec 1) (h : s.ReducesTo axes ⟨0, ![]⟩) (hu : 0 < u.numel)
    (j : (⟨0, ![]⟩ : Shape).Idx) (e : Host.reduce IntOp.andi (cmpf .olt (Host.absf x) y) init h hu j = 1#1) : ∀ i, (EReal.toReal (x i) : EReal) = x i := by
  intro i
  have : Subsingleton (⟨0, ![]⟩ : Shape).Idx := ⟨fun a b => funext fun k => k.elim0⟩
  have h1 := Host.reduce_andi_all _ _ h hu j e i
  refine real_of_lt (x i) ?_
  rw [← hy i]
  exact h1

theorem and_read {s : Shape} (x y : IVec s 1) (j : s.Idx) (h : andi x y j = 1#1) : x j = 1#1 ∧ y j = 1#1 :=
  IntOp.andi_eq_one.1 h

/-- What the precondition says of its arrays. -/
theorem reals [hP : Cert.Pre_finite.Facts] (q k v : FVec Ideal Pre_finite.S16384x512 .bf16) (kc vc : FVec Ideal Pre_finite.S256x512 .bf16)
    (a b a' b' : FVec Ideal Pre_finite.S64 .f32) (g : FVec Ideal Pre_finite.S128 .f32)
    (h : Cert.Pre_finite.fn (F := Ideal) q k v kc vc a b a' b' g = fun _ => 1#1) :
    IsReal q ∧ IsReal k ∧ IsReal v ∧ IsReal kc ∧ IsReal vc ∧ IsReal a ∧ IsReal b ∧ IsReal a' ∧ IsReal b' := by
  have h := congrFun h (fun k => k.elim0)
  dsimp only [Pre_finite.fn, Pre_finite.fn_part1, Pre_finite.fn_part2] at h
  obtain ⟨h, e8⟩ := and_read _ _ _ h
  obtain ⟨h, e7⟩ := and_read _ _ _ h
  obtain ⟨h, e6⟩ := and_read _ _ _ h
  obtain ⟨h, e5⟩ := and_read _ _ _ h
  obtain ⟨h, e4⟩ := and_read _ _ _ h
  obtain ⟨h, e3⟩ := and_read _ _ _ h
  obtain ⟨h, e2⟩ := and_read _ _ _ h
  obtain ⟨e0, e1⟩ := and_read _ _ _ h
  exact ⟨real_of_all _ _ (fun _ => rfl) _ _ _ _ e0, real_of_all _ _ (fun _ => rfl) _ _ _ _ e1, real_of_all _ _ (fun _ => rfl) _ _ _ _ e2,
    real_of_all _ _ (fun _ => rfl) _ _ _ _ e3, real_of_all _ _ (fun _ => rfl) _ _ _ _ e4, real_of_all _ _ (fun _ => rfl) _ _ _ _ e5,
    real_of_all _ _ (fun _ => rfl) _ _ _ _ e6, real_of_all _ _ (fun _ => rfl) _ _ _ _ e7, real_of_all _ _ (fun _ => rfl) _ _ _ _ e8⟩

end Cert.Finite
-- ==== Proof.Value.Ref.lean ====
/- The reference's result read at an index. -/
module

public import proofs.«01_k».proof.Proof.Value.Args
public import proofs.«01_k».proof.Proof.Value.Consts
public import proofs.«01_k».proof.Proof.Gen.ReferenceIdeal.Run
public import Idealize.ShloMosaic.Lib.Pipeline.ValueKit
public import Idealize.ShloMosaic.PureOps.Ideal.Laws

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen Cert.ReferenceIdeal.Value

/-- Contents of a shape. -/
abbrev C (s : Shape) := s.Idx → EReal

/-- A long array followed by the context. -/
def joined (x : C S16384x512) (y : C S256x512) : C S16640x512 :=
  extf (F := Ideal) (φ := .bf16) .f32 (concatenate S16640x512 0 [⟨S16384x512, x⟩, ⟨S256x512, y⟩] concatenates_S16384x512_S256x512_S16640x512_d0) bitsLt_bf16_f32

/-- The scaled scores, -/
def scores (q k : C S16384x512) (kc : C S256x512) : C S4x2x16384x16640 :=
  mulf (F := Ideal) (φ := .f32) (Host.dotGeneral (F := Ideal) (φ₁ := .f32) (φ₂ := .f32) dot_S16384x4x2x64_S16640x4x2x64_S4x2x16384x16640_3_3_0_0_12_12 none
      (shapeCast S16384x4x2x64 (extf (F := Ideal) (φ := .bf16) .f32 q bitsLt_bf16_f32) shapeCasts_S16384x512_S16384x4x2x64)
      (shapeCast S16640x4x2x64 (joined k kc) shapeCasts_S16640x512_S16640x4x2x64))
    (broadcastInDim S4x2x16384x16640 ![] bcast_S_S4x2x16384x16640 (constant (F := Ideal) S_ .f32 0x3E000000#32))

/-- their largest along the keys, -/
def largest (s : C S4x2x16384x16640) : C S4x2x16384 :=
  maximumf (F := Ideal) (φ := .f32) (broadcastInDim S4x2x16384 ![] bcast_S_S4x2x16384 (constant (F := Ideal) S_ .f32 0xFF800000#32))
    (Host.reduce (FloatOps.maximumf (F := Ideal) (φ := .f32)) s (constant (F := Ideal) S_ .f32 0xFF800000#32) reducesTo_S4x2x16384x16640_S4x2x16384_d3 h_S_)

/-- the exponentials of what is left, -/
def exps (s : C S4x2x16384x16640) : C S4x2x16384x16640 :=
  Host.exp (F := Ideal) (φ := .f32) (subf (F := Ideal) (φ := .f32) s (broadcastInDim S4x2x16384x16640 ![0, 1, 2, 3] bcast_S4x2x16384x1_S4x2x16384x16640_0_1_2_3
    (broadcastInDim S4x2x16384x1 ![0, 1, 2] bcast_S4x2x16384_S4x2x16384x1_0_1_2 (largest s))))

/-- over their sum. -/
def probs (s : C S4x2x16384x16640) : C S4x2x16384x16640 :=
  Host.divf (F := Ideal) (φ := .f32) (exps s) (broadcastInDim S4x2x16384x16640 ![0, 1, 2, 3] bcast_S4x2x16384x1_S4x2x16384x16640_0_1_2_3
    (broadcastInDim S4x2x16384x1 ![0, 1, 2] bcast_S4x2x16384_S4x2x16384x1_0_1_2
      (Host.reduceAdd (F := Ideal) (φ := .f32) (exps s) (constant (F := Ideal) S_ .f32 0x00000000#32) reducesTo_S4x2x16384x16640_S4x2x16384_d3 h_S_)))

/-- The factor of the second probabilities, -/
def factor (a b a' b' : C S64) : C S_ :=
  addf (F := Ideal) (φ := .f32) (subf (F := Ideal) (φ := .f32)
      (Host.exp (F := Ideal) (φ := .f32) (Host.reduceAdd (F := Ideal) (φ := .f32) (mulf (F := Ideal) (φ := .f32) a b) (constant (F := Ideal) S_ .f32 0x00000000#32) reducesTo_S64_S_d0 h_S_))
      (Host.exp (F := Ideal) (φ := .f32) (Host.reduceAdd (F := Ideal) (φ := .f32) (mulf (F := Ideal) (φ := .f32) a' b') (constant (F := Ideal) S_ .f32 0x00000000#32) reducesTo_S64_S_d0 h_S_)))
    (constant (F := Ideal) S_ .f32 0x3E4CCCCD#32)

/-- the difference, -/
def mixed (l : C S_) (p : C S4x2x16384x16640) : C S4x16384x16640 :=
  subf (F := Ideal) (φ := .f32) (shapeCast S4x16384x16640 (extractStridedSlice S4x1x16384x16640 ![0, 0, 0, 0] p slices_S4x2x16384x16640_S4x1x16384x16640_0_0_0_0) shapeCasts_S4x1x16384x16640_S4x16384x16640)
    (mulf (F := Ideal) (φ := .f32) (broadcastInDim S4x16384x16640 ![] bcast_S_S4x16384x16640 l)
      (shapeCast S4x16384x16640 (extractStridedSlice S4x1x16384x16640 ![0, 1, 0, 0] p slices_S4x2x16384x16640_S4x1x16384x16640_0_1_0_0) shapeCasts_S4x1x16384x16640_S4x16384x16640))

/-- the values weighed by it, -/
def weighed (v : C S16384x512) (vc : C S256x512) (a : C S4x16384x16640) : C S16384x4x128 :=
  transpose S16384x4x128 [2, 0, 1] (Host.dotGeneral (F := Ideal) (φ₁ := .f32) (φ₂ := .f32) dot_S16640x4x128_S4x16384x16640_S4x128x16384_0_2_2_1_1_0 none
    (shapeCast S16640x4x128 (joined v vc) shapeCasts_S16640x512_S16640x4x128) a) transposes_S4x128x16384_S16384x4x128_2_0_1

/-- and the norm with its gains. -/
def normed (o : C S16384x4x128) (g : C S128) : C S16384x512 :=
  truncf (F := Ideal) (φ := .f32) .bf16 (shapeCast S16384x512 (mulf (F := Ideal) (φ := .f32) (mulf (F := Ideal) (φ := .f32) (mulf (F := Ideal) (φ := .f32) o
      (broadcastInDim S16384x4x128 ![0, 1, 2] bcast_S16384x4x1_S16384x4x128_0_1_2
        (Host.rsqrt (F := Ideal) (φ := .f32) (addf (F := Ideal) (φ := .f32) (Host.divf (F := Ideal) (φ := .f32) (broadcastInDim S16384x4x1 ![0, 1] bcast_S16384x4_S16384x4x1_0_1
            (Host.reduceAdd (F := Ideal) (φ := .f32) (mulf (F := Ideal) (φ := .f32) o o) (constant (F := Ideal) S_ .f32 0x00000000#32) reducesTo_S16384x4x128_S16384x4_d2 h_S_))
            (broadcastInDim S16384x4x1 ![] bcast_S_S16384x4x1 (constant (F := Ideal) S_ .f32 0x43000000#32)))
          (broadcastInDim S16384x4x1 ![] bcast_S_S16384x4x1 (constant (F := Ideal) S_ .f32 0x3727C5AC#32))))))
      (broadcastInDim S16384x4x128 ![0, 1, 2] bcast_S1x1x128_S16384x4x128_0_1_2 (broadcastInDim S1x1x128 ![2] bcast_S128_S1x1x128_2 g)))
      (broadcastInDim S16384x4x128 ![] bcast_S_S16384x4x128 (constant (F := Ideal) S_ .f32 0x3F4CCCCD#32))) shapeCasts_S16384x4x128_S16384x512) bitsLt_bf16_f32

variable (m : (ℓ : Loc nD τ sig) → Buf (Elt Ideal) ℓ)

/-- The reference's result is these steps, one after the other. -/
theorem result_steps (c : Dev nD) : (res_main_v55 m c : C S16384x512) =
    normed (weighed (m (c.tc.loc main_arg2)) (m (c.tc.loc main_arg4))
      (mixed (factor (m (c.tc.loc main_arg5)) (m (c.tc.loc main_arg6)) (m (c.tc.loc main_arg7)) (m (c.tc.loc main_arg8)))
        (probs (scores (m (c.tc.loc main_arg0)) (m (c.tc.loc main_arg1)) (m (c.tc.loc main_arg3)))))) (m (c.tc.loc main_arg9)) := by
  unfold res_main_v55; rfl

theorem fold_real {ι : Type} (S : Finset ι) (i : ι) (hi : i ∈ S) (f : ι → ℝ) : ∃ M : ℝ, S.fold max ⊥ (fun i => ((f i : ℝ) : EReal)) = M := by
  have h1 : S.fold max ⊥ (fun i => ((f i : ℝ) : EReal)) < ⊤ := (Finset.fold_max_lt _).mpr ⟨bot_lt_top, fun x _ => EReal.coe_lt_top _⟩
  have h2 : ⊥ < S.fold max ⊥ (fun i => ((f i : ℝ) : EReal)) := (Finset.lt_fold_max _).mpr (.inr ⟨i, hi, EReal.bot_lt_coe _⟩)
  exact ⟨_, (EReal.coe_toReal h1.ne h2.ne').symm⟩

theorem reduce_real {s t u : Shape} {a : Fin s.rank} (x : s.Idx → EReal) (init : u.Idx → EReal) (h' : s.ReducesTo [a] t) (h : s.Reduces [a] t)
    (hu : 0 < u.numel) (j : t.Idx) (k : Fin (s.size a)) (hi : ∀ i, init i = ⊥) (f : s.Idx → ℝ) (hx : ∀ i, x i = ((f i : ℝ) : EReal)) :
    ∃ M : ℝ, Host.reduce (FloatOps.maximumf (F := Ideal) (φ := .f32)) x init h' hu j = (M : EReal) := by
  obtain ⟨M, hM⟩ := fold_real Finset.univ k (Finset.mem_univ _) (f ∘ h.lift j)
  refine ⟨M, (Host.reduce_eq_fold_single _ x init h' h hu j).trans ?_⟩
  rw [hi, show x ∘ h.lift j = fun k => (((f ∘ h.lift j) k : ℝ) : EReal) from funext fun k => hx _]
  exact hM

theorem max_apply {s : Shape} (x y : s.Idx → EReal) (j : s.Idx) : maximumf (F := Ideal) (φ := .f32) x y j = max (x j) (y j) := rfl

theorem max_bot (x y : S4x2x16384.Idx → EReal) (j : S4x2x16384.Idx) (M : ℝ) (hx : x j = ⊥) (hy : y j = M) :
    maximumf (F := Ideal) (φ := .f32) x y j = (M : EReal) := by rw [max_apply, hx, hy, max_bot_left]

theorem reduces_keys : S4x2x16384x16640.Reduces [3] S4x2x16384 := by decide

theorem largest_real (s : C S4x2x16384x16640) (f : S4x2x16384x16640.Idx → ℝ) (hs : ∀ i, s i = ((f i : ℝ) : EReal)) (j : S4x2x16384.Idx) :
    ∃ M : ℝ, largest s j = M := by
  obtain ⟨M, hM⟩ := reduce_real s (constant (F := Ideal) S_ .f32 0xFF800000#32) reducesTo_S4x2x16384x16640_S4x2x16384_d3 reduces_keys h_S_ j (0 : Fin 16640)
    (fun _ => Consts.neg_inf) f hs
  refine ⟨M, ?_⟩
  unfold largest
  exact max_bot _ _ j M Consts.neg_inf hM
theorem scores_apply (q k : C S16384x512) (kc : C S256x512) (h : Fin 4) (c : Fin 2) (r : Fin 16384) (n : Fin 16640) :
    scores q k kc (ix4 h c r n) = (∑ x : Fin 64, q (ix2 r ⟨h.val * 128 + c.val * 64 + x.val, by omega⟩)
      * if h_1 : n.val < 16384 then k (ix2 ⟨n.val, h_1⟩ ⟨h.val * 128 + c.val * 64 + x.val, by omega⟩)
          else kc (ix2 ⟨n.val - 16384, by omega⟩ ⟨h.val * 128 + c.val * 64 + x.val, by omega⟩)) * Ideal.ofBits FTy.f32 0x3E000000#32 := by
  unfold scores joined
  pointwise

theorem exps_apply (s : C S4x2x16384x16640) (h : Fin 4) (c : Fin 2) (r : Fin 16384) (n : Fin 16640) :
    exps s (ix4 h c r n) = Ideal.exp (s (ix4 h c r n) - largest s (ix3 h c r)) := by
  unfold exps
  pointwise

theorem probs_apply (s : C S4x2x16384x16640) (h : Fin 4) (c : Fin 2) (r : Fin 16384) (n : Fin 16640) :
    probs s (ix4 h c r n) = Ideal.div (exps s (ix4 h c r n)) (∑ x : Fin 16640, exps s (ix4 h c r x)) := by
  unfold probs
  pointwise

theorem factor_apply (a b a' b' : C S64) (i : S_.Idx) : factor a b a' b' i =
    Ideal.exp (∑ x : Fin 64, a (ix1 x) * b (ix1 x)) - Ideal.exp (∑ x : Fin 64, a' (ix1 x) * b' (ix1 x)) + Ideal.ofBits .f32 0x3E4CCCCD#32 := by
  unfold factor
  pointwise

theorem mixed_apply (l : C S_) (p : C S4x2x16384x16640) (h : Fin 4) (r : Fin 16384) (n : Fin 16640) :
    mixed l p (ix3 h r n) = p (ix4 h 0 r n) - l ix0 * p (ix4 h 1 r n) := by
  unfold mixed
  pointwise

theorem weighed_apply (v : C S16384x512) (vc : C S256x512) (p : C S4x16384x16640) (h : Fin 4) (r : Fin 16384) (e : Fin 128) :
    weighed v vc p (ix3 r h e) = ∑ x : Fin 16384, v (ix2 x ⟨h.val * 128 + e.val, by omega⟩) * p (ix3 h r ⟨x.val, by omega⟩)
      + ∑ x : Fin 256, vc (ix2 x ⟨h.val * 128 + e.val, by omega⟩) * p (ix3 h r ⟨16384 + x.val, by omega⟩) := by
  unfold weighed joined
  pointwise

theorem normed_apply (o : C S16384x4x128) (g : C S128) (i : S16384x512.Idx) (h : Fin 4) (e : Fin 128) (hh : (i 1).val / 128 = h.val) (he : (i 1).val % 128 = e.val) :
    normed o g i = o (ix3 (i 0) h e) * Ideal.rsqrt (Ideal.div (∑ x : Fin 128, o (ix3 (i 0) h x) * o (ix3 (i 0) h x)) (Ideal.ofBits .f32 0x43000000#32)
      + Ideal.ofBits .f32 0x3727C5AC#32) * g (ix1 e) * Ideal.ofBits .f32 0x3F4CCCCD#32 := by
  unfold normed
  pointwise
  obtain ⟨h, hl⟩ := h
  obtain ⟨e, el⟩ := e
  subst hh he
  rfl

end Cert.ReferenceIdeal.Ref
-- ==== Proof.Value.Soft.lean ====
/- The kernel's powers of two as exponentials of the scores. -/
module

public import proofs.«01_k».proof.Proof.Value.Track

@[expose] public section

noncomputable section

namespace Cert.KernelIdeal.Soft

open Finset hiding diag
open Cert.KernelIdeal.Trip Cert.KernelIdeal.Out Cert.KernelIdeal.Track

/-- A query's score against a key in half `c` of head `h`. -/
def score (T : Tab) (h c r R : ℕ) : ℝ := (∑ d : Fin 64, T.q r (128 * h + 64 * c + d.val) * T.k R (128 * h + 64 * c + d.val)) * (1 / 8)

theorem two_pow (A : ℝ) : Real.rpow 2 (A * scale) = Real.exp (A * (1 / 8)) := by
  have h : Real.log 2 ≠ 0 := (Real.log_pos (by norm_num)).ne'
  show (2 : ℝ) ^ (A * scale) = _
  rw [Real.rpow_def_of_pos (by norm_num), scale]
  congr 1
  field_simp

variable (T : Tab) (h i : ℕ) (r : Fin 256) (R : ℕ)

theorem low : Real.rpow 2 (sc (T.kk h) (diag (T.qt h i)) R ⟨r.val, by omega⟩) = Real.exp (score T h 0 (256 * i + r.val) R) := by
  rw [score, ← two_pow]
  congr 1
  unfold sc
  rw [Fin.sum_univ_add (a := 64) (b := 64), sum_mul]
  refine (add_eq_left.mpr (sum_eq_zero fun d _ => ?_)).trans (sum_congr rfl fun d _ => ?_)
  · rw [diag, dif_pos r.isLt, if_neg (by simp), mul_zero]
  · rw [diag, dif_pos r.isLt, if_pos (by simp)]
    simp only [Tab.kk, Tab.qt, Fin.val_castAdd, Nat.mul_zero, Nat.add_zero]
    ring

theorem high : Real.rpow 2 (sc (T.kk h) (diag (T.qt h i)) R ⟨256 + r.val, by omega⟩) = Real.exp (score T h 1 (256 * i + r.val) R) := by
  rw [score, ← two_pow]
  congr 1
  unfold sc
  rw [Fin.sum_univ_add (a := 64) (b := 64), sum_mul]
  refine (add_eq_right.mpr (sum_eq_zero fun d _ => ?_)).trans (sum_congr rfl fun d _ => ?_)
  · rw [diag, dif_neg (by simp), if_pos (by simp), mul_zero]
  · rw [diag, dif_neg (by simp), if_neg (by simp)]
    simp only [Tab.kk, Tab.qt, Fin.val_natAdd, Nat.mul_one, Nat.add_assoc, Nat.add_sub_cancel_left]
    ring

/-- The average of the values under the probabilities of half `c`. -/
def avg (c r ch : ℕ) : ℝ :=
  ∑ k ∈ range 16640, T.v k ch * (Real.exp (score T h c r k) / ∑ n ∈ range 16640, Real.exp (score T h c r n))

theorem quot_low (e : Fin 128) : quot (sc (T.kk h) (diag (T.qt h i))) (T.W h) ⟨e.val, by omega⟩ ⟨r.val, by omega⟩ = avg T h 0 (256 * i + r.val) (128 * h + e.val) := by
  unfold quot avg
  simp only [low]
  rw [sum_div]
  refine sum_congr rfl fun k _ => ?_
  rw [mul_div_assoc, Tab.W, if_pos e.isLt]

theorem quot_high (e : Fin 128) : quot (sc (T.kk h) (diag (T.qt h i))) (T.W h) ⟨e.val, by omega⟩ ⟨256 + r.val, by omega⟩ = avg T h 1 (256 * i + r.val) (128 * h + e.val) := by
  unfold quot avg
  simp only [high]
  rw [sum_div]
  refine sum_congr rfl fun k _ => ?_
  rw [mul_div_assoc, Tab.W, if_pos e.isLt]

/-- The difference of the averages. -/
def mix (r ch : ℕ) : ℝ := avg T h 0 r ch - T.lam * avg T h 1 r ch

theorem dif_eq (e : Fin 128) : dif (sc (T.kk h) (diag (T.qt h i))) (T.W h) T.lam r e = mix T h (256 * i + r.val) (128 * h + e.val) := by
  rw [dif, quot_low, quot_high, mix]

end Cert.KernelIdeal.Soft
-- ==== Proof.Value.Equal.lean ====
/- The reference's result is the tables' result. -/
module

public import proofs.«01_k».proof.Proof.Value.Ref
public import proofs.«01_k».proof.Proof.Value.Soft

@[expose] public section

set_option maxRecDepth 16384

noncomputable section

namespace Cert.ReferenceIdeal.Equal

open Idealize.ShloMosaic Finset
open Cert.ReferenceIdeal Cert.ReferenceIdeal.Ref Cert.KernelIdeal.Args Cert.KernelIdeal.Soft Cert.KernelIdeal.Track
open Cert.KernelIdeal.Step (coe_sum)
open Cert.KernelIdeal.Out (div_real)

variable (q k v : Long) (kc vc : Short) (a b a' b' : Vec) (g : (⟨1, ![128]⟩ : Shape).Idx → EReal)

theorem score_real (hq : IsReal q) (hk : IsReal k) (hkc : IsReal kc) (h : Fin 4) (c : Fin 2) (r : Fin 16384) (n : Fin 16640) :
    scores q k kc (ix4 h c r n) = ((score (tab q k v kc vc a b a' b' g) h.val c.val r.val n.val : ℝ) : EReal) := by
  rw [scores_apply, score, Consts.eighth, EReal.coe_mul, ← coe_sum]
  congr 1
  refine sum_congr rfl fun x _ => ?_
  rw [EReal.coe_mul, rows_read hk hkc n.val _ n.isLt (by omega), row_read hq]
  simp only [Nat.mul_comm _ 128, Nat.mul_comm _ 64]
  rfl

/-- The tables' probability of a key. -/
def prob (T : Tab) (h c r n : ℕ) : ℝ := Real.exp (score T h c r n) / ∑ x ∈ range 16640, Real.exp (score T h c r x)

theorem shift (f : ℕ → ℝ) (M : ℝ) (n : ℕ) :
    Real.exp (f n - M) / ∑ x ∈ range 16640, Real.exp (f x - M) = Real.exp (f n) / ∑ x ∈ range 16640, Real.exp (f x) := by
  simp only [Real.exp_sub]
  rw [← sum_div, div_div_div_cancel_right₀ (Real.exp_ne_zero _)]

theorem total_ne (f : ℕ → ℝ) : (∑ x ∈ range 16640, Real.exp (f x)) ≠ 0 :=
  (sum_pos (fun _ _ => Real.exp_pos _) ⟨0, mem_range.mpr (by omega)⟩).ne'

theorem prob_real (hq : IsReal q) (hk : IsReal k) (hkc : IsReal kc) (h : Fin 4) (c : Fin 2) (r : Fin 16384) (n : Fin 16640) :
    probs (scores q k kc) (ix4 h c r n) = ((prob (tab q k v kc vc a b a' b' g) h.val c.val r.val n.val : ℝ) : EReal) := by
  have hs := score_real q k v kc vc a b a' b' g hq hk hkc
  generalize tab q k v kc vc a b a' b' g = T at hs ⊢
  generalize scores q k kc = s at hs ⊢
  obtain ⟨M, hM⟩ := largest_real s (fun i => score T (i 0).val (i 1).val (i 2).val (i 3).val)
    (fun i => (congrArg s (by funext a; fin_cases a <;> rfl : i = ix4 (i 0) (i 1) (i 2) (i 3))).trans (hs _ _ _ _)) (ix3 h c r)
  have he : ∀ x : Fin 16640, exps s (ix4 h c r x) = ((Real.exp (score T h.val c.val r.val x.val - M) : ℝ) : EReal) := fun x => by
    rw [exps_apply, hs, hM, ← EReal.coe_sub, Ideal.exp_coe]
  rw [probs_apply]
  simp only [he]
  rw [coe_sum, Fin.sum_univ_eq_sum_range (fun x => Real.exp (score T h.val c.val r.val x - M)) 16640, div_real (total_ne _)]
  rw [shift (fun x => score T h.val c.val r.val x) M n.val, prob]

theorem join_sum (f : ℕ → ℝ) : ∑ x ∈ range 16384, f x + ∑ x ∈ range 256, f (16384 + x) = ∑ x ∈ range 16640, f x :=
  (sum_range_add f 16384 256).symm

theorem mix_eq (T : Tab) (h r ch : ℕ) : mix T h r ch = ∑ x ∈ range 16640, T.v x ch * (prob T h 0 r x - T.lam * prob T h 1 r x) := by
  rw [mix, avg, avg, mul_sum, ← sum_sub_distrib]
  refine sum_congr rfl fun x _ => ?_
  rw [prob, prob]
  ring

theorem weighed_real (hq : IsReal q) (hk : IsReal k) (hv : IsReal v) (hkc : IsReal kc) (hvc : IsReal vc)
    (ha : IsReal a) (hb : IsReal b) (ha' : IsReal a') (hb' : IsReal b') (h : Fin 4) (r : Fin 16384) (e : Fin 128) :
    weighed v vc (mixed (factor a b a' b') (probs (scores q k kc))) (ix3 r h e)
      = ((mix (tab q k v kc vc a b a' b' g) h.val r.val (128 * h.val + e.val) : ℝ) : EReal) := by
  have hp := prob_real q k v kc vc a b a' b' g hq hk hkc
  have hl : ∀ i, factor a b a' b' i = (((tab q k v kc vc a b a' b' g).lam : ℝ) : EReal) := fun i =>
    (factor_apply a b a' b' i).trans (lam_read ha hb ha' hb')
  have hw : ∀ (n : ℕ) (hn : n < 16640) (ch : ℕ) (hch : ch < 512),
      (if h : n < 16384 then v (ix2 ⟨n, h⟩ ⟨ch, hch⟩) else vc (ix2 ⟨n - 16384, by omega⟩ ⟨ch, hch⟩)) = (((tab q k v kc vc a b a' b' g).v n ch : ℝ) : EReal) :=
    fun n hn ch hch => rows_read hv hvc n ch hn hch
  generalize tab q k v kc vc a b a' b' g = T at hp hl hw ⊢
  have hm : ∀ n : Fin 16640, mixed (factor a b a' b') (probs (scores q k kc)) (ix3 h r n)
      = ((prob T h.val 0 r.val n.val - T.lam * prob T h.val 1 r.val n.val : ℝ) : EReal) := fun n => by
    rw [mixed_apply, hp, hp, hl, ← EReal.coe_mul, ← EReal.coe_sub]; rfl
  rw [weighed_apply]
  have h1 : ∀ x : Fin 16384, v (ix2 x ⟨h.val * 128 + e.val, by omega⟩) = ((T.v x.val (128 * h.val + e.val) : ℝ) : EReal) := fun x => by
    have := hw x.val (by omega) (h.val * 128 + e.val) (by omega)
    rw [dif_pos x.isLt] at this
    rw [Nat.mul_comm 128]; exact this
  have h2 : ∀ x : Fin 256, vc (ix2 x ⟨h.val * 128 + e.val, by omega⟩) = ((T.v (16384 + x.val) (128 * h.val + e.val) : ℝ) : EReal) := fun x => by
    have := hw (16384 + x.val) (by omega) (h.val * 128 + e.val) (by omega)
    rw [dif_neg (by omega)] at this
    rw [Nat.mul_comm 128, ← this]
    exact congrArg (fun y => vc (ix2 y _)) (Fin.ext (Nat.add_sub_cancel_left ..).symm)
  simp only [hm, h1, h2, ← EReal.coe_mul]
  rw [coe_sum, coe_sum, ← EReal.coe_add]
  refine congrArg Real.toEReal ?_
  rw [Fin.sum_univ_eq_sum_range (fun x => T.v x (128 * h.val + e.val) * (prob T h.val 0 r.val x - T.lam * prob T h.val 1 r.val x)) 16384,
    Fin.sum_univ_eq_sum_range (fun x => T.v (16384 + x) (128 * h.val + e.val) * (prob T h.val 0 r.val (16384 + x) - T.lam * prob T h.val 1 r.val (16384 + x))) 256,
    join_sum (fun x => T.v x (128 * h.val + e.val) * (prob T h.val 0 r.val x - T.lam * prob T h.val 1 r.val x)), mix_eq]

/-- The reference's steps give the tables' result. -/
theorem result_eq (hq : IsReal q) (hk : IsReal k) (hv : IsReal v) (hkc : IsReal kc) (hvc : IsReal vc)
    (ha : IsReal a) (hb : IsReal b) (ha' : IsReal a') (hb' : IsReal b') :
    normed (weighed v vc (mixed (factor a b a' b') (probs (scores q k kc)))) g = result (tab q k v kc vc a b a' b' g) := by
  have hw := weighed_real q k v kc vc a b a' b' g hq hk hv hkc hvc ha hb ha' hb'
  have hg : ∀ e, (tab q k v kc vc a b a' b' g).g e = g (ix1 e) := fun _ => rfl
  funext i
  have h0 : (i 0).val < 16384 := (i 0).isLt
  have h1 : (i 1).val < 512 := (i 1).isLt
  have hr : 256 * ((i 0).val / 256) + (i 0).val % 256 = (i 0).val := by omega
  generalize tab q k v kc vc a b a' b' g = T at hw hg ⊢
  rw [normed_apply _ g i ⟨(i 1).val / 128, by omega⟩ ⟨(i 1).val % 128, Nat.mod_lt _ (by decide)⟩ rfl rfl]
  have hx := hw ⟨(i 1).val / 128, by omega⟩ (i 0)
  simp only [hx, ← EReal.coe_mul, coe_sum]
  show _ = Cert.KernelIdeal.Out.norm (Cert.KernelIdeal.Out.dif _ _ _ ⟨(i 0).val % 256, _⟩) T.g ⟨(i 1).val % 128, _⟩
  unfold Cert.KernelIdeal.Out.norm
  simp only [dif_eq, hr, hg]

end Cert.ReferenceIdeal.Equal
-- ==== Proof.Agree.lean ====
/- The kernel and the reference agree: the last of the claims. -/
module

public import proofs.«01_k».proof.Proof.Value.Finite
public import proofs.«01_k».proof.Proof.Value.Equal

@[expose] public section

noncomputable section

namespace Cert.Proof

open Idealize.ShloMosaic Idealize.ShloMosaic.TcCoe Idealize.SL.Sem
open Cert.KernelIdeal.Args (result)
open Cert.KernelIdeal.Entry (tabs Reals)

local instance : Cert.Pre_finite.Facts := Cert.Finite.facts

theorem reals (m : (ℓ : Loc KernelIdeal.nD KernelIdeal.τ KernelIdeal.sig) → Buf (Elt Ideal) ℓ) (h : Cert.Pre_KernelIdeal_finite m) (c : Dev KernelIdeal.nD) :
    Reals m c := by
  obtain ⟨h0, h1, h2, h3, h4, h5, h6, h7, h8⟩ := Finite.reals _ _ _ _ _ _ _ _ _ _ (h c)
  exact ⟨h0, h1, h2, h3, h4, h5, h6, h7, h8⟩

section
open Cert.KernelIdeal Cert.KernelIdeal.Gen

theorem kernel_run (m : (ℓ : Loc nD τ sig) → Buf (Elt Ideal) ℓ) (ρ : Dev nD → PrngReg) (B : ∀ c, Reals m c) :
    θ_run (defs (F := Ideal)) (onTc (τ := τ) (main (F := Ideal))) ⟨m, fun _ => 0, ρ⟩ (fun r => ∀ c : Dev nD,
      r.2.mem ((c.tc : Thread nD τ).loc main_v19) = result (tabs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h' c => have h := h'.1; ⟨((h c).1 6).trans (Entry.out_array m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (Track.run_main (tabs m) m ρ (fun c => Entry.blocks m B c))

end

theorem reference_value (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) (B : Reals m c)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2))
    (e3 : m' ((c.tc : Thread ReferenceIdeal.nD ReferenceIdeal.τ).loc ReferenceIdeal.main_arg3) = m ((c.tc : Thread KernelIdeal.nD KernelIdeal.τ).loc KernelIdeal.main_arg3))
    (e4 : m' ((c.tc : Thread ReferenceIdeal.nD ReferenceIdeal.τ).loc ReferenceIdeal.main_arg4) = m ((c.tc : Thread KernelIdeal.nD KernelIdeal.τ).loc KernelIdeal.main_arg4))
    (e5 : m' ((c.tc : Thread ReferenceIdeal.nD ReferenceIdeal.τ).loc ReferenceIdeal.main_arg5) = m ((c.tc : Thread KernelIdeal.nD KernelIdeal.τ).loc KernelIdeal.main_arg5))
    (e6 : m' ((c.tc : Thread ReferenceIdeal.nD ReferenceIdeal.τ).loc ReferenceIdeal.main_arg6) = m ((c.tc : Thread KernelIdeal.nD KernelIdeal.τ).loc KernelIdeal.main_arg6))
    (e7 : m' ((c.tc : Thread ReferenceIdeal.nD ReferenceIdeal.τ).loc ReferenceIdeal.main_arg7) = m ((c.tc : Thread KernelIdeal.nD KernelIdeal.τ).loc KernelIdeal.main_arg7))
    (e8 : m' ((c.tc : Thread ReferenceIdeal.nD ReferenceIdeal.τ).loc ReferenceIdeal.main_arg8) = m ((c.tc : Thread KernelIdeal.nD KernelIdeal.τ).loc KernelIdeal.main_arg8))
    (e9 : m' ((c.tc : Thread ReferenceIdeal.nD ReferenceIdeal.τ).loc ReferenceIdeal.main_arg9) = m ((c.tc : Thread KernelIdeal.nD KernelIdeal.τ).loc KernelIdeal.main_arg9)) :
    (ReferenceIdeal.Value.res_main_v55 (F := Ideal) m' c : ReferenceIdeal.Ref.C ReferenceIdeal.S16384x512) = result (tabs m c) := by
  refine (ReferenceIdeal.Ref.result_steps m' c).trans ?_
  rw [e0, e1, e2, e3, e4, e5, e6, e7, e8, e9]
  exact ReferenceIdeal.Equal.result_eq _ _ _ _ _ _ _ _ _ _ B.q B.k B.v B.kc B.vc B.a B.b B.a' B.b'

/-- From real arguments the kernel and the reference end with the same result. -/
theorem algebraic : Cert.algebraic_KernelIdeal_ReferenceIdeal_pre_finite := fun m g m' g' hpre he =>
  ⟨fun c => result (tabs m c), kernel_run m g (reals m hpre),
    (θ_run ReferenceIdeal.defs _ _).mono (fun _ h c => by
      obtain ⟨e0, e1, e2, e3, e4, e5, e6, e7, e8, e9⟩ := he c
      exact ⟨(h c).1.trans (reference_value m m' c (reals m hpre c) e0 e1 e2 e3 e4 e5 e6 e7 e8 e9), (h c).2⟩)
      (ReferenceIdeal.Value.run (F := Ideal) m' g')⟩

end Cert.Proof

end
-- ==== Proof.Proj.Spec.lean ====
/- The projection by its mathematics: the scaled and shifted rows, their product with the weights, and the rotation
   of the columns of queries and keys. -/
module

public import Idealize.ShloMosaic.Lib.Claim
public import Idealize.ShloMosaic.Lib.Pointwise
public import Idealize.ShloMosaic.PureOps.Ideal.Laws

@[expose] public section

noncomputable section

namespace Cert.Proj

open Idealize.ShloMosaic

/-- The rows. -/
abbrev Rows := (⟨2, ![16384, 2048]⟩ : Shape).Idx → EReal
/-- A scale or a shift. -/
abbrev Gain := (⟨2, ![1, 2048]⟩ : Shape).Idx → EReal
/-- The two layers' weights. -/
abbrev Weights := (⟨3, ![2, 2048, 13056]⟩ : Shape).Idx → EReal
/-- A row's angles, one of each frequency. -/
abbrev Angles := (⟨2, ![16384, 16]⟩ : Shape).Idx → EReal
/-- The result's index. -/
abbrev At := (⟨2, ![16384, 13056]⟩ : Shape).Idx

/-- The arguments. -/
structure Arg where
  x : Rows
  sc : Gain
  sh : Gain
  w : Weights
  ar : Angles
  ac : Angles

namespace Arg
variable (A : Arg)

/-- The scaled and shifted rows. -/
def hid (r : Fin 16384) (k : Fin 2048) : EReal := A.x (ix2 r k) * (1 + A.sc (ix2 0 k)) + A.sh (ix2 0 k)

/-- Column `j` of the first layer's weights, none past the last. -/
def wt (k : Fin 2048) (j : ℕ) : EReal := if h : j < 13056 then A.w (ix3 0 k ⟨j, h⟩) else 0

/-- The product at row `r` and column `j`. -/
def prod (r : Fin 16384) (j : ℕ) : EReal := ∑ k, A.hid r k * A.wt k j

/-- The angle of row `r` at column `j`: of the row in the first 32 of every 64 columns, of the column in the others. -/
def ang (r : Fin 16384) (j : ℕ) : EReal :=
  if j % 64 < 32 then A.ar (ix2 r ⟨j % 16, Nat.mod_lt _ (by norm_num)⟩) else A.ac (ix2 r ⟨j % 16, Nat.mod_lt _ (by norm_num)⟩)

/-- The rotated product: a column and the one sixteen further are turned as a pair. -/
def turn (r : Fin 16384) (j : ℕ) : EReal :=
  if j % 32 < 16 then A.prod r j * Ideal.cos (A.ang r j) - A.prod r (j + 16) * Ideal.sin (A.ang r j)
  else A.prod r j * Ideal.cos (A.ang r j) + A.prod r (j - 16) * Ideal.sin (A.ang r j)

/-- The columns of the queries and keys. -/
def Turned (j : ℕ) : Prop := (2560 ≤ j ∧ j < 3584) ∨ (4096 ≤ j ∧ j < 4736)

instance (j : ℕ) : Decidable (Turned j) := inferInstanceAs (Decidable (_ ∨ _))

/-- The projection at a row and a column of the weights. -/
def proj (r : Fin 16384) (j : ℕ) : EReal := if Turned j then A.turn r j else A.prod r j

/-- The column of the weights which the result's column `q` holds: the last 8192 come first. -/
def place (q : ℕ) : ℕ := if q < 8192 then q + 4864 else q - 8192

/-- The result. -/
def result : At → EReal := fun i => A.proj (i 0) (place (i 1).val)

end Arg
end Cert.Proj

end

end
-- ==== Proof.Proj.Tables.lean ====
/- The tables of cosines and sines the host prepares, at a row and a lane. -/
module

public import proofs.«01_k».proof.Proof.Gen.ProjKernelIdeal.Value
public import proofs.«01_k».proof.Proof.Proj.Spec
public import Idealize.ShloMosaic.Lib.Pipeline.ValueKit

@[expose] public section

set_option maxRecDepth 16384

noncomputable section

namespace Cert.Proj

open Idealize.ShloMosaic Idealize.ShloMosaic.TcCoe Idealize.ShloMosaic.Tactic
open Cert.ProjKernelIdeal Cert.ProjKernelIdeal.Gen

variable (m : (ℓ : Loc nD τ sig) → Buf (Elt Ideal) ℓ) (c : Dev nD)

/-- A device's arguments. -/
def args : Arg where
  x := m ((c.tc : Thread nD τ).loc main_arg0)
  sc := m ((c.tc : Thread nD τ).loc main_arg1)
  sh := m ((c.tc : Thread nD τ).loc main_arg2)
  w := m ((c.tc : Thread nD τ).loc main_arg3)
  ar := m ((c.tc : Thread nD τ).loc main_arg4)
  ac := m ((c.tc : Thread nD τ).loc main_arg5)

/-- Four blocks of sixteen columns side by side. -/
def four (a b d e : FVec Ideal S16384x16 .f32) : FVec Ideal S16384x64 .f32 :=
  concatenate S16384x64 1 [⟨S16384x16, a⟩, ⟨S16384x16, b⟩, ⟨S16384x16, d⟩, ⟨S16384x16, e⟩]
    concatenates_S16384x16_S16384x16_S16384x16_S16384x16_S16384x64_d1

/-- A block of sixty-four columns twice. -/
def twice (a : FVec Ideal S16384x64 .f32) : FVec Ideal S16384x128 .f32 :=
  concatenate S16384x128 1 [⟨S16384x64, a⟩, ⟨S16384x64, a⟩] concatenates_S16384x64_S16384x64_S16384x128_d1

/-- The angles of the rows and of the columns. -/
def rowAng : FVec Ideal S16384x16 .f32 := m ((c.tc : Thread nD τ).loc main_arg4)
def colAng : FVec Ideal S16384x16 .f32 := m ((c.tc : Thread nD τ).loc main_arg5)

set_option maxHeartbeats 2000000 in
theorem cos_table : V m c main_v12 =
    twice (four (Host.cos (rowAng m c)) (Host.cos (rowAng m c)) (Host.cos (colAng m c)) (Host.cos (colAng m c))) := by
  unfold V
  after_results_simp
  rfl

set_option maxHeartbeats 2000000 in
theorem sin_table : V m c main_v13 =
    twice (four (Host.negf (Host.sin (rowAng m c))) (Host.sin (rowAng m c)) (Host.negf (Host.sin (colAng m c)))
      (Host.sin (colAng m c))) := by
  unfold V
  after_results_simp
  rfl

theorem four_apply (a b d e : FVec Ideal S16384x16 .f32) (r : Fin 16384) (k : Fin 64) :
    (four a b d e : S16384x64.Idx → EReal) (ix2 r k) =
      if k.val < 32 then (if k.val % 32 < 16 then a (ix2 r ⟨k.val % 16, Nat.mod_lt _ (by norm_num)⟩) else b (ix2 r ⟨k.val % 16, Nat.mod_lt _ (by norm_num)⟩))
      else (if k.val % 32 < 16 then d (ix2 r ⟨k.val % 16, Nat.mod_lt _ (by norm_num)⟩) else e (ix2 r ⟨k.val % 16, Nat.mod_lt _ (by norm_num)⟩)) := by
  unfold four
  pointwise
  have hk := k.isLt
  by_cases h1 : k.val < 16
  · refine (dif_pos h1).trans (.trans ?_ ((if_pos (by omega)).trans (if_pos (by omega))).symm)
    exact congrArg (fun i => a (ix2 r i)) (Fin.ext (show k.val = k.val % 16 by omega))
  refine (dif_neg h1).trans ?_
  by_cases h2 : k.val - 16 < 16
  · refine (dif_pos h2).trans (.trans ?_ ((if_pos (by omega)).trans (if_neg (by omega))).symm)
    exact congrArg (fun i => b (ix2 r i)) (Fin.ext (show k.val - 16 = k.val % 16 by omega))
  refine (dif_neg h2).trans ?_
  by_cases h3 : k.val - 16 - 16 < 16
  · refine (dif_pos h3).trans (.trans ?_ ((if_neg (by omega)).trans (if_pos (by omega))).symm)
    exact congrArg (fun i => d (ix2 r i)) (Fin.ext (show k.val - 16 - 16 = k.val % 16 by omega))
  refine (dif_neg h3).trans (.trans ?_ ((if_neg (by omega)).trans (if_neg (by omega))).symm)
  exact congrArg (fun i => e (ix2 r i)) (Fin.ext (show k.val - 16 - 16 - 16 = k.val % 16 by omega))

theorem twice_apply (a : FVec Ideal S16384x64 .f32) (r : Fin 16384) (k : Fin 128) :
    (twice a : S16384x128.Idx → EReal) (ix2 r k) = a (ix2 r ⟨k.val % 64, Nat.mod_lt _ (by norm_num)⟩) := by
  unfold twice
  pointwise
  have hk := k.isLt
  by_cases h1 : k.val < 64
  · refine (dif_pos h1).trans ?_
    exact congrArg (fun i => a (ix2 r i)) (Fin.ext (show k.val = k.val % 64 by omega))
  refine (dif_neg h1).trans ?_
  exact congrArg (fun i => a (ix2 r i)) (Fin.ext (show k.val - 64 = k.val % 64 by omega))

theorem cos_read (r : Fin 16384) (k : Fin 128) :
    (V m c main_v12 : S16384x128.Idx → EReal) (ix2 r k) = Ideal.cos ((args m c).ang r k.val) := by
  refine (congrFun (cos_table m c) (ix2 r k)).trans ((twice_apply _ r k).trans ((four_apply _ _ _ _ r _).trans ?_))
  unfold Arg.ang
  have e : k.val % 64 % 16 = k.val % 16 := by omega
  simp only [e]
  by_cases h1 : k.val % 64 < 32
  · rw [if_pos h1, if_pos h1, ite_self]; rfl
  · rw [if_neg h1, if_neg h1, ite_self]; rfl

theorem sin_read (r : Fin 16384) (k : Fin 128) :
    (V m c main_v13 : S16384x128.Idx → EReal) (ix2 r k) =
      if k.val % 32 < 16 then -Ideal.sin ((args m c).ang r k.val) else Ideal.sin ((args m c).ang r k.val) := by
  refine (congrFun (sin_table m c) (ix2 r k)).trans ((twice_apply _ r k).trans ((four_apply _ _ _ _ r _).trans ?_))
  unfold Arg.ang
  have e : k.val % 64 % 16 = k.val % 16 := by omega
  have e' : k.val % 64 % 32 = k.val % 32 := by omega
  simp only [e, e']
  by_cases h1 : k.val % 64 < 32 <;> by_cases h2 : k.val % 32 < 16 <;> simp only [h1, h2, if_true, if_false] <;> rfl

end Cert.Proj

end

end
-- ==== Proof.Proj.Blocks.lean ====
/- The projection's body at the program's arguments: the blocks it reads and what it computes of them. -/
module

public import proofs.«01_k».proof.Proof.Proj.Tables

@[expose] public section

set_option maxRecDepth 16384

noncomputable section

namespace Cert.Proj

open Idealize.ShloMosaic Idealize.ShloMosaic.TcCoe Idealize.ShloMosaic.Tactic Idealize.ShloMosaic.Pipeline
open Cert.ProjKernelIdeal Cert.ProjKernelIdeal.Gen

section payloads

/-- Column `k` of the product of kept rows and a block of weights. -/
def col (x : S2048x2048.Idx → EReal) (y : S1x2048x256.Idx → EReal) (r : Fin 2048) (k : Fin 256) : EReal :=
  ∑ q, x (ix2 r q) * y (ix3 0 q k)

theorem pay1_apply (x y z) (r k : Fin 2048) :
    (k0_pay1 (F := Ideal) x y z : S2048x2048.Idx → EReal) (ix2 r k) = x (ix2 r k) * (1 + y (ix2 0 k)) + z (ix2 0 k) := by
  unfold k0_pay1
  pointwise

theorem pay2_apply (x y) (r : Fin 2048) (k : Fin 256) :
    (k0_pay2 (F := Ideal) x y : S2048x256.Idx → EReal) (ix2 r k) = col x y r k := by
  unfold k0_pay2 col
  pointwise

/-- Bit 4 of a lane is clear in the first sixteen of every thirty-two. -/
theorem bit_lane (k : ℕ) (hk : k < 256) {α : Type} (a b : α) :
    Scalar.select (IntOp.cmpi .eq (IntOp.andi (BitVec.ofNat 32 k) 16#32) 0#32) a b = if k % 32 < 16 then a else b := by
  have h : ∀ k : Fin 256, (IntOp.cmpi .eq (IntOp.andi (BitVec.ofNat 32 k.val) 16#32) 0#32 = 1) ↔ k.val % 32 < 16 := by
    decide +kernel
  unfold Scalar.select
  exact if_congr (h ⟨k, hk⟩) rfl rfl

theorem pay6_apply (x y) (r : Fin 2048) (k : Fin 256) :
    (k0_pay6 (F := Ideal) x y : S2048x256.Idx → EReal) (ix2 r k) = col x y r k := by
  rw [← pay2_apply]
  unfold k0_pay6
  pointwise

theorem pay5_apply (x y) (r : Fin 2048) (k : Fin 128) :
    (k0_pay5 (F := Ideal) x y : S2048x128.Idx → EReal) (ix2 r k) = col x y r ⟨k.val + 128, by omega⟩ := by
  rw [← pay2_apply]
  unfold k0_pay5
  generalize k0_pay2 x y = A
  pointwise
  exact congrArg (fun i => (A : S2048x256.Idx → EReal) (ix2 r i)) (Fin.ext (Nat.add_comm _ _))

theorem pay4_apply (x y u v) (r : Fin 2048) (k : Fin 128) :
    (k0_pay4 (F := Ideal) x y u v : S2048x128.Idx → EReal) (ix2 r k) =
      col x y r ⟨k.val, by omega⟩ * u (ix2 r k) +
        (if k.val % 32 < 16 then col x y r ⟨(k.val + 16) % 256, by omega⟩ else col x y r ⟨(k.val + 240) % 256, by omega⟩) * v (ix2 r k) := by
  simp only [← pay2_apply]
  unfold k0_pay4
  generalize k0_pay2 x y = A
  have hk := k.isLt
  pointwise
  rw [bit_lane k.val (by omega)]
  by_cases h : k.val % 32 < 16
  · rw [if_pos h, if_pos h]
    refine congrArg (fun z => (A : S2048x256.Idx → EReal) (ix2 r ⟨k.val, by omega⟩) * (u : S2048x128.Idx → EReal) (ix2 r k) +
      (A : S2048x256.Idx → EReal) (ix2 r z) * (v : S2048x128.Idx → EReal) (ix2 r k)) (Fin.ext ?_)
    show (k.val + 128 - 112) % 128 = (k.val + 16) % 256
    omega
  · rw [if_neg h, if_neg h]
    refine congrArg (fun z => (A : S2048x256.Idx → EReal) (ix2 r ⟨k.val, by omega⟩) * (u : S2048x128.Idx → EReal) (ix2 r k) +
      (A : S2048x256.Idx → EReal) (ix2 r z) * (v : S2048x128.Idx → EReal) (ix2 r k)) (Fin.ext ?_)
    show (k.val + 128 - 16) % 128 = (k.val + 240) % 256
    omega

theorem pay3_apply (x y u v) (r : Fin 2048) (k : Fin 256) :
    (k0_pay3 (F := Ideal) x y u v : S2048x256.Idx → EReal) (ix2 r k) =
      col x y r k * u (ix2 r ⟨k.val % 128, Nat.mod_lt _ (by norm_num)⟩) +
        (if k.val % 32 < 16 then col x y r ⟨(k.val + 16) % 256, by omega⟩ else col x y r ⟨(k.val + 240) % 256, by omega⟩)
          * v (ix2 r ⟨k.val % 128, Nat.mod_lt _ (by norm_num)⟩) := by
  simp only [← pay2_apply]
  unfold k0_pay3
  generalize k0_pay2 x y = A
  have hk := k.isLt
  pointwise
  rw [bit_lane k.val hk]
  have two : ∀ (f : S2048x128.Idx → EReal), (if h : k.val < 128 then f (ix2 r ⟨k.val, h⟩) else f (ix2 r ⟨k.val - 128, by omega⟩)) =
      f (ix2 r ⟨k.val % 128, Nat.mod_lt _ (by norm_num)⟩) := by
    intro f
    by_cases h : k.val < 128
    · exact (dif_pos h).trans (congrArg (fun z => f (ix2 r z)) (Fin.ext (show k.val = k.val % 128 by omega)))
    · exact (dif_neg h).trans (congrArg (fun z => f (ix2 r z)) (Fin.ext (show k.val - 128 = k.val % 128 by omega)))
  refine congrArg₂ (· + ·) (congrArg (_ * ·) (two u)) (congrArg₂ (· * ·) ?_ (two v))
  by_cases h : k.val % 32 < 16
  · rw [if_pos h, if_pos h]
    refine congrArg (fun z => (A : S2048x256.Idx → EReal) (ix2 r z)) (Fin.ext ?_)
    show (k.val + 256 - 240) % 256 = (k.val + 16) % 256
    omega
  · rw [if_neg h, if_neg h]
    refine congrArg (fun z => (A : S2048x256.Idx → EReal) (ix2 r z)) (Fin.ext ?_)
    show (k.val + 256 - 16) % 256 = (k.val + 240) % 256
    omega

end payloads

variable (m : (ℓ : Loc nD τ sig) → Buf (Elt Ideal) ℓ) (c : Dev nD)

theorem index_all : ∀ t : Fin cfg0.N,
    win0_0.index t = ![t.val / 51, 0] ∧ win0_1.index t = ![0, 0] ∧ win0_2.index t = ![0, 0]
    ∧ win0_3.index t = ![0, 0, t.val % 51] ∧ win0_4.index t = ![t.val / 51, 0] ∧ win0_5.index t = ![t.val / 51, 0]
    ∧ win0_6.index t = ![t.val / 51, if t.val % 51 < 19 then t.val % 51 + 32 else t.val % 51 - 19] := by decide +kernel

theorem lt_points (t : Fin cfg0.N) : t.val < 408 := t.isLt

/-- Row `r` of a point's row block. -/
def row (t : ℕ) (r : Fin 2048) : Fin 16384 := ⟨(t / 51 * 2048 + r.val) % 16384, Nat.mod_lt _ (by norm_num)⟩

theorem row_val (t : Fin cfg0.N) (r : Fin 2048) : (row t.val r).val = t.val / 51 * 2048 + r.val := by
  have := lt_points t
  exact Nat.mod_eq_of_lt (by omega)

theorem blk_x (t : Fin cfg0.N) (r k : Fin 2048) :
    (iblk m c 0 t : S2048x2048.Idx → EReal) (ix2 r k) = (args m c).x (ix2 (row t.val r) k) := by
  obtain ⟨h0, h1, h2, h3, h4, h5, h6⟩ := index_all t
  have hr := row_val t r
  unfold iblk
  show (V m c main_arg0 : S16384x2048.Idx → EReal) (((cfg0.win 0).blk t).view.emb (ix2 r k)) = _
  entry_read
  refine congrArg (m ((c.tc : Thread nD τ).loc main_arg0) : S16384x2048.Idx → EReal) ?_
  funext a
  fin_cases a <;> refine Fin.ext ?_ <;> blk_simp [h0]
  · exact hr.symm
  · rfl

theorem blk_sc (t : Fin cfg0.N) (k : Fin 2048) :
    (iblk m c 1 t : S1x2048.Idx → EReal) (ix2 0 k) = (args m c).sc (ix2 0 k) := by
  obtain ⟨h0, h1, h2, h3, h4, h5, h6⟩ := index_all t
  unfold iblk
  show (V m c main_arg1 : S1x2048.Idx → EReal) (((cfg0.win 1).blk t).view.emb (ix2 0 k)) = _
  entry_read
  refine congrArg (m ((c.tc : Thread nD τ).loc main_arg1) : S1x2048.Idx → EReal) ?_
  funext a
  fin_cases a <;> refine Fin.ext ?_ <;> blk_simp [h1]

theorem blk_sh (t : Fin cfg0.N) (k : Fin 2048) :
    (iblk m c 2 t : S1x2048.Idx → EReal) (ix2 0 k) = (args m c).sh (ix2 0 k) := by
  obtain ⟨h0, h1, h2, h3, h4, h5, h6⟩ := index_all t
  unfold iblk
  show (V m c main_arg2 : S1x2048.Idx → EReal) (((cfg0.win 2).blk t).view.emb (ix2 0 k)) = _
  entry_read
  refine congrArg (m ((c.tc : Thread nD τ).loc main_arg2) : S1x2048.Idx → EReal) ?_
  funext a
  fin_cases a <;> refine Fin.ext ?_ <;> blk_simp [h2]

theorem blk_w (t : Fin cfg0.N) (k : Fin 2048) (j : Fin 256) :
    (iblk m c 3 t : S1x2048x256.Idx → EReal) (ix3 0 k j) = (args m c).wt k (t.val % 51 * 256 + j.val) := by
  obtain ⟨h0, h1, h2, h3, h4, h5, h6⟩ := index_all t
  unfold iblk Arg.wt
  rw [dif_pos (by omega)]
  show (V m c main_arg3 : S2x2048x13056.Idx → EReal) (((cfg0.win 3).blk t).view.emb (ix3 0 k j)) = _
  entry_read
  refine congrArg (m ((c.tc : Thread nD τ).loc main_arg3) : S2x2048x13056.Idx → EReal) ?_
  funext a
  fin_cases a <;> refine Fin.ext ?_ <;> blk_simp [h3] <;> try rfl

theorem blk_cos (t : Fin cfg0.N) (r : Fin 2048) (k : Fin 128) :
    (iblk m c 4 t : S2048x128.Idx → EReal) (ix2 r k) = Ideal.cos ((args m c).ang (row t.val r) k.val) := by
  obtain ⟨h0, h1, h2, h3, h4, h5, h6⟩ := index_all t
  have hr := row_val t r
  rw [← cos_read]
  unfold iblk
  refine congrArg (V m c main_v12 : S16384x128.Idx → EReal) (?_ : ((cfg0.win 4).blk t).view.emb (ix2 r k) = _)
  funext a
  fin_cases a <;> refine Fin.ext ?_ <;> blk_simp [h4]
  · exact hr.symm
  · rfl

theorem blk_sin (t : Fin cfg0.N) (r : Fin 2048) (k : Fin 128) :
    (iblk m c 5 t : S2048x128.Idx → EReal) (ix2 r k) =
      if k.val % 32 < 16 then -Ideal.sin ((args m c).ang (row t.val r) k.val) else Ideal.sin ((args m c).ang (row t.val r) k.val) := by
  obtain ⟨h0, h1, h2, h3, h4, h5, h6⟩ := index_all t
  have hr := row_val t r
  rw [← sin_read]
  unfold iblk
  refine congrArg (V m c main_v13 : S16384x128.Idx → EReal) (?_ : ((cfg0.win 5).blk t).view.emb (ix2 r k) = _)
  funext a
  fin_cases a <;> refine Fin.ext ?_ <;> blk_simp [h5]
  · exact hr.symm
  · rfl

end Cert.Proj

end

end
-- ==== Proof.Proj.Cases.lean ====
/- What the projection's body leaves at a point, by the case of its column block. -/
module

public import proofs.«01_k».proof.Proof.Gen.ProjKernelIdeal.Value
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.PureOps.Ideal.Laws

@[expose] public section

set_option maxRecDepth 16384

noncomputable section

namespace Cert.Proj

open Idealize.ShloMosaic Idealize.ShloMosaic.TcCoe Idealize.ShloMosaic.Tactic
open Cert.ProjKernelIdeal Cert.ProjKernelIdeal.Gen

variable (m : (ℓ : Loc nD τ sig) → Buf (Elt Ideal) ℓ) (c : Dev nD)

/-- At the first column block of a row block the rows are scaled, shifted and kept, and their product stored. -/
theorem point_first (t : Fin cfg0.N) (h : t.val % 51 = 0) :
    outsAt0 m c t.val t.isLt =
      (k0_pay6 (k0_pay1 (iblk m c 0 t) (iblk m c 1 t) (iblk m c 2 t)) (iblk m c 3 t),
        k0_pay1 (iblk m c 0 t) (iblk m c 1 t) (iblk m c 2 t)) := by
  rw [outsAt0_A m c t h (by omega) (by omega) (by omega)]
  refine Prod.ext ?_ ?_ <;> frame_out

/-- At a plain column block the product is stored. -/
theorem point_plain (t : Fin cfg0.N) (h : ¬t.val % 51 = 0)
    (h' : ¬(t.val % 51 = 10 ∨ t.val % 51 = 11 ∨ t.val % 51 = 12 ∨ t.val % 51 = 13 ∨ t.val % 51 = 16 ∨ t.val % 51 = 17 ∨ t.val % 51 = 18)) :
    outsAt0 m c t.val t.isLt =
      (k0_pay6 (outsAt0 m c (t.val - 1) (by omega)).2 (iblk m c 3 t), (outsAt0 m c (t.val - 1) (by omega)).2) := by
  rw [outsAt0_B m c t h (by omega) (by omega) h']
  refine Prod.ext ?_ rfl
  frame_out
  rw [read_unread_whole]

/-- At a rotated column block the rotated product. -/
theorem point_full (t : Fin cfg0.N)
    (h : t.val % 51 = 10 ∨ t.val % 51 = 11 ∨ t.val % 51 = 12 ∨ t.val % 51 = 13 ∨ t.val % 51 = 16 ∨ t.val % 51 = 17) :
    outsAt0 m c t.val t.isLt =
      (k0_pay3 (outsAt0 m c (t.val - 1) (by omega)).2 (iblk m c 3 t) (iblk m c 4 t) (iblk m c 5 t),
        (outsAt0 m c (t.val - 1) (by omega)).2) := by
  rw [outsAt0_C m c t (by omega) h (by omega) (by omega)]
  refine Prod.ext ?_ rfl
  frame_out
  rw [read_unread_whole]

/-- At the block half of which is rotated the rows are kept, -/
theorem point_half_kept (t : Fin cfg0.N) (h : t.val % 51 = 18) :
    (outsAt0 m c t.val t.isLt).2 = (outsAt0 m c (t.val - 1) (by omega)).2 := by
  rw [outsAt0_D m c t (by omega) (by omega) h (by omega)]
  rfl

/-- the left half is the rotated product, -/
theorem point_half_left (t : Fin cfg0.N) (h : t.val % 51 = 18) (r : Fin 2048) (k : Fin 256) (hk : k.val < 128) :
    (outsAt0 m c t.val t.isLt).1 (ix2 r k) =
      k0_pay4 (outsAt0 m c (t.val - 1) (by omega)).2 (iblk m c 3 t) (iblk m c 4 t) (iblk m c 5 t) (ix2 r ⟨k.val, hk⟩) := by
  rw [outsAt0_D m c t (by omega) (by omega) h (by omega)]
  frame_out
  rw [read_unread_whole]
  refine (View.canon_cons_of_not_mem _ _ ?_).trans ?_
  · rw [Rect.mem_set_unit]
    intro hh
    have := (hh 1).1
    exact absurd this (by simpa using hk)
  · refine Eq.trans (congrArg _ (?_ : _ = (Rect.unit (s := S2048x256) ![0, 0] S2048x128.size inb_S2048x256_S2048x128_0_0).emb (ix2 r ⟨k.val, hk⟩))) (View.canon_cons_emb _ _ _ _)
    funext a
    refine Fin.ext ?_
    fin_cases a
    · show r.val = 0 + 1 * r.val
      omega
    · show k.val = 0 + 1 * k.val
      omega

/-- and the right half the product. -/
theorem point_half_right (t : Fin cfg0.N) (h : t.val % 51 = 18) (r : Fin 2048) (k : Fin 256) (hk : ¬k.val < 128) :
    (outsAt0 m c t.val t.isLt).1 (ix2 r k) =
      k0_pay5 (outsAt0 m c (t.val - 1) (by omega)).2 (iblk m c 3 t) (ix2 r ⟨k.val - 128, by omega⟩) := by
  rw [outsAt0_D m c t (by omega) (by omega) h (by omega)]
  frame_out
  rw [read_unread_whole]
  refine Eq.trans (congrArg _ (?_ : _ = (Rect.unit (s := S2048x256) ![0, 128] S2048x128.size inb_S2048x256_S2048x128_0_128).emb (ix2 r ⟨k.val - 128, by omega⟩))) (View.canon_cons_emb _ _ _ _)
  funext a
  refine Fin.ext ?_
  fin_cases a
  · show r.val = 0 + 1 * r.val
    omega
  · show k.val = 128 + 1 * (k.val - 128)
    omega

end Cert.Proj

end

end
-- ==== Proof.Proj.Array.lean ====
/- The array the projection's kernel leaves. -/
module

public import proofs.«01_k».proof.Proof.Proj.Blocks
public import proofs.«01_k».proof.Proof.Proj.Cases

@[expose] public section

set_option maxRecDepth 16384

noncomputable section

namespace Cert.Proj

open Idealize.ShloMosaic Idealize.ShloMosaic.TcCoe Idealize.ShloMosaic.Tactic Idealize.ShloMosaic.Pipeline
open Cert.ProjKernelIdeal Cert.ProjKernelIdeal.Gen

theorem ang_congr (A : Arg) (R : Fin 16384) (i j : ℕ) (h : i % 64 = j % 64) : A.ang R i = A.ang R j := by
  have h' : i % 16 = j % 16 := by omega
  unfold Arg.ang
  simp only [h, h']

/-- The rotation as the kernel computes it: the signs lie in the table of sines, the partner is sixteen lanes away. -/
theorem turn_lanes (A : Arg) (R : Fin 16384) (b : ℕ) (k : ℕ) (hk : k < 256) :
    A.prod R (b * 256 + k) * Ideal.cos (A.ang R (k % 128)) +
      (if k % 32 < 16 then A.prod R (b * 256 + (k + 16) % 256) else A.prod R (b * 256 + (k + 240) % 256)) *
        (if k % 128 % 32 < 16 then -Ideal.sin (A.ang R (k % 128)) else Ideal.sin (A.ang R (k % 128))) = A.turn R (b * 256 + k) := by
  rw [ang_congr A R (k % 128) (b * 256 + k) (by omega)]
  unfold Arg.turn
  by_cases h : k % 32 < 16
  · have e : b * 256 + (k + 16) % 256 = b * 256 + k + 16 := by omega
    rw [if_pos h, if_pos (by omega), if_pos (by omega), e, mul_neg, sub_eq_add_neg]
  · have e : b * 256 + (k + 240) % 256 = b * 256 + k - 16 := by omega
    rw [if_neg h, if_neg (by omega), if_neg (by omega), e]

variable (m : (ℓ : Loc nD τ sig) → Buf (Elt Ideal) ℓ) (c : Dev nD)

/-- The scaled and shifted rows stay from one column block to the next. -/
theorem kept_prev (t : Fin cfg0.N) (h : ¬t.val % 51 = 0) :
    (outsAt0 m c t.val t.isLt).2 = (outsAt0 m c (t.val - 1) (by omega)).2 := by
  by_cases h1 : t.val % 51 = 10 ∨ t.val % 51 = 11 ∨ t.val % 51 = 12 ∨ t.val % 51 = 13 ∨ t.val % 51 = 16 ∨ t.val % 51 = 17
  · rw [point_full m c t h1]
  · by_cases h2 : t.val % 51 = 18
    · exact point_half_kept m c t h2
    · rw [point_plain m c t h (by omega)]

theorem kept (n : ℕ) : ∀ (h : n < cfg0.N) (r k : Fin 2048),
    ((outsAt0 m c n h).2 : S2048x2048.Idx → EReal) (ix2 r k) = (args m c).hid (row n r) k := by
  induction n with
  | zero =>
    intro h r k
    rw [point_first m c ⟨0, h⟩ rfl]
    refine (pay1_apply _ _ _ r k).trans ?_
    rw [blk_x, blk_sc, blk_sh]
    rfl
  | succ n ih =>
    intro h r k
    by_cases h0 : (n + 1) % 51 = 0
    · rw [point_first m c ⟨n + 1, h⟩ h0]
      refine (pay1_apply _ _ _ r k).trans ?_
      rw [blk_x, blk_sc, blk_sh]
      rfl
    · rw [kept_prev m c ⟨n + 1, h⟩ h0]
      refine (ih (by omega) r k).trans ?_
      have e : row n r = row (n + 1) r := by
        unfold row
        refine Fin.ext ?_
        show (n / 51 * 2048 + r.val) % 16384 = ((n + 1) / 51 * 2048 + r.val) % 16384
        have : n / 51 = (n + 1) / 51 := by omega
        rw [this]
      rw [e]

/-- A block of the product. -/
theorem col_prod (t : Fin cfg0.N) (x : S2048x2048.Idx → EReal) (hx : ∀ r q, x (ix2 r q) = (args m c).hid (row t.val r) q)
    (r : Fin 2048) (k : Fin 256) :
    col x (iblk m c 3 t) r k = (args m c).prod (row t.val r) (t.val % 51 * 256 + k.val) := by
  unfold col Arg.prod
  exact Finset.sum_congr rfl fun q _ => by rw [hx, blk_w]

theorem kept_here (t : Fin cfg0.N) (h : ¬t.val % 51 = 0) (r q : Fin 2048) :
    ((outsAt0 m c (t.val - 1) (by omega)).2 : S2048x2048.Idx → EReal) (ix2 r q) = (args m c).hid (row t.val r) q := by
  rw [← kept_prev m c t h]
  exact kept m c t.val t.isLt r q

/-- What a point leaves in its block. -/
theorem point (t : Fin cfg0.N) (r : Fin 2048) (k : Fin 256) :
    ((outsAt0 m c t.val t.isLt).1 : S2048x256.Idx → EReal) (ix2 r k) = (args m c).proj (row t.val r) (t.val % 51 * 256 + k.val) := by
  have hk := k.isLt
  by_cases h0 : t.val % 51 = 0
  · have hx := kept m c t.val t.isLt
    rw [point_first m c t h0] at hx ⊢
    refine (pay6_apply _ _ r k).trans ((col_prod m c t _ hx r k).trans ?_)
    unfold Arg.proj
    rw [if_neg (by unfold Arg.Turned; omega)]
  have hx := kept_here m c t h0
  by_cases h1 : t.val % 51 = 10 ∨ t.val % 51 = 11 ∨ t.val % 51 = 12 ∨ t.val % 51 = 13 ∨ t.val % 51 = 16 ∨ t.val % 51 = 17
  · rw [point_full m c t h1]
    refine (pay3_apply _ _ _ _ r k).trans ?_
    rw [col_prod m c t _ hx, col_prod m c t _ hx, col_prod m c t _ hx, blk_cos, blk_sin]
    refine (turn_lanes (args m c) (row t.val r) (t.val % 51) k.val hk).trans ?_
    unfold Arg.proj
    rw [if_pos (by unfold Arg.Turned; omega)]
  by_cases h2 : t.val % 51 = 18
  · by_cases hk' : k.val < 128
    · refine (point_half_left m c t h2 r k hk').trans ((pay4_apply _ _ _ _ r ⟨k.val, hk'⟩).trans ?_)
      rw [col_prod m c t _ hx, col_prod m c t _ hx, col_prod m c t _ hx, blk_cos, blk_sin]
      refine Eq.trans ?_ ((turn_lanes (args m c) (row t.val r) (t.val % 51) k.val hk).trans ?_)
      · rw [Nat.mod_eq_of_lt hk']
      · unfold Arg.proj
        rw [if_pos (by unfold Arg.Turned; omega)]
    · refine (point_half_right m c t h2 r k hk').trans ((pay5_apply _ _ r _).trans ((col_prod m c t _ hx r _).trans ?_))
      unfold Arg.proj
      rw [if_neg (by unfold Arg.Turned; omega)]
      exact congrArg ((args m c).prod (row t.val r)) (show t.val % 51 * 256 + (k.val - 128 + 128) = _ by omega)
  · rw [point_plain m c t h0 (by omega)]
    refine (pay6_apply _ _ r k).trans ((col_prod m c t _ hx r k).trans ?_)
    unfold Arg.proj
    rw [if_neg (by unfold Arg.Turned; omega)]

/-- The result's array at the end. -/
theorem out_array : (dats m 0 c).arrAt 6 (cfgs (0 : Fin 1)).N = (args m c).result := by
  refine (dats m 0 c).arrAt_eq_of_covers 6 _ (by decide +kernel) fun t hf y => ?_
  obtain ⟨h0, h1, h2, h3, h4, h5, h6⟩ := index_all t
  have ht := lt_points t
  have y0 : (y 0).val < 2048 := (y 0).isLt
  have y1 : (y 1).val < 256 := (y 1).isLt
  have e0 : ((((cfg0.win 6).blk t).view.emb y) 0).val = t.val / 51 * 2048 + (y 0).val := by blk_simp [h6]
  have e1 : ((((cfg0.win 6).blk t).view.emb y) 1).val = (if t.val % 51 < 19 then t.val % 51 + 32 else t.val % 51 - 19) * 256 + (y 1).val := by blk_simp [h6]
  blk_simp [h6]
  rw [after0_6]
  refine (congrArg ((outsAt0 m c t.val t.isLt).1 : S2048x256.Idx → EReal) (?_ : y = ix2 ⟨(y 0).val, y0⟩ ⟨(y 1).val, y1⟩)).trans ((point m c t _ _).trans ?_)
  · funext a
    fin_cases a <;> rfl
  · unfold Arg.result
    refine congrArg₂ (args m c).proj (Fin.ext ?_) ?_
    · exact (row_val t _).trans e0.symm
    · refine Eq.trans ?_ (congrArg Arg.place e1).symm
      unfold Arg.place
      show t.val % 51 * 256 + (y 1).val = _
      split <;> split <;> omega

end Cert.Proj

end

end
-- ==== Proof.Proj.Steps.lean ====
/- The reference's operations in six stretches: the product and its parts, a rotation for each of the four parts
   which are turned, and the parts side by side. -/
module

public import proofs.«01_k».proof.Proof.Gen.ProjReferenceIdeal
public import Idealize.ShloMosaic.Lib.StableHlo.Run
public import Idealize.ShloMosaic.Lib.Pipeline.Frame
public import Idealize.ShloMosaic.Lib.Claim
public import Idealize.ShloMosaic.PureOps.Ideal.Laws

@[expose] public section

set_option maxRecDepth 16384

noncomputable section

namespace Cert.ProjReferenceIdeal.Steps

open Cert.ProjReferenceIdeal Cert.ProjReferenceIdeal.Gen Idealize.ShloMosaic Idealize.ShloMosaic.TcCoe Idealize.SL.Sem Idealize.ShloMosaic.StableHlo

/-- Values of a shape. -/
abbrev V (F : FTy → Type) (s : Shape) := (⟨s, .f32⟩ : BufTy).Contents (Elt F)
abbrev W (F : FTy → Type) (s : Shape) := (⟨s, .bf16⟩ : BufTy).Contents (Elt F)

variable {F : FTy → Type} [FloatOps F]

def cat_16384_4_2_32 (a b : V F S16384x4x2x16) : V F S16384x4x2x32 := concatenate S16384x4x2x32 3 [⟨S16384x4x2x16, a⟩, ⟨S16384x4x2x16, b⟩] concatenates_S16384x4x2x16_S16384x4x2x16_S16384x4x2x32_d3
def cat_16384_4_2_64 (a b : V F S16384x4x2x32) : V F S16384x4x2x64 := concatenate S16384x4x2x64 3 [⟨S16384x4x2x32, a⟩, ⟨S16384x4x2x32, b⟩] concatenates_S16384x4x2x32_S16384x4x2x32_S16384x4x2x64_d3
def cat_16384_8_32 (a b : V F S16384x8x16) : V F S16384x8x32 := concatenate S16384x8x32 2 [⟨S16384x8x16, a⟩, ⟨S16384x8x16, b⟩] concatenates_S16384x8x16_S16384x8x16_S16384x8x32_d2
def cat_16384_8_64 (a b : V F S16384x8x32) : V F S16384x8x64 := concatenate S16384x8x64 2 [⟨S16384x8x32, a⟩, ⟨S16384x8x32, b⟩] concatenates_S16384x8x32_S16384x8x32_S16384x8x64_d2
def cat_16384_2_32 (a b : V F S16384x2x16) : V F S16384x2x32 := concatenate S16384x2x32 2 [⟨S16384x2x16, a⟩, ⟨S16384x2x16, b⟩] concatenates_S16384x2x16_S16384x2x16_S16384x2x32_d2
def cat_16384_2_64 (a b : V F S16384x2x32) : V F S16384x2x64 := concatenate S16384x2x64 2 [⟨S16384x2x32, a⟩, ⟨S16384x2x32, b⟩] concatenates_S16384x2x32_S16384x2x32_S16384x2x64_d2
/-- The twelve parts side by side, in the order of the result. -/
def joined (a0 : V F S16384x8192) (a1 : V F S16384x512) (a2 : V F S16384x512) (a3 : V F S16384x512) (a4 : V F S16384x512) (a5 : V F S16384x512) (a6 : V F S16384x512) (a7 : V F S16384x512) (a8 : V F S16384x512) (a9 : V F S16384x512) (a10 : V F S16384x128) (a11 : V F S16384x128) : V F S16384x13056 :=
  concatenate S16384x13056 1 [⟨S16384x8192, a0⟩, ⟨S16384x512, a1⟩, ⟨S16384x512, a2⟩, ⟨S16384x512, a3⟩, ⟨S16384x512, a4⟩, ⟨S16384x512, a5⟩, ⟨S16384x512, a6⟩, ⟨S16384x512, a7⟩, ⟨S16384x512, a8⟩, ⟨S16384x512, a9⟩, ⟨S16384x128, a10⟩, ⟨S16384x128, a11⟩]
    concatenates_S16384x8192_S16384x512_S16384x512_S16384x512_S16384x512_S16384x512_S16384x512_S16384x512_S16384x512_S16384x512_S16384x128_S16384x128_S16384x13056_d1

/-- Operations: the product and its parts. -/
abbrev opsA : List (HloOp τ sig (Elt F)) :=
  [ nullary main_cst (constant S_ .f32 0x3F800000#32),
    unary main_cst main_v0 (broadcastInDim S1x2048 ![] bcast_S_S1x2048 : V F S_ → V F S1x2048),
    binary main_v0 main_arg1 main_v1 (addf : V F S1x2048 → V F S1x2048 → V F S1x2048),
    unary main_v1 main_v2 (broadcastInDim S16384x2048 ![0, 1] bcast_S1x2048_S16384x2048_0_1 : V F S1x2048 → V F S16384x2048),
    binary main_arg0 main_v2 main_v3 (mulf : V F S16384x2048 → V F S16384x2048 → V F S16384x2048),
    unary main_arg2 main_v4 (broadcastInDim S16384x2048 ![0, 1] bcast_S1x2048_S16384x2048_0_1 : V F S1x2048 → V F S16384x2048),
    binary main_v3 main_v4 main_v5 (addf : V F S16384x2048 → V F S16384x2048 → V F S16384x2048),
    unary main_arg3 main_v6 ((extractStridedSlice S1x2048x13056 ![0, 0, 0] · slices_S2x2048x13056_S1x2048x13056_0_0_0) : V F S2x2048x13056 → V F S1x2048x13056),
    reshape main_v6 main_v7 (rfl : (.f32 : EltTy) = .f32) shapeCasts_S1x2048x13056_S2048x13056,
    binary main_v5 main_v7 main_v8 ((fun l r => Host.dotGeneral dot_S16384x2048_S2048x13056_S16384x13056_1_0_0_1_n_n none l r) : V F S16384x2048 → V F S2048x13056 → V F S16384x13056),
    unary main_v8 main_v9 ((extractStridedSlice S16384x512 ![0, 0] · slices_S16384x13056_S16384x512_0_0) : V F S16384x13056 → V F S16384x512),
    unary main_v8 main_v10 ((extractStridedSlice S16384x512 ![0, 512] · slices_S16384x13056_S16384x512_0_512) : V F S16384x13056 → V F S16384x512),
    unary main_v8 main_v11 ((extractStridedSlice S16384x512 ![0, 1024] · slices_S16384x13056_S16384x512_0_1024) : V F S16384x13056 → V F S16384x512),
    unary main_v8 main_v12 ((extractStridedSlice S16384x512 ![0, 1536] · slices_S16384x13056_S16384x512_0_1536) : V F S16384x13056 → V F S16384x512),
    unary main_v8 main_v13 ((extractStridedSlice S16384x512 ![0, 2048] · slices_S16384x13056_S16384x512_0_2048) : V F S16384x13056 → V F S16384x512),
    unary main_v8 main_v14 ((extractStridedSlice S16384x512 ![0, 2560] · slices_S16384x13056_S16384x512_0_2560) : V F S16384x13056 → V F S16384x512),
    unary main_v8 main_v15 ((extractStridedSlice S16384x512 ![0, 3072] · slices_S16384x13056_S16384x512_0_3072) : V F S16384x13056 → V F S16384x512),
    unary main_v8 main_v16 ((extractStridedSlice S16384x512 ![0, 3584] · slices_S16384x13056_S16384x512_0_3584) : V F S16384x13056 → V F S16384x512),
    unary main_v8 main_v17 ((extractStridedSlice S16384x512 ![0, 4096] · slices_S16384x13056_S16384x512_0_4096) : V F S16384x13056 → V F S16384x512),
    unary main_v8 main_v18 ((extractStridedSlice S16384x128 ![0, 4608] · slices_S16384x13056_S16384x128_0_4608) : V F S16384x13056 → V F S16384x128),
    unary main_v8 main_v19 ((extractStridedSlice S16384x128 ![0, 4736] · slices_S16384x13056_S16384x128_0_4736) : V F S16384x13056 → V F S16384x128),
    unary main_v8 main_v20 ((extractStridedSlice S16384x8192 ![0, 4864] · slices_S16384x13056_S16384x8192_0_4864) : V F S16384x13056 → V F S16384x8192) ]

/-- Operations: the first queries turned. -/
abbrev opsQ : List (HloOp τ sig (Elt F)) :=
  [ reshape main_v14 main_v21 (rfl : (.f32 : EltTy) = .f32) shapeCasts_S16384x512_S16384x4x2x64,
    unary main_v21 main_v22 ((extractStridedSlice S16384x4x2x32 ![0, 0, 0, 0] · slices_S16384x4x2x64_S16384x4x2x32_0_0_0_0) : V F S16384x4x2x64 → V F S16384x4x2x32),
    unary main_v21 main_v23 ((extractStridedSlice S16384x4x2x32 ![0, 0, 0, 32] · slices_S16384x4x2x64_S16384x4x2x32_0_0_0_32) : V F S16384x4x2x64 → V F S16384x4x2x32),
    reshape main_arg4 main_v24 (rfl : (.f32 : EltTy) = .f32) shapeCasts_S16384x16_S16384x1x1x16,
    unary main_v22 main_v25 ((extractStridedSlice S16384x4x2x16 ![0, 0, 0, 0] · slices_S16384x4x2x32_S16384x4x2x16_0_0_0_0) : V F S16384x4x2x32 → V F S16384x4x2x16),
    unary main_v22 main_v26 ((extractStridedSlice S16384x4x2x16 ![0, 0, 0, 16] · slices_S16384x4x2x32_S16384x4x2x16_0_0_0_16) : V F S16384x4x2x32 → V F S16384x4x2x16),
    unary main_v24 main_v27 (Host.cos : V F S16384x1x1x16 → V F S16384x1x1x16),
    unary main_v24 main_v28 (Host.sin : V F S16384x1x1x16 → V F S16384x1x1x16),
    unary main_v27 main_v29 (broadcastInDim S16384x4x2x16 ![0, 1, 2, 3] bcast_S16384x1x1x16_S16384x4x2x16_0_1_2_3 : V F S16384x1x1x16 → V F S16384x4x2x16),
    binary main_v25 main_v29 main_v30 (mulf : V F S16384x4x2x16 → V F S16384x4x2x16 → V F S16384x4x2x16),
    unary main_v28 main_v31 (broadcastInDim S16384x4x2x16 ![0, 1, 2, 3] bcast_S16384x1x1x16_S16384x4x2x16_0_1_2_3 : V F S16384x1x1x16 → V F S16384x4x2x16),
    binary main_v26 main_v31 main_v32 (mulf : V F S16384x4x2x16 → V F S16384x4x2x16 → V F S16384x4x2x16),
    binary main_v30 main_v32 main_v33 (subf : V F S16384x4x2x16 → V F S16384x4x2x16 → V F S16384x4x2x16),
    unary main_v27 main_v34 (broadcastInDim S16384x4x2x16 ![0, 1, 2, 3] bcast_S16384x1x1x16_S16384x4x2x16_0_1_2_3 : V F S16384x1x1x16 → V F S16384x4x2x16),
    binary main_v26 main_v34 main_v35 (mulf : V F S16384x4x2x16 → V F S16384x4x2x16 → V F S16384x4x2x16),
    unary main_v28 main_v36 (broadcastInDim S16384x4x2x16 ![0, 1, 2, 3] bcast_S16384x1x1x16_S16384x4x2x16_0_1_2_3 : V F S16384x1x1x16 → V F S16384x4x2x16),
    binary main_v25 main_v36 main_v37 (mulf : V F S16384x4x2x16 → V F S16384x4x2x16 → V F S16384x4x2x16),
    binary main_v35 main_v37 main_v38 (addf : V F S16384x4x2x16 → V F S16384x4x2x16 → V F S16384x4x2x16),
    binary main_v33 main_v38 main_v39 (cat_16384_4_2_32 : V F S16384x4x2x16 → V F S16384x4x2x16 → V F S16384x4x2x32),
    reshape main_arg5 main_v40 (rfl : (.f32 : EltTy) = .f32) shapeCasts_S16384x16_S16384x1x1x16,
    unary main_v23 main_v41 ((extractStridedSlice S16384x4x2x16 ![0, 0, 0, 0] · slices_S16384x4x2x32_S16384x4x2x16_0_0_0_0) : V F S16384x4x2x32 → V F S16384x4x2x16),
    unary main_v23 main_v42 ((extractStridedSlice S16384x4x2x16 ![0, 0, 0, 16] · slices_S16384x4x2x32_S16384x4x2x16_0_0_0_16) : V F S16384x4x2x32 → V F S16384x4x2x16),
    unary main_v40 main_v43 (Host.cos : V F S16384x1x1x16 → V F S16384x1x1x16),
    unary main_v40 main_v44 (Host.sin : V F S16384x1x1x16 → V F S16384x1x1x16),
    unary main_v43 main_v45 (broadcastInDim S16384x4x2x16 ![0, 1, 2, 3] bcast_S16384x1x1x16_S16384x4x2x16_0_1_2_3 : V F S16384x1x1x16 → V F S16384x4x2x16),
    binary main_v41 main_v45 main_v46 (mulf : V F S16384x4x2x16 → V F S16384x4x2x16 → V F S16384x4x2x16),
    unary main_v44 main_v47 (broadcastInDim S16384x4x2x16 ![0, 1, 2, 3] bcast_S16384x1x1x16_S16384x4x2x16_0_1_2_3 : V F S16384x1x1x16 → V F S16384x4x2x16),
    binary main_v42 main_v47 main_v48 (mulf : V F S16384x4x2x16 → V F S16384x4x2x16 → V F S16384x4x2x16),
    binary main_v46 main_v48 main_v49 (subf : V F S16384x4x2x16 → V F S16384x4x2x16 → V F S16384x4x2x16),
    unary main_v43 main_v50 (broadcastInDim S16384x4x2x16 ![0, 1, 2, 3] bcast_S16384x1x1x16_S16384x4x2x16_0_1_2_3 : V F S16384x1x1x16 → V F S16384x4x2x16),
    binary main_v42 main_v50 main_v51 (mulf : V F S16384x4x2x16 → V F S16384x4x2x16 → V F S16384x4x2x16),
    unary main_v44 main_v52 (broadcastInDim S16384x4x2x16 ![0, 1, 2, 3] bcast_S16384x1x1x16_S16384x4x2x16_0_1_2_3 : V F S16384x1x1x16 → V F S16384x4x2x16),
    binary main_v41 main_v52 main_v53 (mulf : V F S16384x4x2x16 → V F S16384x4x2x16 → V F S16384x4x2x16),
    binary main_v51 main_v53 main_v54 (addf : V F S16384x4x2x16 → V F S16384x4x2x16 → V F S16384x4x2x16),
    binary main_v49 main_v54 main_v55 (cat_16384_4_2_32 : V F S16384x4x2x16 → V F S16384x4x2x16 → V F S16384x4x2x32),
    binary main_v39 main_v55 main_v56 (cat_16384_4_2_64 : V F S16384x4x2x32 → V F S16384x4x2x32 → V F S16384x4x2x64) ]

/-- Operations: the first keys turned. -/
abbrev opsK : List (HloOp τ sig (Elt F)) :=
  [ reshape main_v15 main_v57 (rfl : (.f32 : EltTy) = .f32) shapeCasts_S16384x512_S16384x4x2x64,
    unary main_v57 main_v58 ((extractStridedSlice S16384x4x2x32 ![0, 0, 0, 0] · slices_S16384x4x2x64_S16384x4x2x32_0_0_0_0) : V F S16384x4x2x64 → V F S16384x4x2x32),
    unary main_v57 main_v59 ((extractStridedSlice S16384x4x2x32 ![0, 0, 0, 32] · slices_S16384x4x2x64_S16384x4x2x32_0_0_0_32) : V F S16384x4x2x64 → V F S16384x4x2x32),
    reshape main_arg4 main_v60 (rfl : (.f32 : EltTy) = .f32) shapeCasts_S16384x16_S16384x1x1x16,
    unary main_v58 main_v61 ((extractStridedSlice S16384x4x2x16 ![0, 0, 0, 0] · slices_S16384x4x2x32_S16384x4x2x16_0_0_0_0) : V F S16384x4x2x32 → V F S16384x4x2x16),
    unary main_v58 main_v62 ((extractStridedSlice S16384x4x2x16 ![0, 0, 0, 16] · slices_S16384x4x2x32_S16384x4x2x16_0_0_0_16) : V F S16384x4x2x32 → V F S16384x4x2x16),
    unary main_v60 main_v63 (Host.cos : V F S16384x1x1x16 → V F S16384x1x1x16),
    unary main_v60 main_v64 (Host.sin : V F S16384x1x1x16 → V F S16384x1x1x16),
    unary main_v63 main_v65 (broadcastInDim S16384x4x2x16 ![0, 1, 2, 3] bcast_S16384x1x1x16_S16384x4x2x16_0_1_2_3 : V F S16384x1x1x16 → V F S16384x4x2x16),
    binary main_v61 main_v65 main_v66 (mulf : V F S16384x4x2x16 → V F S16384x4x2x16 → V F S16384x4x2x16),
    unary main_v64 main_v67 (broadcastInDim S16384x4x2x16 ![0, 1, 2, 3] bcast_S16384x1x1x16_S16384x4x2x16_0_1_2_3 : V F S16384x1x1x16 → V F S16384x4x2x16),
    binary main_v62 main_v67 main_v68 (mulf : V F S16384x4x2x16 → V F S16384x4x2x16 → V F S16384x4x2x16),
    binary main_v66 main_v68 main_v69 (subf : V F S16384x4x2x16 → V F S16384x4x2x16 → V F S16384x4x2x16),
    unary main_v63 main_v70 (broadcastInDim S16384x4x2x16 ![0, 1, 2, 3] bcast_S16384x1x1x16_S16384x4x2x16_0_1_2_3 : V F S16384x1x1x16 → V F S16384x4x2x16),
    binary main_v62 main_v70 main_v71 (mulf : V F S16384x4x2x16 → V F S16384x4x2x16 → V F S16384x4x2x16),
    unary main_v64 main_v72 (broadcastInDim S16384x4x2x16 ![0, 1, 2, 3] bcast_S16384x1x1x16_S16384x4x2x16_0_1_2_3 : V F S16384x1x1x16 → V F S16384x4x2x16),
    binary main_v61 main_v72 main_v73 (mulf : V F S16384x4x2x16 → V F S16384x4x2x16 → V F S16384x4x2x16),
    binary main_v71 main_v73 main_v74 (addf : V F S16384x4x2x16 → V F S16384x4x2x16 → V F S16384x4x2x16),
    binary main_v69 main_v74 main_v75 (cat_16384_4_2_32 : V F S16384x4x2x16 → V F S16384x4x2x16 → V F S16384x4x2x32),
    reshape main_arg5 main_v76 (rfl : (.f32 : EltTy) = .f32) shapeCasts_S16384x16_S16384x1x1x16,
    unary main_v59 main_v77 ((extractStridedSlice S16384x4x2x16 ![0, 0, 0, 0] · slices_S16384x4x2x32_S16384x4x2x16_0_0_0_0) : V F S16384x4x2x32 → V F S16384x4x2x16),
    unary main_v59 main_v78 ((extractStridedSlice S16384x4x2x16 ![0, 0, 0, 16] · slices_S16384x4x2x32_S16384x4x2x16_0_0_0_16) : V F S16384x4x2x32 → V F S16384x4x2x16),
    unary main_v76 main_v79 (Host.cos : V F S16384x1x1x16 → V F S16384x1x1x16),
    unary main_v76 main_v80 (Host.sin : V F S16384x1x1x16 → V F S16384x1x1x16),
    unary main_v79 main_v81 (broadcastInDim S16384x4x2x16 ![0, 1, 2, 3] bcast_S16384x1x1x16_S16384x4x2x16_0_1_2_3 : V F S16384x1x1x16 → V F S16384x4x2x16),
    binary main_v77 main_v81 main_v82 (mulf : V F S16384x4x2x16 → V F S16384x4x2x16 → V F S16384x4x2x16),
    unary main_v80 main_v83 (broadcastInDim S16384x4x2x16 ![0, 1, 2, 3] bcast_S16384x1x1x16_S16384x4x2x16_0_1_2_3 : V F S16384x1x1x16 → V F S16384x4x2x16),
    binary main_v78 main_v83 main_v84 (mulf : V F S16384x4x2x16 → V F S16384x4x2x16 → V F S16384x4x2x16),
    binary main_v82 main_v84 main_v85 (subf : V F S16384x4x2x16 → V F S16384x4x2x16 → V F S16384x4x2x16),
    unary main_v79 main_v86 (broadcastInDim S16384x4x2x16 ![0, 1, 2, 3] bcast_S16384x1x1x16_S16384x4x2x16_0_1_2_3 : V F S16384x1x1x16 → V F S16384x4x2x16),
    binary main_v78 main_v86 main_v87 (mulf : V F S16384x4x2x16 → V F S16384x4x2x16 → V F S16384x4x2x16),
    unary main_v80 main_v88 (broadcastInDim S16384x4x2x16 ![0, 1, 2, 3] bcast_S16384x1x1x16_S16384x4x2x16_0_1_2_3 : V F S16384x1x1x16 → V F S16384x4x2x16),
    binary main_v77 main_v88 main_v89 (mulf : V F S16384x4x2x16 → V F S16384x4x2x16 → V F S16384x4x2x16),
    binary main_v87 main_v89 main_v90 (addf : V F S16384x4x2x16 → V F S16384x4x2x16 → V F S16384x4x2x16),
    binary main_v85 main_v90 main_v91 (cat_16384_4_2_32 : V F S16384x4x2x16 → V F S16384x4x2x16 → V F S16384x4x2x32),
    binary main_v75 main_v91 main_v92 (cat_16384_4_2_64 : V F S16384x4x2x32 → V F S16384x4x2x32 → V F S16384x4x2x64) ]

/-- Operations: the second queries turned. -/
abbrev opsD : List (HloOp τ sig (Elt F)) :=
  [ reshape main_v17 main_v93 (rfl : (.f32 : EltTy) = .f32) shapeCasts_S16384x512_S16384x8x64,
    unary main_v93 main_v94 ((extractStridedSlice S16384x8x32 ![0, 0, 0] · slices_S16384x8x64_S16384x8x32_0_0_0) : V F S16384x8x64 → V F S16384x8x32),
    unary main_v93 main_v95 ((extractStridedSlice S16384x8x32 ![0, 0, 32] · slices_S16384x8x64_S16384x8x32_0_0_32) : V F S16384x8x64 → V F S16384x8x32),
    reshape main_arg4 main_v96 (rfl : (.f32 : EltTy) = .f32) shapeCasts_S16384x16_S16384x1x16,
    unary main_v94 main_v97 ((extractStridedSlice S16384x8x16 ![0, 0, 0] · slices_S16384x8x32_S16384x8x16_0_0_0) : V F S16384x8x32 → V F S16384x8x16),
    unary main_v94 main_v98 ((extractStridedSlice S16384x8x16 ![0, 0, 16] · slices_S16384x8x32_S16384x8x16_0_0_16) : V F S16384x8x32 → V F S16384x8x16),
    unary main_v96 main_v99 (Host.cos : V F S16384x1x16 → V F S16384x1x16),
    unary main_v96 main_v100 (Host.sin : V F S16384x1x16 → V F S16384x1x16),
    unary main_v99 main_v101 (broadcastInDim S16384x8x16 ![0, 1, 2] bcast_S16384x1x16_S16384x8x16_0_1_2 : V F S16384x1x16 → V F S16384x8x16),
    binary main_v97 main_v101 main_v102 (mulf : V F S16384x8x16 → V F S16384x8x16 → V F S16384x8x16),
    unary main_v100 main_v103 (broadcastInDim S16384x8x16 ![0, 1, 2] bcast_S16384x1x16_S16384x8x16_0_1_2 : V F S16384x1x16 → V F S16384x8x16),
    binary main_v98 main_v103 main_v104 (mulf : V F S16384x8x16 → V F S16384x8x16 → V F S16384x8x16),
    binary main_v102 main_v104 main_v105 (subf : V F S16384x8x16 → V F S16384x8x16 → V F S16384x8x16),
    unary main_v99 main_v106 (broadcastInDim S16384x8x16 ![0, 1, 2] bcast_S16384x1x16_S16384x8x16_0_1_2 : V F S16384x1x16 → V F S16384x8x16),
    binary main_v98 main_v106 main_v107 (mulf : V F S16384x8x16 → V F S16384x8x16 → V F S16384x8x16),
    unary main_v100 main_v108 (broadcastInDim S16384x8x16 ![0, 1, 2] bcast_S16384x1x16_S16384x8x16_0_1_2 : V F S16384x1x16 → V F S16384x8x16),
    binary main_v97 main_v108 main_v109 (mulf : V F S16384x8x16 → V F S16384x8x16 → V F S16384x8x16),
    binary main_v107 main_v109 main_v110 (addf : V F S16384x8x16 → V F S16384x8x16 → V F S16384x8x16),
    binary main_v105 main_v110 main_v111 (cat_16384_8_32 : V F S16384x8x16 → V F S16384x8x16 → V F S16384x8x32),
    reshape main_arg5 main_v112 (rfl : (.f32 : EltTy) = .f32) shapeCasts_S16384x16_S16384x1x16,
    unary main_v95 main_v113 ((extractStridedSlice S16384x8x16 ![0, 0, 0] · slices_S16384x8x32_S16384x8x16_0_0_0) : V F S16384x8x32 → V F S16384x8x16),
    unary main_v95 main_v114 ((extractStridedSlice S16384x8x16 ![0, 0, 16] · slices_S16384x8x32_S16384x8x16_0_0_16) : V F S16384x8x32 → V F S16384x8x16),
    unary main_v112 main_v115 (Host.cos : V F S16384x1x16 → V F S16384x1x16),
    unary main_v112 main_v116 (Host.sin : V F S16384x1x16 → V F S16384x1x16),
    unary main_v115 main_v117 (broadcastInDim S16384x8x16 ![0, 1, 2] bcast_S16384x1x16_S16384x8x16_0_1_2 : V F S16384x1x16 → V F S16384x8x16),
    binary main_v113 main_v117 main_v118 (mulf : V F S16384x8x16 → V F S16384x8x16 → V F S16384x8x16),
    unary main_v116 main_v119 (broadcastInDim S16384x8x16 ![0, 1, 2] bcast_S16384x1x16_S16384x8x16_0_1_2 : V F S16384x1x16 → V F S16384x8x16),
    binary main_v114 main_v119 main_v120 (mulf : V F S16384x8x16 → V F S16384x8x16 → V F S16384x8x16),
    binary main_v118 main_v120 main_v121 (subf : V F S16384x8x16 → V F S16384x8x16 → V F S16384x8x16),
    unary main_v115 main_v122 (broadcastInDim S16384x8x16 ![0, 1, 2] bcast_S16384x1x16_S16384x8x16_0_1_2 : V F S16384x1x16 → V F S16384x8x16),
    binary main_v114 main_v122 main_v123 (mulf : V F S16384x8x16 → V F S16384x8x16 → V F S16384x8x16),
    unary main_v116 main_v124 (broadcastInDim S16384x8x16 ![0, 1, 2] bcast_S16384x1x16_S16384x8x16_0_1_2 : V F S16384x1x16 → V F S16384x8x16),
    binary main_v113 main_v124 main_v125 (mulf : V F S16384x8x16 → V F S16384x8x16 → V F S16384x8x16),
    binary main_v123 main_v125 main_v126 (addf : V F S16384x8x16 → V F S16384x8x16 → V F S16384x8x16),
    binary main_v121 main_v126 main_v127 (cat_16384_8_32 : V F S16384x8x16 → V F S16384x8x16 → V F S16384x8x32),
    binary main_v111 main_v127 main_v128 (cat_16384_8_64 : V F S16384x8x32 → V F S16384x8x32 → V F S16384x8x64) ]

/-- Operations: the second keys turned. -/
abbrev opsE : List (HloOp τ sig (Elt F)) :=
  [ reshape main_v18 main_v129 (rfl : (.f32 : EltTy) = .f32) shapeCasts_S16384x128_S16384x2x64,
    unary main_v129 main_v130 ((extractStridedSlice S16384x2x32 ![0, 0, 0] · slices_S16384x2x64_S16384x2x32_0_0_0) : V F S16384x2x64 → V F S16384x2x32),
    unary main_v129 main_v131 ((extractStridedSlice S16384x2x32 ![0, 0, 32] · slices_S16384x2x64_S16384x2x32_0_0_32) : V F S16384x2x64 → V F S16384x2x32),
    reshape main_arg4 main_v132 (rfl : (.f32 : EltTy) = .f32) shapeCasts_S16384x16_S16384x1x16,
    unary main_v130 main_v133 ((extractStridedSlice S16384x2x16 ![0, 0, 0] · slices_S16384x2x32_S16384x2x16_0_0_0) : V F S16384x2x32 → V F S16384x2x16),
    unary main_v130 main_v134 ((extractStridedSlice S16384x2x16 ![0, 0, 16] · slices_S16384x2x32_S16384x2x16_0_0_16) : V F S16384x2x32 → V F S16384x2x16),
    unary main_v132 main_v135 (Host.cos : V F S16384x1x16 → V F S16384x1x16),
    unary main_v132 main_v136 (Host.sin : V F S16384x1x16 → V F S16384x1x16),
    unary main_v135 main_v137 (broadcastInDim S16384x2x16 ![0, 1, 2] bcast_S16384x1x16_S16384x2x16_0_1_2 : V F S16384x1x16 → V F S16384x2x16),
    binary main_v133 main_v137 main_v138 (mulf : V F S16384x2x16 → V F S16384x2x16 → V F S16384x2x16),
    unary main_v136 main_v139 (broadcastInDim S16384x2x16 ![0, 1, 2] bcast_S16384x1x16_S16384x2x16_0_1_2 : V F S16384x1x16 → V F S16384x2x16),
    binary main_v134 main_v139 main_v140 (mulf : V F S16384x2x16 → V F S16384x2x16 → V F S16384x2x16),
    binary main_v138 main_v140 main_v141 (subf : V F S16384x2x16 → V F S16384x2x16 → V F S16384x2x16),
    unary main_v135 main_v142 (broadcastInDim S16384x2x16 ![0, 1, 2] bcast_S16384x1x16_S16384x2x16_0_1_2 : V F S16384x1x16 → V F S16384x2x16),
    binary main_v134 main_v142 main_v143 (mulf : V F S16384x2x16 → V F S16384x2x16 → V F S16384x2x16),
    unary main_v136 main_v144 (broadcastInDim S16384x2x16 ![0, 1, 2] bcast_S16384x1x16_S16384x2x16_0_1_2 : V F S16384x1x16 → V F S16384x2x16),
    binary main_v133 main_v144 main_v145 (mulf : V F S16384x2x16 → V F S16384x2x16 → V F S16384x2x16),
    binary main_v143 main_v145 main_v146 (addf : V F S16384x2x16 → V F S16384x2x16 → V F S16384x2x16),
    binary main_v141 main_v146 main_v147 (cat_16384_2_32 : V F S16384x2x16 → V F S16384x2x16 → V F S16384x2x32),
    reshape main_arg5 main_v148 (rfl : (.f32 : EltTy) = .f32) shapeCasts_S16384x16_S16384x1x16,
    unary main_v131 main_v149 ((extractStridedSlice S16384x2x16 ![0, 0, 0] · slices_S16384x2x32_S16384x2x16_0_0_0) : V F S16384x2x32 → V F S16384x2x16),
    unary main_v131 main_v150 ((extractStridedSlice S16384x2x16 ![0, 0, 16] · slices_S16384x2x32_S16384x2x16_0_0_16) : V F S16384x2x32 → V F S16384x2x16),
    unary main_v148 main_v151 (Host.cos : V F S16384x1x16 → V F S16384x1x16),
    unary main_v148 main_v152 (Host.sin : V F S16384x1x16 → V F S16384x1x16),
    unary main_v151 main_v153 (broadcastInDim S16384x2x16 ![0, 1, 2] bcast_S16384x1x16_S16384x2x16_0_1_2 : V F S16384x1x16 → V F S16384x2x16),
    binary main_v149 main_v153 main_v154 (mulf : V F S16384x2x16 → V F S16384x2x16 → V F S16384x2x16),
    unary main_v152 main_v155 (broadcastInDim S16384x2x16 ![0, 1, 2] bcast_S16384x1x16_S16384x2x16_0_1_2 : V F S16384x1x16 → V F S16384x2x16),
    binary main_v150 main_v155 main_v156 (mulf : V F S16384x2x16 → V F S16384x2x16 → V F S16384x2x16),
    binary main_v154 main_v156 main_v157 (subf : V F S16384x2x16 → V F S16384x2x16 → V F S16384x2x16),
    unary main_v151 main_v158 (broadcastInDim S16384x2x16 ![0, 1, 2] bcast_S16384x1x16_S16384x2x16_0_1_2 : V F S16384x1x16 → V F S16384x2x16),
    binary main_v150 main_v158 main_v159 (mulf : V F S16384x2x16 → V F S16384x2x16 → V F S16384x2x16),
    unary main_v152 main_v160 (broadcastInDim S16384x2x16 ![0, 1, 2] bcast_S16384x1x16_S16384x2x16_0_1_2 : V F S16384x1x16 → V F S16384x2x16),
    binary main_v149 main_v160 main_v161 (mulf : V F S16384x2x16 → V F S16384x2x16 → V F S16384x2x16),
    binary main_v159 main_v161 main_v162 (addf : V F S16384x2x16 → V F S16384x2x16 → V F S16384x2x16),
    binary main_v157 main_v162 main_v163 (cat_16384_2_32 : V F S16384x2x16 → V F S16384x2x16 → V F S16384x2x32),
    binary main_v147 main_v163 main_v164 (cat_16384_2_64 : V F S16384x2x32 → V F S16384x2x32 → V F S16384x2x64) ]

/-- Operations: the parts side by side. -/
abbrev opsG : List (HloOp τ sig (Elt F)) :=
  [ reshape main_v56 main_v165 (rfl : (.f32 : EltTy) = .f32) shapeCasts_S16384x4x2x64_S16384x512,
    reshape main_v92 main_v166 (rfl : (.f32 : EltTy) = .f32) shapeCasts_S16384x4x2x64_S16384x512,
    reshape main_v128 main_v167 (rfl : (.f32 : EltTy) = .f32) shapeCasts_S16384x8x64_S16384x512,
    reshape main_v164 main_v168 (rfl : (.f32 : EltTy) = .f32) shapeCasts_S16384x2x64_S16384x128,
    nary ![main_v20, main_v9, main_v10, main_v11, main_v12, main_v13, main_v165, main_v166, main_v16, main_v167, main_v168, main_v19] main_v169 (fun u => joined (u 0 : V F S16384x8192) (u 1 : V F S16384x512) (u 2 : V F S16384x512) (u 3 : V F S16384x512) (u 4 : V F S16384x512) (u 5 : V F S16384x512) (u 6 : V F S16384x512) (u 7 : V F S16384x512) (u 8 : V F S16384x512) (u 9 : V F S16384x512) (u 10 : V F S16384x128) (u 11 : V F S16384x128)),
    unary main_v169 main_v170 ((truncf .bf16 · bitsLt_bf16_f32) : V F S16384x13056 → W F S16384x13056) ]

theorem subA : (opsA : List (HloOp τ sig (Elt F))).Forall fun op => op.bufs ⊆ tcRefs τ sig :=
  ⟨nullary_bufs_sub .., unary_bufs_sub .., binary_bufs_sub .., unary_bufs_sub .., binary_bufs_sub .., unary_bufs_sub .., binary_bufs_sub .., unary_bufs_sub .., reshape_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem subQ : (opsQ : List (HloOp τ sig (Elt F))).Forall fun op => op.bufs ⊆ tcRefs τ sig :=
  ⟨reshape_bufs_sub .., unary_bufs_sub .., unary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., binary_bufs_sub ..⟩
theorem subK : (opsK : List (HloOp τ sig (Elt F))).Forall fun op => op.bufs ⊆ tcRefs τ sig :=
  ⟨reshape_bufs_sub .., unary_bufs_sub .., unary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., binary_bufs_sub ..⟩
theorem subD : (opsD : List (HloOp τ sig (Elt F))).Forall fun op => op.bufs ⊆ tcRefs τ sig :=
  ⟨reshape_bufs_sub .., unary_bufs_sub .., unary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., binary_bufs_sub ..⟩
theorem subE : (opsE : List (HloOp τ sig (Elt F))).Forall fun op => op.bufs ⊆ tcRefs τ sig :=
  ⟨reshape_bufs_sub .., unary_bufs_sub .., unary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., binary_bufs_sub ..⟩
theorem subG : (opsG : List (HloOp τ sig (Elt F))).Forall fun op => op.bufs ⊆ tcRefs τ sig :=
  ⟨reshape_bufs_sub .., reshape_bufs_sub .., reshape_bufs_sub .., reshape_bufs_sub .., nary_bufs_sub .., unary_bufs_sub ..⟩

/-- All the operations. -/
abbrev ops : List (HloOp τ sig (Elt F)) := opsA ++ (opsQ ++ (opsK ++ (opsD ++ (opsE ++ opsG))))

set_option maxHeartbeats 4000000 in
theorem main_eq (c : Dev nD) : main (F := F) c = seq ops := rfl

theorem ops_sub : (ops : List (HloOp τ sig (Elt F))).Forall fun op => op.bufs ⊆ tcRefs τ sig :=
  (List.forall_append ..).mpr ⟨subA, (List.forall_append ..).mpr ⟨subQ, (List.forall_append ..).mpr ⟨subK,
    (List.forall_append ..).mpr ⟨subD, (List.forall_append ..).mpr ⟨subE, subG⟩⟩⟩⟩⟩

theorem scopedRefs_eq : (Finset.univ.filter fun b : Ref sig .tc => b.isScoped) = ∅ := by decide
theorem scopedSems_eq : (Finset.univ.filter fun sm : SemLoc sig => sm.isScoped .tc) = ∅ := by decide

end Cert.ProjReferenceIdeal.Steps

end

end
-- ==== Proof.Proj.Turned.lean ====
/- What the reference's run leaves, as a term of its arguments. -/
module

public import proofs.«01_k».proof.Proof.Proj.Steps

@[expose] public section

set_option maxRecDepth 16384

noncomputable section

namespace Cert.ProjReferenceIdeal.Steps

open Cert.ProjReferenceIdeal Cert.ProjReferenceIdeal.Gen Idealize.ShloMosaic Idealize.ShloMosaic.TcCoe Idealize.SL.Sem Idealize.ShloMosaic.StableHlo

variable {F : FTy → Type} [FloatOps F]

/-- Two columns of pairs turned by an angle. -/
def pair42 (y : V F S16384x4x2x32) (g : V F S16384x16) : V F S16384x4x2x32 :=
  let y1 : V F S16384x4x2x16 := extractStridedSlice S16384x4x2x16 ![0, 0, 0, 0] y slices_S16384x4x2x32_S16384x4x2x16_0_0_0_0
  let y2 : V F S16384x4x2x16 := extractStridedSlice S16384x4x2x16 ![0, 0, 0, 16] y slices_S16384x4x2x32_S16384x4x2x16_0_0_0_16
  let a : V F S16384x1x1x16 := shapeCast S16384x1x1x16 g shapeCasts_S16384x16_S16384x1x1x16
  let cs : V F S16384x4x2x16 := broadcastInDim S16384x4x2x16 ![0, 1, 2, 3] bcast_S16384x1x1x16_S16384x4x2x16_0_1_2_3 (Host.cos a : V F S16384x1x1x16)
  let sn : V F S16384x4x2x16 := broadcastInDim S16384x4x2x16 ![0, 1, 2, 3] bcast_S16384x1x1x16_S16384x4x2x16_0_1_2_3 (Host.sin a : V F S16384x1x1x16)
  cat_16384_4_2_32 (subf (mulf y1 cs) (mulf y2 sn)) (addf (mulf y2 cs) (mulf y1 sn))

/-- The first 32 columns of every 64 turned by the rows' angles, the others by the columns'. -/
def turned42 (y : V F S16384x512) (gr gc : V F S16384x16) : V F S16384x512 :=
  let h : V F S16384x4x2x64 := shapeCast S16384x4x2x64 y shapeCasts_S16384x512_S16384x4x2x64
  shapeCast S16384x512
    (cat_16384_4_2_64 (pair42 (extractStridedSlice S16384x4x2x32 ![0, 0, 0, 0] h slices_S16384x4x2x64_S16384x4x2x32_0_0_0_0) gr)
      (pair42 (extractStridedSlice S16384x4x2x32 ![0, 0, 0, 32] h slices_S16384x4x2x64_S16384x4x2x32_0_0_0_32) gc) : V F S16384x4x2x64)
    shapeCasts_S16384x4x2x64_S16384x512

/-- Two columns of pairs turned by an angle, of eight heads. -/
def pair8 (y : V F S16384x8x32) (g : V F S16384x16) : V F S16384x8x32 :=
  let y1 : V F S16384x8x16 := extractStridedSlice S16384x8x16 ![0, 0, 0] y slices_S16384x8x32_S16384x8x16_0_0_0
  let y2 : V F S16384x8x16 := extractStridedSlice S16384x8x16 ![0, 0, 16] y slices_S16384x8x32_S16384x8x16_0_0_16
  let a : V F S16384x1x16 := shapeCast S16384x1x16 g shapeCasts_S16384x16_S16384x1x16
  let cs : V F S16384x8x16 := broadcastInDim S16384x8x16 ![0, 1, 2] bcast_S16384x1x16_S16384x8x16_0_1_2 (Host.cos a : V F S16384x1x16)
  let sn : V F S16384x8x16 := broadcastInDim S16384x8x16 ![0, 1, 2] bcast_S16384x1x16_S16384x8x16_0_1_2 (Host.sin a : V F S16384x1x16)
  cat_16384_8_32 (subf (mulf y1 cs) (mulf y2 sn)) (addf (mulf y2 cs) (mulf y1 sn))

/-- The first 32 columns of every 64 turned by the rows' angles, the others by the columns'. -/
def turned8 (y : V F S16384x512) (gr gc : V F S16384x16) : V F S16384x512 :=
  let h : V F S16384x8x64 := shapeCast S16384x8x64 y shapeCasts_S16384x512_S16384x8x64
  shapeCast S16384x512
    (cat_16384_8_64 (pair8 (extractStridedSlice S16384x8x32 ![0, 0, 0] h slices_S16384x8x64_S16384x8x32_0_0_0) gr)
      (pair8 (extractStridedSlice S16384x8x32 ![0, 0, 32] h slices_S16384x8x64_S16384x8x32_0_0_32) gc) : V F S16384x8x64)
    shapeCasts_S16384x8x64_S16384x512

/-- Two columns of pairs turned by an angle, of two heads. -/
def pair2 (y : V F S16384x2x32) (g : V F S16384x16) : V F S16384x2x32 :=
  let y1 : V F S16384x2x16 := extractStridedSlice S16384x2x16 ![0, 0, 0] y slices_S16384x2x32_S16384x2x16_0_0_0
  let y2 : V F S16384x2x16 := extractStridedSlice S16384x2x16 ![0, 0, 16] y slices_S16384x2x32_S16384x2x16_0_0_16
  let a : V F S16384x1x16 := shapeCast S16384x1x16 g shapeCasts_S16384x16_S16384x1x16
  let cs : V F S16384x2x16 := broadcastInDim S16384x2x16 ![0, 1, 2] bcast_S16384x1x16_S16384x2x16_0_1_2 (Host.cos a : V F S16384x1x16)
  let sn : V F S16384x2x16 := broadcastInDim S16384x2x16 ![0, 1, 2] bcast_S16384x1x16_S16384x2x16_0_1_2 (Host.sin a : V F S16384x1x16)
  cat_16384_2_32 (subf (mulf y1 cs) (mulf y2 sn)) (addf (mulf y2 cs) (mulf y1 sn))

/-- The first 32 columns of every 64 turned by the rows' angles, the others by the columns'. -/
def turned2 (y : V F S16384x128) (gr gc : V F S16384x16) : V F S16384x128 :=
  let h : V F S16384x2x64 := shapeCast S16384x2x64 y shapeCasts_S16384x128_S16384x2x64
  shapeCast S16384x128
    (cat_16384_2_64 (pair2 (extractStridedSlice S16384x2x32 ![0, 0, 0] h slices_S16384x2x64_S16384x2x32_0_0_0) gr)
      (pair2 (extractStridedSlice S16384x2x32 ![0, 0, 32] h slices_S16384x2x64_S16384x2x32_0_0_32) gc) : V F S16384x2x64)
    shapeCasts_S16384x2x64_S16384x128

/-- The product of the scaled and shifted rows with the first layer's weights. -/
def product (x : V F S16384x2048) (sc sh : V F S1x2048) (w : V F S2x2048x13056) : V F S16384x13056 :=
  let one : V F S1x2048 := broadcastInDim S1x2048 ![] bcast_S_S1x2048 (constant S_ .f32 0x3F800000#32 : V F S_)
  let g : V F S16384x2048 := broadcastInDim S16384x2048 ![0, 1] bcast_S1x2048_S16384x2048_0_1 (addf one sc : V F S1x2048)
  let b : V F S16384x2048 := broadcastInDim S16384x2048 ![0, 1] bcast_S1x2048_S16384x2048_0_1 sh
  let l : V F S1x2048x13056 := extractStridedSlice S1x2048x13056 ![0, 0, 0] w slices_S2x2048x13056_S1x2048x13056_0_0_0
  let w0 : V F S2048x13056 := shapeCast S2048x13056 l shapeCasts_S1x2048x13056_S2048x13056
  Host.dotGeneral dot_S16384x2048_S2048x13056_S16384x13056_1_0_0_1_n_n none (addf (mulf x g) b) w0

variable (U : Valuation τ sig (Elt F))

/-- The product of what the buffers hold. -/
def prodOf : V F S16384x13056 :=
  product (U (Proc.devRef .tc main_arg0)) (U (Proc.devRef .tc main_arg1)) (U (Proc.devRef .tc main_arg2)) (U (Proc.devRef .tc main_arg3))

theorem part_main_v9 : after opsA U (Proc.devRef .tc main_v9) =
    extractStridedSlice S16384x512 ![0, 0] (prodOf U) slices_S16384x13056_S16384x512_0_0 := by
  after_results_simp <;> rfl
theorem part_main_v10 : after opsA U (Proc.devRef .tc main_v10) =
    extractStridedSlice S16384x512 ![0, 512] (prodOf U) slices_S16384x13056_S16384x512_0_512 := by
  after_results_simp <;> rfl
theorem part_main_v11 : after opsA U (Proc.devRef .tc main_v11) =
    extractStridedSlice S16384x512 ![0, 1024] (prodOf U) slices_S16384x13056_S16384x512_0_1024 := by
  after_results_simp <;> rfl
theorem part_main_v12 : after opsA U (Proc.devRef .tc main_v12) =
    extractStridedSlice S16384x512 ![0, 1536] (prodOf U) slices_S16384x13056_S16384x512_0_1536 := by
  after_results_simp <;> rfl
theorem part_main_v13 : after opsA U (Proc.devRef .tc main_v13) =
    extractStridedSlice S16384x512 ![0, 2048] (prodOf U) slices_S16384x13056_S16384x512_0_2048 := by
  after_results_simp <;> rfl
theorem part_main_v14 : after opsA U (Proc.devRef .tc main_v14) =
    extractStridedSlice S16384x512 ![0, 2560] (prodOf U) slices_S16384x13056_S16384x512_0_2560 := by
  after_results_simp <;> rfl
theorem part_main_v15 : after opsA U (Proc.devRef .tc main_v15) =
    extractStridedSlice S16384x512 ![0, 3072] (prodOf U) slices_S16384x13056_S16384x512_0_3072 := by
  after_results_simp <;> rfl
theorem part_main_v16 : after opsA U (Proc.devRef .tc main_v16) =
    extractStridedSlice S16384x512 ![0, 3584] (prodOf U) slices_S16384x13056_S16384x512_0_3584 := by
  after_results_simp <;> rfl
theorem part_main_v17 : after opsA U (Proc.devRef .tc main_v17) =
    extractStridedSlice S16384x512 ![0, 4096] (prodOf U) slices_S16384x13056_S16384x512_0_4096 := by
  after_results_simp <;> rfl
theorem part_main_v18 : after opsA U (Proc.devRef .tc main_v18) =
    extractStridedSlice S16384x128 ![0, 4608] (prodOf U) slices_S16384x13056_S16384x128_0_4608 := by
  after_results_simp <;> rfl
theorem part_main_v19 : after opsA U (Proc.devRef .tc main_v19) =
    extractStridedSlice S16384x128 ![0, 4736] (prodOf U) slices_S16384x13056_S16384x128_0_4736 := by
  after_results_simp <;> rfl
theorem part_main_v20 : after opsA U (Proc.devRef .tc main_v20) =
    extractStridedSlice S16384x8192 ![0, 4864] (prodOf U) slices_S16384x13056_S16384x8192_0_4864 := by
  after_results_simp <;> rfl
theorem valQ : shapeCast S16384x512 (after opsQ U (Proc.devRef .tc main_v56) : V F S16384x4x2x64) shapeCasts_S16384x4x2x64_S16384x512 =
    turned42 (U (Proc.devRef .tc main_v14)) (U (Proc.devRef .tc main_arg4)) (U (Proc.devRef .tc main_arg5)) := by
  after_results_simp <;> rfl
theorem valK : shapeCast S16384x512 (after opsK U (Proc.devRef .tc main_v92) : V F S16384x4x2x64) shapeCasts_S16384x4x2x64_S16384x512 =
    turned42 (U (Proc.devRef .tc main_v15)) (U (Proc.devRef .tc main_arg4)) (U (Proc.devRef .tc main_arg5)) := by
  after_results_simp <;> rfl
theorem valD : shapeCast S16384x512 (after opsD U (Proc.devRef .tc main_v128) : V F S16384x8x64) shapeCasts_S16384x8x64_S16384x512 =
    turned8 (U (Proc.devRef .tc main_v17)) (U (Proc.devRef .tc main_arg4)) (U (Proc.devRef .tc main_arg5)) := by
  after_results_simp <;> rfl
theorem valE : shapeCast S16384x128 (after opsE U (Proc.devRef .tc main_v164) : V F S16384x2x64) shapeCasts_S16384x2x64_S16384x128 =
    turned2 (U (Proc.devRef .tc main_v18)) (U (Proc.devRef .tc main_arg4)) (U (Proc.devRef .tc main_arg5)) := by
  after_results_simp <;> rfl

end Cert.ProjReferenceIdeal.Steps

end

end
-- ==== Proof.Proj.RefRun.lean ====
/- The reference's run: its result as a term of its arguments. -/
module

public import proofs.«01_k».proof.Proof.Proj.Turned

@[expose] public section

set_option maxRecDepth 16384

noncomputable section

namespace Cert.ProjReferenceIdeal.Steps

open Cert.ProjReferenceIdeal Cert.ProjReferenceIdeal.Gen Idealize.ShloMosaic Idealize.ShloMosaic.TcCoe Idealize.SL.Sem Idealize.ShloMosaic.StableHlo

variable {F : FTy → Type} [FloatOps F] (U : Valuation τ sig (Elt F))

def wrA : List (Ref sig .tc) := [main_cst, main_v0, main_v1, main_v2, main_v3, main_v4, main_v5, main_v6, main_v7, main_v8, main_v9, main_v10, main_v11, main_v12, main_v13, main_v14, main_v15, main_v16, main_v17, main_v18, main_v19, main_v20]
theorem keepA (r : Ref sig .tc) (h : r ∉ wrA) : after opsA U (Proc.devRef .tc r) = U (Proc.devRef .tc r) :=
  after_of_writes_sub opsA U (forall_writes_sub_of_map rfl) h

def wrQ : List (Ref sig .tc) := [main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]
theorem keepQ (r : Ref sig .tc) (h : r ∉ wrQ) : after opsQ U (Proc.devRef .tc r) = U (Proc.devRef .tc r) :=
  after_of_writes_sub opsQ U (forall_writes_sub_of_map rfl) h

def wrK : List (Ref sig .tc) := [main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92]
theorem keepK (r : Ref sig .tc) (h : r ∉ wrK) : after opsK U (Proc.devRef .tc r) = U (Proc.devRef .tc r) :=
  after_of_writes_sub opsK U (forall_writes_sub_of_map rfl) h

def wrD : List (Ref sig .tc) := [main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128]
theorem keepD (r : Ref sig .tc) (h : r ∉ wrD) : after opsD U (Proc.devRef .tc r) = U (Proc.devRef .tc r) :=
  after_of_writes_sub opsD U (forall_writes_sub_of_map rfl) h

def wrE : List (Ref sig .tc) := [main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164]
theorem keepE (r : Ref sig .tc) (h : r ∉ wrE) : after opsE U (Proc.devRef .tc r) = U (Proc.devRef .tc r) :=
  after_of_writes_sub opsE U (forall_writes_sub_of_map rfl) h

def wrG : List (Ref sig .tc) := [main_v165, main_v166, main_v167, main_v168, main_v169, main_v170]
theorem keepG (r : Ref sig .tc) (h : r ∉ wrG) : after opsG U (Proc.devRef .tc r) = U (Proc.devRef .tc r) :=
  after_of_writes_sub opsG U (forall_writes_sub_of_map rfl) h

theorem valG : after opsG U (Proc.devRef .tc main_v170) =
    truncf .bf16 (joined
      (U (Proc.devRef .tc main_v20))
      (U (Proc.devRef .tc main_v9))
      (U (Proc.devRef .tc main_v10))
      (U (Proc.devRef .tc main_v11))
      (U (Proc.devRef .tc main_v12))
      (U (Proc.devRef .tc main_v13))
      (shapeCast S16384x512 (U (Proc.devRef .tc main_v56) : V F S16384x4x2x64) shapeCasts_S16384x4x2x64_S16384x512)
      (shapeCast S16384x512 (U (Proc.devRef .tc main_v92) : V F S16384x4x2x64) shapeCasts_S16384x4x2x64_S16384x512)
      (U (Proc.devRef .tc main_v16))
      (shapeCast S16384x512 (U (Proc.devRef .tc main_v128) : V F S16384x8x64) shapeCasts_S16384x8x64_S16384x512)
      (shapeCast S16384x128 (U (Proc.devRef .tc main_v164) : V F S16384x2x64) shapeCasts_S16384x2x64_S16384x128)
      (U (Proc.devRef .tc main_v19))) bitsLt_bf16_f32 := by
  after_results_simp <;> rfl

/-- The result from the product and the angles. -/
def laid (P : V F S16384x13056) (gr gc : V F S16384x16) : W F S16384x13056 :=
    truncf .bf16 (joined
      (extractStridedSlice S16384x8192 ![0, 4864] P slices_S16384x13056_S16384x8192_0_4864)
      (extractStridedSlice S16384x512 ![0, 0] P slices_S16384x13056_S16384x512_0_0)
      (extractStridedSlice S16384x512 ![0, 512] P slices_S16384x13056_S16384x512_0_512)
      (extractStridedSlice S16384x512 ![0, 1024] P slices_S16384x13056_S16384x512_0_1024)
      (extractStridedSlice S16384x512 ![0, 1536] P slices_S16384x13056_S16384x512_0_1536)
      (extractStridedSlice S16384x512 ![0, 2048] P slices_S16384x13056_S16384x512_0_2048)
      (turned42 (extractStridedSlice S16384x512 ![0, 2560] P slices_S16384x13056_S16384x512_0_2560) gr gc)
      (turned42 (extractStridedSlice S16384x512 ![0, 3072] P slices_S16384x13056_S16384x512_0_3072) gr gc)
      (extractStridedSlice S16384x512 ![0, 3584] P slices_S16384x13056_S16384x512_0_3584)
      (turned8 (extractStridedSlice S16384x512 ![0, 4096] P slices_S16384x13056_S16384x512_0_4096) gr gc)
      (turned2 (extractStridedSlice S16384x128 ![0, 4608] P slices_S16384x13056_S16384x128_0_4608) gr gc)
      (extractStridedSlice S16384x128 ![0, 4736] P slices_S16384x13056_S16384x128_0_4736)) bitsLt_bf16_f32

/-- The buffers after the first stretches. -/
def uA := after opsA U
def uQ := after opsQ (uA U)
def uK := after opsK (uQ U)
def uD := after opsD (uK U)
def uE := after opsE (uD U)

theorem toA (r : Ref sig .tc) (h : r ∉ wrA) : uA U (Proc.devRef .tc r) = U (Proc.devRef .tc r) := keepA _ r h
theorem toQ (r : Ref sig .tc) (h : r ∉ wrQ) : uQ U (Proc.devRef .tc r) = (uA U) (Proc.devRef .tc r) := keepQ _ r h
theorem toK (r : Ref sig .tc) (h : r ∉ wrK) : uK U (Proc.devRef .tc r) = (uQ U) (Proc.devRef .tc r) := keepK _ r h
theorem toD (r : Ref sig .tc) (h : r ∉ wrD) : uD U (Proc.devRef .tc r) = (uK U) (Proc.devRef .tc r) := keepD _ r h
theorem toE (r : Ref sig .tc) (h : r ∉ wrE) : uE U (Proc.devRef .tc r) = (uD U) (Proc.devRef .tc r) := keepE _ r h

theorem toUA (r : Ref sig .tc) (hQ : r ∉ wrQ) (hK : r ∉ wrK) (hD : r ∉ wrD) (hE : r ∉ wrE) :
    uE U (Proc.devRef .tc r) = uA U (Proc.devRef .tc r) :=
  (toE U r hE).trans ((toD U r hD).trans ((toK U r hK).trans (toQ U r hQ)))

theorem endQ : shapeCast S16384x512 (uE U (Proc.devRef .tc main_v56) : V F S16384x4x2x64) shapeCasts_S16384x4x2x64_S16384x512 =
    turned42 (extractStridedSlice S16384x512 ![0, 2560] (prodOf U) slices_S16384x13056_S16384x512_0_2560) (U (Proc.devRef .tc main_arg4)) (U (Proc.devRef .tc main_arg5)) := by
  have e : uE U (Proc.devRef .tc main_v56) = uQ U (Proc.devRef .tc main_v56) := (toE U main_v56 (by decide)).trans ((toD U main_v56 (by decide)).trans ((toK U main_v56 (by decide)).trans (rfl)))
  have e0 : uA U (Proc.devRef .tc main_v14) = (extractStridedSlice S16384x512 ![0, 2560] (prodOf U) slices_S16384x13056_S16384x512_0_2560) := (rfl : uA U (Proc.devRef .tc main_v14) = uA U (Proc.devRef .tc main_v14)).trans (part_main_v14 U)
  have e1 : uA U (Proc.devRef .tc main_arg4) = U (Proc.devRef .tc main_arg4) := (rfl : uA U (Proc.devRef .tc main_arg4) = uA U (Proc.devRef .tc main_arg4)).trans (toA U main_arg4 (by decide))
  have e2 : uA U (Proc.devRef .tc main_arg5) = U (Proc.devRef .tc main_arg5) := (rfl : uA U (Proc.devRef .tc main_arg5) = uA U (Proc.devRef .tc main_arg5)).trans (toA U main_arg5 (by decide))
  rw [e]
  refine (valQ (uA U)).trans ?_
  rw [e0, e1, e2]

theorem endK : shapeCast S16384x512 (uE U (Proc.devRef .tc main_v92) : V F S16384x4x2x64) shapeCasts_S16384x4x2x64_S16384x512 =
    turned42 (extractStridedSlice S16384x512 ![0, 3072] (prodOf U) slices_S16384x13056_S16384x512_0_3072) (U (Proc.devRef .tc main_arg4)) (U (Proc.devRef .tc main_arg5)) := by
  have e : uE U (Proc.devRef .tc main_v92) = uK U (Proc.devRef .tc main_v92) := (toE U main_v92 (by decide)).trans ((toD U main_v92 (by decide)).trans (rfl))
  have e0 : uQ U (Proc.devRef .tc main_v15) = (extractStridedSlice S16384x512 ![0, 3072] (prodOf U) slices_S16384x13056_S16384x512_0_3072) := ((toQ U main_v15 (by decide)).trans (rfl) : uQ U (Proc.devRef .tc main_v15) = uA U (Proc.devRef .tc main_v15)).trans (part_main_v15 U)
  have e1 : uQ U (Proc.devRef .tc main_arg4) = U (Proc.devRef .tc main_arg4) := ((toQ U main_arg4 (by decide)).trans (rfl) : uQ U (Proc.devRef .tc main_arg4) = uA U (Proc.devRef .tc main_arg4)).trans (toA U main_arg4 (by decide))
  have e2 : uQ U (Proc.devRef .tc main_arg5) = U (Proc.devRef .tc main_arg5) := ((toQ U main_arg5 (by decide)).trans (rfl) : uQ U (Proc.devRef .tc main_arg5) = uA U (Proc.devRef .tc main_arg5)).trans (toA U main_arg5 (by decide))
  rw [e]
  refine (valK (uQ U)).trans ?_
  rw [e0, e1, e2]

theorem endD : shapeCast S16384x512 (uE U (Proc.devRef .tc main_v128) : V F S16384x8x64) shapeCasts_S16384x8x64_S16384x512 =
    turned8 (extractStridedSlice S16384x512 ![0, 4096] (prodOf U) slices_S16384x13056_S16384x512_0_4096) (U (Proc.devRef .tc main_arg4)) (U (Proc.devRef .tc main_arg5)) := by
  have e : uE U (Proc.devRef .tc main_v128) = uD U (Proc.devRef .tc main_v128) := (toE U main_v128 (by decide)).trans (rfl)
  have e0 : uK U (Proc.devRef .tc main_v17) = (extractStridedSlice S16384x512 ![0, 4096] (prodOf U) slices_S16384x13056_S16384x512_0_4096) := ((toK U main_v17 (by decide)).trans ((toQ U main_v17 (by decide)).trans (rfl)) : uK U (Proc.devRef .tc main_v17) = uA U (Proc.devRef .tc main_v17)).trans (part_main_v17 U)
  have e1 : uK U (Proc.devRef .tc main_arg4) = U (Proc.devRef .tc main_arg4) := ((toK U main_arg4 (by decide)).trans ((toQ U main_arg4 (by decide)).trans (rfl)) : uK U (Proc.devRef .tc main_arg4) = uA U (Proc.devRef .tc main_arg4)).trans (toA U main_arg4 (by decide))
  have e2 : uK U (Proc.devRef .tc main_arg5) = U (Proc.devRef .tc main_arg5) := ((toK U main_arg5 (by decide)).trans ((toQ U main_arg5 (by decide)).trans (rfl)) : uK U (Proc.devRef .tc main_arg5) = uA U (Proc.devRef .tc main_arg5)).trans (toA U main_arg5 (by decide))
  rw [e]
  refine (valD (uK U)).trans ?_
  rw [e0, e1, e2]

theorem endE : shapeCast S16384x128 (uE U (Proc.devRef .tc main_v164) : V F S16384x2x64) shapeCasts_S16384x2x64_S16384x128 =
    turned2 (extractStridedSlice S16384x128 ![0, 4608] (prodOf U) slices_S16384x13056_S16384x128_0_4608) (U (Proc.devRef .tc main_arg4)) (U (Proc.devRef .tc main_arg5)) := by
  have e : uE U (Proc.devRef .tc main_v164) = uE U (Proc.devRef .tc main_v164) := rfl
  have e0 : uD U (Proc.devRef .tc main_v18) = (extractStridedSlice S16384x128 ![0, 4608] (prodOf U) slices_S16384x13056_S16384x128_0_4608) := ((toD U main_v18 (by decide)).trans ((toK U main_v18 (by decide)).trans ((toQ U main_v18 (by decide)).trans (rfl))) : uD U (Proc.devRef .tc main_v18) = uA U (Proc.devRef .tc main_v18)).trans (part_main_v18 U)
  have e1 : uD U (Proc.devRef .tc main_arg4) = U (Proc.devRef .tc main_arg4) := ((toD U main_arg4 (by decide)).trans ((toK U main_arg4 (by decide)).trans ((toQ U main_arg4 (by decide)).trans (rfl))) : uD U (Proc.devRef .tc main_arg4) = uA U (Proc.devRef .tc main_arg4)).trans (toA U main_arg4 (by decide))
  have e2 : uD U (Proc.devRef .tc main_arg5) = U (Proc.devRef .tc main_arg5) := ((toD U main_arg5 (by decide)).trans ((toK U main_arg5 (by decide)).trans ((toQ U main_arg5 (by decide)).trans (rfl))) : uD U (Proc.devRef .tc main_arg5) = uA U (Proc.devRef .tc main_arg5)).trans (toA U main_arg5 (by decide))
  rw [e]
  refine (valE (uD U)).trans ?_
  rw [e0, e1, e2]

theorem result_of : after ops U (Proc.devRef .tc main_v170) = laid (prodOf U) (U (Proc.devRef .tc main_arg4)) (U (Proc.devRef .tc main_arg5)) := by
  have h : after ops U = after opsG (uE U) := by
    unfold ops uE uD uK uQ uA
    rw [after_append, after_append, after_append, after_append, after_append]
  rw [h]
  refine (valG (uE U)).trans ?_
  unfold laid
  rw [endQ U, endK U, endD U, endE U,
    (toUA U main_v20 (by decide) (by decide) (by decide) (by decide)).trans (part_main_v20 U),
    (toUA U main_v9 (by decide) (by decide) (by decide) (by decide)).trans (part_main_v9 U),
    (toUA U main_v10 (by decide) (by decide) (by decide) (by decide)).trans (part_main_v10 U),
    (toUA U main_v11 (by decide) (by decide) (by decide) (by decide)).trans (part_main_v11 U),
    (toUA U main_v12 (by decide) (by decide) (by decide) (by decide)).trans (part_main_v12 U),
    (toUA U main_v13 (by decide) (by decide) (by decide) (by decide)).trans (part_main_v13 U),
    (toUA U main_v16 (by decide) (by decide) (by decide) (by decide)).trans (part_main_v16 U),
    (toUA U main_v19 (by decide) (by decide) (by decide) (by decide)).trans (part_main_v19 U)]

theorem arg0_kept : after ops U (Proc.devRef .tc main_arg0) = U (Proc.devRef .tc main_arg0) := by
  have h : after ops U = after opsG (uE U) := by
    unfold ops uE uD uK uQ uA
    rw [after_append, after_append, after_append, after_append, after_append]
  rw [h]
  exact (keepG _ _ (by decide)).trans ((toUA U _ (by decide) (by decide) (by decide) (by decide)).trans (toA U _ (by decide)))

theorem arg1_kept : after ops U (Proc.devRef .tc main_arg1) = U (Proc.devRef .tc main_arg1) := by
  have h : after ops U = after opsG (uE U) := by
    unfold ops uE uD uK uQ uA
    rw [after_append, after_append, after_append, after_append, after_append]
  rw [h]
  exact (keepG _ _ (by decide)).trans ((toUA U _ (by decide) (by decide) (by decide) (by decide)).trans (toA U _ (by decide)))

theorem arg2_kept : after ops U (Proc.devRef .tc main_arg2) = U (Proc.devRef .tc main_arg2) := by
  have h : after ops U = after opsG (uE U) := by
    unfold ops uE uD uK uQ uA
    rw [after_append, after_append, after_append, after_append, after_append]
  rw [h]
  exact (keepG _ _ (by decide)).trans ((toUA U _ (by decide) (by decide) (by decide) (by decide)).trans (toA U _ (by decide)))

theorem arg3_kept : after ops U (Proc.devRef .tc main_arg3) = U (Proc.devRef .tc main_arg3) := by
  have h : after ops U = after opsG (uE U) := by
    unfold ops uE uD uK uQ uA
    rw [after_append, after_append, after_append, after_append, after_append]
  rw [h]
  exact (keepG _ _ (by decide)).trans ((toUA U _ (by decide) (by decide) (by decide) (by decide)).trans (toA U _ (by decide)))

theorem arg4_kept : after ops U (Proc.devRef .tc main_arg4) = U (Proc.devRef .tc main_arg4) := by
  have h : after ops U = after opsG (uE U) := by
    unfold ops uE uD uK uQ uA
    rw [after_append, after_append, after_append, after_append, after_append]
  rw [h]
  exact (keepG _ _ (by decide)).trans ((toUA U _ (by decide) (by decide) (by decide) (by decide)).trans (toA U _ (by decide)))

theorem arg5_kept : after ops U (Proc.devRef .tc main_arg5) = U (Proc.devRef .tc main_arg5) := by
  have h : after ops U = after opsG (uE U) := by
    unfold ops uE uD uK uQ uA
    rw [after_append, after_append, after_append, after_append, after_append]
  rw [h]
  exact (keepG _ _ (by decide)).trans ((toUA U _ (by decide) (by decide) (by decide) (by decide)).trans (toA U _ (by decide)))

theorem fresh_all (op : HloOp τ sig (Elt F)) (ho : op ∈ (ops : List (HloOp τ sig (Elt F)))) : op.fresh = ∅ := by
  simp only [ops, List.mem_append] at ho
  rcases ho with ho | ho | ho | ho | ho | ho <;>
    ((repeat (cases ho with | head => rfl | tail _ ho => ?_)); exact nomatch ho)

/-- The result at the launch's memory. -/
def res (m : (ℓ : Loc nD τ sig) → Buf (Elt F) ℓ) (c : Dev nD) : W F S16384x13056 :=
  laid (product (m ((c.tc : Thread nD τ).loc main_arg0)) (m ((c.tc : Thread nD τ).loc main_arg1)) (m ((c.tc : Thread nD τ).loc main_arg2))
    (m ((c.tc : Thread nD τ).loc main_arg3))) (m ((c.tc : Thread nD τ).loc main_arg4)) (m ((c.tc : Thread nD τ).loc main_arg5))

/-- Every execution ends with the result and the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v170) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v170).trans (result_of _), (h c main_arg0).trans (arg0_kept _), (h c main_arg1).trans (arg1_kept _), (h c main_arg2).trans (arg2_kept _), (h c main_arg3).trans (arg3_kept _), (h c main_arg4).trans (arg4_kept _), (h c main_arg5).trans (arg5_kept _)⟩)
    (run_seq scopedRefs_eq scopedSems_eq defs main (fun _ => ops) main_eq (fun _ => ops_sub) m ρ (fun _ op ho => fresh_all op ho))

end Cert.ProjReferenceIdeal.Steps

end

end
-- ==== Proof.Proj.RefRead.lean ====
/- The reference's result at an index. -/
module

public import proofs.«01_k».proof.Proof.Proj.RefRun
public import proofs.«01_k».proof.Proof.Proj.Spec

@[expose] public section

set_option maxRecDepth 16384

noncomputable section

namespace Cert.ProjReferenceIdeal.Steps

open Cert.ProjReferenceIdeal Cert.ProjReferenceIdeal.Gen Idealize.ShloMosaic Idealize.ShloMosaic.TcCoe Idealize.ShloMosaic.Tactic
open Cert.Proj

/-- The product at a row and a column. -/
theorem product_apply (A : Arg) (r : Fin 16384) (j : Fin 13056) :
    (product (F := Ideal) A.x A.sc A.sh A.w : S16384x13056.Idx → EReal) (ix2 r j) = A.prod r j.val := by
  have e : A.prod r j.val = ∑ k, A.hid r k * A.w (ix3 0 k j) :=
    Finset.sum_congr rfl fun k _ => congrArg (A.hid r k * ·) (dif_pos j.isLt)
  rw [e]
  unfold product
  pointwise
  rfl

theorem ang_step (A : Arg) (r : Fin 16384) (e k : ℕ) (he : e % 32 = 0) (h : 16 ≤ k) (hk : k < 32) : A.ang r (e + (k - 16)) = A.ang r (e + k) := by
  have h1 : (e + (k - 16)) % 16 = (e + k) % 16 := by omega
  have h2 : ((e + (k - 16)) % 64 < 32) = ((e + k) % 64 < 32) := propext (by omega)
  unfold Arg.ang
  simp only [h1, h2]

/-- A pair turned by its angle, from the columns it reads. -/
theorem turn_low (A : Arg) (r : Fin 16384) (e k : ℕ) (he : e % 32 = 0) (h : k < 16) :
    A.turn r (e + k) = A.prod r (e + k) * Ideal.cos (A.ang r (e + k)) - A.prod r (e + (16 + k)) * Ideal.sin (A.ang r (e + k)) := by
  unfold Arg.turn
  rw [if_pos (by omega), show e + (16 + k) = e + k + 16 by omega]

theorem turn_high (A : Arg) (r : Fin 16384) (e k : ℕ) (he : e % 32 = 0) (h : 16 ≤ k) (hk : k < 32) :
    A.turn r (e + k) = A.prod r (e + (16 + (k - 16))) * Ideal.cos (A.ang r (e + (k - 16))) + A.prod r (e + (k - 16)) * Ideal.sin (A.ang r (e + (k - 16))) := by
  unfold Arg.turn
  rw [if_neg (by omega), ang_step A r e k he h hk, show e + (16 + (k - 16)) = e + k by omega, show e + (k - 16) = e + k - 16 by omega]

/-- Columns of pairs turned by an angle. -/
theorem pair42_turn (A : Arg) (y : V Ideal S16384x4x2x32) (g : V Ideal S16384x16) (r : Fin 16384) (a : Fin 4) (b : Fin 2) (e : ℕ) (he : e % 32 = 0)
    (hy : ∀ k : Fin 32, (y : S16384x4x2x32.Idx → EReal) (ix4 r a b k) = A.prod r (e + k.val))
    (hg : ∀ k : Fin 16, (g : S16384x16.Idx → EReal) (ix2 r k) = A.ang r (e + k.val)) (k : Fin 32) :
    (pair42 (F := Ideal) y g : S16384x4x2x32.Idx → EReal) (ix4 r a b k) = A.turn r (e + k.val) := by
  have hk := k.isLt
  unfold pair42 cat_16384_4_2_32
  pointwise
  by_cases h : k.val < 16
  · refine (dif_pos h).trans ?_
    rw [hy, hy, hg, turn_low A r e k.val he h]
  · refine (dif_neg h).trans ?_
    rw [hy, hy, hg, turn_high A r e k.val he (by omega) hk]

theorem turned42_turn (A : Arg) (y : V Ideal S16384x512) (r : Fin 16384) (o : ℕ) (ho : o % 64 = 0)
    (hy : ∀ q : Fin 512, (y : S16384x512.Idx → EReal) (ix2 r q) = A.prod r (o + q.val)) (q : Fin 512) :
    (turned42 (F := Ideal) y A.ar A.ac : S16384x512.Idx → EReal) (ix2 r q) = A.turn r (o + q.val) := by
  have hq := q.isLt
  unfold turned42 cat_16384_4_2_64
  pointwise
  by_cases h : q.val % 64 < 32
  · refine (dif_pos h).trans ((pair42_turn A _ _ r _ _ (o + q.val / 64 * 64) (by omega) ?_ ?_ _).trans ?_)
    · intro k
      have hk := k.isLt
      pointwise
      rw [hy]
      refine congrArg (A.prod r) ?_
      show o + (q.val / 128 * 128 + q.val / 64 % 2 * 64 + k.val) = o + q.val / 64 * 64 + k.val
      omega
    · intro k
      unfold Arg.ang
      rw [if_pos (by omega)]
      exact congrArg (fun i => A.ar (ix2 r i)) (Fin.ext (show k.val = (o + q.val / 64 * 64 + k.val) % 16 by omega))
    · exact congrArg (A.turn r) (show o + q.val / 64 * 64 + q.val % 64 = _ by omega)
  · refine (dif_neg h).trans ((pair42_turn A _ _ r _ _ (o + q.val / 64 * 64 + 32) (by omega) ?_ ?_ _).trans ?_)
    · intro k
      have hk := k.isLt
      pointwise
      rw [hy]
      refine congrArg (A.prod r) ?_
      show o + (q.val / 128 * 128 + q.val / 64 % 2 * 64 + (32 + k.val)) = o + q.val / 64 * 64 + 32 + k.val
      omega
    · intro k
      unfold Arg.ang
      rw [if_neg (by omega)]
      exact congrArg (fun i => A.ac (ix2 r i)) (Fin.ext (show k.val = (o + q.val / 64 * 64 + 32 + k.val) % 16 by omega))
    · exact congrArg (A.turn r) (show o + q.val / 64 * 64 + 32 + (q.val % 64 - 32) = _ by omega)

/-- Columns of pairs turned by an angle. -/
theorem pair8_turn (A : Arg) (y : V Ideal S16384x8x32) (g : V Ideal S16384x16) (r : Fin 16384) (a : Fin 8) (e : ℕ) (he : e % 32 = 0)
    (hy : ∀ k : Fin 32, (y : S16384x8x32.Idx → EReal) (ix3 r a k) = A.prod r (e + k.val))
    (hg : ∀ k : Fin 16, (g : S16384x16.Idx → EReal) (ix2 r k) = A.ang r (e + k.val)) (k : Fin 32) :
    (pair8 (F := Ideal) y g : S16384x8x32.Idx → EReal) (ix3 r a k) = A.turn r (e + k.val) := by
  have hk := k.isLt
  unfold pair8 cat_16384_8_32
  pointwise
  by_cases h : k.val < 16
  · refine (dif_pos h).trans ?_
    rw [hy, hy, hg, turn_low A r e k.val he h]
  · refine (dif_neg h).trans ?_
    rw [hy, hy, hg, turn_high A r e k.val he (by omega) hk]

theorem turned8_turn (A : Arg) (y : V Ideal S16384x512) (r : Fin 16384) (o : ℕ) (ho : o % 64 = 0)
    (hy : ∀ q : Fin 512, (y : S16384x512.Idx → EReal) (ix2 r q) = A.prod r (o + q.val)) (q : Fin 512) :
    (turned8 (F := Ideal) y A.ar A.ac : S16384x512.Idx → EReal) (ix2 r q) = A.turn r (o + q.val) := by
  have hq := q.isLt
  unfold turned8 cat_16384_8_64
  pointwise
  by_cases h : q.val % 64 < 32
  · refine (dif_pos h).trans ((pair8_turn A _ _ r _ (o + q.val / 64 * 64) (by omega) ?_ ?_ _).trans ?_)
    · intro k
      have hk := k.isLt
      pointwise
      rw [hy]
      refine congrArg (A.prod r) ?_
      show o + (q.val / 64 * 64 + k.val) = o + q.val / 64 * 64 + k.val
      omega
    · intro k
      unfold Arg.ang
      rw [if_pos (by omega)]
      exact congrArg (fun i => A.ar (ix2 r i)) (Fin.ext (show k.val = (o + q.val / 64 * 64 + k.val) % 16 by omega))
    · exact congrArg (A.turn r) (show o + q.val / 64 * 64 + q.val % 64 = _ by omega)
  · refine (dif_neg h).trans ((pair8_turn A _ _ r _ (o + q.val / 64 * 64 + 32) (by omega) ?_ ?_ _).trans ?_)
    · intro k
      have hk := k.isLt
      pointwise
      rw [hy]
      refine congrArg (A.prod r) ?_
      show o + (q.val / 64 * 64 + (32 + k.val)) = o + q.val / 64 * 64 + 32 + k.val
      omega
    · intro k
      unfold Arg.ang
      rw [if_neg (by omega)]
      exact congrArg (fun i => A.ac (ix2 r i)) (Fin.ext (show k.val = (o + q.val / 64 * 64 + 32 + k.val) % 16 by omega))
    · exact congrArg (A.turn r) (show o + q.val / 64 * 64 + 32 + (q.val % 64 - 32) = _ by omega)

/-- Columns of pairs turned by an angle. -/
theorem pair2_turn (A : Arg) (y : V Ideal S16384x2x32) (g : V Ideal S16384x16) (r : Fin 16384) (a : Fin 2) (e : ℕ) (he : e % 32 = 0)
    (hy : ∀ k : Fin 32, (y : S16384x2x32.Idx → EReal) (ix3 r a k) = A.prod r (e + k.val))
    (hg : ∀ k : Fin 16, (g : S16384x16.Idx → EReal) (ix2 r k) = A.ang r (e + k.val)) (k : Fin 32) :
    (pair2 (F := Ideal) y g : S16384x2x32.Idx → EReal) (ix3 r a k) = A.turn r (e + k.val) := by
  have hk := k.isLt
  unfold pair2 cat_16384_2_32
  pointwise
  by_cases h : k.val < 16
  · refine (dif_pos h).trans ?_
    rw [hy, hy, hg, turn_low A r e k.val he h]
  · refine (dif_neg h).trans ?_
    rw [hy, hy, hg, turn_high A r e k.val he (by omega) hk]

theorem turned2_turn (A : Arg) (y : V Ideal S16384x128) (r : Fin 16384) (o : ℕ) (ho : o % 64 = 0)
    (hy : ∀ q : Fin 128, (y : S16384x128.Idx → EReal) (ix2 r q) = A.prod r (o + q.val)) (q : Fin 128) :
    (turned2 (F := Ideal) y A.ar A.ac : S16384x128.Idx → EReal) (ix2 r q) = A.turn r (o + q.val) := by
  have hq := q.isLt
  unfold turned2 cat_16384_2_64
  pointwise
  by_cases h : q.val % 64 < 32
  · refine (dif_pos h).trans ((pair2_turn A _ _ r _ (o + q.val / 64 * 64) (by omega) ?_ ?_ _).trans ?_)
    · intro k
      have hk := k.isLt
      pointwise
      rw [hy]
      refine congrArg (A.prod r) ?_
      show o + (q.val / 64 * 64 + k.val) = o + q.val / 64 * 64 + k.val
      omega
    · intro k
      unfold Arg.ang
      rw [if_pos (by omega)]
      exact congrArg (fun i => A.ar (ix2 r i)) (Fin.ext (show k.val = (o + q.val / 64 * 64 + k.val) % 16 by omega))
    · exact congrArg (A.turn r) (show o + q.val / 64 * 64 + q.val % 64 = _ by omega)
  · refine (dif_neg h).trans ((pair2_turn A _ _ r _ (o + q.val / 64 * 64 + 32) (by omega) ?_ ?_ _).trans ?_)
    · intro k
      have hk := k.isLt
      pointwise
      rw [hy]
      refine congrArg (A.prod r) ?_
      show o + (q.val / 64 * 64 + (32 + k.val)) = o + q.val / 64 * 64 + 32 + k.val
      omega
    · intro k
      unfold Arg.ang
      rw [if_neg (by omega)]
      exact congrArg (fun i => A.ac (ix2 r i)) (Fin.ext (show k.val = (o + q.val / 64 * 64 + 32 + k.val) % 16 by omega))
    · exact congrArg (A.turn r) (show o + q.val / 64 * 64 + 32 + (q.val % 64 - 32) = _ by omega)

/-- Parts side by side, each a stretch of one row. -/
theorem joined_row (G : ℕ → EReal) (r : Fin 16384)
    (a0 : V Ideal S16384x8192) (h0 : ∀ q : Fin 8192, (a0 : S16384x8192.Idx → EReal) (ix2 r q) = G (0 + q.val))
    (a1 : V Ideal S16384x512) (h1 : ∀ q : Fin 512, (a1 : S16384x512.Idx → EReal) (ix2 r q) = G (8192 + q.val))
    (a2 : V Ideal S16384x512) (h2 : ∀ q : Fin 512, (a2 : S16384x512.Idx → EReal) (ix2 r q) = G (8704 + q.val))
    (a3 : V Ideal S16384x512) (h3 : ∀ q : Fin 512, (a3 : S16384x512.Idx → EReal) (ix2 r q) = G (9216 + q.val))
    (a4 : V Ideal S16384x512) (h4 : ∀ q : Fin 512, (a4 : S16384x512.Idx → EReal) (ix2 r q) = G (9728 + q.val))
    (a5 : V Ideal S16384x512) (h5 : ∀ q : Fin 512, (a5 : S16384x512.Idx → EReal) (ix2 r q) = G (10240 + q.val))
    (a6 : V Ideal S16384x512) (h6 : ∀ q : Fin 512, (a6 : S16384x512.Idx → EReal) (ix2 r q) = G (10752 + q.val))
    (a7 : V Ideal S16384x512) (h7 : ∀ q : Fin 512, (a7 : S16384x512.Idx → EReal) (ix2 r q) = G (11264 + q.val))
    (a8 : V Ideal S16384x512) (h8 : ∀ q : Fin 512, (a8 : S16384x512.Idx → EReal) (ix2 r q) = G (11776 + q.val))
    (a9 : V Ideal S16384x512) (h9 : ∀ q : Fin 512, (a9 : S16384x512.Idx → EReal) (ix2 r q) = G (12288 + q.val))
    (a10 : V Ideal S16384x128) (h10 : ∀ q : Fin 128, (a10 : S16384x128.Idx → EReal) (ix2 r q) = G (12800 + q.val))
    (a11 : V Ideal S16384x128) (h11 : ∀ q : Fin 128, (a11 : S16384x128.Idx → EReal) (ix2 r q) = G (12928 + q.val)) (q : Fin 13056) :
    (joined (F := Ideal) a0 a1 a2 a3 a4 a5 a6 a7 a8 a9 a10 a11 : S16384x13056.Idx → EReal) (ix2 r q) = G q.val := by
  have hq := q.isLt
  unfold joined
  pointwise
  by_cases c0 : q.val < 8192
  · exact (dif_pos c0).trans ((h0 _).trans (congrArg G (show 0 + (q.val) = _ by omega)))
  refine (dif_neg c0).trans ?_
  by_cases c1 : q.val - 8192 < 512
  · exact (dif_pos c1).trans ((h1 _).trans (congrArg G (show 8192 + (q.val - 8192) = _ by omega)))
  refine (dif_neg c1).trans ?_
  by_cases c2 : q.val - 8192 - 512 < 512
  · exact (dif_pos c2).trans ((h2 _).trans (congrArg G (show 8704 + (q.val - 8192 - 512) = _ by omega)))
  refine (dif_neg c2).trans ?_
  by_cases c3 : q.val - 8192 - 512 - 512 < 512
  · exact (dif_pos c3).trans ((h3 _).trans (congrArg G (show 9216 + (q.val - 8192 - 512 - 512) = _ by omega)))
  refine (dif_neg c3).trans ?_
  by_cases c4 : q.val - 8192 - 512 - 512 - 512 < 512
  · exact (dif_pos c4).trans ((h4 _).trans (congrArg G (show 9728 + (q.val - 8192 - 512 - 512 - 512) = _ by omega)))
  refine (dif_neg c4).trans ?_
  by_cases c5 : q.val - 8192 - 512 - 512 - 512 - 512 < 512
  · exact (dif_pos c5).trans ((h5 _).trans (congrArg G (show 10240 + (q.val - 8192 - 512 - 512 - 512 - 512) = _ by omega)))
  refine (dif_neg c5).trans ?_
  by_cases c6 : q.val - 8192 - 512 - 512 - 512 - 512 - 512 < 512
  · exact (dif_pos c6).trans ((h6 _).trans (congrArg G (show 10752 + (q.val - 8192 - 512 - 512 - 512 - 512 - 512) = _ by omega)))
  refine (dif_neg c6).trans ?_
  by_cases c7 : q.val - 8192 - 512 - 512 - 512 - 512 - 512 - 512 < 512
  · exact (dif_pos c7).trans ((h7 _).trans (congrArg G (show 11264 + (q.val - 8192 - 512 - 512 - 512 - 512 - 512 - 512) = _ by omega)))
  refine (dif_neg c7).trans ?_
  by_cases c8 : q.val - 8192 - 512 - 512 - 512 - 512 - 512 - 512 - 512 < 512
  · exact (dif_pos c8).trans ((h8 _).trans (congrArg G (show 11776 + (q.val - 8192 - 512 - 512 - 512 - 512 - 512 - 512 - 512) = _ by omega)))
  refine (dif_neg c8).trans ?_
  by_cases c9 : q.val - 8192 - 512 - 512 - 512 - 512 - 512 - 512 - 512 - 512 < 512
  · exact (dif_pos c9).trans ((h9 _).trans (congrArg G (show 12288 + (q.val - 8192 - 512 - 512 - 512 - 512 - 512 - 512 - 512 - 512) = _ by omega)))
  refine (dif_neg c9).trans ?_
  by_cases c10 : q.val - 8192 - 512 - 512 - 512 - 512 - 512 - 512 - 512 - 512 - 512 < 128
  · exact (dif_pos c10).trans ((h10 _).trans (congrArg G (show 12800 + (q.val - 8192 - 512 - 512 - 512 - 512 - 512 - 512 - 512 - 512 - 512) = _ by omega)))
  refine (dif_neg c10).trans ?_
  exact (h11 _).trans (congrArg G (show 12928 + (q.val - 8192 - 512 - 512 - 512 - 512 - 512 - 512 - 512 - 512 - 512 - 128) = _ by omega))

/-- The reference's result at an index. -/
theorem laid_apply (A : Arg) (i : S16384x13056.Idx) :
    (laid (F := Ideal) (product A.x A.sc A.sh A.w) A.ar A.ac : S16384x13056.Idx → EReal) i = A.result i := by
  have hp := product_apply A (i 0)
  unfold laid
  generalize product (F := Ideal) A.x A.sc A.sh A.w = P at hp ⊢
  have hi : i = ix2 (i 0) (i 1) := by
    funext a
    fin_cases a <;> rfl
  rw [hi]
  refine joined_row (fun q => A.proj (i 0) (Arg.place q)) (i 0)
    (extractStridedSlice S16384x8192 ![0, 4864] P slices_S16384x13056_S16384x8192_0_4864) ?h0
    (extractStridedSlice S16384x512 ![0, 0] P slices_S16384x13056_S16384x512_0_0) ?h1
    (extractStridedSlice S16384x512 ![0, 512] P slices_S16384x13056_S16384x512_0_512) ?h2
    (extractStridedSlice S16384x512 ![0, 1024] P slices_S16384x13056_S16384x512_0_1024) ?h3
    (extractStridedSlice S16384x512 ![0, 1536] P slices_S16384x13056_S16384x512_0_1536) ?h4
    (extractStridedSlice S16384x512 ![0, 2048] P slices_S16384x13056_S16384x512_0_2048) ?h5
    (turned42 (extractStridedSlice S16384x512 ![0, 2560] P slices_S16384x13056_S16384x512_0_2560) A.ar A.ac) ?h6
    (turned42 (extractStridedSlice S16384x512 ![0, 3072] P slices_S16384x13056_S16384x512_0_3072) A.ar A.ac) ?h7
    (extractStridedSlice S16384x512 ![0, 3584] P slices_S16384x13056_S16384x512_0_3584) ?h8
    (turned8 (extractStridedSlice S16384x512 ![0, 4096] P slices_S16384x13056_S16384x512_0_4096) A.ar A.ac) ?h9
    (turned2 (extractStridedSlice S16384x128 ![0, 4608] P slices_S16384x13056_S16384x128_0_4608) A.ar A.ac) ?h10
    (extractStridedSlice S16384x128 ![0, 4736] P slices_S16384x13056_S16384x128_0_4736) ?h11 (i 1)
  case h0 =>
    intro q
    have hq := q.isLt
    have e : Arg.place (0 + q.val) = 4864 + q.val := by unfold Arg.place; split <;> omega
    show _ = A.proj (i 0) (Arg.place _)
    rw [e]
    unfold Arg.proj
    rw [if_neg (by unfold Arg.Turned; omega)]
    pointwise
    exact hp _
  case h1 =>
    intro q
    have hq := q.isLt
    have e : Arg.place (8192 + q.val) = 0 + q.val := by unfold Arg.place; split <;> omega
    show _ = A.proj (i 0) (Arg.place _)
    rw [e]
    unfold Arg.proj
    rw [if_neg (by unfold Arg.Turned; omega)]
    pointwise
    exact hp _
  case h2 =>
    intro q
    have hq := q.isLt
    have e : Arg.place (8704 + q.val) = 512 + q.val := by unfold Arg.place; split <;> omega
    show _ = A.proj (i 0) (Arg.place _)
    rw [e]
    unfold Arg.proj
    rw [if_neg (by unfold Arg.Turned; omega)]
    pointwise
    exact hp _
  case h3 =>
    intro q
    have hq := q.isLt
    have e : Arg.place (9216 + q.val) = 1024 + q.val := by unfold Arg.place; split <;> omega
    show _ = A.proj (i 0) (Arg.place _)
    rw [e]
    unfold Arg.proj
    rw [if_neg (by unfold Arg.Turned; omega)]
    pointwise
    exact hp _
  case h4 =>
    intro q
    have hq := q.isLt
    have e : Arg.place (9728 + q.val) = 1536 + q.val := by unfold Arg.place; split <;> omega
    show _ = A.proj (i 0) (Arg.place _)
    rw [e]
    unfold Arg.proj
    rw [if_neg (by unfold Arg.Turned; omega)]
    pointwise
    exact hp _
  case h5 =>
    intro q
    have hq := q.isLt
    have e : Arg.place (10240 + q.val) = 2048 + q.val := by unfold Arg.place; split <;> omega
    show _ = A.proj (i 0) (Arg.place _)
    rw [e]
    unfold Arg.proj
    rw [if_neg (by unfold Arg.Turned; omega)]
    pointwise
    exact hp _
  case h6 =>
    intro q
    have hq := q.isLt
    have e : Arg.place (10752 + q.val) = 2560 + q.val := by unfold Arg.place; split <;> omega
    show _ = A.proj (i 0) (Arg.place _)
    rw [e]
    unfold Arg.proj
    rw [if_pos (by unfold Arg.Turned; omega)]
    refine turned42_turn A _ (i 0) 2560 (by norm_num) (fun q => ?_) q
    pointwise
    exact hp _
  case h7 =>
    intro q
    have hq := q.isLt
    have e : Arg.place (11264 + q.val) = 3072 + q.val := by unfold Arg.place; split <;> omega
    show _ = A.proj (i 0) (Arg.place _)
    rw [e]
    unfold Arg.proj
    rw [if_pos (by unfold Arg.Turned; omega)]
    refine turned42_turn A _ (i 0) 3072 (by norm_num) (fun q => ?_) q
    pointwise
    exact hp _
  case h8 =>
    intro q
    have hq := q.isLt
    have e : Arg.place (11776 + q.val) = 3584 + q.val := by unfold Arg.place; split <;> omega
    show _ = A.proj (i 0) (Arg.place _)
    rw [e]
    unfold Arg.proj
    rw [if_neg (by unfold Arg.Turned; omega)]
    pointwise
    exact hp _
  case h9 =>
    intro q
    have hq := q.isLt
    have e : Arg.place (12288 + q.val) = 4096 + q.val := by unfold Arg.place; split <;> omega
    show _ = A.proj (i 0) (Arg.place _)
    rw [e]
    unfold Arg.proj
    rw [if_pos (by unfold Arg.Turned; omega)]
    refine turned8_turn A _ (i 0) 4096 (by norm_num) (fun q => ?_) q
    pointwise
    exact hp _
  case h10 =>
    intro q
    have hq := q.isLt
    have e : Arg.place (12800 + q.val) = 4608 + q.val := by unfold Arg.place; split <;> omega
    show _ = A.proj (i 0) (Arg.place _)
    rw [e]
    unfold Arg.proj
    rw [if_pos (by unfold Arg.Turned; omega)]
    refine turned2_turn A _ (i 0) 4608 (by norm_num) (fun q => ?_) q
    pointwise
    exact hp _
  case h11 =>
    intro q
    have hq := q.isLt
    have e : Arg.place (12928 + q.val) = 4736 + q.val := by unfold Arg.place; split <;> omega
    show _ = A.proj (i 0) (Arg.place _)
    rw [e]
    unfold Arg.proj
    rw [if_neg (by unfold Arg.Turned; omega)]
    pointwise
    exact hp _

end Cert.ProjReferenceIdeal.Steps

end

end
-- ==== Proof.Proj.Agree.lean ====
/- The projection's claims: its frames, and that kernel and reference leave the same array. -/
module

public import proofs.«01_k».proof.Defs
public import proofs.«01_k».proof.Proof.Gen.ProjKernel.Frame
public import proofs.«01_k».proof.Proof.Proj.Array
public import proofs.«01_k».proof.Proof.Proj.RefRead
public import Idealize.ShloMosaic.Lib.Quiescent

@[expose] public section

noncomputable section

namespace Cert.Proj

open Idealize.ShloMosaic Idealize.ShloMosaic.TcCoe Idealize.SL.Sem

theorem frame_p : Cert.quiescent_ProjKernel := fun m ρ _ => Cert.ProjKernel.Gen.frame m ρ
theorem frame_pi : Cert.quiescent_ProjKernelIdeal := fun m ρ _ => Cert.ProjKernelIdeal.Gen.frame m ρ
theorem frame_ri : Cert.quiescent_ProjReferenceIdeal := fun m ρ _ =>
  (θ_run Cert.ProjReferenceIdeal.defs _ _).mono (fun r h => ⟨fun c => (h c).2,
      Idealize.ShloMosaic.sem_eq_zero_of_no_sems (by decide) r.2⟩)
    (Cert.ProjReferenceIdeal.Steps.run (F := Ideal) m ρ)
theorem preserves : Cert.preserves_ProjKernel_ProjKernelIdeal := trivial

/-- The reference's result is the kernel's, from equal arguments. -/
theorem reference_value (m : (ℓ : Loc ProjKernelIdeal.nD ProjKernelIdeal.τ ProjKernelIdeal.sig) → Buf (Elt Ideal) ℓ)
    (m' : (ℓ : Loc ProjReferenceIdeal.nD ProjReferenceIdeal.τ ProjReferenceIdeal.sig) → Buf (Elt Ideal) ℓ) (c : Dev ProjKernelIdeal.nD)
    (e0 : m' ((c.tc : Thread ProjReferenceIdeal.nD ProjReferenceIdeal.τ).loc ProjReferenceIdeal.main_arg0) = m ((c.tc : Thread ProjKernelIdeal.nD ProjKernelIdeal.τ).loc ProjKernelIdeal.main_arg0))
    (e1 : m' ((c.tc : Thread ProjReferenceIdeal.nD ProjReferenceIdeal.τ).loc ProjReferenceIdeal.main_arg1) = m ((c.tc : Thread ProjKernelIdeal.nD ProjKernelIdeal.τ).loc ProjKernelIdeal.main_arg1))
    (e2 : m' ((c.tc : Thread ProjReferenceIdeal.nD ProjReferenceIdeal.τ).loc ProjReferenceIdeal.main_arg2) = m ((c.tc : Thread ProjKernelIdeal.nD ProjKernelIdeal.τ).loc ProjKernelIdeal.main_arg2))
    (e3 : m' ((c.tc : Thread ProjReferenceIdeal.nD ProjReferenceIdeal.τ).loc ProjReferenceIdeal.main_arg3) = m ((c.tc : Thread ProjKernelIdeal.nD ProjKernelIdeal.τ).loc ProjKernelIdeal.main_arg3))
    (e4 : m' ((c.tc : Thread ProjReferenceIdeal.nD ProjReferenceIdeal.τ).loc ProjReferenceIdeal.main_arg4) = m ((c.tc : Thread ProjKernelIdeal.nD ProjKernelIdeal.τ).loc ProjKernelIdeal.main_arg4))
    (e5 : m' ((c.tc : Thread ProjReferenceIdeal.nD ProjReferenceIdeal.τ).loc ProjReferenceIdeal.main_arg5) = m ((c.tc : Thread ProjKernelIdeal.nD ProjKernelIdeal.τ).loc ProjKernelIdeal.main_arg5)) :
    Cert.ProjReferenceIdeal.Steps.res (F := Ideal) m' c = (args m c).result := by
  unfold Cert.ProjReferenceIdeal.Steps.res
  rw [e0, e1, e2, e3, e4, e5]
  funext i
  exact Cert.ProjReferenceIdeal.Steps.laid_apply (args m c) i

/-- Kernel and reference leave the same array, whatever the arguments. -/
theorem algebraic : Cert.algebraic_ProjKernelIdeal_ProjReferenceIdeal := by
  intro m g m' g' _ h
  refine ⟨fun c => (args m c).result, ?_, ?_⟩
  · exact (θ_run Cert.ProjKernelIdeal.defs _ _).mono (fun r h' c => ⟨(h' c).1.trans (out_array m c), (h' c).2⟩)
      (Cert.ProjKernelIdeal.Value.run_blocks m g)
  · refine (θ_run Cert.ProjReferenceIdeal.defs _ _).mono (fun r h' c => ⟨(h' c).1.trans ?_, (h' c).2⟩)
      (Cert.ProjReferenceIdeal.Steps.run (F := Ideal) m' g')
    obtain ⟨e0, e1, e2, e3, e4, e5⟩ := h c
    exact reference_value m m' c e0 e1 e2 e3 e4 e5

end Cert.Proj

end
-- ==== Proof.Merge.MergeKernel.Keep.lean ====
/- The frame of the program MergeKernel. -/
module

public import proofs.«01_k».proof.Proof.Merge.MergeKernel.Run
public import Idealize.ShloMosaic.Lib.Claim

@[expose] public section

set_option maxRecDepth 16384

noncomputable section

namespace Cert.MergeKernel.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeKernel.Gen

variable {F : FTy → Type} [FloatOps F]

local notation "𝕄" => MT nD τ sig Unit (Elt F) ℕ (UR sig nD τ) ℕ

set_option maxHeartbeats 3200000 in
/-- The kernel body, at any point and on any staging buffers: it keeps its operands, and hands the results' blocks back at some contents. -/
theorem keeps (c : Dev nD) (i : grid0.Coords) (arg1 : Memref sig .tc .vmem S256x8192 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S8x512 .bf16) (harg7 : arg7.IsWhole) (arg8 : Memref sig .tc .vmem S8x512 .bf16) (harg8 : arg8.IsWhole) (arg9 : Memref sig .tc .vmem S8x512 .bf16) (harg9 : arg9.IsWhole) (arg10 : Memref sig .tc .vmem S8x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x2048 .f32) (harg13 : arg13.IsWhole) (arg14 : Memref sig .tc .vmem S8x2048 .f32) (harg14 : arg14.IsWhole) (arg15 : Memref sig .tc .vmem S4x2048 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S3x512 .f32) (harg20 : arg20.IsWhole) (arg21 : Memref sig .tc .vmem S1x512 .f32) (harg21 : arg21.IsWhole) (arg22 : Memref sig .tc .vmem S4x512x2048 .bf16) (harg22 : arg22.IsWhole) (arg23 : Memref sig .tc .vmem S2048x2048 .bf16) (harg23 : arg23.IsWhole) (arg24 : Memref sig .tc .vmem S1x2048 .f32) (harg24 : arg24.IsWhole) (arg25 : Memref sig .tc .vmem S1x2048 .f32) (harg25 : arg25.IsWhole) (arg26 : Memref sig .tc .vmem S2048x128 .bf16) (harg26 : arg26.IsWhole) (arg27 : Memref sig .tc .vmem S1x128 .f32) (harg27 : arg27.IsWhole) (arg28 : Memref sig .tc .vmem S256x2048 .f32) (harg28 : arg28.IsWhole) (arg29 : Memref sig .tc .vmem S4096x128 .f32) (harg29 : arg29.IsWhole) (arg30 : Memref sig .tc .vmem S256x128 .i32) (harg30 : arg30.IsWhole) (arg31 : Memref sig .tc .vmem S256x128 .f32) (harg31 : arg31.IsWhole)
    (x1 : Vec F S256x8192 .bf16) (x2 : Vec F S256x512 .bf16) (x3 : Vec F S256x512 .bf16) (x4 : Vec F S256x512 .bf16) (x5 : Vec F S256x512 .bf16) (x6 : Vec F S256x512 .bf16) (x7 : Vec F S8x512 .bf16) (x8 : Vec F S8x512 .bf16) (x9 : Vec F S8x512 .bf16) (x10 : Vec F S8x512 .bf16) (x11 : Vec F S256x512 .bf16) (x12 : Vec F S256x512 .bf16) (x13 : Vec F S256x2048 .f32) (x14 : Vec F S8x2048 .f32) (x15 : Vec F S4x2048 .f32) (x16 : Vec F S1x512 .f32) (x17 : Vec F S1x512 .f32) (x18 : Vec F S4x128x128 .bf16) (x19 : Vec F S128x512 .f32) (x20 : Vec F S3x512 .f32) (x21 : Vec F S1x512 .f32) (x22 : Vec F S4x512x2048 .bf16) (x23 : Vec F S2048x2048 .bf16) (x24 : Vec F S1x2048 .f32) (x25 : Vec F S1x2048 .f32) (x26 : Vec F S2048x128 .bf16) (x27 : Vec F S1x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)) -∗ K ⟨⟩))
      ⊢ wp frame (wpE (defs₀ (F := F)) Variants.none (c : Thread nD τ) none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, ⟨%d30, %f30, -, H30⟩, ⟨%d31, %f31, -, H31⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg21.eq_unread hf21
  obtain rfl := harg22.eq_unread hf22
  obtain rfl := harg23.eq_unread hf23
  obtain rfl := harg24.eq_unread hf24
  obtain rfl := harg25.eq_unread hf25
  obtain rfl := harg26.eq_unread hf26
  obtain rfl := harg27.eq_unread hf27
  iapply wp_wand $$ [H1 H2 H3 H4 H5 H6 H7 H8 H9 H10 H11 H12 H13 H14 H15 H16 H17 H18 H19 H20 H21 H22 H23 H24 H25 H26 H27 H28 H29 H30 H31]
  · iapply ((Run.run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) (harg23.unread x23) (harg24.unread x24) (harg25.unread x25) (harg26.unread x26) (harg27.unread x27)).2.2.2.2 E f28 f29 f30 f31)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  iintro %u ⟨H1, H2, H3, H4, H5, H6, H7, H8, H9, H10, H11, H12, H13, H14, H15, H16, H17, H18, H19, H20, H21, H22, H23, H24, H25, H26, H27, H28, H29, H30, H31⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  isplitl [H26]
  · iexists _; isplitr; · ipureintro; exact harg26.read_unread _
    iexact H26
  isplitl [H27]
  · iexists _; isplitr; · ipureintro; exact harg27.read_unread _
    iexact H27
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  iexists _, _; isplitr; swap; · iexact H31
  ipureintro; rfl

/-! ## The pipeline -/

variable (m : (ℓ : Loc nD τ sig) → Buf (Elt F) ℓ) (ρ : Dev nD → PrngReg)

/-- The windows whose contents are not named. -/
def forgets0 : Fin 31 → Bool := fun w => decide (27 ≤ w.val)

/-- The pipeline's proof data: the arrays as the region finds them, every operand's block kept. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, h⟩ => Pipeline.Dat.unnamed (cfg := cfg0) ⟨30, h⟩ t
    | ⟨n + 31, h⟩ => absurd h (Nat.not_lt.mpr (Nat.le_add_left 31 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare d)
    ∗ (∃ d, owns (c : Thread nD τ) (st0_28 t) fullShare d)
    ∗ (∃ d, owns (c : Thread nD τ) (st0_29 t) fullShare d)
    ∗ (∃ d, owns (c : Thread nD τ) (st0_30 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ (∃ d, owns (c : Thread nD τ) (st0_27 t) fullShare d)
    ∗ (∃ d, owns (c : Thread nD τ) (st0_28 t) fullShare d)
    ∗ (∃ d, owns (c : Thread nD τ) (st0_29 t) fullShare d)
    ∗ (∃ d, owns (c : Thread nD τ) (st0_30 t) fullShare d))

set_option maxHeartbeats 3200000 in
/-- The body at any point: `keeps` on the point's staging buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (keeps c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (X0_0 m c t) (X0_1 m c t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t` is the body on the point's staging buffers. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The pipeline's obligation on its body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the whole program. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- What is known of every run: the arguments' arrays as they began. -/
theorem kept {r : PUnit × MemSt nD τ sig (Elt F)} (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨(((dats m 0 c).toRForget_arrAt_iff (fgt := forgets0) (w := 9) rfl _ _).mp ((h c).1 9)).trans (((dats m 0 c).arrAt_in 9 rfl _).trans ((A_eq m c 9).trans (V_main_arg0 m c))),
    (((dats m 0 c).toRForget_arrAt_iff (fgt := forgets0) (w := 10) rfl _ _).mp ((h c).1 10)).trans (((dats m 0 c).arrAt_in 10 rfl _).trans ((A_eq m c 10).trans (V_main_arg1 m c))),
    (((dats m 0 c).toRForget_arrAt_iff (fgt := forgets0) (w := 11) rfl _ _).mp ((h c).1 11)).trans (((dats m 0 c).arrAt_in 11 rfl _).trans ((A_eq m c 11).trans (V_main_arg2 m c))),
    (((dats m 0 c).toRForget_arrAt_iff (fgt := forgets0) (w := 12) rfl _ _).mp ((h c).1 12)).trans (((dats m 0 c).arrAt_in 12 rfl _).trans ((A_eq m c 12).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (((dats m 0 c).toRForget_arrAt_iff (fgt := forgets0) (w := 14) rfl _ _).mp ((h c).1 14)).trans (((dats m 0 c).arrAt_in 14 rfl _).trans ((A_eq m c 14).trans (V_main_arg7 m c))),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    (((dats m 0 c).toRForget_arrAt_iff (fgt := forgets0) (w := 19) rfl _ _).mp ((h c).1 19)).trans (((dats m 0 c).arrAt_in 19 rfl _).trans ((A_eq m c 19).trans (V_main_arg12 m c))),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c),
    ((h c).2 main_arg19 (Pipeline.mem_restRefs_of main_arg19 (by decide) (by decide))).trans (V_main_arg19 m c)⟩

end Cert.MergeKernel.Keep

end
-- ==== Proof.Merge.MergeKernelIdeal.Run.lean ====
/- The body of `cc0_merge` run once, in the program MergeKernelIdeal. -/
module

public import proofs.«01_k».proof.Proof.Gen.MergeKernelIdeal.Frame
public import proofs.«01_k».proof.Proof.Gen.MergeKernelIdeal.Skeleton

@[expose] public section

set_option maxRecDepth 16384

noncomputable section

namespace Cert.MergeKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeKernelIdeal.Gen

variable {F : FTy → Type} [FloatOps F]

local notation "𝕄" => MT nD τ sig Unit (Elt F) ℕ (UR sig nD τ) ℕ

/-- The buffers the body works on, each at the contents given: the operands' blocks, then the blocks of the results. -/
abbrev Held (c : Dev nD) (arg1 : Memref sig .tc .vmem S256x8192 .bf16) (arg2 : Memref sig .tc .vmem S256x512 .bf16) (arg3 : Memref sig .tc .vmem S256x512 .bf16) (arg4 : Memref sig .tc .vmem S256x512 .bf16) (arg5 : Memref sig .tc .vmem S256x512 .bf16) (arg6 : Memref sig .tc .vmem S256x512 .bf16) (arg7 : Memref sig .tc .vmem S8x512 .bf16) (arg8 : Memref sig .tc .vmem S8x512 .bf16) (arg9 : Memref sig .tc .vmem S8x512 .bf16) (arg10 : Memref sig .tc .vmem S8x512 .bf16) (arg11 : Memref sig .tc .vmem S256x512 .bf16) (arg12 : Memref sig .tc .vmem S256x512 .bf16) (arg13 : Memref sig .tc .vmem S256x2048 .f32) (arg14 : Memref sig .tc .vmem S8x2048 .f32) (arg15 : Memref sig .tc .vmem S4x2048 .f32) (arg16 : Memref sig .tc .vmem S1x512 .f32) (arg17 : Memref sig .tc .vmem S1x512 .f32) (arg18 : Memref sig .tc .vmem S4x128x128 .bf16) (arg19 : Memref sig .tc .vmem S128x512 .f32) (arg20 : Memref sig .tc .vmem S3x512 .f32) (arg21 : Memref sig .tc .vmem S1x512 .f32) (arg22 : Memref sig .tc .vmem S4x512x2048 .bf16) (arg23 : Memref sig .tc .vmem S2048x2048 .bf16) (arg24 : Memref sig .tc .vmem S1x2048 .f32) (arg25 : Memref sig .tc .vmem S1x2048 .f32) (arg26 : Memref sig .tc .vmem S2048x128 .bf16) (arg27 : Memref sig .tc .vmem S1x128 .f32) (arg28 : Memref sig .tc .vmem S256x2048 .f32) (arg29 : Memref sig .tc .vmem S4096x128 .f32) (arg30 : Memref sig .tc .vmem S256x128 .i32) (arg31 : Memref sig .tc .vmem S256x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) (f28 : BufTy.Contents (Elt F) arg28.view.ty) (f29 : BufTy.Contents (Elt F) arg29.view.ty) (f30 : BufTy.Contents (Elt F) arg30.view.ty) (f31 : BufTy.Contents (Elt F) arg31.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (arg25.view.loc (c : Thread nD τ) ↦[arg25.view.set]{fullShare} X25) ∗ (arg26.view.loc (c : Thread nD τ) ↦[arg26.view.set]{fullShare} X26) ∗ (arg27.view.loc (c : Thread nD τ) ↦[arg27.view.set]{fullShare} X27) ∗ (arg28.view.loc (c : Thread nD τ) ↦[arg28.view.set]{fullShare} f28) ∗ (arg29.view.loc (c : Thread nD τ) ↦[arg29.view.set]{fullShare} f29) ∗ (arg30.view.loc (c : Thread nD τ) ↦[arg30.view.set]{fullShare} f30) ∗ (arg31.view.loc (c : Thread nD τ) ↦[arg31.view.set]{fullShare} f31))

set_option maxHeartbeats 8000000 in
/-- The kernel body at any point: it ends with the operands as they were and every result's block with a list of stores
    written over what it held. The run finds the lists. -/
@[irreducible] def run (c : Dev nD) (i : grid0.Coords) (arg1 : Memref sig .tc .vmem S256x8192 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S8x512 .bf16) (harg7 : arg7.IsWhole) (arg8 : Memref sig .tc .vmem S8x512 .bf16) (harg8 : arg8.IsWhole) (arg9 : Memref sig .tc .vmem S8x512 .bf16) (harg9 : arg9.IsWhole) (arg10 : Memref sig .tc .vmem S8x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x2048 .f32) (harg13 : arg13.IsWhole) (arg14 : Memref sig .tc .vmem S8x2048 .f32) (harg14 : arg14.IsWhole) (arg15 : Memref sig .tc .vmem S4x2048 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S3x512 .f32) (harg20 : arg20.IsWhole) (arg21 : Memref sig .tc .vmem S1x512 .f32) (harg21 : arg21.IsWhole) (arg22 : Memref sig .tc .vmem S4x512x2048 .bf16) (harg22 : arg22.IsWhole) (arg23 : Memref sig .tc .vmem S2048x2048 .bf16) (harg23 : arg23.IsWhole) (arg24 : Memref sig .tc .vmem S1x2048 .f32) (harg24 : arg24.IsWhole) (arg25 : Memref sig .tc .vmem S1x2048 .f32) (harg25 : arg25.IsWhole) (arg26 : Memref sig .tc .vmem S2048x128 .bf16) (harg26 : arg26.IsWhole) (arg27 : Memref sig .tc .vmem S1x128 .f32) (harg27 : arg27.IsWhole) (arg28 : Memref sig .tc .vmem S256x2048 .f32) (harg28 : arg28.IsWhole) (arg29 : Memref sig .tc .vmem S4096x128 .f32) (harg29 : arg29.IsWhole) (arg30 : Memref sig .tc .vmem S256x128 .i32) (harg30 : arg30.IsWhole) (arg31 : Memref sig .tc .vmem S256x128 .f32) (harg31 : arg31.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) :
    Σ' (_G28 : BufTy.Contents (Elt F) arg28.view.ty → BufTy.Contents (Elt F) arg28.view.ty), Σ' (_G29 : BufTy.Contents (Elt F) arg29.view.ty → BufTy.Contents (Elt F) arg29.view.ty), Σ' (_G30 : BufTy.Contents (Elt F) arg30.view.ty → BufTy.Contents (Elt F) arg30.view.ty), PSigma fun (_G31 : BufTy.Contents (Elt F) arg31.view.ty → BufTy.Contents (Elt F) arg31.view.ty) =>
      ∀ (E : Set ℕ) (f28 : BufTy.Contents (Elt F) arg28.view.ty) (f29 : BufTy.Contents (Elt F) arg29.view.ty) (f30 : BufTy.Contents (Elt F) arg30.view.ty) (f31 : BufTy.Contents (Elt F) arg31.view.ty),
        Held (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 X1 X2 X3 X4 X5 X6 X7 X8 X9 X10 X11 X12 X13 X14 X15 X16 X17 X18 X19 X20 X21 X22 X23 X24 X25 X26 X27 f28 f29 f30 f31
        ⊢ wp frame (wpE (defs₀ (F := F)) Variants.none (c : Thread nD τ) none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31)
            (fun _ => Held (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 X1 X2 X3 X4 X5 X6 X7 X8 X9 X10 X11 X12 X13 X14 X15 X16 X17 X18 X19 X20 X21 X22 X23 X24 X25 X26 X27 (_G28 f28) (_G29 f29) (_G30 f30) (_G31 f31)) := by
  refine ⟨?_, ?_, ?_, ?_, fun E f28 f29 f30 f31 => ?run⟩
  case run =>
    simp only [cc0_merge_eq_skeleton]; unfold cc0_merge_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    iintro ⟨H1, H2, H3, H4, H5, H6, H7, H8, H9, H10, H11, H12, H13, H14, H15, H16, H17, H18, H19, H20, H21, H22, H23, H24, H25, H26, H27, H28, H29, H30, H31⟩
    sl_exec
    sl_step
    sl_close

end Cert.MergeKernelIdeal.Run

end
-- ==== Proof.Merge.MergeKernelIdeal.Out.lean ====
/- What a point of `cc0_merge` computes, from its operands' blocks, in the payloads of the body's own values. -/
module

public import proofs.«01_k».proof.Proof.Merge.MergeKernelIdeal.Run
public import Idealize.ShloMosaic.Lib.Pipeline.ReadBack
public import Idealize.ShloMosaic.Lib.Pipeline.Value

@[expose] public section

set_option maxRecDepth 16384

noncomputable section

namespace Cert.MergeKernelIdeal.Out

open Idealize.ShloMosaic Idealize.ShloMosaic.TcCoe Idealize.ShloMosaic.Tactic
open Cert.MergeKernelIdeal.Gen

variable {F : FTy → Type} [FloatOps F]

/-- The blocks of a point's operands. -/
structure Ops (F : FTy → Type) [FloatOps F] where
  x1 : Vec F S256x8192 .bf16
  x2 : Vec F S256x512 .bf16
  x3 : Vec F S256x512 .bf16
  x4 : Vec F S256x512 .bf16
  x5 : Vec F S256x512 .bf16
  x6 : Vec F S256x512 .bf16
  x7 : Vec F S8x512 .bf16
  x8 : Vec F S8x512 .bf16
  x9 : Vec F S8x512 .bf16
  x10 : Vec F S8x512 .bf16
  x11 : Vec F S256x512 .bf16
  x12 : Vec F S256x512 .bf16
  x13 : Vec F S256x2048 .f32
  x14 : Vec F S8x2048 .f32
  x15 : Vec F S4x2048 .f32
  x16 : Vec F S1x512 .f32
  x17 : Vec F S1x512 .f32
  x18 : Vec F S4x128x128 .bf16
  x19 : Vec F S128x512 .f32
  x20 : Vec F S3x512 .f32
  x21 : Vec F S1x512 .f32
  x22 : Vec F S4x512x2048 .bf16
  x23 : Vec F S2048x2048 .bf16
  x24 : Vec F S1x2048 .f32
  x25 : Vec F S1x2048 .f32
  x26 : Vec F S2048x128 .bf16
  x27 : Vec F S1x128 .f32

variable (i : grid0.Coords) (o : Ops F)

def v31 : FVec F S1x512 .f32 := k0_pay4 o.x16
def v33 : FVec F S1x512 .f32 := k0_pay5 o.x17
/-- The chunk MLP's value path: the deviations from the mean, -/
def v39 : FVec F S256x512 .f32 := k0_pay6 o.x3
def v40 : FVec F S256x512 .f32 := k0_pay7 o.x3
/-- normalised, -/
def v54 : FVec F S256x512 .bf16 := k0_pay8 (v31 o) (v33 o) (v39 o) (v40 o)
/-- mixed over the first block of rows, -/
def v74 : FVec F S128x512 .f32 := k0_pay9 (v31 o) (v33 o) (v39 o) (v40 o) (View.ld (Val := Elt F) o.x18 (Rect.unit ![0, 0, 0] S1x128x128.size inb_S4x128x128_S1x128x128_0_0_0)) (View.ld (Val := Elt F) o.x18 (Rect.unit ![1, 0, 0] S1x128x128.size inb_S4x128x128_S1x128x128_1_0_0)) (View.ld (Val := Elt F) o.x18 (Rect.unit ![2, 0, 0] S1x128x128.size inb_S4x128x128_S1x128x128_2_0_0)) (View.ld (Val := Elt F) o.x18 (Rect.unit ![3, 0, 0] S1x128x128.size inb_S4x128x128_S1x128x128_3_0_0)) o.x19
def v75 : FVec F S128x128 .bf16 := k0_pay10 (v31 o) (v33 o) (v39 o) (v40 o)
/-- and over both, times the other path: the first branch. -/
def v96 : FVec F S256x512 .f32 := k0_pay11 (k0_pay3 o.x2) (v54 o) (v74 o) (v75 o) (View.ld (Val := Elt F) o.x18 (Rect.unit ![0, 0, 0] S1x128x128.size inb_S4x128x128_S1x128x128_0_0_0)) (View.ld (Val := Elt F) o.x18 (Rect.unit ![1, 0, 0] S1x128x128.size inb_S4x128x128_S1x128x128_1_0_0)) (View.ld (Val := Elt F) o.x18 (Rect.unit ![2, 0, 0] S1x128x128.size inb_S4x128x128_S1x128x128_2_0_0)) (View.ld (Val := Elt F) o.x18 (Rect.unit ![3, 0, 0] S1x128x128.size inb_S4x128x128_S1x128x128_3_0_0)) o.x19
/-- The short convolution's input and the row before. -/
def v101 : FVec F S256x512 .f32 := k0_pay12 o.x6 o.x4
def v111 : FVec F S1x512 .f32 := k0_pay13 (BitVec.ofNat 32 (i 0).val) (View.ld (Val := Elt F) o.x8 (Rect.unit ![7, 0] S1x512.size inb_S8x512_S1x512_7_0)) (View.ld (Val := Elt F) o.x7 (Rect.unit ![7, 0] S1x512.size inb_S8x512_S1x512_7_0))
/-- The second branch. -/
def v152 : FVec F S256x512 .f32 := k0_pay14 (BitVec.ofNat 32 (i 0).val) (v101 o) (v111 i o) (View.ld (Val := Elt F) o.x10 (Rect.unit ![0, 0] S1x512.size inb_S8x512_S1x512_0_0)) (View.ld (Val := Elt F) o.x9 (Rect.unit ![0, 0] S1x512.size inb_S8x512_S1x512_0_0)) (View.ld (Val := Elt F) o.x20 (Rect.unit ![0, 0] S1x512.size inb_S3x512_S1x512_0_0)) (View.ld (Val := Elt F) o.x20 (Rect.unit ![1, 0] S1x512.size inb_S3x512_S1x512_1_0)) (View.ld (Val := Elt F) o.x20 (Rect.unit ![2, 0] S1x512.size inb_S3x512_S1x512_2_0)) o.x21 o.x5
def v153 : FVec F S256x512 .bf16 := k0_pay15 (v96 o)
/-- The first two branches' gated products, -/
def v177 : FVec F S256x2048 .f32 := k0_pay16 (v152 i o) (v153 o) (View.ld (Val := Elt F) o.x22 (Rect.unit ![0, 0, 0] S1x512x2048.size inb_S4x512x2048_S1x512x2048_0_0_0)) (View.ld (Val := Elt F) o.x1 (Rect.unit ![0, 0] S256x2048.size inb_S256x8192_S256x2048_0_0)) (View.ld (Val := Elt F) o.x15 (Rect.unit ![0, 0] S1x2048.size inb_S4x2048_S1x2048_0_0)) (View.ld (Val := Elt F) o.x22 (Rect.unit ![1, 0, 0] S1x512x2048.size inb_S4x512x2048_S1x512x2048_1_0_0)) (View.ld (Val := Elt F) o.x1 (Rect.unit ![0, 2048] S256x2048.size inb_S256x8192_S256x2048_0_2048)) (View.ld (Val := Elt F) o.x15 (Rect.unit ![1, 0] S1x2048.size inb_S4x2048_S1x2048_1_0))
/-- the third's product and gate. -/
def v180 : FVec F S256x2048 .f32 := k0_pay17 o.x11 (View.ld (Val := Elt F) o.x22 (Rect.unit ![2, 0, 0] S1x512x2048.size inb_S4x512x2048_S1x512x2048_2_0_0))
def v185 : FVec F S256x2048 .f32 := k0_pay18 (View.ld (Val := Elt F) o.x1 (Rect.unit ![0, 4096] S256x2048.size inb_S256x8192_S256x2048_0_4096)) (View.ld (Val := Elt F) o.x15 (Rect.unit ![2, 0] S1x2048.size inb_S4x2048_S1x2048_2_0))
def v213 : FVec F S1x2048 .f32 := k0_pay19 o.x24
def v215 : FVec F S1x2048 .f32 := k0_pay20 o.x25
/-- The merged rows, added to the layer's input: their deviations from the mean. -/
def v221 : FVec F S256x2048 .f32 := k0_pay21 o.x12 (v177 i o) (v180 o) (v185 o) (View.ld (Val := Elt F) o.x22 (Rect.unit ![3, 0, 0] S1x512x2048.size inb_S4x512x2048_S1x512x2048_3_0_0)) (View.ld (Val := Elt F) o.x1 (Rect.unit ![0, 6144] S256x2048.size inb_S256x8192_S256x2048_0_6144)) (View.ld (Val := Elt F) o.x15 (Rect.unit ![3, 0] S1x2048.size inb_S4x2048_S1x2048_3_0)) o.x23 o.x13 (View.ld (Val := Elt F) o.x14 (Rect.unit ![0, 0] S1x2048.size inb_S8x2048_S1x2048_0_0))
def v222 : FVec F S256x2048 .f32 := k0_pay22 o.x12 (v177 i o) (v180 o) (v185 o) (View.ld (Val := Elt F) o.x22 (Rect.unit ![3, 0, 0] S1x512x2048.size inb_S4x512x2048_S1x512x2048_3_0_0)) (View.ld (Val := Elt F) o.x1 (Rect.unit ![0, 6144] S256x2048.size inb_S256x8192_S256x2048_0_6144)) (View.ld (Val := Elt F) o.x15 (Rect.unit ![3, 0] S1x2048.size inb_S4x2048_S1x2048_3_0)) o.x23 o.x13 (View.ld (Val := Elt F) o.x14 (Rect.unit ![0, 0] S1x2048.size inb_S8x2048_S1x2048_0_0))
def v237 : FVec F S1x2048 .f32 := (View.ld (Val := Elt F) o.x14 (Rect.unit ![1, 0] S1x2048.size inb_S8x2048_S1x2048_1_0))
def v243 : FVec F S1x2048 .f32 := (View.ld (Val := Elt F) o.x14 (Rect.unit ![2, 0] S1x2048.size inb_S8x2048_S1x2048_2_0))
/-- The first result's block. -/
def x1Out : FVec F S256x2048 .f32 := k0_pay23 (v213 o) (v215 o) (v221 i o) (v222 i o)
/-- The second result's rows. -/
def v246 : FVec F S256x2048 .f32 := k0_pay24 (v213 o) (v215 o) (v221 i o) (v222 i o) (v237 o) (v243 o)
/-- Sixteen slabs of columns, one row apart. -/
def pieces (w0 w1 w2 w3 w4 w5 w6 w7 w8 w9 w10 w11 w12 w13 w14 w15 : Vec F S256x128 .f32) : List (View.Piece (Elt F) S4096x128 .f32) :=
  [⟨⟨(⟨![15, 0], S256x128.size, ![16, 1], inb_S4096x128_S256x128_15_0_s_16_1⟩ : LoadRect S4096x128), spos_16_1⟩, w15⟩,
    ⟨⟨(⟨![14, 0], S256x128.size, ![16, 1], inb_S4096x128_S256x128_14_0_s_16_1⟩ : LoadRect S4096x128), spos_16_1⟩, w14⟩,
    ⟨⟨(⟨![13, 0], S256x128.size, ![16, 1], inb_S4096x128_S256x128_13_0_s_16_1⟩ : LoadRect S4096x128), spos_16_1⟩, w13⟩,
    ⟨⟨(⟨![12, 0], S256x128.size, ![16, 1], inb_S4096x128_S256x128_12_0_s_16_1⟩ : LoadRect S4096x128), spos_16_1⟩, w12⟩,
    ⟨⟨(⟨![11, 0], S256x128.size, ![16, 1], inb_S4096x128_S256x128_11_0_s_16_1⟩ : LoadRect S4096x128), spos_16_1⟩, w11⟩,
    ⟨⟨(⟨![10, 0], S256x128.size, ![16, 1], inb_S4096x128_S256x128_10_0_s_16_1⟩ : LoadRect S4096x128), spos_16_1⟩, w10⟩,
    ⟨⟨(⟨![9, 0], S256x128.size, ![16, 1], inb_S4096x128_S256x128_9_0_s_16_1⟩ : LoadRect S4096x128), spos_16_1⟩, w9⟩,
    ⟨⟨(⟨![8, 0], S256x128.size, ![16, 1], inb_S4096x128_S256x128_8_0_s_16_1⟩ : LoadRect S4096x128), spos_16_1⟩, w8⟩,
    ⟨⟨(⟨![7, 0], S256x128.size, ![16, 1], inb_S4096x128_S256x128_7_0_s_16_1⟩ : LoadRect S4096x128), spos_16_1⟩, w7⟩,
    ⟨⟨(⟨![6, 0], S256x128.size, ![16, 1], inb_S4096x128_S256x128_6_0_s_16_1⟩ : LoadRect S4096x128), spos_16_1⟩, w6⟩,
    ⟨⟨(⟨![5, 0], S256x128.size, ![16, 1], inb_S4096x128_S256x128_5_0_s_16_1⟩ : LoadRect S4096x128), spos_16_1⟩, w5⟩,
    ⟨⟨(⟨![4, 0], S256x128.size, ![16, 1], inb_S4096x128_S256x128_4_0_s_16_1⟩ : LoadRect S4096x128), spos_16_1⟩, w4⟩,
    ⟨⟨(⟨![3, 0], S256x128.size, ![16, 1], inb_S4096x128_S256x128_3_0_s_16_1⟩ : LoadRect S4096x128), spos_16_1⟩, w3⟩,
    ⟨⟨(⟨![2, 0], S256x128.size, ![16, 1], inb_S4096x128_S256x128_2_0_s_16_1⟩ : LoadRect S4096x128), spos_16_1⟩, w2⟩,
    ⟨⟨(⟨![1, 0], S256x128.size, ![16, 1], inb_S4096x128_S256x128_1_0_s_16_1⟩ : LoadRect S4096x128), spos_16_1⟩, w1⟩,
    ⟨⟨(⟨![0, 0], S256x128.size, ![16, 1], inb_S4096x128_S256x128_0_0_s_16_1⟩ : LoadRect S4096x128), spos_16_1⟩, w0⟩]
/-- The second result's block. -/
def h2Out : Vec F S4096x128 .f32 :=
  View.canon (Val := Elt F) (s := S4096x128) (e := .f32) (pieces
    (k0_pay25 (v213 o) (v215 o) (v221 i o) (v222 i o) (v237 o) (v243 o))
    (k0_pay26 (v213 o) (v215 o) (v221 i o) (v222 i o) (v237 o) (v243 o))
    (k0_pay27 (v213 o) (v215 o) (v221 i o) (v222 i o) (v237 o) (v243 o))
    (k0_pay28 (v213 o) (v215 o) (v221 i o) (v222 i o) (v237 o) (v243 o))
    (k0_pay29 (v213 o) (v215 o) (v221 i o) (v222 i o) (v237 o) (v243 o))
    (k0_pay30 (v213 o) (v215 o) (v221 i o) (v222 i o) (v237 o) (v243 o))
    (k0_pay31 (v246 i o))
    (k0_pay32 (v246 i o))
    (k0_pay33 (v246 i o))
    (k0_pay34 (v246 i o))
    (k0_pay35 (v246 i o))
    (k0_pay36 (v246 i o))
    (k0_pay37 (v246 i o))
    (k0_pay38 (v246 i o))
    (k0_pay39 (v246 i o))
    (k0_pay40 (v246 i o)))

section

variable (c : Dev nD) (arg1 : Memref sig .tc .vmem S256x8192 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S8x512 .bf16) (harg7 : arg7.IsWhole) (arg8 : Memref sig .tc .vmem S8x512 .bf16) (harg8 : arg8.IsWhole) (arg9 : Memref sig .tc .vmem S8x512 .bf16) (harg9 : arg9.IsWhole) (arg10 : Memref sig .tc .vmem S8x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x2048 .f32) (harg13 : arg13.IsWhole) (arg14 : Memref sig .tc .vmem S8x2048 .f32) (harg14 : arg14.IsWhole) (arg15 : Memref sig .tc .vmem S4x2048 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S3x512 .f32) (harg20 : arg20.IsWhole) (arg21 : Memref sig .tc .vmem S1x512 .f32) (harg21 : arg21.IsWhole) (arg22 : Memref sig .tc .vmem S4x512x2048 .bf16) (harg22 : arg22.IsWhole) (arg23 : Memref sig .tc .vmem S2048x2048 .bf16) (harg23 : arg23.IsWhole) (arg24 : Memref sig .tc .vmem S1x2048 .f32) (harg24 : arg24.IsWhole) (arg25 : Memref sig .tc .vmem S1x2048 .f32) (harg25 : arg25.IsWhole) (arg26 : Memref sig .tc .vmem S2048x128 .bf16) (harg26 : arg26.IsWhole) (arg27 : Memref sig .tc .vmem S1x128 .f32) (harg27 : arg27.IsWhole) (arg28 : Memref sig .tc .vmem S256x2048 .f32) (harg28 : arg28.IsWhole) (arg29 : Memref sig .tc .vmem S4096x128 .f32) (harg29 : arg29.IsWhole) (arg30 : Memref sig .tc .vmem S256x128 .i32) (harg30 : arg30.IsWhole) (arg31 : Memref sig .tc .vmem S256x128 .f32) (harg31 : arg31.IsWhole)

/-- All of a block of rank two. -/
theorem ld_whole {n k : ℕ} {e : EltTy} (X : (⟨2, ![n, k]⟩ : Shape).Idx → Elt F e)
    (inb : ∀ a, (![0, 0] : Fin 2 → ℕ) a + (![n, k] : Fin 2 → ℕ) a ≤ (![n, k] : Fin 2 → ℕ) a) :
    View.ld (Val := Elt F) X (Rect.unit (s := (⟨2, ![n, k]⟩ : Shape)) ![0, 0] ![n, k] inb) = X :=
  View.ld_unit_zero (by funext a; fin_cases a <;> rfl) _ _

/-- Loading part of one. -/
theorem load_part {sp : Space} {s : Shape} {e : EltTy} {m : Memref sig .tc sp s e} (h : m.IsWhole) (X : s.Idx → Elt F e) (r : Rect s) :
    View.readAt (Elt F) m.view r.toLoadRect (h.unread X) = View.ld X r := by
  refine (View.readAt_eq_ld _ _ _).trans ?_
  rw [h.read_unread]

set_option maxHeartbeats 4000000 in
theorem x1_read (f : BufTy.Contents (Elt F) arg28.view.ty) :
    arg28.view.read (Elt F) ((Run.run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 (harg1.unread o.x1) (harg2.unread o.x2) (harg3.unread o.x3) (harg4.unread o.x4) (harg5.unread o.x5) (harg6.unread o.x6) (harg7.unread o.x7) (harg8.unread o.x8) (harg9.unread o.x9) (harg10.unread o.x10) (harg11.unread o.x11) (harg12.unread o.x12) (harg13.unread o.x13) (harg14.unread o.x14) (harg15.unread o.x15) (harg16.unread o.x16) (harg17.unread o.x17) (harg18.unread o.x18) (harg19.unread o.x19) (harg20.unread o.x20) (harg21.unread o.x21) (harg22.unread o.x22) (harg23.unread o.x23) (harg24.unread o.x24) (harg25.unread o.x25) (harg26.unread o.x26) (harg27.unread o.x27)).1 f) = x1Out i o := by
  unfold Run.run
  dsimp only
  rw [View.read_writes_eq_canon _ _ _ (fun y => ⟨_, List.mem_cons_self, View.mem_set_unit_zero (by funext a; fin_cases a <;> rfl) inb_S256x2048_S256x2048_0_0 y⟩),
    View.canon_unit_zero (by funext a; fin_cases a <;> rfl) inb_S256x2048_S256x2048_0_0]
  sl_unfold_words
  simp only [load_part, ld_whole]
  rfl

/-- A row's place among the sixteen slabs. -/
theorem slab (j : ℕ) (y : S4096x128.Idx) (h : (y 0).val % 16 = j) (a : Fin 2) :
    ∃ x < S256x128.size a, (y a).val = (![j, 0] : Fin 2 → ℕ) a + (![16, 1] : Fin 2 → ℕ) a * x := by
  have h0 : (y 0).val < 4096 := (y 0).isLt
  have h1 : (y 1).val < 128 := (y 1).isLt
  fin_cases a
  · exact ⟨(y 0).val / 16, show (y 0).val / 16 < 256 by omega, show (y 0).val = j + 16 * ((y 0).val / 16) by omega⟩
  · exact ⟨(y 1).val, h1, show (y 1).val = 0 + 1 * (y 1).val by omega⟩

/-- The sixteen slabs cover the block. -/
theorem h2_cover (w0 w1 w2 w3 w4 w5 w6 w7 w8 w9 w10 w11 w12 w13 w14 w15 : Vec F S256x128 .f32) (y : S4096x128.Idx) :
    ∃ p ∈ pieces w0 w1 w2 w3 w4 w5 w6 w7 w8 w9 w10 w11 w12 w13 w14 w15, y ∈ p.1.set := by
  unfold pieces
  obtain h | h | h | h | h | h | h | h | h | h | h | h | h | h | h | h : (y 0).val % 16 = 0 ∨ (y 0).val % 16 = 1 ∨ (y 0).val % 16 = 2 ∨ (y 0).val % 16 = 3 ∨ (y 0).val % 16 = 4 ∨ (y 0).val % 16 = 5 ∨ (y 0).val % 16 = 6 ∨ (y 0).val % 16 = 7 ∨ (y 0).val % 16 = 8 ∨ (y 0).val % 16 = 9 ∨ (y 0).val % 16 = 10 ∨ (y 0).val % 16 = 11 ∨ (y 0).val % 16 = 12 ∨ (y 0).val % 16 = 13 ∨ (y 0).val % 16 = 14 ∨ (y 0).val % 16 = 15 := by omega
  · exact ⟨_, .tail _ (.tail _ (.tail _ (.tail _ (.tail _ (.tail _ (.tail _ (.tail _ (.tail _ (.tail _ (.tail _ (.tail _ (.tail _ (.tail _ (.tail _ (.head _))))))))))))))), (LoadRect.mem_set _).mpr (slab 0 y h)⟩
  · exact ⟨_, .tail _ (.tail _ (.tail _ (.tail _ (.tail _ (.tail _ (.tail _ (.tail _ (.tail _ (.tail _ (.tail _ (.tail _ (.tail _ (.tail _ (.head _)))))))))))))), (LoadRect.mem_set _).mpr (slab 1 y h)⟩
  · exact ⟨_, .tail _ (.tail _ (.tail _ (.tail _ (.tail _ (.tail _ (.tail _ (.tail _ (.tail _ (.tail _ (.tail _ (.tail _ (.tail _ (.head _))))))))))))), (LoadRect.mem_set _).mpr (slab 2 y h)⟩
  · exact ⟨_, .tail _ (.tail _ (.tail _ (.tail _ (.tail _ (.tail _ (.tail _ (.tail _ (.tail _ (.tail _ (.tail _ (.tail _ (.head _)))))))))))), (LoadRect.mem_set _).mpr (slab 3 y h)⟩
  · exact ⟨_, .tail _ (.tail _ (.tail _ (.tail _ (.tail _ (.tail _ (.tail _ (.tail _ (.tail _ (.tail _ (.tail _ (.head _))))))))))), (LoadRect.mem_set _).mpr (slab 4 y h)⟩
  · exact ⟨_, .tail _ (.tail _ (.tail _ (.tail _ (.tail _ (.tail _ (.tail _ (.tail _ (.tail _ (.tail _ (.head _)))))))))), (LoadRect.mem_set _).mpr (slab 5 y h)⟩
  · exact ⟨_, .tail _ (.tail _ (.tail _ (.tail _ (.tail _ (.tail _ (.tail _ (.tail _ (.tail _ (.head _))))))))), (LoadRect.mem_set _).mpr (slab 6 y h)⟩
  · exact ⟨_, .tail _ (.tail _ (.tail _ (.tail _ (.tail _ (.tail _ (.tail _ (.tail _ (.head _)))))))), (LoadRect.mem_set _).mpr (slab 7 y h)⟩
  · exact ⟨_, .tail _ (.tail _ (.tail _ (.tail _ (.tail _ (.tail _ (.tail _ (.head _))))))), (LoadRect.mem_set _).mpr (slab 8 y h)⟩
  · exact ⟨_, .tail _ (.tail _ (.tail _ (.tail _ (.tail _ (.tail _ (.head _)))))), (LoadRect.mem_set _).mpr (slab 9 y h)⟩
  · exact ⟨_, .tail _ (.tail _ (.tail _ (.tail _ (.tail _ (.head _))))), (LoadRect.mem_set _).mpr (slab 10 y h)⟩
  · exact ⟨_, .tail _ (.tail _ (.tail _ (.tail _ (.head _)))), (LoadRect.mem_set _).mpr (slab 11 y h)⟩
  · exact ⟨_, .tail _ (.tail _ (.tail _ (.head _))), (LoadRect.mem_set _).mpr (slab 12 y h)⟩
  · exact ⟨_, .tail _ (.tail _ (.head _)), (LoadRect.mem_set _).mpr (slab 13 y h)⟩
  · exact ⟨_, .tail _ (.head _), (LoadRect.mem_set _).mpr (slab 14 y h)⟩
  · exact ⟨_, .head _, (LoadRect.mem_set _).mpr (slab 15 y h)⟩

theorem h2_read (f : BufTy.Contents (Elt F) arg29.view.ty) :
    arg29.view.read (Elt F) ((Run.run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 (harg1.unread o.x1) (harg2.unread o.x2) (harg3.unread o.x3) (harg4.unread o.x4) (harg5.unread o.x5) (harg6.unread o.x6) (harg7.unread o.x7) (harg8.unread o.x8) (harg9.unread o.x9) (harg10.unread o.x10) (harg11.unread o.x11) (harg12.unread o.x12) (harg13.unread o.x13) (harg14.unread o.x14) (harg15.unread o.x15) (harg16.unread o.x16) (harg17.unread o.x17) (harg18.unread o.x18) (harg19.unread o.x19) (harg20.unread o.x20) (harg21.unread o.x21) (harg22.unread o.x22) (harg23.unread o.x23) (harg24.unread o.x24) (harg25.unread o.x25) (harg26.unread o.x26) (harg27.unread o.x27)).2.1 f) = h2Out i o := by
  unfold Run.run
  dsimp only
  refine (View.read_writes_eq_canon _ _ _ (h2_cover _ _ _ _ _ _ _ _ _ _ _ _ _ _ _ _)).trans ?_
  sl_unfold_words
  simp only [load_part, ld_whole]
  rfl

end

end Cert.MergeKernelIdeal.Out

end
-- ==== Proof.Merge.MergeKernelIdeal.Keep.lean ====
/- What a point of `cc0_merge` leaves, and the run of the whole program, in the program MergeKernelIdeal. -/
module

public import proofs.«01_k».proof.Proof.Merge.MergeKernelIdeal.Out
public import Idealize.ShloMosaic.Lib.Claim

@[expose] public section

set_option maxRecDepth 16384

noncomputable section

namespace Cert.MergeKernelIdeal.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeKernelIdeal.Gen
open Cert.MergeKernelIdeal.Out

variable {F : FTy → Type} [FloatOps F]

local notation "𝕄" => MT nD τ sig Unit (Elt F) ℕ (UR sig nD τ) ℕ

set_option maxHeartbeats 3200000 in
/-- The kernel body, at any point and on any staging buffers: it keeps its operands, and hands the results' blocks back at what it computes of them; of the routing results nothing is said. -/
theorem keeps (c : Dev nD) (i : grid0.Coords) (arg1 : Memref sig .tc .vmem S256x8192 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S8x512 .bf16) (harg7 : arg7.IsWhole) (arg8 : Memref sig .tc .vmem S8x512 .bf16) (harg8 : arg8.IsWhole) (arg9 : Memref sig .tc .vmem S8x512 .bf16) (harg9 : arg9.IsWhole) (arg10 : Memref sig .tc .vmem S8x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x2048 .f32) (harg13 : arg13.IsWhole) (arg14 : Memref sig .tc .vmem S8x2048 .f32) (harg14 : arg14.IsWhole) (arg15 : Memref sig .tc .vmem S4x2048 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S3x512 .f32) (harg20 : arg20.IsWhole) (arg21 : Memref sig .tc .vmem S1x512 .f32) (harg21 : arg21.IsWhole) (arg22 : Memref sig .tc .vmem S4x512x2048 .bf16) (harg22 : arg22.IsWhole) (arg23 : Memref sig .tc .vmem S2048x2048 .bf16) (harg23 : arg23.IsWhole) (arg24 : Memref sig .tc .vmem S1x2048 .f32) (harg24 : arg24.IsWhole) (arg25 : Memref sig .tc .vmem S1x2048 .f32) (harg25 : arg25.IsWhole) (arg26 : Memref sig .tc .vmem S2048x128 .bf16) (harg26 : arg26.IsWhole) (arg27 : Memref sig .tc .vmem S1x128 .f32) (harg27 : arg27.IsWhole) (arg28 : Memref sig .tc .vmem S256x2048 .f32) (harg28 : arg28.IsWhole) (arg29 : Memref sig .tc .vmem S4096x128 .f32) (harg29 : arg29.IsWhole) (arg30 : Memref sig .tc .vmem S256x128 .i32) (harg30 : arg30.IsWhole) (arg31 : Memref sig .tc .vmem S256x128 .f32) (harg31 : arg31.IsWhole)
    (o : Ops F) (E : Set ℕ) (K : PUnit → sProp 𝕄) :
    iprop(owns (c : Thread nD τ) arg1 fullShare o.x1 ∗ owns (c : Thread nD τ) arg2 fullShare o.x2 ∗ owns (c : Thread nD τ) arg3 fullShare o.x3 ∗ owns (c : Thread nD τ) arg4 fullShare o.x4 ∗ owns (c : Thread nD τ) arg5 fullShare o.x5 ∗ owns (c : Thread nD τ) arg6 fullShare o.x6 ∗ owns (c : Thread nD τ) arg7 fullShare o.x7 ∗ owns (c : Thread nD τ) arg8 fullShare o.x8 ∗ owns (c : Thread nD τ) arg9 fullShare o.x9 ∗ owns (c : Thread nD τ) arg10 fullShare o.x10 ∗ owns (c : Thread nD τ) arg11 fullShare o.x11 ∗ owns (c : Thread nD τ) arg12 fullShare o.x12 ∗ owns (c : Thread nD τ) arg13 fullShare o.x13 ∗ owns (c : Thread nD τ) arg14 fullShare o.x14 ∗ owns (c : Thread nD τ) arg15 fullShare o.x15 ∗ owns (c : Thread nD τ) arg16 fullShare o.x16 ∗ owns (c : Thread nD τ) arg17 fullShare o.x17 ∗ owns (c : Thread nD τ) arg18 fullShare o.x18 ∗ owns (c : Thread nD τ) arg19 fullShare o.x19 ∗ owns (c : Thread nD τ) arg20 fullShare o.x20 ∗ owns (c : Thread nD τ) arg21 fullShare o.x21 ∗ owns (c : Thread nD τ) arg22 fullShare o.x22 ∗ owns (c : Thread nD τ) arg23 fullShare o.x23 ∗ owns (c : Thread nD τ) arg24 fullShare o.x24 ∗ owns (c : Thread nD τ) arg25 fullShare o.x25 ∗ owns (c : Thread nD τ) arg26 fullShare o.x26 ∗ owns (c : Thread nD τ) arg27 fullShare o.x27 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg1 fullShare o.x1 ∗ owns (c : Thread nD τ) arg2 fullShare o.x2 ∗ owns (c : Thread nD τ) arg3 fullShare o.x3 ∗ owns (c : Thread nD τ) arg4 fullShare o.x4 ∗ owns (c : Thread nD τ) arg5 fullShare o.x5 ∗ owns (c : Thread nD τ) arg6 fullShare o.x6 ∗ owns (c : Thread nD τ) arg7 fullShare o.x7 ∗ owns (c : Thread nD τ) arg8 fullShare o.x8 ∗ owns (c : Thread nD τ) arg9 fullShare o.x9 ∗ owns (c : Thread nD τ) arg10 fullShare o.x10 ∗ owns (c : Thread nD τ) arg11 fullShare o.x11 ∗ owns (c : Thread nD τ) arg12 fullShare o.x12 ∗ owns (c : Thread nD τ) arg13 fullShare o.x13 ∗ owns (c : Thread nD τ) arg14 fullShare o.x14 ∗ owns (c : Thread nD τ) arg15 fullShare o.x15 ∗ owns (c : Thread nD τ) arg16 fullShare o.x16 ∗ owns (c : Thread nD τ) arg17 fullShare o.x17 ∗ owns (c : Thread nD τ) arg18 fullShare o.x18 ∗ owns (c : Thread nD τ) arg19 fullShare o.x19 ∗ owns (c : Thread nD τ) arg20 fullShare o.x20 ∗ owns (c : Thread nD τ) arg21 fullShare o.x21 ∗ owns (c : Thread nD τ) arg22 fullShare o.x22 ∗ owns (c : Thread nD τ) arg23 fullShare o.x23 ∗ owns (c : Thread nD τ) arg24 fullShare o.x24 ∗ owns (c : Thread nD τ) arg25 fullShare o.x25 ∗ owns (c : Thread nD τ) arg26 fullShare o.x26 ∗ owns (c : Thread nD τ) arg27 fullShare o.x27 ∗ owns (c : Thread nD τ) arg28 fullShare (x1Out i o) ∗ owns (c : Thread nD τ) arg29 fullShare (h2Out i o) ∗ (∃ d, owns (c : Thread nD τ) arg30 fullShare d) ∗ (∃ d, owns (c : Thread nD τ) arg31 fullShare d)) -∗ K ⟨⟩))
      ⊢ wp frame (wpE (defs₀ (F := F)) Variants.none (c : Thread nD τ) none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, ⟨%d30, %f30, -, H30⟩, ⟨%d31, %f31, -, H31⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg21.eq_unread hf21
  obtain rfl := harg22.eq_unread hf22
  obtain rfl := harg23.eq_unread hf23
  obtain rfl := harg24.eq_unread hf24
  obtain rfl := harg25.eq_unread hf25
  obtain rfl := harg26.eq_unread hf26
  obtain rfl := harg27.eq_unread hf27
  iapply wp_wand $$ [H1 H2 H3 H4 H5 H6 H7 H8 H9 H10 H11 H12 H13 H14 H15 H16 H17 H18 H19 H20 H21 H22 H23 H24 H25 H26 H27 H28 H29 H30 H31]
  · iapply ((Run.run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 (harg1.unread o.x1) (harg2.unread o.x2) (harg3.unread o.x3) (harg4.unread o.x4) (harg5.unread o.x5) (harg6.unread o.x6) (harg7.unread o.x7) (harg8.unread o.x8) (harg9.unread o.x9) (harg10.unread o.x10) (harg11.unread o.x11) (harg12.unread o.x12) (harg13.unread o.x13) (harg14.unread o.x14) (harg15.unread o.x15) (harg16.unread o.x16) (harg17.unread o.x17) (harg18.unread o.x18) (harg19.unread o.x19) (harg20.unread o.x20) (harg21.unread o.x21) (harg22.unread o.x22) (harg23.unread o.x23) (harg24.unread o.x24) (harg25.unread o.x25) (harg26.unread o.x26) (harg27.unread o.x27)).2.2.2.2 E f28 f29 f30 f31)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  iintro %u ⟨H1, H2, H3, H4, H5, H6, H7, H8, H9, H10, H11, H12, H13, H14, H15, H16, H17, H18, H19, H20, H21, H22, H23, H24, H25, H26, H27, H28, H29, H30, H31⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  isplitl [H26]
  · iexists _; isplitr; · ipureintro; exact harg26.read_unread _
    iexact H26
  isplitl [H27]
  · iexists _; isplitr; · ipureintro; exact harg27.read_unread _
    iexact H27
  isplitl [H28]
  · iexists _; isplitr; swap; · iexact H28
    ipureintro; exact x1_read i o c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 _
  isplitl [H29]
  · iexists _; isplitr; swap; · iexact H29
    ipureintro; exact h2_read i o c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 _
  isplitl [H30]
  · iexists _, _; isplitr; swap; · iexact H30
    ipureintro; rfl
  iexists _, _; isplitr; swap; · iexact H31
  ipureintro; rfl

/-! ## The pipeline -/

variable (m : (ℓ : Loc nD τ sig) → Buf (Elt F) ℓ) (ρ : Dev nD → PrngReg)

/-- The operands' blocks at a point. -/
def ops (c : Dev nD) (t : Fin cfg0.N) : Ops F := ⟨X0_0 m c t, X0_1 m c t, X0_2 m c t, X0_3 m c t, X0_4 m c t, X0_5 m c t, X0_6 m c t, X0_7 m c t, X0_8 m c t, X0_9 m c t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t, iblk m c 26 t⟩

/-- The windows whose contents are not named. -/
def forgets0 : Fin 31 → Bool := fun w => decide (29 ≤ w.val)

/-- The pipeline's proof data: the arrays as the region finds them, every operand's block kept. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => x1Out (grid0.coords t) (ops m c t)
    | ⟨28, _⟩ => h2Out (grid0.coords t) (ops m c t)
    | ⟨29, h⟩ => Pipeline.Dat.unnamed (cfg := cfg0) ⟨29, h⟩ t
    | ⟨30, h⟩ => Pipeline.Dat.unnamed (cfg := cfg0) ⟨30, h⟩ t
    | ⟨n + 31, h⟩ => absurd h (Nat.not_lt.mpr (Nat.le_add_left 31 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_27 (c : Dev nD) (t : Fin cfg0.N) : (dats m 0 c).after 27 t = x1Out (grid0.coords t) (ops m c t) := by dsimp only [dats]
theorem after0_28 (c : Dev nD) (t : Fin cfg0.N) : (dats m 0 c).after 28 t = h2Out (grid0.coords t) (ops m c t) := by dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare d)
    ∗ (∃ d, owns (c : Thread nD τ) (st0_30 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ (∃ d, owns (c : Thread nD τ) (st0_29 t) fullShare d)
    ∗ (∃ d, owns (c : Thread nD τ) (st0_30 t) fullShare d))

/-! The operands' buffers hold the operands' blocks before the body and after it. -/

theorem aft_0 (c : Dev nD) (t : Fin cfg0.N) : (dats m 0 c).after 0 t = (ops m c t).x1 := by dsimp only [dats, ops]
theorem bef_0 (c : Dev nD) (t : Fin cfg0.N) (d) : (dats m 0 c).before 0 t d = (ops m c t).x1 :=
  (before0_0_of m (dats m 0 c) (A_eq m c 0) (fun t => by dsimp only [dats]) t d).trans (by dsimp only [ops])
theorem aft_1 (c : Dev nD) (t : Fin cfg0.N) : (dats m 0 c).after 1 t = (ops m c t).x2 := by dsimp only [dats, ops]
theorem bef_1 (c : Dev nD) (t : Fin cfg0.N) (d) : (dats m 0 c).before 1 t d = (ops m c t).x2 :=
  (before0_1_of m (dats m 0 c) (A_eq m c 1) (fun t => by dsimp only [dats]) t d).trans (by dsimp only [ops])
theorem aft_2 (c : Dev nD) (t : Fin cfg0.N) : (dats m 0 c).after 2 t = (ops m c t).x3 := by dsimp only [dats, ops]
theorem bef_2 (c : Dev nD) (t : Fin cfg0.N) (d) : (dats m 0 c).before 2 t d = (ops m c t).x3 :=
  (before0_2_of m (dats m 0 c) (A_eq m c 2) (fun t => by dsimp only [dats]) t d).trans (by dsimp only [ops])
theorem aft_3 (c : Dev nD) (t : Fin cfg0.N) : (dats m 0 c).after 3 t = (ops m c t).x4 := by dsimp only [dats, ops]
theorem bef_3 (c : Dev nD) (t : Fin cfg0.N) (d) : (dats m 0 c).before 3 t d = (ops m c t).x4 :=
  (before0_3_of m (dats m 0 c) (A_eq m c 3) (fun t => by dsimp only [dats]) t d).trans (by dsimp only [ops])
theorem aft_4 (c : Dev nD) (t : Fin cfg0.N) : (dats m 0 c).after 4 t = (ops m c t).x5 := by dsimp only [dats, ops]
theorem bef_4 (c : Dev nD) (t : Fin cfg0.N) (d) : (dats m 0 c).before 4 t d = (ops m c t).x5 :=
  (before0_4_of m (dats m 0 c) (A_eq m c 4) (fun t => by dsimp only [dats]) t d).trans (by dsimp only [ops])
theorem aft_5 (c : Dev nD) (t : Fin cfg0.N) : (dats m 0 c).after 5 t = (ops m c t).x6 := by dsimp only [dats, ops]
theorem bef_5 (c : Dev nD) (t : Fin cfg0.N) (d) : (dats m 0 c).before 5 t d = (ops m c t).x6 :=
  (before0_5_of m (dats m 0 c) (A_eq m c 5) (fun t => by dsimp only [dats]) t d).trans (by dsimp only [ops])
theorem aft_6 (c : Dev nD) (t : Fin cfg0.N) : (dats m 0 c).after 6 t = (ops m c t).x7 := by dsimp only [dats, ops]
theorem bef_6 (c : Dev nD) (t : Fin cfg0.N) (d) : (dats m 0 c).before 6 t d = (ops m c t).x7 :=
  (before0_6_of m (dats m 0 c) (A_eq m c 6) (fun t => by dsimp only [dats]) t d).trans (by dsimp only [ops])
theorem aft_7 (c : Dev nD) (t : Fin cfg0.N) : (dats m 0 c).after 7 t = (ops m c t).x8 := by dsimp only [dats, ops]
theorem bef_7 (c : Dev nD) (t : Fin cfg0.N) (d) : (dats m 0 c).before 7 t d = (ops m c t).x8 :=
  (before0_7_of m (dats m 0 c) (A_eq m c 7) (fun t => by dsimp only [dats]) t d).trans (by dsimp only [ops])
theorem aft_8 (c : Dev nD) (t : Fin cfg0.N) : (dats m 0 c).after 8 t = (ops m c t).x9 := by dsimp only [dats, ops]
theorem bef_8 (c : Dev nD) (t : Fin cfg0.N) (d) : (dats m 0 c).before 8 t d = (ops m c t).x9 :=
  (before0_8_of m (dats m 0 c) (A_eq m c 8) (fun t => by dsimp only [dats]) t d).trans (by dsimp only [ops])
theorem aft_9 (c : Dev nD) (t : Fin cfg0.N) : (dats m 0 c).after 9 t = (ops m c t).x10 := by dsimp only [dats, ops]
theorem bef_9 (c : Dev nD) (t : Fin cfg0.N) (d) : (dats m 0 c).before 9 t d = (ops m c t).x10 :=
  (before0_9_of m (dats m 0 c) (A_eq m c 9) (fun t => by dsimp only [dats]) t d).trans (by dsimp only [ops])
theorem aft_10 (c : Dev nD) (t : Fin cfg0.N) : (dats m 0 c).after 10 t = (ops m c t).x11 := by dsimp only [dats, ops]
theorem bef_10 (c : Dev nD) (t : Fin cfg0.N) (d) : (dats m 0 c).before 10 t d = (ops m c t).x11 :=
  (before0_10_of m (dats m 0 c) (A_eq m c 10) (fun t => by dsimp only [dats]) t d).trans (by dsimp only [ops])
theorem aft_11 (c : Dev nD) (t : Fin cfg0.N) : (dats m 0 c).after 11 t = (ops m c t).x12 := by dsimp only [dats, ops]
theorem bef_11 (c : Dev nD) (t : Fin cfg0.N) (d) : (dats m 0 c).before 11 t d = (ops m c t).x12 :=
  (before0_11_of m (dats m 0 c) (A_eq m c 11) (fun t => by dsimp only [dats]) t d).trans (by dsimp only [ops])
theorem aft_12 (c : Dev nD) (t : Fin cfg0.N) : (dats m 0 c).after 12 t = (ops m c t).x13 := by dsimp only [dats, ops]
theorem bef_12 (c : Dev nD) (t : Fin cfg0.N) (d) : (dats m 0 c).before 12 t d = (ops m c t).x13 :=
  (before0_12_of m (dats m 0 c) (A_eq m c 12) (fun t => by dsimp only [dats]) t d).trans (by dsimp only [ops])
theorem aft_13 (c : Dev nD) (t : Fin cfg0.N) : (dats m 0 c).after 13 t = (ops m c t).x14 := by dsimp only [dats, ops]
theorem bef_13 (c : Dev nD) (t : Fin cfg0.N) (d) : (dats m 0 c).before 13 t d = (ops m c t).x14 :=
  (before0_13_of m (dats m 0 c) (A_eq m c 13) (fun t => by dsimp only [dats]) t d).trans (by dsimp only [ops])
theorem aft_14 (c : Dev nD) (t : Fin cfg0.N) : (dats m 0 c).after 14 t = (ops m c t).x15 := by dsimp only [dats, ops]
theorem bef_14 (c : Dev nD) (t : Fin cfg0.N) (d) : (dats m 0 c).before 14 t d = (ops m c t).x15 :=
  (before0_14_of m (dats m 0 c) (A_eq m c 14) (fun t => by dsimp only [dats]) t d).trans (by dsimp only [ops])
theorem aft_15 (c : Dev nD) (t : Fin cfg0.N) : (dats m 0 c).after 15 t = (ops m c t).x16 := by dsimp only [dats, ops]
theorem bef_15 (c : Dev nD) (t : Fin cfg0.N) (d) : (dats m 0 c).before 15 t d = (ops m c t).x16 :=
  (before0_15_of m (dats m 0 c) (A_eq m c 15) (fun t => by dsimp only [dats]) t d).trans (by dsimp only [ops])
theorem aft_16 (c : Dev nD) (t : Fin cfg0.N) : (dats m 0 c).after 16 t = (ops m c t).x17 := by dsimp only [dats, ops]
theorem bef_16 (c : Dev nD) (t : Fin cfg0.N) (d) : (dats m 0 c).before 16 t d = (ops m c t).x17 :=
  (before0_16_of m (dats m 0 c) (A_eq m c 16) (fun t => by dsimp only [dats]) t d).trans (by dsimp only [ops])
theorem aft_17 (c : Dev nD) (t : Fin cfg0.N) : (dats m 0 c).after 17 t = (ops m c t).x18 := by dsimp only [dats, ops]
theorem bef_17 (c : Dev nD) (t : Fin cfg0.N) (d) : (dats m 0 c).before 17 t d = (ops m c t).x18 :=
  (before0_17_of m (dats m 0 c) (A_eq m c 17) (fun t => by dsimp only [dats]) t d).trans (by dsimp only [ops])
theorem aft_18 (c : Dev nD) (t : Fin cfg0.N) : (dats m 0 c).after 18 t = (ops m c t).x19 := by dsimp only [dats, ops]
theorem bef_18 (c : Dev nD) (t : Fin cfg0.N) (d) : (dats m 0 c).before 18 t d = (ops m c t).x19 :=
  (before0_18_of m (dats m 0 c) (A_eq m c 18) (fun t => by dsimp only [dats]) t d).trans (by dsimp only [ops])
theorem aft_19 (c : Dev nD) (t : Fin cfg0.N) : (dats m 0 c).after 19 t = (ops m c t).x20 := by dsimp only [dats, ops]
theorem bef_19 (c : Dev nD) (t : Fin cfg0.N) (d) : (dats m 0 c).before 19 t d = (ops m c t).x20 :=
  (before0_19_of m (dats m 0 c) (A_eq m c 19) (fun t => by dsimp only [dats]) t d).trans (by dsimp only [ops])
theorem aft_20 (c : Dev nD) (t : Fin cfg0.N) : (dats m 0 c).after 20 t = (ops m c t).x21 := by dsimp only [dats, ops]
theorem bef_20 (c : Dev nD) (t : Fin cfg0.N) (d) : (dats m 0 c).before 20 t d = (ops m c t).x21 :=
  (before0_20_of m (dats m 0 c) (A_eq m c 20) (fun t => by dsimp only [dats]) t d).trans (by dsimp only [ops])
theorem aft_21 (c : Dev nD) (t : Fin cfg0.N) : (dats m 0 c).after 21 t = (ops m c t).x22 := by dsimp only [dats, ops]
theorem bef_21 (c : Dev nD) (t : Fin cfg0.N) (d) : (dats m 0 c).before 21 t d = (ops m c t).x22 :=
  (before0_21_of m (dats m 0 c) (A_eq m c 21) (fun t => by dsimp only [dats]) t d).trans (by dsimp only [ops])
theorem aft_22 (c : Dev nD) (t : Fin cfg0.N) : (dats m 0 c).after 22 t = (ops m c t).x23 := by dsimp only [dats, ops]
theorem bef_22 (c : Dev nD) (t : Fin cfg0.N) (d) : (dats m 0 c).before 22 t d = (ops m c t).x23 :=
  (before0_22_of m (dats m 0 c) (A_eq m c 22) (fun t => by dsimp only [dats]) t d).trans (by dsimp only [ops])
theorem aft_23 (c : Dev nD) (t : Fin cfg0.N) : (dats m 0 c).after 23 t = (ops m c t).x24 := by dsimp only [dats, ops]
theorem bef_23 (c : Dev nD) (t : Fin cfg0.N) (d) : (dats m 0 c).before 23 t d = (ops m c t).x24 :=
  (before0_23_of m (dats m 0 c) (A_eq m c 23) (fun t => by dsimp only [dats]) t d).trans (by dsimp only [ops])
theorem aft_24 (c : Dev nD) (t : Fin cfg0.N) : (dats m 0 c).after 24 t = (ops m c t).x25 := by dsimp only [dats, ops]
theorem bef_24 (c : Dev nD) (t : Fin cfg0.N) (d) : (dats m 0 c).before 24 t d = (ops m c t).x25 :=
  (before0_24_of m (dats m 0 c) (A_eq m c 24) (fun t => by dsimp only [dats]) t d).trans (by dsimp only [ops])
theorem aft_25 (c : Dev nD) (t : Fin cfg0.N) : (dats m 0 c).after 25 t = (ops m c t).x26 := by dsimp only [dats, ops]
theorem bef_25 (c : Dev nD) (t : Fin cfg0.N) (d) : (dats m 0 c).before 25 t d = (ops m c t).x26 :=
  (before0_25_of m (dats m 0 c) (A_eq m c 25) (fun t => by dsimp only [dats]) t d).trans (by dsimp only [ops])
theorem aft_26 (c : Dev nD) (t : Fin cfg0.N) : (dats m 0 c).after 26 t = (ops m c t).x27 := by dsimp only [dats, ops]
theorem bef_26 (c : Dev nD) (t : Fin cfg0.N) (d) : (dats m 0 c).before 26 t d = (ops m c t).x27 :=
  (before0_26_of m (dats m 0 c) (A_eq m c 26) (fun t => by dsimp only [dats]) t d).trans (by dsimp only [ops])

set_option maxHeartbeats 3200000 in
/-- The body at any point: `keeps` on the point's staging buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef_0, bef_1, bef_2, bef_3, bef_4, bef_5, bef_6, bef_7, bef_8, bef_9, bef_10, bef_11, bef_12, bef_13, bef_14, bef_15, bef_16, bef_17, bef_18, bef_19, bef_20, bef_21, bef_22, bef_23, bef_24, bef_25, bef_26]
  rw [show (dats m 0 c).Φ t.succ = (dats m 0 c).Φ t.castSucc from rfl,
    show (dats m 0 c).owesAt () t.succ = (dats m 0 c).owesAt () t.castSucc from rfl,
    aft_0, aft_1, aft_2, aft_3, aft_4, aft_5, aft_6, aft_7, aft_8, aft_9, aft_10, aft_11, aft_12, aft_13, aft_14, aft_15, aft_16, aft_17, aft_18, aft_19, aft_20, aft_21, aft_22, aft_23, aft_24, aft_25, aft_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (keeps c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ops m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t` is the body on the point's staging buffers. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The pipeline's obligation on its body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the whole program. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- What is known of every run: the arguments' arrays as they began. -/
theorem kept {r : PUnit × MemSt nD τ sig (Elt F)} (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨(((dats m 0 c).toRForget_arrAt_iff (fgt := forgets0) (w := 9) rfl _ _).mp ((h c).1 9)).trans (((dats m 0 c).arrAt_in 9 rfl _).trans ((A_eq m c 9).trans (V_main_arg0 m c))),
    (((dats m 0 c).toRForget_arrAt_iff (fgt := forgets0) (w := 10) rfl _ _).mp ((h c).1 10)).trans (((dats m 0 c).arrAt_in 10 rfl _).trans ((A_eq m c 10).trans (V_main_arg1 m c))),
    (((dats m 0 c).toRForget_arrAt_iff (fgt := forgets0) (w := 11) rfl _ _).mp ((h c).1 11)).trans (((dats m 0 c).arrAt_in 11 rfl _).trans ((A_eq m c 11).trans (V_main_arg2 m c))),
    (((dats m 0 c).toRForget_arrAt_iff (fgt := forgets0) (w := 12) rfl _ _).mp ((h c).1 12)).trans (((dats m 0 c).arrAt_in 12 rfl _).trans ((A_eq m c 12).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (((dats m 0 c).toRForget_arrAt_iff (fgt := forgets0) (w := 14) rfl _ _).mp ((h c).1 14)).trans (((dats m 0 c).arrAt_in 14 rfl _).trans ((A_eq m c 14).trans (V_main_arg7 m c))),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    (((dats m 0 c).toRForget_arrAt_iff (fgt := forgets0) (w := 19) rfl _ _).mp ((h c).1 19)).trans (((dats m 0 c).arrAt_in 19 rfl _).trans ((A_eq m c 19).trans (V_main_arg12 m c))),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c),
    ((h c).2 main_arg19 (Pipeline.mem_restRefs_of main_arg19 (by decide) (by decide))).trans (V_main_arg19 m c)⟩

end Cert.MergeKernelIdeal.Keep

end
-- ==== Proof.Merge.Spec.lean ====
/- The gated merge by its mathematics: the chunk MLP, the short convolution, the four gated branches and their
   product, the residual sum and its norm, and the modulated rows. -/
module

public import Idealize.ShloMosaic.Lib.Claim
public import Idealize.ShloMosaic.Lib.Pointwise
public import Idealize.ShloMosaic.PureOps.Ideal.Laws

@[expose] public section

noncomputable section

namespace Cert.Merge

open Idealize.ShloMosaic

/-- The arguments: the projected rows (none past the last), two branches, the layer's input, its gate, scale and
    shift, and the weights. -/
structure Arg where
  p : ℕ → ℕ → EReal
  brc : ℕ → Fin 512 → EReal
  brd : ℕ → Fin 512 → EReal
  x : ℕ → Fin 2048 → EReal
  g1 : Fin 2048 → EReal
  sc2 : Fin 2048 → EReal
  sh2 : Fin 2048 → EReal
  bg : Fin 4 → Fin 2048 → EReal
  alg : Fin 512 → EReal
  alb : Fin 512 → EReal
  ws : Fin 4 → Fin 128 → Fin 128 → EReal
  bs : Fin 4 → Fin 128 → EReal
  cw : Fin 3 → Fin 512 → EReal
  cb : Fin 512 → EReal
  wbr : Fin 4 → Fin 512 → Fin 2048 → EReal
  wout : Fin 2048 → Fin 2048 → EReal
  l1g : Fin 2048 → EReal
  l1b : Fin 2048 → EReal

/-- The arguments, of the programs' arrays. -/
def Arg.ofArrays
    (a0 : (⟨2, ![16384, 13056]⟩ : Shape).Idx → EReal)
    (a1 : (⟨2, ![16384, 512]⟩ : Shape).Idx → EReal)
    (a2 : (⟨2, ![16384, 512]⟩ : Shape).Idx → EReal)
    (a3 : (⟨2, ![16384, 2048]⟩ : Shape).Idx → EReal)
    (a4 : (⟨2, ![1, 2048]⟩ : Shape).Idx → EReal)
    (a5 : (⟨2, ![1, 2048]⟩ : Shape).Idx → EReal)
    (a6 : (⟨2, ![1, 2048]⟩ : Shape).Idx → EReal)
    (a7 : (⟨2, ![4, 2048]⟩ : Shape).Idx → EReal)
    (a8 : (⟨1, ![512]⟩ : Shape).Idx → EReal)
    (a9 : (⟨1, ![512]⟩ : Shape).Idx → EReal)
    (a10 : (⟨3, ![4, 128, 128]⟩ : Shape).Idx → EReal)
    (a11 : (⟨2, ![4, 128]⟩ : Shape).Idx → EReal)
    (a12 : (⟨2, ![3, 512]⟩ : Shape).Idx → EReal)
    (a13 : (⟨1, ![512]⟩ : Shape).Idx → EReal)
    (a14 : (⟨3, ![4, 512, 2048]⟩ : Shape).Idx → EReal)
    (a15 : (⟨2, ![2048, 2048]⟩ : Shape).Idx → EReal)
    (a16 : (⟨1, ![2048]⟩ : Shape).Idx → EReal)
    (a17 : (⟨1, ![2048]⟩ : Shape).Idx → EReal) : Arg where
  p n j := if h : n < 16384 ∧ j < 13056 then a0 (ix2 ⟨n, h.1⟩ ⟨j, h.2⟩) else 0
  brc n k := if h : n < 16384 then a1 (ix2 ⟨n, h⟩ k) else 0
  brd n k := if h : n < 16384 then a2 (ix2 ⟨n, h⟩ k) else 0
  x n k := if h : n < 16384 then a3 (ix2 ⟨n, h⟩ k) else 0
  g1 k := a4 (ix2 0 k)
  sc2 k := a5 (ix2 0 k)
  sh2 k := a6 (ix2 0 k)
  bg g k := a7 (ix2 g k)
  alg k := a8 (ix1 k)
  alb k := a9 (ix1 k)
  ws g s q := a10 (ix3 g s q)
  bs g s := a11 (ix2 g s)
  cw j k := a12 (ix2 j k)
  cb k := a13 (ix1 k)
  wbr g k j := a14 (ix3 g k j)
  wout q j := a15 (ix2 q j)
  l1g k := a16 (ix1 k)
  l1b k := a17 (ix1 k)

/-- The tanh form of gelu, -/
def gelu (v : EReal) : EReal :=
  v * (Ideal.ofBits FTy.f32 1056964608#32 *
    (1 + Ideal.tanh (Ideal.ofBits FTy.f32 1061962282#32 * (v + Ideal.ofBits FTy.f32 1027024659#32 * (v * (v * v))))))

/-- a row less its mean, -/
def dev {n : ℕ} (d : EReal) (v : Fin n → EReal) (k : Fin n) : EReal := v k - Ideal.div (∑ q, v q) d

/-- and the norm of a row: `d` is the number of its entries. -/
def norm {n : ℕ} (d : EReal) (v g b : Fin n → EReal) (k : Fin n) : EReal :=
  dev d v k * Ideal.rsqrt (Ideal.div (∑ q, dev d v q * dev d v q) d + Ideal.ofBits FTy.f32 925353388#32) * g k + b k

namespace Arg
variable (A : Arg)

/-- The chunk MLP's gelu of its second input, normalised, -/
def vn (n : ℕ) : Fin 512 → EReal :=
  norm (Ideal.ofBits FTy.f32 1140850688#32) (fun k => gelu (A.p n (8704 + k.val))) A.alg A.alb

/-- mixed over the 128 rows of its chunk, -/
def mixed (n : ℕ) (k : Fin 512) : EReal :=
  (∑ q : Fin 128, A.ws ⟨k.val / 128, by omega⟩ ⟨n % 128, Nat.mod_lt _ (by norm_num)⟩ q * A.vn (n / 128 * 128 + q.val) k)
    + A.bs ⟨k.val / 128, by omega⟩ ⟨n % 128, Nat.mod_lt _ (by norm_num)⟩

/-- times the gelu of the first: the first branch. -/
def bra (n : ℕ) (k : Fin 512) : EReal := gelu (A.p n (8192 + k.val)) * A.mixed n k

/-- The convolution's input, -/
def z (n : ℕ) (k : Fin 512) : EReal := A.p n (10240 + k.val) * A.p n (9216 + k.val)

/-- in the row before, none before the first, -/
def zp (n : ℕ) (k : Fin 512) : EReal := if n = 0 then 0 else A.z (n - 1) k

/-- in the row after, none after the last, -/
def zn (n : ℕ) (k : Fin 512) : EReal := if n = 16383 then 0 else A.z (n + 1) k

/-- and the second branch. -/
def brb (n : ℕ) (k : Fin 512) : EReal :=
  A.p n (9728 + k.val) * (A.cw 0 k * A.zp n k + A.cw 1 k * A.z n k + A.cw 2 k * A.zn n k + A.cb k)

/-- A branch's gate, -/
def gate (g : Fin 4) (n : ℕ) (c : Fin 2048) : EReal := Ideal.logistic (A.p n (2048 * g.val + c.val) + A.bg g c)

/-- a branch's product, -/
def prod (g : Fin 4) (b : ℕ → Fin 512 → EReal) (n : ℕ) (c : Fin 2048) : EReal := ∑ k, b n k * A.wbr g k c

/-- and the merged branches. -/
def merged (n : ℕ) (c : Fin 2048) : EReal :=
  A.gate 0 n c * A.prod 0 A.bra n c + A.gate 1 n c * A.prod 1 A.brb n c + A.gate 2 n c * A.prod 2 A.brc n c
    + A.gate 3 n c * A.prod 3 A.brd n c

/-- The residual sum, -/
def res (n : ℕ) (c : Fin 2048) : EReal :=
  Ideal.ofBits FTy.f32 1068827891#32 * A.x n c + A.g1 c * ∑ q, A.merged n q * A.wout q c

/-- its norm: the first result, -/
def out (n : ℕ) : Fin 2048 → EReal := norm (Ideal.ofBits FTy.f32 1157627904#32) (A.res n) A.l1g A.l1b

/-- scaled and shifted: the second. -/
def hid (n : ℕ) (c : Fin 2048) : EReal := A.out n c * (1 + A.sc2 c) + A.sh2 c

/-- The first result's array, -/
def first (i : (⟨2, ![16384, 2048]⟩ : Shape).Idx) : EReal := A.out (i 0).val (i 1)

/-- and the second's: each row in sixteen parts. -/
def second (i : (⟨2, ![262144, 128]⟩ : Shape).Idx) : EReal :=
  A.hid ((i 0).val / 16) ⟨(i 0).val % 16 * 128 + (i 1).val, by have : (i 1).val < 128 := (i 1).isLt; omega⟩

end Arg
end Cert.Merge

end

end
-- ==== Proof.Merge.Stage.lean ====
/- The body's stages on blocks which hold the arguments' rows. -/
module

public import proofs.«01_k».proof.Proof.Merge.MergeKernelIdeal.Out
public import proofs.«01_k».proof.Proof.Merge.Spec

@[expose] public section

set_option maxRecDepth 16384

noncomputable section

namespace Cert.Merge

open Idealize.ShloMosaic Idealize.ShloMosaic.TcCoe Idealize.ShloMosaic.Tactic
open Cert.MergeKernelIdeal Cert.MergeKernelIdeal.Gen Cert.MergeKernelIdeal.Out

/-- The blocks of point `i` hold rows `256 i` to `256 i + 255`. -/
structure Fits (A : Arg) (i : grid0.Coords) (o : Ops Ideal) : Prop where
  h1 : ∀ (r : Fin 256) (c : Fin 8192), (o.x1 : S256x8192.Idx → EReal) (ix2 r c) = A.p (256 * (i 0).val + r.val) c.val
  h2 : ∀ (r : Fin 256) (k : Fin 512), (o.x2 : S256x512.Idx → EReal) (ix2 r k) = A.p (256 * (i 0).val + r.val) (8192 + k.val)
  h3 : ∀ (r : Fin 256) (k : Fin 512), (o.x3 : S256x512.Idx → EReal) (ix2 r k) = A.p (256 * (i 0).val + r.val) (8704 + k.val)
  h4 : ∀ (r : Fin 256) (k : Fin 512), (o.x4 : S256x512.Idx → EReal) (ix2 r k) = A.p (256 * (i 0).val + r.val) (9216 + k.val)
  h5 : ∀ (r : Fin 256) (k : Fin 512), (o.x5 : S256x512.Idx → EReal) (ix2 r k) = A.p (256 * (i 0).val + r.val) (9728 + k.val)
  h6 : ∀ (r : Fin 256) (k : Fin 512), (o.x6 : S256x512.Idx → EReal) (ix2 r k) = A.p (256 * (i 0).val + r.val) (10240 + k.val)
  h7 : (i 0).val ≠ 0 → ∀ k : Fin 512, (o.x7 : S8x512.Idx → EReal) (ix2 7 k) = A.p (256 * (i 0).val - 1) (9216 + k.val)
  h8 : (i 0).val ≠ 0 → ∀ k : Fin 512, (o.x8 : S8x512.Idx → EReal) (ix2 7 k) = A.p (256 * (i 0).val - 1) (10240 + k.val)
  h9 : (i 0).val ≠ 63 → ∀ k : Fin 512, (o.x9 : S8x512.Idx → EReal) (ix2 0 k) = A.p (256 * (i 0).val + 256) (9216 + k.val)
  h10 : (i 0).val ≠ 63 → ∀ k : Fin 512, (o.x10 : S8x512.Idx → EReal) (ix2 0 k) = A.p (256 * (i 0).val + 256) (10240 + k.val)
  h11 : ∀ (r : Fin 256) (k : Fin 512), (o.x11 : S256x512.Idx → EReal) (ix2 r k) = A.brc (256 * (i 0).val + r.val) k
  h12 : ∀ (r : Fin 256) (k : Fin 512), (o.x12 : S256x512.Idx → EReal) (ix2 r k) = A.brd (256 * (i 0).val + r.val) k
  h13 : ∀ (r : Fin 256) (c : Fin 2048), (o.x13 : S256x2048.Idx → EReal) (ix2 r c) = A.x (256 * (i 0).val + r.val) c
  h14 : ∀ c : Fin 2048, (o.x14 : S8x2048.Idx → EReal) (ix2 0 c) = A.g1 c
  h14' : ∀ c : Fin 2048, (o.x14 : S8x2048.Idx → EReal) (ix2 1 c) = A.sc2 c
  h14'' : ∀ c : Fin 2048, (o.x14 : S8x2048.Idx → EReal) (ix2 2 c) = A.sh2 c
  h15 : ∀ (g : Fin 4) (c : Fin 2048), (o.x15 : S4x2048.Idx → EReal) (ix2 g c) = A.bg g c
  h16 : ∀ k : Fin 512, (o.x16 : S1x512.Idx → EReal) (ix2 0 k) = A.alg k
  h17 : ∀ k : Fin 512, (o.x17 : S1x512.Idx → EReal) (ix2 0 k) = A.alb k
  h18 : ∀ (g : Fin 4) (s q : Fin 128), (o.x18 : S4x128x128.Idx → EReal) (ix3 g s q) = A.ws g s q
  h19 : ∀ (s : Fin 128) (k : Fin 512), (o.x19 : S128x512.Idx → EReal) (ix2 s k) = A.bs ⟨k.val / 128, by omega⟩ s
  h20 : ∀ (j : Fin 3) (k : Fin 512), (o.x20 : S3x512.Idx → EReal) (ix2 j k) = A.cw j k
  h21 : ∀ k : Fin 512, (o.x21 : S1x512.Idx → EReal) (ix2 0 k) = A.cb k
  h22 : ∀ (g : Fin 4) (k : Fin 512) (c : Fin 2048), (o.x22 : S4x512x2048.Idx → EReal) (ix3 g k c) = A.wbr g k c
  h23 : ∀ (q c : Fin 2048), (o.x23 : S2048x2048.Idx → EReal) (ix2 q c) = A.wout q c
  h24 : ∀ c : Fin 2048, (o.x24 : S1x2048.Idx → EReal) (ix2 0 c) = A.l1g c
  h25 : ∀ c : Fin 2048, (o.x25 : S1x2048.Idx → EReal) (ix2 0 c) = A.l1b c

variable {A : Arg} {i : grid0.Coords} {o : Ops Ideal} (H : Fits A i o)
include H

theorem v39_eq (r : Fin 256) (k : Fin 512) : (v39 o : S256x512.Idx → EReal) (ix2 r k) =
    dev (Ideal.ofBits FTy.f32 1140850688#32) (fun k => gelu (A.p (256 * (i 0).val + r.val) (8704 + k.val))) k := by
  unfold v39 k0_pay6 dev gelu
  pointwise
  simp only [H.h3]

theorem v40_eq (r : Fin 256) (k : Fin 512) : (v40 o : S256x512.Idx → EReal) (ix2 r k) =
    dev (Ideal.ofBits FTy.f32 1140850688#32) (fun k => gelu (A.p (256 * (i 0).val + r.val) (8704 + k.val))) k *
    dev (Ideal.ofBits FTy.f32 1140850688#32) (fun k => gelu (A.p (256 * (i 0).val + r.val) (8704 + k.val))) k := by
  rw [← v39_eq H]
  unfold v40 k0_pay7 v39
  generalize k0_pay6 o.x3 = a
  pointwise

theorem v31_eq (k : Fin 512) : (v31 o : S1x512.Idx → EReal) (ix2 0 k) = A.alg k := by
  unfold v31 k0_pay4
  pointwise
  exact H.h16 k

theorem v33_eq (k : Fin 512) : (v33 o : S1x512.Idx → EReal) (ix2 0 k) = A.alb k := by
  unfold v33 k0_pay5
  pointwise
  exact H.h17 k

theorem v54_eq (r : Fin 256) (k : Fin 512) : (v54 o : S256x512.Idx → EReal) (ix2 r k) = A.vn (256 * (i 0).val + r.val) k := by
  have a := v39_eq H; have b := v40_eq H; have e := v31_eq H; have f := v33_eq H
  unfold v54 k0_pay8 Arg.vn norm
  generalize v39 o = w at *; generalize v40 o = w' at *; generalize v31 o = u at *; generalize v33 o = u' at *
  pointwise
  simp only [a, b, e, f]

theorem v75_eq (r k : Fin 128) : (v75 o : S128x128.Idx → EReal) (ix2 r k) = A.vn (256 * (i 0).val + 128 + r.val) ⟨k.val, by omega⟩ := by
  have a := v54_eq H
  unfold v75 k0_pay10
  change ∀ r k, (k0_pay8 (v31 o) (v33 o) (v39 o) (v40 o) : S256x512.Idx → EReal) (ix2 r k) = _ at a
  generalize k0_pay8 (v31 o) (v33 o) (v39 o) (v40 o) = w at *
  pointwise
  rw [a]
  congr 1
  simp only [Nat.add_assoc]

/-- A group's product, at the first and at the second chunk of the block. -/
theorem group (g : Fin 4) (n : ℕ) (s : Fin 128) (k : Fin 512) (hk : k.val / 128 = g.val) (e : EReal) (f : Fin 128 → EReal)
    (hn : n % 128 = s.val) (hf : ∀ q, f q = A.vn (n / 128 * 128 + q.val) k) (he : e = A.bs ⟨k.val / 128, by omega⟩ s) :
    (∑ q, (o.x18 : S4x128x128.Idx → EReal) (ix3 g s q) * f q) + e = A.mixed n k := by
  unfold Arg.mixed
  have hs : (⟨n % 128, Nat.mod_lt _ (by norm_num)⟩ : Fin 128) = s := Fin.ext hn
  have hg : (⟨k.val / 128, by omega⟩ : Fin 4) = g := Fin.ext hk
  rw [he, hs, hg]
  exact congrArg (· + _) (Finset.sum_congr rfl fun q _ => by rw [H.h18, hf])

theorem v74_eq (r : Fin 128) (k : Fin 512) : (v74 o : S128x512.Idx → EReal) (ix2 r k) = A.mixed (256 * (i 0).val + r.val) k := by
  have a := v54_eq H
  have hr := r.isLt; have hk := k.isLt
  have hq : ∀ q : Fin 128, (256 * (i 0).val + r.val) / 128 * 128 + q.val = 256 * (i 0).val + q.val := fun q => by omega
  have hn : (256 * (i 0).val + r.val) % 128 = r.val := by omega
  unfold v74 k0_pay9
  change ∀ r k, (k0_pay8 (v31 o) (v33 o) (v39 o) (v40 o) : S256x512.Idx → EReal) (ix2 r k) = _ at a
  generalize k0_pay8 (v31 o) (v33 o) (v39 o) (v40 o) = w at *
  pointwise
  by_cases h1 : k.val < 128
  · rw [dif_pos h1]
    exact group H 0 _ r k (show k.val / 128 = 0 by omega) _ _ hn (fun q => by rw [a, hq]) (H.h19 r k)
  rw [dif_neg h1]
  by_cases h2 : k.val - 128 < 128
  · rw [dif_pos h2]
    exact group H 1 _ r k (show k.val / 128 = 1 by omega) _ _ hn
      (fun q => by rw [a, hq]; exact congrArg _ (Fin.ext (show 128 + (k.val - 128) = k.val by omega))) (H.h19 r k)
  rw [dif_neg h2]
  by_cases h3 : k.val - 128 - 128 < 128
  · rw [dif_pos h3]
    exact group H 2 _ r k (show k.val / 128 = 2 by omega) _ _ hn
      (fun q => by rw [a, hq]; exact congrArg _ (Fin.ext (show 256 + (k.val - 128 - 128) = k.val by omega))) (H.h19 r k)
  rw [dif_neg h3]
  exact group H 3 _ r k (show k.val / 128 = 3 by omega) _ _ hn
    (fun q => by rw [a, hq]; exact congrArg _ (Fin.ext (show 384 + (k.val - 128 - 128 - 128) = k.val by omega))) (H.h19 r k)

set_option maxHeartbeats 2000000 in
/-- The second chunk's rows. -/
theorem v96_eq (r : Fin 256) (k : Fin 512) : (v96 o : S256x512.Idx → EReal) (ix2 r k) = A.bra (256 * (i 0).val + r.val) k := by
  have a := v54_eq H; have b := v75_eq H; have d := v74_eq H
  have hr := r.isLt; have hk := k.isLt
  have e : ∀ r k, (k0_pay3 o.x2 : S256x512.Idx → EReal) (ix2 r k) = gelu (A.p (256 * (i 0).val + r.val) (8192 + k.val)) := fun r k => by
    unfold k0_pay3 gelu
    pointwise
    simp only [H.h2]
  unfold v96 k0_pay11 Arg.bra
  generalize v54 o = w at *; generalize v75 o = w' at *; generalize v74 o = w'' at *; generalize k0_pay3 o.x2 = u at *
  pointwise
  rw [e]
  refine congrArg _ ?_
  by_cases h0 : r.val < 128
  · rw [dif_pos h0, d]
  rw [dif_neg h0]
  have hq : ∀ q : Fin 128, (256 * (i 0).val + r.val) / 128 * 128 + q.val = 256 * (i 0).val + 128 + q.val := fun q => by omega
  have hq' : ∀ q : Fin 128, 256 * (i 0).val + (128 + q.val) = 256 * (i 0).val + 128 + q.val := fun q => by omega
  have hn : (256 * (i 0).val + r.val) % 128 = r.val - 128 := by omega
  by_cases h1 : k.val < 128
  · rw [dif_pos h1]
    exact group H 0 _ ⟨r.val - 128, by omega⟩ k (show k.val / 128 = 0 by omega) _ _ hn (fun q => by rw [b, hq]) (H.h19 _ k)
  rw [dif_neg h1]
  by_cases h2 : k.val - 128 < 128
  · rw [dif_pos h2]
    exact group H 1 _ ⟨r.val - 128, by omega⟩ k (show k.val / 128 = 1 by omega) _ _ hn
      (fun q => by rw [a, hq, ← hq']; exact congrArg _ (Fin.ext (show 128 + (k.val - 128) = k.val by omega))) (H.h19 _ k)
  rw [dif_neg h2]
  by_cases h3 : k.val - 128 - 128 < 128
  · rw [dif_pos h3]
    exact group H 2 _ ⟨r.val - 128, by omega⟩ k (show k.val / 128 = 2 by omega) _ _ hn
      (fun q => by rw [a, hq, ← hq']; exact congrArg _ (Fin.ext (show 256 + (k.val - 128 - 128) = k.val by omega))) (H.h19 _ k)
  rw [dif_neg h3]
  exact group H 3 _ ⟨r.val - 128, by omega⟩ k (show k.val / 128 = 3 by omega) _ _ hn
    (fun q => by rw [a, hq, ← hq']; exact congrArg _ (Fin.ext (show 384 + (k.val - 128 - 128 - 128) = k.val by omega))) (H.h19 _ k)

theorem v153_eq (r : Fin 256) (k : Fin 512) : (v153 o : S256x512.Idx → EReal) (ix2 r k) = A.bra (256 * (i 0).val + r.val) k := by
  have a := v96_eq H
  unfold v153 k0_pay15
  generalize v96 o = w at *
  pointwise
  exact a r k

theorem v101_eq (r : Fin 256) (k : Fin 512) : (v101 o : S256x512.Idx → EReal) (ix2 r k) = A.z (256 * (i 0).val + r.val) k := by
  unfold v101 k0_pay12 Arg.z
  pointwise
  rw [H.h4, H.h6]

omit H in
/-- The factor of the row before a block: none at the first point, -/
theorem first_flag (j : Fin 64) : (((Scalar.extui (Scalar.cmpi .sgt (BitVec.ofNat 32 j.val) 0#32) : BitVec 32).toInt : ℝ) : EReal) = if j.val = 0 then 0 else 1 := by
  have h : ∀ j : Fin 64, (Scalar.extui (Scalar.cmpi .sgt (BitVec.ofNat 32 j.val) 0#32) : BitVec 32).toInt = if j.val = 0 then 0 else 1 := by decide +kernel
  rw [h]
  split <;> simp

omit H in
/-- and of the row after: none at the last. -/
theorem last_flag (j : Fin 64) : (((Scalar.extui (Scalar.cmpi .slt (BitVec.ofNat 32 j.val) 63#32) : BitVec 32).toInt : ℝ) : EReal) = if j.val = 63 then 0 else 1 := by
  have h : ∀ j : Fin 64, (Scalar.extui (Scalar.cmpi .slt (BitVec.ofNat 32 j.val) 63#32) : BitVec 32).toInt = if j.val = 63 then 0 else 1 := by decide +kernel
  rw [h]
  split <;> simp

omit H in
/-- A choice by a row's number. -/
theorem row_flag (j : ℕ) (hj : j < 256) (r : Fin 256) (a b : EReal) :
    Scalar.select (IntOp.cmpi .eq (BitVec.ofNat 32 r.val) (BitVec.ofNat 32 j)) a b = if r.val = j then a else b := by
  have h : ∀ r j : Fin 256, (IntOp.cmpi .eq (BitVec.ofNat 32 r.val) (BitVec.ofNat 32 j.val) = 1) ↔ r.val = j.val := fun r j => by
    constructor
    · intro h
      by_contra hne
      have : BitVec.ofNat 32 r.val ≠ BitVec.ofNat 32 j.val := fun h' => by
        have := congrArg BitVec.toNat h'
        simp only [BitVec.toNat_ofNat] at this
        omega
      have e : (BitVec.ofNat 32 r.val == BitVec.ofNat 32 j.val) = false := by simpa using this
      simp only [IntOp.cmpi, e] at h
      exact absurd h (by decide)
    · intro h
      simp [IntOp.cmpi, h]
  unfold Scalar.select
  exact if_congr (h r ⟨j, hj⟩) rfl rfl

theorem v111_eq (k : Fin 512) : (v111 i o : S1x512.Idx → EReal) (ix2 0 k) = A.zp (256 * (i 0).val) k := by
  unfold v111 k0_pay13 Arg.zp Arg.z
  pointwise
  rw [first_flag (i 0)]
  by_cases h : (i 0).val = 0
  · rw [if_pos h, if_pos (by omega), mul_zero]
  · rw [if_neg h, if_neg (by omega), mul_one, H.h7 h, H.h8 h]

theorem v152_eq (r : Fin 256) (k : Fin 512) : (v152 i o : S256x512.Idx → EReal) (ix2 r k) = A.brb (256 * (i 0).val + r.val) k := by
  have a := v101_eq H; have b := v111_eq H
  have hr := r.isLt; have hi : (i 0).val < 64 := (i 0).isLt
  unfold v152 k0_pay14 Arg.brb
  generalize v101 o = w at *; generalize v111 i o = w' at *
  pointwise
  rw [last_flag (i 0), row_flag 0 (by norm_num), row_flag 255 (by norm_num), H.h5]
  simp only [a, b, H.h20, H.h21]
  have e1 : (if r.val = 0 then A.zp (256 * (i 0).val) k else A.z (256 * (i 0).val + (r.val + 256 - 1) % 256) k) = A.zp (256 * (i 0).val + r.val) k := by
    by_cases h : r.val = 0
    · rw [if_pos h, h, Nat.add_zero]
    · rw [if_neg h]
      refine .trans ?_ (if_neg (by omega)).symm
      exact congrArg (fun n => A.z n k) (show 256 * (i 0).val + (r.val + 256 - 1) % 256 = 256 * (i 0).val + r.val - 1 by omega)
  have e2 : (if r.val = 255 then (o.x10 : S8x512.Idx → EReal) (ix2 0 k) * (o.x9 : S8x512.Idx → EReal) (ix2 0 k) * (if (i 0).val = 63 then 0 else 1)
      else A.z (256 * (i 0).val + (r.val + 256 - 255) % 256) k) = A.zn (256 * (i 0).val + r.val) k := by
    by_cases h : r.val = 255
    · rw [if_pos h]
      by_cases h' : (i 0).val = 63
      · rw [if_pos h', mul_zero]
        exact (if_pos (by omega)).symm
      · rw [if_neg h', mul_one, H.h9 h', H.h10 h']
        refine .trans ?_ (if_neg (by omega)).symm
        unfold Arg.z
        rw [show 256 * (i 0).val + r.val + 1 = 256 * (i 0).val + 256 by omega]
    · rw [if_neg h]
      refine .trans ?_ (if_neg (by omega)).symm
      exact congrArg (fun n => A.z n k) (show 256 * (i 0).val + (r.val + 256 - 255) % 256 = 256 * (i 0).val + r.val + 1 by omega)
  rw [← e1, ← e2]

theorem v177_eq (r : Fin 256) (k : Fin 2048) : (v177 i o : S256x2048.Idx → EReal) (ix2 r k) =
    A.gate 0 (256 * (i 0).val + r.val) k * A.prod 0 A.bra (256 * (i 0).val + r.val) k + A.gate 1 (256 * (i 0).val + r.val) k * A.prod 1 A.brb (256 * (i 0).val + r.val) k := by
  have a := v152_eq H; have b := v153_eq H
  unfold v177 k0_pay16 Arg.gate Arg.prod
  generalize v152 i o = u at *; generalize v153 o = v at *
  pointwise
  simp only [a, b, H.h1, H.h15, H.h22]

theorem v180_eq (r : Fin 256) (k : Fin 2048) : (v180 o : S256x2048.Idx → EReal) (ix2 r k) = A.prod 2 A.brc (256 * (i 0).val + r.val) k := by
  unfold v180 k0_pay17 Arg.prod
  pointwise
  simp only [H.h11, H.h22]

theorem v185_eq (r : Fin 256) (k : Fin 2048) : Ideal.logistic ((v185 o : S256x2048.Idx → EReal) (ix2 r k)) = A.gate 2 (256 * (i 0).val + r.val) k := by
  unfold v185 k0_pay18 Arg.gate
  pointwise
  simp only [H.h1, H.h15]

theorem v221_eq (r : Fin 256) (k : Fin 2048) : (v221 i o : S256x2048.Idx → EReal) (ix2 r k) =
    dev (Ideal.ofBits FTy.f32 1157627904#32) (A.res (256 * (i 0).val + r.val)) k := by
  have a := v177_eq H; have b := v180_eq H; have d := v185_eq H
  unfold v221 k0_pay21 dev Arg.res Arg.merged
  generalize v177 i o = u at *; generalize v180 o = v at *; generalize v185 o = w at *
  pointwise
  simp only [a, b, d, H.h1, H.h12, H.h13, H.h14, H.h15, H.h22, H.h23]
  rfl

theorem v222_eq (r : Fin 256) (k : Fin 2048) : (v222 i o : S256x2048.Idx → EReal) (ix2 r k) =
    dev (Ideal.ofBits FTy.f32 1157627904#32) (A.res (256 * (i 0).val + r.val)) k *
    dev (Ideal.ofBits FTy.f32 1157627904#32) (A.res (256 * (i 0).val + r.val)) k := by
  rw [← v221_eq H]
  unfold v222 k0_pay22
  change (mulf (v221 i o) (v221 i o) : S256x2048.Idx → EReal) (ix2 r k) = _
  generalize v221 i o = a
  pointwise

theorem v213_eq (k : Fin 2048) : (v213 o : S1x2048.Idx → EReal) (ix2 0 k) = A.l1g k := by
  unfold v213 k0_pay19
  pointwise
  exact H.h24 k

theorem v215_eq (k : Fin 2048) : (v215 o : S1x2048.Idx → EReal) (ix2 0 k) = A.l1b k := by
  unfold v215 k0_pay20
  pointwise
  exact H.h25 k

theorem v237_eq (k : Fin 2048) : (v237 o : S1x2048.Idx → EReal) (ix2 0 k) = A.sc2 k := by
  unfold v237
  pointwise
  exact H.h14' k

theorem v243_eq (k : Fin 2048) : (v243 o : S1x2048.Idx → EReal) (ix2 0 k) = A.sh2 k := by
  unfold v243
  pointwise
  exact H.h14'' k

/-- The first result's block. -/
theorem x1Out_eq (r : Fin 256) (k : Fin 2048) : (x1Out i o : S256x2048.Idx → EReal) (ix2 r k) = A.out (256 * (i 0).val + r.val) k := by
  have a := v221_eq H; have b := v222_eq H; have d := v213_eq H; have e := v215_eq H
  unfold x1Out k0_pay23 Arg.out norm
  generalize v221 i o = u at *; generalize v222 i o = v at *; generalize v213 o = w at *; generalize v215 o = w' at *
  pointwise
  simp only [a, b, d, e]

/-- The second result's rows. -/
theorem v246_eq (r : Fin 256) (k : Fin 2048) : (v246 i o : S256x2048.Idx → EReal) (ix2 r k) = A.hid (256 * (i 0).val + r.val) k := by
  have a := x1Out_eq H; have d := v237_eq H; have e := v243_eq H
  unfold v246 k0_pay24 Arg.hid
  unfold x1Out at a
  generalize k0_pay23 (v213 o) (v215 o) (v221 i o) (v222 i o) = u at *; generalize v237 o = w at *; generalize v243 o = w' at *
  pointwise
  simp only [a, d, e]

end Cert.Merge

end

end
-- ==== Proof.Merge.Blocks.lean ====
/- The blocks the merging kernel's body reads, of the program's arguments. -/
module

public import proofs.«01_k».proof.Proof.Merge.MergeKernelIdeal.Keep
public import proofs.«01_k».proof.Proof.Merge.Stage
public import Idealize.ShloMosaic.Lib.Pipeline.ValueKit
public import Idealize.ShloMosaic.Lib.Routing.OpsSet
public import Idealize.ShloMosaic.Lib.Routing.OpsPair

@[expose] public section

set_option maxRecDepth 16384

noncomputable section

namespace Cert.Merge

open Idealize.ShloMosaic Idealize.ShloMosaic.TcCoe Idealize.ShloMosaic.Tactic Idealize.ShloMosaic.Pipeline
open Cert.MergeKernelIdeal Cert.MergeKernelIdeal.Gen Cert.MergeKernelIdeal.Out

section scatter

/-- Update `k` of `x.at[r, :].set(u)` lands at `(q, e)` exactly when `q` is `r` and `e` is `k`. -/
theorem lands_row (idx : IVec S1 32) (r : Fin 8) (hidx : (idx (ix1 0)).toInt = (r.val : Int)) (k e : Fin 2048) (q : Fin 8) :
    scatter_S8x2048_S1_S2048_0_0_0_0.resultIdx? (ix1 k) idx = some (ix2 q e) ↔ q = r ∧ e = k := by
  have hm : (0 : Fin 2) ∈ scatter_S8x2048_S1_S2048_0_0_0_0.scatterDimsToOperandDims := List.mem_singleton.2 rfl
  have s0 : scatter_S8x2048_S1_S2048_0_0_0_0.start (ix1 k) idx 0 = (r.val : Int) := by
    unfold ScatterDims.start
    rw [dif_pos hm]
    refine .trans ?_ hidx
    refine congrArg (fun a => (idx a).toInt) ?_
    funext b
    match b with
    | ⟨0, _⟩ => exact Subsingleton.elim (α := Fin 1) _ _
  have s1 : scatter_S8x2048_S1_S2048_0_0_0_0.start (ix1 k) idx 1 = 0 := by
    unfold ScatterDims.start
    exact dif_neg fun h => absurd (List.mem_singleton.1 h) (by decide : (1 : Fin 2) ≠ 0)
  have w0 : scatter_S8x2048_S1_S2048_0_0_0_0.window (ix1 k) 0 = 0 := by
    unfold ScatterDims.window
    exact dif_neg fun h => (of_decide_eq_true (List.mem_filter.1 h).2) (List.mem_singleton.2 rfl)
  have w1 : scatter_S8x2048_S1_S2048_0_0_0_0.window (ix1 k) 1 = k.val := by
    have hk : scatter_S8x2048_S1_S2048_0_0_0_0.sKept = [1] := rfl
    unfold ScatterDims.window
    rw [dif_pos (by rw [hk]; exact List.mem_singleton.2 rfl)]
    have h : ∀ X : Fin 1, (ix1 k X).val = k.val := fun X => by
      obtain rfl : X = 0 := Subsingleton.elim _ _
      rfl
    exact h _
  refine (Routing.resultIdx?_ix2 _ _ _ q e).trans ?_
  rw [s0, s1, w0, w1]
  constructor
  · rintro ⟨a, b⟩
    exact ⟨Fin.ext (by omega), Fin.ext (by omega)⟩
  · rintro ⟨rfl, rfl⟩
    exact ⟨by omega, by omega⟩

/-- One row set. -/
theorem scatter_row (x : S8x2048.Idx → EReal) (idx : IVec S1 32) (u : S2048.Idx → EReal) (r : Fin 8)
    (hidx : (idx (ix1 0)).toInt = (r.val : Int)) (q : Fin 8) (e : Fin 2048) :
    Host.scatter scatter_S8x2048_S1_S2048_0_0_0_0 (fun _ b => b) x idx u (ix2 q e) = if q = r then u (ix1 e) else x (ix2 q e) := by
  have lands : ∀ j : S2048.Idx, scatter_S8x2048_S1_S2048_0_0_0_0.resultIdx? j idx = some (ix2 q e) → q = r ∧ e = j 0 := fun j hj =>
    (lands_row idx r hidx (j 0) e q).1 ((congrArg (fun t => scatter_S8x2048_S1_S2048_0_0_0_0.resultIdx? t idx) (eq_ix1 j).symm).trans hj)
  by_cases h : q = r
  · rw [if_pos h]
    exact Routing.scatter_set_hit _ x idx u _ _ (fun j hj => (congrArg u (eq_ix1 j)).trans (congrArg (fun t => u (ix1 t)) (lands j hj).2.symm)) (ix1 e)
      ((lands_row idx r hidx e e q).2 ⟨h, rfl⟩)
  · rw [if_neg h]
    exact Routing.scatter_set_miss _ x idx u _ fun j hj => h (lands j hj).1

end scatter

variable (m : (ℓ : Loc nD τ sig) → Buf (Elt Ideal) ℓ) (c : Dev nD)

/-- A device's arguments. -/
def args : Arg :=
  Arg.ofArrays (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))

theorem lt_points (t : Fin cfg0.N) : t.val < 64 := t.isLt

theorem coord (t : Fin cfg0.N) : (grid0.coords t 0).val = t.val := by
  revert t
  decide +kernel

theorem index_rows : ∀ t : Fin cfg0.N,
    win0_0.index t = ![t.val, 0] ∧ win0_1.index t = ![t.val, 16] ∧ win0_2.index t = ![t.val, 17] ∧ win0_3.index t = ![t.val, 18]
    ∧ win0_4.index t = ![t.val, 19] ∧ win0_5.index t = ![t.val, 20] ∧ win0_10.index t = ![t.val, 0] ∧ win0_11.index t = ![t.val, 0]
    ∧ win0_12.index t = ![t.val, 0] ∧ win0_27.index t = ![t.val, 0] ∧ win0_28.index t = ![t.val, 0] := by decide +kernel

theorem index_halo : ∀ t : Fin cfg0.N,
    win0_6.index t = ![t.val * 32 - 1, 18] ∧ win0_7.index t = ![t.val * 32 - 1, 20]
    ∧ (t.val ≠ 63 → win0_8.index t = ![t.val * 32 + 32, 18] ∧ win0_9.index t = ![t.val * 32 + 32, 20]) := by decide +kernel

theorem index_whole : ∀ t : Fin cfg0.N,
    win0_13.index t = ![0, 0] ∧ win0_14.index t = ![0, 0] ∧ win0_15.index t = ![0, 0] ∧ win0_16.index t = ![0, 0]
    ∧ win0_17.index t = ![0, 0, 0] ∧ win0_18.index t = ![0, 0] ∧ win0_19.index t = ![0, 0] ∧ win0_20.index t = ![0, 0]
    ∧ win0_21.index t = ![0, 0, 0] ∧ win0_22.index t = ![0, 0] ∧ win0_23.index t = ![0, 0] ∧ win0_24.index t = ![0, 0] := by decide +kernel

theorem blk_0 (t : Fin cfg0.N) (r : Fin 256) (k : Fin 8192) :
    (X0_0 m c t : S256x8192.Idx → EReal) (ix2 r k) = (args m c).p (256 * t.val + r.val) (k.val) := by
  have ht := lt_points t
  obtain ⟨h0, h1, h2, h3, h4, h5, h10, h11, h12, h27, h28⟩ := index_rows t
  unfold args Arg.ofArrays X0_0 Window.fill
  refine (dif_pos (moved0_0 t _)).trans (.trans ?_ (dif_pos ⟨by omega, by omega⟩).symm)
  unfold iblk
  show (V m c main_arg0 : S16384x13056.Idx → EReal) (((cfg0.win 0).blk t).view.emb _) = _
  entry_read
  refine congrArg (m ((c.tc : Thread nD τ).loc main_arg0) : S16384x13056.Idx → EReal) ?_
  funext a
  fin_cases a <;> refine Fin.ext ?_ <;> blk_simp [h0] <;> first | (show t.val * 256 + r.val = 256 * t.val + r.val; omega) | rfl | (show 0 + k.val = k.val; omega)

theorem blk_1 (t : Fin cfg0.N) (r : Fin 256) (k : Fin 512) :
    (X0_1 m c t : S256x512.Idx → EReal) (ix2 r k) = (args m c).p (256 * t.val + r.val) (8192 + k.val) := by
  have ht := lt_points t
  obtain ⟨h0, h1, h2, h3, h4, h5, h10, h11, h12, h27, h28⟩ := index_rows t
  unfold args Arg.ofArrays X0_1 Window.fill
  refine (dif_pos (moved0_1 t _)).trans (.trans ?_ (dif_pos ⟨by omega, by omega⟩).symm)
  unfold iblk
  show (V m c main_arg0 : S16384x13056.Idx → EReal) (((cfg0.win 1).blk t).view.emb _) = _
  entry_read
  refine congrArg (m ((c.tc : Thread nD τ).loc main_arg0) : S16384x13056.Idx → EReal) ?_
  funext a
  fin_cases a <;> refine Fin.ext ?_ <;> blk_simp [h1] <;> first | (show t.val * 256 + r.val = 256 * t.val + r.val; omega) | rfl | (show 8192 + k.val = 8192 + k.val; omega)

theorem blk_2 (t : Fin cfg0.N) (r : Fin 256) (k : Fin 512) :
    (X0_2 m c t : S256x512.Idx → EReal) (ix2 r k) = (args m c).p (256 * t.val + r.val) (8704 + k.val) := by
  have ht := lt_points t
  obtain ⟨h0, h1, h2, h3, h4, h5, h10, h11, h12, h27, h28⟩ := index_rows t
  unfold args Arg.ofArrays X0_2 Window.fill
  refine (dif_pos (moved0_2 t _)).trans (.trans ?_ (dif_pos ⟨by omega, by omega⟩).symm)
  unfold iblk
  show (V m c main_arg0 : S16384x13056.Idx → EReal) (((cfg0.win 2).blk t).view.emb _) = _
  entry_read
  refine congrArg (m ((c.tc : Thread nD τ).loc main_arg0) : S16384x13056.Idx → EReal) ?_
  funext a
  fin_cases a <;> refine Fin.ext ?_ <;> blk_simp [h2] <;> first | (show t.val * 256 + r.val = 256 * t.val + r.val; omega) | rfl | (show 8704 + k.val = 8704 + k.val; omega)

theorem blk_3 (t : Fin cfg0.N) (r : Fin 256) (k : Fin 512) :
    (X0_3 m c t : S256x512.Idx → EReal) (ix2 r k) = (args m c).p (256 * t.val + r.val) (9216 + k.val) := by
  have ht := lt_points t
  obtain ⟨h0, h1, h2, h3, h4, h5, h10, h11, h12, h27, h28⟩ := index_rows t
  unfold args Arg.ofArrays X0_3 Window.fill
  refine (dif_pos (moved0_3 t _)).trans (.trans ?_ (dif_pos ⟨by omega, by omega⟩).symm)
  unfold iblk
  show (V m c main_arg0 : S16384x13056.Idx → EReal) (((cfg0.win 3).blk t).view.emb _) = _
  entry_read
  refine congrArg (m ((c.tc : Thread nD τ).loc main_arg0) : S16384x13056.Idx → EReal) ?_
  funext a
  fin_cases a <;> refine Fin.ext ?_ <;> blk_simp [h3] <;> first | (show t.val * 256 + r.val = 256 * t.val + r.val; omega) | rfl | (show 9216 + k.val = 9216 + k.val; omega)

theorem blk_4 (t : Fin cfg0.N) (r : Fin 256) (k : Fin 512) :
    (X0_4 m c t : S256x512.Idx → EReal) (ix2 r k) = (args m c).p (256 * t.val + r.val) (9728 + k.val) := by
  have ht := lt_points t
  obtain ⟨h0, h1, h2, h3, h4, h5, h10, h11, h12, h27, h28⟩ := index_rows t
  unfold args Arg.ofArrays X0_4 Window.fill
  refine (dif_pos (moved0_4 t _)).trans (.trans ?_ (dif_pos ⟨by omega, by omega⟩).symm)
  unfold iblk
  show (V m c main_arg0 : S16384x13056.Idx → EReal) (((cfg0.win 4).blk t).view.emb _) = _
  entry_read
  refine congrArg (m ((c.tc : Thread nD τ).loc main_arg0) : S16384x13056.Idx → EReal) ?_
  funext a
  fin_cases a <;> refine Fin.ext ?_ <;> blk_simp [h4] <;> first | (show t.val * 256 + r.val = 256 * t.val + r.val; omega) | rfl | (show 9728 + k.val = 9728 + k.val; omega)

theorem blk_5 (t : Fin cfg0.N) (r : Fin 256) (k : Fin 512) :
    (X0_5 m c t : S256x512.Idx → EReal) (ix2 r k) = (args m c).p (256 * t.val + r.val) (10240 + k.val) := by
  have ht := lt_points t
  obtain ⟨h0, h1, h2, h3, h4, h5, h10, h11, h12, h27, h28⟩ := index_rows t
  unfold args Arg.ofArrays X0_5 Window.fill
  refine (dif_pos (moved0_5 t _)).trans (.trans ?_ (dif_pos ⟨by omega, by omega⟩).symm)
  unfold iblk
  show (V m c main_arg0 : S16384x13056.Idx → EReal) (((cfg0.win 5).blk t).view.emb _) = _
  entry_read
  refine congrArg (m ((c.tc : Thread nD τ).loc main_arg0) : S16384x13056.Idx → EReal) ?_
  funext a
  fin_cases a <;> refine Fin.ext ?_ <;> blk_simp [h5] <;> first | (show t.val * 256 + r.val = 256 * t.val + r.val; omega) | rfl | (show 10240 + k.val = 10240 + k.val; omega)

theorem blk_6 (t : Fin cfg0.N) (h0 : t.val ≠ 0)  (k : Fin 512) :
    (X0_6 m c t : S8x512.Idx → EReal) (ix2 7 k) = (args m c).p (256 * t.val - 1) (9216 + k.val) := by
  have ht := lt_points t
  obtain ⟨h6, h7, -⟩ := index_halo t
  unfold args Arg.ofArrays X0_6 Window.fill
  refine (dif_pos (moved0_6 t _)).trans (.trans ?_ (dif_pos ⟨by omega, by omega⟩).symm)
  unfold iblk
  show (V m c main_arg0 : S16384x13056.Idx → EReal) (((cfg0.win 6).blk t).view.emb _) = _
  entry_read
  refine congrArg (m ((c.tc : Thread nD τ).loc main_arg0) : S16384x13056.Idx → EReal) ?_
  funext a
  fin_cases a <;> refine Fin.ext ?_ <;> blk_simp [h6] <;> first | (show (t.val * 32 - 1) * 8 + 7 = 256 * t.val - 1; omega) | rfl | (show 9216 + k.val = 9216 + k.val; omega)

theorem blk_7 (t : Fin cfg0.N) (h0 : t.val ≠ 0)  (k : Fin 512) :
    (X0_7 m c t : S8x512.Idx → EReal) (ix2 7 k) = (args m c).p (256 * t.val - 1) (10240 + k.val) := by
  have ht := lt_points t
  obtain ⟨h6, h7, -⟩ := index_halo t
  unfold args Arg.ofArrays X0_7 Window.fill
  refine (dif_pos (moved0_7 t _)).trans (.trans ?_ (dif_pos ⟨by omega, by omega⟩).symm)
  unfold iblk
  show (V m c main_arg0 : S16384x13056.Idx → EReal) (((cfg0.win 7).blk t).view.emb _) = _
  entry_read
  refine congrArg (m ((c.tc : Thread nD τ).loc main_arg0) : S16384x13056.Idx → EReal) ?_
  funext a
  fin_cases a <;> refine Fin.ext ?_ <;> blk_simp [h7] <;> first | (show (t.val * 32 - 1) * 8 + 7 = 256 * t.val - 1; omega) | rfl | (show 10240 + k.val = 10240 + k.val; omega)

theorem blk_8 (t : Fin cfg0.N) (h0 : t.val ≠ 63)  (k : Fin 512) :
    (X0_8 m c t : S8x512.Idx → EReal) (ix2 0 k) = (args m c).p (256 * t.val + 256) (9216 + k.val) := by
  have ht := lt_points t
  obtain ⟨h8, h9⟩ := (index_halo t).2.2 h0
  unfold args Arg.ofArrays X0_8 Window.fill
  refine (dif_pos (moved0_8 t _)).trans (.trans ?_ (dif_pos ⟨by omega, by omega⟩).symm)
  unfold iblk
  show (V m c main_arg0 : S16384x13056.Idx → EReal) (((cfg0.win 8).blk t).view.emb _) = _
  entry_read
  refine congrArg (m ((c.tc : Thread nD τ).loc main_arg0) : S16384x13056.Idx → EReal) ?_
  funext a
  fin_cases a <;> refine Fin.ext ?_ <;> blk_simp [h8] <;> first | (show (t.val * 32 + 32) * 8 + 0 = 256 * t.val + 256; omega) | rfl | (show 9216 + k.val = 9216 + k.val; omega)

theorem blk_9 (t : Fin cfg0.N) (h0 : t.val ≠ 63)  (k : Fin 512) :
    (X0_9 m c t : S8x512.Idx → EReal) (ix2 0 k) = (args m c).p (256 * t.val + 256) (10240 + k.val) := by
  have ht := lt_points t
  obtain ⟨h8, h9⟩ := (index_halo t).2.2 h0
  unfold args Arg.ofArrays X0_9 Window.fill
  refine (dif_pos (moved0_9 t _)).trans (.trans ?_ (dif_pos ⟨by omega, by omega⟩).symm)
  unfold iblk
  show (V m c main_arg0 : S16384x13056.Idx → EReal) (((cfg0.win 9).blk t).view.emb _) = _
  entry_read
  refine congrArg (m ((c.tc : Thread nD τ).loc main_arg0) : S16384x13056.Idx → EReal) ?_
  funext a
  fin_cases a <;> refine Fin.ext ?_ <;> blk_simp [h9] <;> first | (show (t.val * 32 + 32) * 8 + 0 = 256 * t.val + 256; omega) | rfl | (show 10240 + k.val = 10240 + k.val; omega)

theorem blk_10 (t : Fin cfg0.N) (r : Fin 256) (k : Fin 512) :
    (iblk m c 10 t : S256x512.Idx → EReal) (ix2 r k) = (args m c).brc (256 * t.val + r.val) k := by
  have ht := lt_points t
  obtain ⟨h0, h1, h2, h3, h4, h5, h10, h11, h12, h27, h28⟩ := index_rows t
  unfold args Arg.ofArrays
  refine .trans ?_ (dif_pos (by omega)).symm
  unfold iblk
  show (V m c main_arg1 : S16384x512.Idx → EReal) (((cfg0.win 10).blk t).view.emb _) = _
  entry_read
  refine congrArg (m ((c.tc : Thread nD τ).loc main_arg1) : S16384x512.Idx → EReal) ?_
  funext a
  fin_cases a <;> refine Fin.ext ?_ <;> blk_simp [h10] <;> first | (show t.val * 256 + r.val = 256 * t.val + r.val; omega) | rfl

theorem blk_11 (t : Fin cfg0.N) (r : Fin 256) (k : Fin 512) :
    (iblk m c 11 t : S256x512.Idx → EReal) (ix2 r k) = (args m c).brd (256 * t.val + r.val) k := by
  have ht := lt_points t
  obtain ⟨h0, h1, h2, h3, h4, h5, h10, h11, h12, h27, h28⟩ := index_rows t
  unfold args Arg.ofArrays
  refine .trans ?_ (dif_pos (by omega)).symm
  unfold iblk
  show (V m c main_arg2 : S16384x512.Idx → EReal) (((cfg0.win 11).blk t).view.emb _) = _
  entry_read
  refine congrArg (m ((c.tc : Thread nD τ).loc main_arg2) : S16384x512.Idx → EReal) ?_
  funext a
  fin_cases a <;> refine Fin.ext ?_ <;> blk_simp [h11] <;> first | (show t.val * 256 + r.val = 256 * t.val + r.val; omega) | rfl

theorem blk_12 (t : Fin cfg0.N) (r : Fin 256) (k : Fin 2048) :
    (iblk m c 12 t : S256x2048.Idx → EReal) (ix2 r k) = (args m c).x (256 * t.val + r.val) k := by
  have ht := lt_points t
  obtain ⟨h0, h1, h2, h3, h4, h5, h10, h11, h12, h27, h28⟩ := index_rows t
  unfold args Arg.ofArrays
  refine .trans ?_ (dif_pos (by omega)).symm
  unfold iblk
  show (V m c main_arg3 : S16384x2048.Idx → EReal) (((cfg0.win 12).blk t).view.emb _) = _
  entry_read
  refine congrArg (m ((c.tc : Thread nD τ).loc main_arg3) : S16384x2048.Idx → EReal) ?_
  funext a
  fin_cases a <;> refine Fin.ext ?_ <;> blk_simp [h12] <;> first | (show t.val * 256 + r.val = 256 * t.val + r.val; omega) | rfl

set_option maxHeartbeats 1600000 in
/-- The windows that hold a whole array. -/
theorem whole (t : Fin cfg0.N) :
    (∀ y, (iblk m c 13 t : S8x2048.Idx → EReal) y = (V m c main_v24 : S8x2048.Idx → EReal) y)
    ∧ (∀ y, (iblk m c 14 t : S4x2048.Idx → EReal) y = (V m c main_arg7 : S4x2048.Idx → EReal) y)
    ∧ (∀ y, (iblk m c 15 t : S1x512.Idx → EReal) y = (V m c main_v0 : S1x512.Idx → EReal) y)
    ∧ (∀ y, (iblk m c 16 t : S1x512.Idx → EReal) y = (V m c main_v1 : S1x512.Idx → EReal) y)
    ∧ (∀ y, (iblk m c 17 t : S4x128x128.Idx → EReal) y = (V m c main_v2 : S4x128x128.Idx → EReal) y)
    ∧ (∀ y, (iblk m c 18 t : S128x512.Idx → EReal) y = (V m c main_v5 : S128x512.Idx → EReal) y)
    ∧ (∀ y, (iblk m c 19 t : S3x512.Idx → EReal) y = (V m c main_arg12 : S3x512.Idx → EReal) y)
    ∧ (∀ y, (iblk m c 20 t : S1x512.Idx → EReal) y = (V m c main_v6 : S1x512.Idx → EReal) y)
    ∧ (∀ y, (iblk m c 21 t : S4x512x2048.Idx → EReal) y = (V m c main_v7 : S4x512x2048.Idx → EReal) y)
    ∧ (∀ y, (iblk m c 22 t : S2048x2048.Idx → EReal) y = (V m c main_v8 : S2048x2048.Idx → EReal) y)
    ∧ (∀ y, (iblk m c 23 t : S1x2048.Idx → EReal) y = (V m c main_v9 : S1x2048.Idx → EReal) y)
    ∧ (∀ y, (iblk m c 24 t : S1x2048.Idx → EReal) y = (V m c main_v10 : S1x2048.Idx → EReal) y) := by
  obtain ⟨h13, h14, h15, h16, h17, h18, h19, h20, h21, h22, h23, h24⟩ := index_whole t
  unfold iblk
  refine ⟨fun y => congrArg (V m c main_v24 : S8x2048.Idx → EReal) (?_ : (((cfg0.win 13).blk t).view.emb y) = y), fun y => congrArg (V m c main_arg7 : S4x2048.Idx → EReal) (?_ : (((cfg0.win 14).blk t).view.emb y) = y), fun y => congrArg (V m c main_v0 : S1x512.Idx → EReal) (?_ : (((cfg0.win 15).blk t).view.emb y) = y), fun y => congrArg (V m c main_v1 : S1x512.Idx → EReal) (?_ : (((cfg0.win 16).blk t).view.emb y) = y), fun y => congrArg (V m c main_v2 : S4x128x128.Idx → EReal) (?_ : (((cfg0.win 17).blk t).view.emb y) = y), fun y => congrArg (V m c main_v5 : S128x512.Idx → EReal) (?_ : (((cfg0.win 18).blk t).view.emb y) = y), fun y => congrArg (V m c main_arg12 : S3x512.Idx → EReal) (?_ : (((cfg0.win 19).blk t).view.emb y) = y), fun y => congrArg (V m c main_v6 : S1x512.Idx → EReal) (?_ : (((cfg0.win 20).blk t).view.emb y) = y), fun y => congrArg (V m c main_v7 : S4x512x2048.Idx → EReal) (?_ : (((cfg0.win 21).blk t).view.emb y) = y), fun y => congrArg (V m c main_v8 : S2048x2048.Idx → EReal) (?_ : (((cfg0.win 22).blk t).view.emb y) = y), fun y => congrArg (V m c main_v9 : S1x2048.Idx → EReal) (?_ : (((cfg0.win 23).blk t).view.emb y) = y), fun y => congrArg (V m c main_v10 : S1x2048.Idx → EReal) (?_ : (((cfg0.win 24).blk t).view.emb y) = y)⟩
  all_goals
    funext a
    fin_cases a <;> refine Fin.ext ?_ <;> blk_simp [h13, h14, h15, h16, h17, h18, h19, h20, h21, h22, h23, h24] <;> rfl

set_option maxHeartbeats 1600000 in
/-- The weights the host prepares, at an index. -/
theorem host_all :
    (∀ (k : Fin 512), (V m c main_v0 : S1x512.Idx → EReal) (ix2 0 k) = (args m c).alg k)
    ∧ (∀ (k : Fin 512), (V m c main_v1 : S1x512.Idx → EReal) (ix2 0 k) = (args m c).alb k)
    ∧ (∀ (g : Fin 4) (s q : Fin 128), (V m c main_v2 : S4x128x128.Idx → EReal) (ix3 g s q) = (args m c).ws g s q)
    ∧ (∀ (s : Fin 128) (k : Fin 512), (V m c main_v5 : S128x512.Idx → EReal) (ix2 s k) = (args m c).bs ⟨k.val / 128, by omega⟩ s)
    ∧ (∀ (k : Fin 512), (V m c main_v6 : S1x512.Idx → EReal) (ix2 0 k) = (args m c).cb k)
    ∧ (∀ (g : Fin 4) (k : Fin 512) (q : Fin 2048), (V m c main_v7 : S4x512x2048.Idx → EReal) (ix3 g k q) = (args m c).wbr g k q)
    ∧ (∀ (q k : Fin 2048), (V m c main_v8 : S2048x2048.Idx → EReal) (ix2 q k) = (args m c).wout q k)
    ∧ (∀ (k : Fin 2048), (V m c main_v9 : S1x2048.Idx → EReal) (ix2 0 k) = (args m c).l1g k)
    ∧ (∀ (k : Fin 2048), (V m c main_v10 : S1x2048.Idx → EReal) (ix2 0 k) = (args m c).l1b k) := by
  refine ⟨fun k => ?_, fun k => ?_, fun g s q => ?_, fun s k => ?_, fun k => ?_, fun g k q => ?_, fun q k => ?_, fun k => ?_, fun k => ?_⟩
  all_goals
    unfold V
    simp only [hostOps0, hostOps0_1, hostOps0_2, hostOps0_3, hostOps0_4, List.flatten_cons, List.flatten_nil, List.append_nil, List.cons_append, List.nil_append]
    after_results_simp
    unfold args Arg.ofArrays
    pointwise

/-- The three vectors the host stacks. -/
theorem host_v24 (k : Fin 2048) :
    (V m c main_v24 : S8x2048.Idx → EReal) (ix2 0 k) = (args m c).g1 k ∧ (V m c main_v24 : S8x2048.Idx → EReal) (ix2 1 k) = (args m c).sc2 k
    ∧ (V m c main_v24 : S8x2048.Idx → EReal) (ix2 2 k) = (args m c).sh2 k := by
  have a (q : Fin 8) : (V m c main_v24 : S8x2048.Idx → EReal) (ix2 q k) =
      if q = 2 then (args m c).sh2 k else if q = 1 then (args m c).sc2 k else if q = 0 then (args m c).g1 k else Ideal.ofBits FTy.f32 0#32 := by
    unfold V
    simp only [hostOps0, hostOps0_1, hostOps0_2, hostOps0_3, hostOps0_4, List.flatten_cons, List.flatten_nil, List.append_nil, List.cons_append, List.nil_append]
    after_results_simp
    unfold args Arg.ofArrays
    refine (scatter_row _ _ _ 2 (by decide) q k).trans (if_congr Iff.rfl ?_ ?_)
    · pointwise
    refine (scatter_row _ _ _ 1 (by decide) q k).trans (if_congr Iff.rfl ?_ ?_)
    · pointwise
    refine (scatter_row _ _ _ 0 (by decide) q k).trans (if_congr Iff.rfl ?_ ?_)
    · pointwise
    · pointwise
  exact ⟨a 0, a 1, a 2⟩

set_option maxHeartbeats 3200000 in
/-- The kernel's blocks at a point are the arguments' rows there. -/
theorem fits (t : Fin cfg0.N) : Fits (args m c) (grid0.coords t) (Cert.MergeKernelIdeal.Keep.ops m c t) := by
  have e := coord t
  have w : ((Cert.MergeKernelIdeal.Keep.ops m c t).x14 : S8x2048.Idx → EReal) = iblk m c 13 t := by dsimp only [Cert.MergeKernelIdeal.Keep.ops]
  obtain ⟨w13, w14, w15, w16, w17, w18, w19, w20, w21, w22, w23, w24⟩ := whole m c t
  obtain ⟨v0, v1, v2, v5, v6, v7, v8, v9, v10⟩ := host_all m c
  exact {
    h1 := fun r k => by rw [e]; exact blk_0 m c t r k
    h2 := fun r k => by rw [e]; exact blk_1 m c t r k
    h3 := fun r k => by rw [e]; exact blk_2 m c t r k
    h4 := fun r k => by rw [e]; exact blk_3 m c t r k
    h5 := fun r k => by rw [e]; exact blk_4 m c t r k
    h6 := fun r k => by rw [e]; exact blk_5 m c t r k
    h7 := fun h k => by rw [e] at h ⊢; exact blk_6 m c t h k
    h8 := fun h k => by rw [e] at h ⊢; exact blk_7 m c t h k
    h9 := fun h k => by rw [e] at h ⊢; exact blk_8 m c t h k
    h10 := fun h k => by rw [e] at h ⊢; exact blk_9 m c t h k
    h11 := fun r k => by rw [e]; exact blk_10 m c t r k
    h12 := fun r k => by rw [e]; exact blk_11 m c t r k
    h13 := fun r k => by rw [e]; exact blk_12 m c t r k
    h14 := fun k => (congrFun w _).trans ((w13 _).trans (host_v24 m c k).1)
    h14' := fun k => (congrFun w _).trans ((w13 _).trans (host_v24 m c k).2.1)
    h14'' := fun k => (congrFun w _).trans ((w13 _).trans (host_v24 m c k).2.2)
    h15 := fun g k => (w14 _).trans (congrFun (V_main_arg7 m c) _)
    h16 := fun k => (w15 _).trans (v0 k)
    h17 := fun k => (w16 _).trans (v1 k)
    h18 := fun g s q => (w17 _).trans (v2 g s q)
    h19 := fun s k => (w18 _).trans (v5 s k)
    h20 := fun j k => (w19 _).trans (congrFun (V_main_arg12 m c) _)
    h21 := fun k => (w20 _).trans (v6 k)
    h22 := fun g k q => (w21 _).trans (v7 g k q)
    h23 := fun q k => (w22 _).trans (v8 q k)
    h24 := fun k => (w23 _).trans (v9 k)
    h25 := fun k => (w24 _).trans (v10 k) }

end Cert.Merge

end

end
-- ==== Proof.Merge.Second.lean ====
/- The second result's block: the rows' sixteen slabs of columns, one row apart. -/
module

public import proofs.«01_k».proof.Proof.Merge.Stage
public import Idealize.ShloMosaic.Lib.Pipeline.ValueKit

@[expose] public section

set_option maxRecDepth 16384

noncomputable section

namespace Cert.Merge

open Idealize.ShloMosaic Idealize.ShloMosaic.TcCoe Idealize.ShloMosaic.Tactic
open Cert.MergeKernelIdeal Cert.MergeKernelIdeal.Gen Cert.MergeKernelIdeal.Out

/-- A block of 256 rows of 2048 columns, laid out in rows of 128. -/
def laid (v : S256x2048.Idx → EReal) : S4096x128.Idx → EReal := fun y =>
  v (ix2 ⟨(y 0).val / 16, by have : (y 0).val < 4096 := (y 0).isLt; omega⟩
    ⟨(y 0).val % 16 * 128 + (y 1).val, by have : (y 1).val < 128 := (y 1).isLt; omega⟩)

/-- One slab of columns lies where the layout says. -/
theorem slab_laid (v : S256x2048.Idx → EReal) (j : ℕ) (hj : j < 16) (sl : S256x2048.Slices ![0, 128 * j] S256x128)
    (inb : ∀ a : Fin 2, S256x128.size a = 0 ∨ (![j, 0] : Fin 2 → ℕ) a + (![16, 1] : Fin 2 → ℕ) a * (S256x128.size a - 1) < S4096x128.size a)
    (pos : ∀ a : Fin 2, 0 < (![16, 1] : Fin 2 → ℕ) a) (x : S256x128.Idx) :
    extractStridedSlice S256x128 ![0, 128 * j] v sl x =
      laid v ((⟨(⟨![j, 0], S256x128.size, ![16, 1], inb⟩ : LoadRect S4096x128), pos⟩ : Rect S4096x128).emb x) := by
  have x0 : (x 0).val < 256 := (x 0).isLt
  have x1 : (x 1).val < 128 := (x 1).isLt
  unfold extractStridedSlice laid
  refine congrArg v ?_
  funext a
  match a with
  | ⟨0, _⟩ => exact Fin.ext (show 0 + (x 0).val = (j + 16 * (x 0).val) / 16 by omega)
  | ⟨1, _⟩ => exact Fin.ext (show 128 * j + (x 1).val = (j + 16 * (x 0).val) % 16 * 128 + (0 + 1 * (x 1).val) by omega)

/-- The second result's block is its rows, laid out. -/
theorem h2Out_laid (i : grid0.Coords) (o : Ops Ideal) : (h2Out i o : S4096x128.Idx → EReal) = laid (v246 i o) := by
  funext y
  unfold h2Out
  refine View.canon_apply_of_pieces (Val := Elt Ideal) (laid (v246 i o)) _ ?_ y (h2_cover _ _ _ _ _ _ _ _ _ _ _ _ _ _ _ _ y)
  unfold pieces
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · exact slab_laid (v246 i o) 15 (by decide) slices_S256x2048_o0_1920_S256x128 inb_S4096x128_S256x128_15_0_s_16_1 spos_16_1 x
  · exact slab_laid (v246 i o) 14 (by decide) slices_S256x2048_o0_1792_S256x128 inb_S4096x128_S256x128_14_0_s_16_1 spos_16_1 x
  · exact slab_laid (v246 i o) 13 (by decide) slices_S256x2048_o0_1664_S256x128 inb_S4096x128_S256x128_13_0_s_16_1 spos_16_1 x
  · exact slab_laid (v246 i o) 12 (by decide) slices_S256x2048_o0_1536_S256x128 inb_S4096x128_S256x128_12_0_s_16_1 spos_16_1 x
  · exact slab_laid (v246 i o) 11 (by decide) slices_S256x2048_o0_1408_S256x128 inb_S4096x128_S256x128_11_0_s_16_1 spos_16_1 x
  · exact slab_laid (v246 i o) 10 (by decide) slices_S256x2048_o0_1280_S256x128 inb_S4096x128_S256x128_10_0_s_16_1 spos_16_1 x
  · exact slab_laid (v246 i o) 9 (by decide) slices_S256x2048_o0_1152_S256x128 inb_S4096x128_S256x128_9_0_s_16_1 spos_16_1 x
  · exact slab_laid (v246 i o) 8 (by decide) slices_S256x2048_o0_1024_S256x128 inb_S4096x128_S256x128_8_0_s_16_1 spos_16_1 x
  · exact slab_laid (v246 i o) 7 (by decide) slices_S256x2048_o0_896_S256x128 inb_S4096x128_S256x128_7_0_s_16_1 spos_16_1 x
  · exact slab_laid (v246 i o) 6 (by decide) slices_S256x2048_o0_768_S256x128 inb_S4096x128_S256x128_6_0_s_16_1 spos_16_1 x
  · exact slab_laid (v246 i o) 5 (by decide) slices_S256x2048_o0_640_S256x128 inb_S4096x128_S256x128_5_0_s_16_1 spos_16_1 x
  · exact slab_laid (v246 i o) 4 (by decide) slices_S256x2048_o0_512_S256x128 inb_S4096x128_S256x128_4_0_s_16_1 spos_16_1 x
  · exact slab_laid (v246 i o) 3 (by decide) slices_S256x2048_o0_384_S256x128 inb_S4096x128_S256x128_3_0_s_16_1 spos_16_1 x
  · exact slab_laid (v246 i o) 2 (by decide) slices_S256x2048_o0_256_S256x128 inb_S4096x128_S256x128_2_0_s_16_1 spos_16_1 x
  · exact slab_laid (v246 i o) 1 (by decide) slices_S256x2048_o0_128_S256x128 inb_S4096x128_S256x128_1_0_s_16_1 spos_16_1 x
  · exact slab_laid (v246 i o) 0 (by decide) slices_S256x2048_o0_0_S256x128 inb_S4096x128_S256x128_0_0_s_16_1 spos_16_1 x

variable {A : Arg} {i : grid0.Coords} {o : Ops Ideal} (H : Fits A i o)
include H

/-- The second result's block. -/
theorem h2Out_eq (r : Fin 4096) (k : Fin 128) : (h2Out i o : S4096x128.Idx → EReal) (ix2 r k) =
    A.hid (256 * (i 0).val + r.val / 16) ⟨r.val % 16 * 128 + k.val, by omega⟩ := by
  rw [h2Out_laid]
  exact v246_eq H _ _

end Cert.Merge

end

end
-- ==== Proof.Merge.Array.lean ====
/- The arrays the merging kernel leaves. -/
module

public import proofs.«01_k».proof.Proof.Merge.Blocks
public import proofs.«01_k».proof.Proof.Merge.Second

@[expose] public section

set_option maxRecDepth 16384

noncomputable section

namespace Cert.Merge

open Idealize.ShloMosaic Idealize.ShloMosaic.TcCoe Idealize.ShloMosaic.Tactic Idealize.ShloMosaic.Pipeline
open Cert.MergeKernelIdeal Cert.MergeKernelIdeal.Gen Cert.MergeKernelIdeal.Out

variable (m : (ℓ : Loc nD τ sig) → Buf (Elt Ideal) ℓ) (c : Dev nD)

/-- The first result's array at the end. -/
theorem first_array : (Keep.dats m 0 c).arrAt 27 (cfgs (0 : Fin 1)).N = (args m c).first := by
  refine (Keep.dats m 0 c).arrAt_eq_of_covers 27 _ (by decide +kernel) fun t hf y => ?_
  obtain ⟨h0, h1, h2, h3, h4, h5, h10, h11, h12, h27, h28⟩ := index_rows t
  have ht := lt_points t
  have y0 : (y 0).val < 256 := (y 0).isLt
  have y1 : (y 1).val < 2048 := (y 1).isLt
  have e0 : ((((cfg0.win 27).blk t).view.emb y) 0).val = t.val * 256 + (y 0).val := by blk_simp [h27]
  have e1 : ((((cfg0.win 27).blk t).view.emb y) 1).val = (y 1).val := by blk_simp [h27]
  blk_simp [h27]
  rw [Keep.after0_27]
  refine (congrArg (x1Out (grid0.coords t) (Keep.ops m c t) : S256x2048.Idx → EReal) (?_ : y = ix2 ⟨(y 0).val, y0⟩ ⟨(y 1).val, y1⟩)).trans
    ((x1Out_eq (fits m c t) _ _).trans ?_)
  · funext a
    fin_cases a <;> rfl
  · unfold Arg.first
    refine congrArg₂ (args m c).out ?_ (Fin.ext e1.symm)
    rw [coord t]
    refine Eq.trans ?_ e0.symm
    show 256 * t.val + (y 0).val = _
    omega

/-- The second result's array at the end. -/
theorem second_array : (Keep.dats m 0 c).arrAt 28 (cfgs (0 : Fin 1)).N = (args m c).second := by
  refine (Keep.dats m 0 c).arrAt_eq_of_covers 28 _ (by decide +kernel) fun t hf y => ?_
  obtain ⟨h0, h1, h2, h3, h4, h5, h10, h11, h12, h27, h28⟩ := index_rows t
  have ht := lt_points t
  have y0 : (y 0).val < 4096 := (y 0).isLt
  have y1 : (y 1).val < 128 := (y 1).isLt
  have e0 : ((((cfg0.win 28).blk t).view.emb y) 0).val = t.val * 4096 + (y 0).val := by blk_simp [h28]
  have e1 : ((((cfg0.win 28).blk t).view.emb y) 1).val = (y 1).val := by blk_simp [h28]
  blk_simp [h28]
  rw [Keep.after0_28]
  refine (congrArg (h2Out (grid0.coords t) (Keep.ops m c t) : S4096x128.Idx → EReal) (?_ : y = ix2 ⟨(y 0).val, y0⟩ ⟨(y 1).val, y1⟩)).trans
    ((h2Out_eq (fits m c t) _ _).trans ?_)
  · funext a
    fin_cases a <;> rfl
  · unfold Arg.second
    refine congrArg₂ (args m c).hid ?_ (Fin.ext ?_)
    · rw [coord t]
      refine Eq.trans ?_ (congrArg (· / 16) e0.symm)
      show 256 * t.val + (y 0).val / 16 = (t.val * 4096 + (y 0).val) / 16
      omega
    · refine Eq.trans ?_ (congrArg₂ (fun a b => a % 16 * 128 + b) e0 e1).symm
      show (y 0).val % 16 * 128 + (y 1).val = (t.val * 4096 + (y 0).val) % 16 * 128 + (y 1).val
      omega

end Cert.Merge

end

end
-- ==== Proof.Merge.RefRead.lean ====
/- The reference's results at an index. -/
module

public import proofs.«01_k».proof.Proof.Gen.MergeReferenceIdeal.Run
public import proofs.«01_k».proof.Proof.Merge.Spec
public import Idealize.ShloMosaic.Lib.Pipeline.ValueKit

@[expose] public section

set_option maxRecDepth 16384

noncomputable section

namespace Cert.Merge.Ref

open Cert.MergeReferenceIdeal Cert.MergeReferenceIdeal.Gen Cert.MergeReferenceIdeal.Value
open Idealize.ShloMosaic Idealize.ShloMosaic.TcCoe Idealize.ShloMosaic.Tactic Idealize.ShloMosaic.Host
open Cert.Merge

section defs
variable {F : FTy → Type} [FloatOps F] (V0 : Valuation τ sig (Elt F))

/-- The normalised second input of the chunk MLP, -/
def nrm : FVec F S16384x512 .f32 :=
  addf (mulf (mulf (subf (res_main_v33 V0) (broadcastInDim S16384x512 ![0, 1] bcast_S16384x1_S16384x512_0_1 (res_main_v37 V0))) (broadcastInDim S16384x512 ![0, 1] bcast_S16384x1_S16384x512_0_1 (Host.rsqrt (addf (Host.divf (broadcastInDim S16384x1 ![0] bcast_S16384_S16384x1_0 (Host.reduceAdd (mulf (res_main_v39 V0) (res_main_v39 V0)) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x3727C5AC#32)))))) (broadcastInDim S16384x512 ![0, 1] bcast_S1x512_S16384x512_0_1 (broadcastInDim S1x512 ![1] bcast_S512_S1x512_1 (V0 (Proc.devRef .tc main_arg8))))) (broadcastInDim S16384x512 ![0, 1] bcast_S1x512_S16384x512_0_1 (broadcastInDim S1x512 ![1] bcast_S512_S1x512_1 (V0 (Proc.devRef .tc main_arg9))))

/-- mixed in its chunks, -/
def mix : FVec F S128x128x4x128 .f32 :=
  addf (transpose S128x128x4x128 [1, 3, 0, 2] (Host.dotGeneral dot_S128x128x4x128_S4x128x128_S4x128x128x128_1_2_03_1_2_0 none (shapeCast _ (nrm V0) shapeCasts_S16384x512_S128x128x4x128) (V0 (Proc.devRef .tc main_arg10))) transposes_S4x128x128x128_S128x128x4x128_1_3_0_2) (broadcastInDim S128x128x4x128 ![0, 1, 2, 3] bcast_S1x128x4x1_S128x128x4x128_0_1_2_3 (broadcastInDim S1x128x4x1 ![1, 2] bcast_S128x4_S1x128x4x1_1_2 (transpose S128x4 [1, 0] (V0 (Proc.devRef .tc main_arg11)) transposes_S4x128_S128x4_1_0)))

/-- the first branch, -/
def bra : FVec F S16384x512 .f32 :=
  mulf (mulf (res_main_v3 V0) (mulf (broadcastInDim S16384x512 ![] bcast_S_S16384x512 (constant S_ .f32 0x3F000000#32)) (addf (broadcastInDim S16384x512 ![] bcast_S_S16384x512 (constant S_ .f32 0x3F800000#32)) (Host.tanh (mulf (broadcastInDim S16384x512 ![] bcast_S_S16384x512 (constant S_ .f32 0x3F4C422A#32)) (addf (res_main_v3 V0) (mulf (broadcastInDim S16384x512 ![] bcast_S_S16384x512 (constant S_ .f32 0x3D372713#32)) (mulf (mulf (res_main_v3 V0) (res_main_v3 V0)) (res_main_v3 V0))))))))) (shapeCast _ (mix V0) shapeCasts_S128x128x4x128_S16384x512)

/-- the second, -/
def brb : FVec F S16384x512 .f32 :=
  mulf (extractStridedSlice S16384x512 ![0, 1536] (res_main_v2 V0) slices_S16384x2560_S16384x512_0_1536) (addf (addf (addf (mulf (broadcastInDim S16384x512 ![0, 1] bcast_S1x512_S16384x512_0_1 (broadcastInDim S1x512 ![1] bcast_S512_S1x512_1 (shapeCast _ (extractStridedSlice S1x512 ![0, 0] (V0 (Proc.devRef .tc main_arg12)) slices_S3x512_S1x512_0_0) shapeCasts_S1x512_S512))) (extractStridedSlice S16384x512 ![0, 0] (res_main_v68 V0) slices_S16386x512_S16384x512_0_0)) (mulf (broadcastInDim S16384x512 ![0, 1] bcast_S1x512_S16384x512_0_1 (broadcastInDim S1x512 ![1] bcast_S512_S1x512_1 (shapeCast _ (extractStridedSlice S1x512 ![1, 0] (V0 (Proc.devRef .tc main_arg12)) slices_S3x512_S1x512_1_0) shapeCasts_S1x512_S512))) (extractStridedSlice S16384x512 ![1, 0] (res_main_v68 V0) slices_S16386x512_S16384x512_1_0))) (mulf (broadcastInDim S16384x512 ![0, 1] bcast_S1x512_S16384x512_0_1 (broadcastInDim S1x512 ![1] bcast_S512_S1x512_1 (shapeCast _ (extractStridedSlice S1x512 ![2, 0] (V0 (Proc.devRef .tc main_arg12)) slices_S3x512_S1x512_2_0) shapeCasts_S1x512_S512))) (extractStridedSlice S16384x512 ![2, 0] (res_main_v68 V0) slices_S16386x512_S16384x512_2_0))) (broadcastInDim S16384x512 ![0, 1] bcast_S1x512_S16384x512_0_1 (broadcastInDim S1x512 ![1] bcast_S512_S1x512_1 (V0 (Proc.devRef .tc main_arg13)))))

/-- the four of them merged, -/
def mrg : FVec F S16384x2048 .f32 :=
  addf (addf (res_main_v117 V0) (mulf (shapeCast _ (extractStridedSlice S16384x1x2048 ![0, 2, 0] (res_main_v104 V0) slices_S16384x4x2048_S16384x1x2048_0_2_0) shapeCasts_S16384x1x2048_S16384x2048) (Host.dotGeneral dot_S16384x512_S512x2048_S16384x2048_1_0_0_1_n_n none (extf .f32 (V0 (Proc.devRef .tc main_arg1)) bitsLt_bf16_f32) (shapeCast _ (extractStridedSlice S1x512x2048 ![2, 0, 0] (V0 (Proc.devRef .tc main_arg14)) slices_S4x512x2048_S1x512x2048_2_0_0) shapeCasts_S1x512x2048_S512x2048)))) (mulf (shapeCast _ (extractStridedSlice S16384x1x2048 ![0, 3, 0] (res_main_v104 V0) slices_S16384x4x2048_S16384x1x2048_0_3_0) shapeCasts_S16384x1x2048_S16384x2048) (Host.dotGeneral dot_S16384x512_S512x2048_S16384x2048_1_0_0_1_n_n none (extf .f32 (V0 (Proc.devRef .tc main_arg2)) bitsLt_bf16_f32) (shapeCast _ (extractStridedSlice S1x512x2048 ![3, 0, 0] (V0 (Proc.devRef .tc main_arg14)) slices_S4x512x2048_S1x512x2048_3_0_0) shapeCasts_S1x512x2048_S512x2048)))

/-- the first result, -/
def fst : FVec F S16384x2048 .f32 :=
  addf (mulf (mulf (subf (res_main_v137 V0) (broadcastInDim S16384x2048 ![0, 1] bcast_S16384x1_S16384x2048_0_1 (res_main_v141 V0))) (broadcastInDim S16384x2048 ![0, 1] bcast_S16384x1_S16384x2048_0_1 (Host.rsqrt (addf (Host.divf (broadcastInDim S16384x1 ![0] bcast_S16384_S16384x1_0 (Host.reduceAdd (mulf (res_main_v143 V0) (res_main_v143 V0)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 (V0 (Proc.devRef .tc main_arg16))))) (broadcastInDim S16384x2048 ![0, 1] bcast_S1x2048_S16384x2048_0_1 (broadcastInDim S1x2048 ![1] bcast_S2048_S1x2048_1 (V0 (Proc.devRef .tc main_arg17))))

/-- and the second, before its rows are cut in sixteen parts. -/
def snd : FVec F S16384x2048 .f32 :=
  addf (mulf (fst V0) (broadcastInDim S16384x2048 ![0, 1] bcast_S1x2048_S16384x2048_0_1 (addf (broadcastInDim S1x2048 ![] bcast_S_S1x2048 (constant S_ .f32 0x3F800000#32)) (V0 (Proc.devRef .tc main_arg5))))) (broadcastInDim S16384x2048 ![0, 1] bcast_S1x2048_S16384x2048_0_1 (V0 (Proc.devRef .tc main_arg6)))

theorem res117_eq : res_main_v117 V0 = addf (mulf (shapeCast _ (extractStridedSlice S16384x1x2048 ![0, 0, 0] (res_main_v104 V0) slices_S16384x4x2048_S16384x1x2048_0_0_0) shapeCasts_S16384x1x2048_S16384x2048) (Host.dotGeneral dot_S16384x512_S512x2048_S16384x2048_1_0_0_1_n_n none (bra V0) (shapeCast _ (extractStridedSlice S1x512x2048 ![0, 0, 0] (V0 (Proc.devRef .tc main_arg14)) slices_S4x512x2048_S1x512x2048_0_0_0) shapeCasts_S1x512x2048_S512x2048))) (mulf (shapeCast _ (extractStridedSlice S16384x1x2048 ![0, 1, 0] (res_main_v104 V0) slices_S16384x4x2048_S16384x1x2048_0_1_0) shapeCasts_S16384x1x2048_S16384x2048) (Host.dotGeneral dot_S16384x512_S512x2048_S16384x2048_1_0_0_1_n_n none (brb V0) (shapeCast _ (extractStridedSlice S1x512x2048 ![1, 0, 0] (V0 (Proc.devRef .tc main_arg14)) slices_S4x512x2048_S1x512x2048_1_0_0) shapeCasts_S1x512x2048_S512x2048))) := rfl

end defs

variable (V0 : Valuation τ sig (Elt Ideal))

/-- The arguments. -/
def args : Arg :=
  Arg.ofArrays (V0 (Proc.devRef .tc main_arg0))
    (V0 (Proc.devRef .tc main_arg1))
    (V0 (Proc.devRef .tc main_arg2))
    (V0 (Proc.devRef .tc main_arg3))
    (V0 (Proc.devRef .tc main_arg4))
    (V0 (Proc.devRef .tc main_arg5))
    (V0 (Proc.devRef .tc main_arg6))
    (V0 (Proc.devRef .tc main_arg7))
    (V0 (Proc.devRef .tc main_arg8))
    (V0 (Proc.devRef .tc main_arg9))
    (V0 (Proc.devRef .tc main_arg10))
    (V0 (Proc.devRef .tc main_arg11))
    (V0 (Proc.devRef .tc main_arg12))
    (V0 (Proc.devRef .tc main_arg13))
    (V0 (Proc.devRef .tc main_arg14))
    (V0 (Proc.devRef .tc main_arg15))
    (V0 (Proc.devRef .tc main_arg16))
    (V0 (Proc.devRef .tc main_arg17))

theorem gelu_left (v : EReal) : v * (Ideal.ofBits FTy.f32 1056964608#32 *
    (1 + Ideal.tanh (Ideal.ofBits FTy.f32 1061962282#32 * (v + Ideal.ofBits FTy.f32 1027024659#32 * (v * v * v))))) = gelu v := by
  unfold gelu
  rw [mul_assoc v v v]

theorem v0_apply (n : Fin 16384) (j : Fin 13056) : (res_main_v0 V0 : S16384x13056.Idx → EReal) (ix2 n j) = (args V0).p n.val j.val := by
  unfold res_main_v0 args Arg.ofArrays
  refine .trans ?_ (dif_pos ⟨n.isLt, j.isLt⟩).symm
  pointwise

theorem v2_apply (n : Fin 16384) (j : Fin 2560) : (res_main_v2 V0 : S16384x2560.Idx → EReal) (ix2 n j) = (args V0).p n.val (8192 + j.val) := by
  have a := v0_apply V0
  unfold res_main_v2
  generalize res_main_v0 V0 = u at *
  pointwise
  exact a _ _

theorem v3_apply (n : Fin 16384) (k : Fin 512) : (res_main_v3 V0 : S16384x512.Idx → EReal) (ix2 n k) = (args V0).p n.val (8192 + k.val) := by
  have a := v2_apply V0
  unfold res_main_v3
  generalize res_main_v2 V0 = u at *
  pointwise
  exact (a _ _).trans (congrArg ((args V0).p n.val) (by simp))

theorem v4_apply (n : Fin 16384) (k : Fin 512) : (res_main_v4 V0 : S16384x512.Idx → EReal) (ix2 n k) = (args V0).p n.val (8704 + k.val) := by
  have a := v2_apply V0
  unfold res_main_v4
  generalize res_main_v2 V0 = u at *
  pointwise
  exact (a _ _).trans (congrArg ((args V0).p n.val) (show 8192 + (512 + k.val) = 8704 + k.val by omega))

theorem v33_apply (n : Fin 16384) (k : Fin 512) : (res_main_v33 V0 : S16384x512.Idx → EReal) (ix2 n k) = gelu ((args V0).p n.val (8704 + k.val)) := by
  have a := v4_apply V0
  unfold res_main_v33
  generalize res_main_v4 V0 = u at *
  pointwise
  simp only [a]
  exact gelu_left _

theorem v39_apply (n : Fin 16384) (k : Fin 512) : (res_main_v39 V0 : S16384x512.Idx → EReal) (ix2 n k) =
    dev (Ideal.ofBits FTy.f32 1140850688#32) (fun k => gelu ((args V0).p n.val (8704 + k.val))) k := by
  have a := v33_apply V0
  unfold res_main_v39 res_main_v37 dev
  generalize res_main_v33 V0 = u at *
  pointwise
  simp only [a]

theorem nrm_apply (n : Fin 16384) (k : Fin 512) : (nrm V0 : S16384x512.Idx → EReal) (ix2 n k) = (args V0).vn n.val k := by
  have b := v39_apply V0
  have e : nrm V0 = _ := rfl
  unfold nrm
  change (addf (mulf (mulf (res_main_v39 V0) _) _) _ : S16384x512.Idx → EReal) _ = _
  unfold Arg.vn norm
  generalize res_main_v39 V0 = u at *
  pointwise
  simp only [b]
  rfl

theorem mix_apply (c s : Fin 128) (g : Fin 4) (k : Fin 128) : (mix V0 : S128x128x4x128.Idx → EReal) (ix4 c s g k) =
    (args V0).mixed (128 * c.val + s.val) ⟨128 * g.val + k.val, by omega⟩ := by
  have a := nrm_apply V0
  unfold mix Arg.mixed
  generalize nrm V0 = u at *
  pointwise
  simp only [a]
  have e1 : (⟨(128 * g.val + k.val) / 128, by omega⟩ : Fin 4) = g := Fin.ext (show (128 * g.val + k.val) / 128 = g.val by omega)
  have e2 : (⟨(128 * c.val + s.val) % 128, Nat.mod_lt _ (by norm_num)⟩ : Fin 128) = s := Fin.ext (show (128 * c.val + s.val) % 128 = s.val by omega)
  rw [e1, e2, show (128 * c.val + s.val) / 128 * 128 = c.val * 128 by omega]
  refine congrArg₂ (· + ·) (Finset.sum_congr rfl fun x _ => ?_) rfl
  refine (mul_comm _ _).trans (congrArg₂ (· * ·) rfl (congrArg _ (Fin.ext ?_)))
  show g.val * 128 + k.val = 128 * g.val + k.val
  omega

theorem bra_apply (n : Fin 16384) (k : Fin 512) : (bra V0 : S16384x512.Idx → EReal) (ix2 n k) = (args V0).bra n.val k := by
  have a := mix_apply V0; have b := v3_apply V0
  unfold bra Arg.bra
  generalize mix V0 = u at *; generalize res_main_v3 V0 = w at *
  pointwise
  simp only [a, b]
  rw [gelu_left]
  exact congrArg (gelu _ * ·) (congrArg₂ (args V0).mixed (by omega) (Fin.ext (show 128 * (k.val / 128) + k.val % 128 = k.val by omega)))

theorem pad_apply (n : Fin 16386) (k : Fin 512) : (res_main_v68 V0 : S16386x512.Idx → EReal) (ix2 n k) =
    if n.val = 0 then 0 else if n.val = 16385 then 0 else (args V0).z (n.val - 1) k := by
  have a := v2_apply V0
  unfold res_main_v68 Arg.z
  generalize res_main_v2 V0 = u at *
  pointwise
  simp only [a]
  by_cases h : n.val = 0
  · rw [if_pos h]
    exact (dif_neg (by omega)).trans (by simp [FloatOps.sitofp])
  rw [if_neg h]
  by_cases h' : n.val = 16385
  · rw [if_pos h']
    exact (dif_neg (by omega)).trans (by simp [FloatOps.sitofp])
  · rw [if_neg h']
    refine (dif_pos (by omega)).trans ?_
    rw [show 8192 + (2048 + k.val) = 10240 + k.val by omega, show 8192 + (1024 + k.val) = 9216 + k.val by omega]

theorem brb_apply (n : Fin 16384) (k : Fin 512) : (brb V0 : S16384x512.Idx → EReal) (ix2 n k) = (args V0).brb n.val k := by
  have a := pad_apply V0; have b := v2_apply V0
  unfold brb Arg.brb Arg.zp Arg.zn
  generalize res_main_v68 V0 = u at *; generalize res_main_v2 V0 = w at *
  pointwise
  simp only [a, b]
  have hn := n.isLt
  rw [show 8192 + (1536 + k.val) = 9728 + k.val by omega]
  have e0 : (if n.val = 0 then 0 else if n.val = 16385 then 0 else (args V0).z (n.val - 1) k) = if n.val = 0 then 0 else (args V0).z (n.val - 1) k :=
    if_congr Iff.rfl rfl (if_neg (by omega))
  have e1 : (if 1 + n.val = 0 then 0 else if 1 + n.val = 16385 then 0 else (args V0).z (1 + n.val - 1) k) = (args V0).z n.val k := by
    rw [if_neg (by omega), if_neg (by omega), show 1 + n.val - 1 = n.val by omega]
  have e2 : (if 2 + n.val = 0 then 0 else if 2 + n.val = 16385 then 0 else (args V0).z (2 + n.val - 1) k) =
      if n.val = 16383 then 0 else (args V0).z (n.val + 1) k := by
    rw [if_neg (by omega), show 2 + n.val - 1 = n.val + 1 by omega]
    exact if_congr (by omega) rfl rfl
  rw [e0, e1, e2]
  rfl

theorem gate_apply (n : Fin 16384) (g : Fin 4) (k : Fin 2048) : (res_main_v104 V0 : S16384x4x2048.Idx → EReal) (ix3 n g k) = (args V0).gate g n.val k := by
  have a := v0_apply V0
  unfold res_main_v104 Arg.gate Ideal.logistic
  generalize res_main_v0 V0 = u at *
  pointwise
  simp only [a]
  rw [Nat.mul_comm g.val 2048]
  rfl

theorem mrg_apply (n : Fin 16384) (k : Fin 2048) : (mrg V0 : S16384x2048.Idx → EReal) (ix2 n k) = (args V0).merged n.val k := by
  have a := bra_apply V0; have b := brb_apply V0; have d := gate_apply V0
  unfold mrg Arg.merged Arg.prod
  rw [res117_eq]
  generalize bra V0 = u at *; generalize brb V0 = v at *; generalize res_main_v104 V0 = w at *
  pointwise
  simp only [a, b, d]
  have e1 : ∀ x, (V0 (Proc.devRef .tc main_arg1) : S16384x512.Idx → EReal) (ix2 n x) = (args V0).brc n.val x := fun x => by
    unfold args Arg.ofArrays
    refine .trans ?_ (dif_pos n.isLt).symm
    rfl
  have e2 : ∀ x, (V0 (Proc.devRef .tc main_arg2) : S16384x512.Idx → EReal) (ix2 n x) = (args V0).brd n.val x := fun x => by
    unfold args Arg.ofArrays
    refine .trans ?_ (dif_pos n.isLt).symm
    rfl
  simp only [e1, e2]
  rfl

theorem v137_apply (n : Fin 16384) (k : Fin 2048) : (res_main_v137 V0 : S16384x2048.Idx → EReal) (ix2 n k) = (args V0).res n.val k := by
  have a := mrg_apply V0
  change ((addf (mulf (broadcastInDim S16384x2048 ![] bcast_S_S16384x2048 (constant S_ .f32 0x3FB504F3#32)) (V0 (Proc.devRef .tc main_arg3))) (mulf (broadcastInDim S16384x2048 ![0, 1] bcast_S1x2048_S16384x2048_0_1 (V0 (Proc.devRef .tc main_arg4))) (Host.dotGeneral dot_S16384x2048_S2048x2048_S16384x2048_1_0_0_1_n_n none (mrg V0) (V0 (Proc.devRef .tc main_arg15)))) : FVec Ideal S16384x2048 .f32) : S16384x2048.Idx → EReal) (ix2 n k) = _
  unfold Arg.res
  generalize mrg V0 = u at *
  pointwise
  simp only [a]
  have e : (V0 (Proc.devRef .tc main_arg3) : S16384x2048.Idx → EReal) (ix2 n k) = (args V0).x n.val k := by
    unfold args Arg.ofArrays
    refine .trans ?_ (dif_pos n.isLt).symm
    rfl
  rw [e]
  rfl

theorem v143_apply (n : Fin 16384) (k : Fin 2048) : (res_main_v143 V0 : S16384x2048.Idx → EReal) (ix2 n k) =
    dev (Ideal.ofBits FTy.f32 1157627904#32) ((args V0).res n.val) k := by
  have a := v137_apply V0
  unfold res_main_v143 res_main_v141 dev
  generalize res_main_v137 V0 = u at *
  pointwise
  simp only [a]

theorem fst_apply (n : Fin 16384) (k : Fin 2048) : (fst V0 : S16384x2048.Idx → EReal) (ix2 n k) = (args V0).out n.val k := by
  have b := v143_apply V0
  unfold fst
  change (addf (mulf (mulf (res_main_v143 V0) _) _) _ : S16384x2048.Idx → EReal) _ = _
  unfold Arg.out norm
  generalize res_main_v143 V0 = u at *
  pointwise
  simp only [b]
  rfl

theorem snd_apply (n : Fin 16384) (k : Fin 2048) : (snd V0 : S16384x2048.Idx → EReal) (ix2 n k) = (args V0).hid n.val k := by
  have b := fst_apply V0
  unfold snd Arg.hid
  generalize fst V0 = u at *
  pointwise
  simp only [b]
  rfl

/-- The first result. -/
theorem first_eq : (addf (mulf (mulf (subf (res_main_v137 V0) (broadcastInDim S16384x2048 ![0, 1] bcast_S16384x1_S16384x2048_0_1 (res_main_v141 V0))) (broadcastInDim S16384x2048 ![0, 1] bcast_S16384x1_S16384x2048_0_1 (Host.rsqrt (addf (Host.divf (broadcastInDim S16384x1 ![0] bcast_S16384_S16384x1_0 (Host.reduceAdd (mulf (res_main_v143 V0) (res_main_v143 V0)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 (V0 (Proc.devRef .tc main_arg16))))) (broadcastInDim S16384x2048 ![0, 1] bcast_S1x2048_S16384x2048_0_1 (broadcastInDim S1x2048 ![1] bcast_S2048_S1x2048_1 (V0 (Proc.devRef .tc main_arg17)))) : FVec Ideal S16384x2048 .f32) = (args V0).first := by
  funext i
  refine Eq.trans (congrArg (fst V0 : S16384x2048.Idx → EReal) (eq_ix2 i)) ?_
  exact fst_apply V0 (i 0) (i 1)

/-- The second result. -/
theorem second_eq : (shapeCast S262144x128 (snd V0) shapeCasts_S16384x2048_S262144x128 : FVec Ideal S262144x128 .f32) = (args V0).second := by
  have a := snd_apply V0
  funext i
  rw [eq_ix2 i]
  generalize snd V0 = u at *
  pointwise
  exact a _ _

end Cert.Merge.Ref

end

end
-- ==== Proof.Merge.Agree.lean ====
/- The merge's claims: its frames, and that kernel and reference leave the same arrays. -/
module

public import proofs.«01_k».proof.Defs
public import proofs.«01_k».proof.Proof.Merge.MergeKernel.Keep
public import proofs.«01_k».proof.Proof.Merge.Array
public import proofs.«01_k».proof.Proof.Merge.RefRead
public import Idealize.ShloMosaic.Lib.Quiescent

@[expose] public section

set_option maxRecDepth 16384

noncomputable section

namespace Cert.Merge

open Idealize.ShloMosaic Idealize.ShloMosaic.TcCoe Idealize.SL.Sem

theorem frame_p : Cert.quiescent_MergeKernel := fun m ρ _ =>
  (θ_run Cert.MergeKernel.defs _ _).mono (fun _ h => ⟨fun c => Cert.MergeKernel.Keep.kept m h.1 c, h.2⟩) (Cert.MergeKernel.Keep.run_main m ρ)
theorem frame_pi : Cert.quiescent_MergeKernelIdeal := fun m ρ _ =>
  (θ_run Cert.MergeKernelIdeal.defs _ _).mono (fun _ h => ⟨fun c => Cert.MergeKernelIdeal.Keep.kept m h.1 c, h.2⟩) (Cert.MergeKernelIdeal.Keep.run_main m ρ)
theorem frame_ri : Cert.quiescent_MergeReferenceIdeal := fun m ρ _ =>
  (θ_run Cert.MergeReferenceIdeal.defs _ _).mono (fun r h => ⟨fun c => (h c).2.2,
      Idealize.ShloMosaic.sem_eq_zero_of_no_sems (by decide) r.2⟩)
    (Cert.MergeReferenceIdeal.Value.run (F := Ideal) m ρ)
theorem preserves : Cert.preserves_MergeKernel_MergeKernelIdeal := trivial

/-- What every run of the kernel leaves: the two results' arrays, and the arguments as they began. -/
theorem kernel_run (m : (ℓ : Loc MergeKernelIdeal.nD MergeKernelIdeal.τ MergeKernelIdeal.sig) → Buf (Elt Ideal) ℓ) (g : Dev MergeKernelIdeal.nD → PrngReg) :
    θ_run (MergeKernelIdeal.defs (F := Ideal)) (onTc (τ := MergeKernelIdeal.τ) (MergeKernelIdeal.main (F := Ideal))) ⟨m, fun _ => 0, g⟩ (fun r => ∀ c : Dev MergeKernelIdeal.nD,
      (r.2.mem ((c.tc : Thread MergeKernelIdeal.nD MergeKernelIdeal.τ).loc MergeKernelIdeal.main_v25_0) = (args m c).first
        ∧ r.2.mem ((c.tc : Thread MergeKernelIdeal.nD MergeKernelIdeal.τ).loc MergeKernelIdeal.main_v25_1) = (args m c).second)
      ∧ Pipeline.RDat.FramePost (MergeKernelIdeal.cfgs 0) (fun c => (MergeKernelIdeal.Keep.dats m 0 c).toRForget MergeKernelIdeal.Keep.forgets0) (MergeKernelIdeal.Gen.V m) r) :=
  (θ_run MergeKernelIdeal.defs _ _).mono (fun r h c =>
    ⟨⟨(((MergeKernelIdeal.Keep.dats m 0 c).toRForget_arrAt_iff (fgt := MergeKernelIdeal.Keep.forgets0) (w := 27) rfl _ _).mp ((h.1 c).1 27)).trans (first_array m c),
      (((MergeKernelIdeal.Keep.dats m 0 c).toRForget_arrAt_iff (fgt := MergeKernelIdeal.Keep.forgets0) (w := 28) rfl _ _).mp ((h.1 c).1 28)).trans (second_array m c)⟩, h.1⟩)
    (MergeKernelIdeal.Keep.run_main m g)

/-- Kernel and reference leave the same two arrays, whatever the arguments. -/
theorem algebraic : Cert.algebraic_MergeKernelIdeal_MergeReferenceIdeal := by
  intro m g m' g' _ h
  have e : ∀ c : Dev MergeKernelIdeal.nD, Ref.args (StableHlo.launchContents m' c) = args m c := fun c => by
    obtain ⟨e0, e1, e2, e3, e4, e5, e6, e7, e8, e9, e10, e11, e12, e13, e14, e15, e16, e17, e18, e19⟩ := h c
    unfold Ref.args args
    simp only [← e0, ← e1, ← e2, ← e3, ← e4, ← e5, ← e6, ← e7, ← e8, ← e9, ← e10, ← e11, ← e12, ← e13, ← e14, ← e15, ← e16, ← e17]
  refine ⟨fun c => (args m c).first, fun c => (args m c).second, ?_, ?_⟩
  · exact (θ_run MergeKernelIdeal.defs _ _).mono (fun r h' c => ⟨(h' c).1.1, (h' c).1.2, MergeKernelIdeal.Keep.kept m (h' c).2 c⟩) (kernel_run m g)
  · exact (θ_run MergeReferenceIdeal.defs _ _).mono (fun r h' c =>
      ⟨(h' c).1.trans ((Ref.first_eq _).trans (congrArg Arg.first (e c))),
        (h' c).2.1.trans ((Ref.second_eq _).trans (congrArg Arg.second (e c))), (h' c).2.2⟩)
      (MergeReferenceIdeal.Value.run (F := Ideal) m' g')

end Cert.Merge

end
-- ==== Proof.lean ====
/- The differential attention, the projection and the merge: their claims, from the runs under Proof/. -/
module

public import proofs.«01_k».proof.Defs
public import proofs.«01_k».proof.Proof.Safety
public import proofs.«01_k».proof.Proof.Agree
public import proofs.«01_k».proof.Proof.Proj.Agree
public import proofs.«01_k».proof.Proof.Merge.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ProjKernel
public import proofs.«01_k».proof.Proof.Gen.ProjKernel.Frame
public import proofs.«01_k».proof.Proof.Gen.ProjKernelIdeal
public import proofs.«01_k».proof.Proof.Gen.ProjKernelIdeal.Value
public import proofs.«01_k».proof.Proof.Gen.ProjReferenceIdeal
public import proofs.«01_k».proof.Proof.Gen.MergeKernel
public import proofs.«01_k».proof.Proof.Gen.MergeKernelIdeal
public import proofs.«01_k».proof.Proof.Gen.MergeReferenceIdeal
public import proofs.«01_k».proof.Proof.Gen.MergeKernelIdeal.Skeleton
public import proofs.«01_k».proof.Proof.Gen.MergeKernel.Skeleton
public import proofs.«01_k».proof.Proof.Gen.MergeKernel.Frame
public import proofs.«01_k».proof.Proof.Gen.MergeKernelIdeal.Frame
public import proofs.«01_k».proof.Proof.Gen.MergeReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.ProjKernel.Gen.facts, Cert.ProjKernelIdeal.Gen.facts, Cert.ProjReferenceIdeal.Gen.facts,
    Cert.MergeKernel.Gen.facts, Cert.MergeKernelIdeal.Gen.facts, Cert.MergeReferenceIdeal.Gen.facts, Cert.Finite.facts,
    frame_p, frame_pi, @frame_pi_finite Cert.Finite.facts, frame_ri, @frame_ri_finite Cert.Finite.facts,
    Cert.Proj.frame_p, Cert.Proj.frame_pi, Cert.Proj.frame_ri,
    Cert.Merge.frame_p, Cert.Merge.frame_pi, Cert.Merge.frame_ri,
    preserves, algebraic, Cert.Proj.preserves, Cert.Proj.algebraic,
    Cert.Merge.preserves, Cert.Merge.algebraic⟩

end Cert.Proof

end
